-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.bf16_pair.BufferStatement Cert.KernelIdeal.S320x2x128 Cert.KernelIdeal.S320x1x128
  ∧ IdealRules.bf16_pair.Statement Cert.KernelIdeal.S16x128 Cert.KernelIdeal.S8x128
  ∧ IdealRules.bf16_pair.Statement Cert.KernelIdeal.S8x2x128 Cert.KernelIdeal.S8x1x128
  ∧ IdealRules.named_const.Statement Cert.KernelIdeal.κ "log2e_over_t" .f32 0x3FE6D4CA#32 (((Real.log 2)⁻¹ * (13421773 / 16777216)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1536x32000 : Shape := ⟨3, ![6, 1536, 32000]⟩
abbrev S9216x32000 : Shape := ⟨2, ![9216, 32000]⟩
abbrev S72x1x128 : Shape := ⟨3, ![72, 1, 128]⟩
abbrev S9216x1000 : Shape := ⟨2, ![9216, 1000]⟩
abbrev S1x1x128 : Shape := ⟨3, ![1, 1, 128]⟩
abbrev S128x32000 : Shape := ⟨2, ![128, 32000]⟩
abbrev S128x1000 : Shape := ⟨2, ![128, 1000]⟩
abbrev S2x128x32000 : Shape := ⟨3, ![2, 128, 32000]⟩
abbrev S32000x128 : Shape := ⟨2, ![32000, 128]⟩
abbrev S1000x128 : Shape := ⟨2, ![1000, 128]⟩
abbrev S320x128 : Shape := ⟨2, ![320, 128]⟩
abbrev S40x128 : Shape := ⟨2, ![40, 128]⟩
abbrev S8x128 : Shape := ⟨2, ![8, 128]⟩
abbrev S2 : Shape := ⟨1, ![2]⟩
abbrev S1 : Shape := ⟨1, ![1]⟩
abbrev S_ : Shape := ⟨0, ![]⟩
abbrev S1x128x32000 : Shape := ⟨3, ![1, 128, 32000]⟩
abbrev S1x128x128 : Shape := ⟨3, ![1, 128, 128]⟩
abbrev S128x128 : Shape := ⟨2, ![128, 128]⟩
abbrev S16x128 : Shape := ⟨2, ![16, 128]⟩
abbrev S128 : Shape := ⟨1, ![128]⟩
abbrev S1x128 : Shape := ⟨2, ![1, 128]⟩
abbrev S32x128 : Shape := ⟨2, ![32, 128]⟩
abbrev S104x128 : Shape := ⟨2, ![104, 128]⟩
abbrev S128x104 : Shape := ⟨2, ![128, 104]⟩

abbrev nBuf : Space → Nat
  | .hbm => 5
  | .vmem => 16
  | .smem => 0
  | _ => 0

abbrev bufTy : (tb : Table) → Fin (tcTables nBuf tb) → BufTy
  | .hbm, ⟨0, _⟩ => ⟨S6x1536x32000, .bf16⟩
  | .hbm, ⟨1, _⟩ => ⟨S9216x32000, .bf16⟩
  | .hbm, ⟨2, _⟩ => ⟨S72x1x128, .f32⟩
  | .hbm, ⟨3, _⟩ => ⟨S9216x32000, .fp8e4m3⟩
  | .hbm, ⟨4, _⟩ => ⟨S9216x1000, .f32⟩
  | .local _ .vmem, ⟨0, _⟩ => ⟨S1x1x128, .f32⟩
  | .local _ .vmem, ⟨1, _⟩ => ⟨S1x1x128, .f32⟩
  | .local _ .vmem, ⟨2, _⟩ => ⟨S128x32000, .fp8e4m3⟩
  | .local _ .vmem, ⟨3, _⟩ => ⟨S128x32000, .fp8e4m3⟩
  | .local _ .vmem, ⟨4, _⟩ => ⟨S128x1000, .f32⟩
  | .local _ .vmem, ⟨5, _⟩ => ⟨S128x1000, .f32⟩
  | .local _ .vmem, ⟨6, _⟩ => ⟨S2x128x32000, .bf16⟩
  | .local _ .vmem, ⟨7, _⟩ => ⟨S32000x128, .bf16⟩
  | .local _ .vmem, ⟨8, _⟩ => ⟨S32000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S320x128, .i32⟩
  | .local _ .vmem, ⟨13, _⟩ => ⟨S40x128, .f32⟩
  | .local _ .vmem, ⟨14, _⟩ => ⟨S8x128, .f32⟩
  | .local _ .vmem, ⟨15, _⟩ => ⟨S8x128, .f32⟩
  | _, _ => ⟨S6x1536x32000, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![74], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_mult1 : BitVec 32 :=
  let c0_i32_14 : BitVec 32 := 0#32
  c0_i32_14
def k0_cond2 (i : grid0.Coords) : BitVec 1 :=
  let arg0 : BitVec 32 := BitVec.ofNat 32 (i 0).val
  let c72_i32 : BitVec 32 := 72#32
  let v4 : BitVec 1 := Scalar.cmpi .slt arg0 c72_i32
  let v5 : BitVec 32 := Scalar.extui v4
  let c0_i32_1 : BitVec 32 := 0#32
  let v6 : BitVec 1 := Scalar.cmpi .ne v5 c0_i32_1
  v6

def k0_mult2 (i : grid0.Coords) : BitVec 32 :=
  let arg0 : BitVec 32 := BitVec.ofNat 32 (i 0).val
  let c128_i32 : BitVec 32 := 128#32
  let v28 : BitVec 32 := Scalar.muli arg0 c128_i32
  v28
def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 3 → Nat :=
  let arg0 : BitVec 32 := BitVec.ofNat 32 (i 0).val
  let c2_i32 : BitVec 32 := 2#32
  let v0 : BitVec 32 := Scalar.remsi arg0 c2_i32
  let c0_i32_14 : BitVec 32 := 0#32
  let c0_i32_15 : BitVec 32 := 0#32
  ![v0.toNat, 0, 0]
def k0_off3 (i : grid0.Coords) : Fin 2 → Nat :=
  let arg0 : BitVec 32 := BitVec.ofNat 32 (i 0).val
  let c128_i32 : BitVec 32 := 128#32
  let v28 : BitVec 32 := Scalar.muli arg0 c128_i32
  let v29 : BitVec 32 := v28
  let c0_i32_16 : BitVec 32 := 0#32
  ![v29.toNat, 0]
def k0_cond3 (i : grid0.Coords) : BitVec 1 :=
  let arg0 : BitVec 32 := BitVec.ofNat 32 (i 0).val
  let c1_i32 : BitVec 32 := 1#32
  let v7 : BitVec 32 := Scalar.addi arg0 c1_i32
  let c72_i32_2 : BitVec 32 := 72#32
  let v8 : BitVec 1 := Scalar.cmpi .slt v7 c72_i32_2
  let v9 : BitVec 32 := Scalar.extui v8
  let c0_i32_3 : BitVec 32 := 0#32
  let v10 : BitVec 1 := Scalar.cmpi .ne v9 c0_i32_3
  v10

def k0_mult3 (i : grid0.Coords) : BitVec 32 :=
  let arg0 : BitVec 32 := BitVec.ofNat 32 (i 0).val
  let c1_i32_14 : BitVec 32 := 1#32
  let v28 : BitVec 32 := Scalar.addi arg0 c1_i32_14
  let c128_i32 : BitVec 32 := 128#32
  let v30 : BitVec 32 := Scalar.muli v28 c128_i32
  v30
def k0_off4 (i : grid0.Coords) : Fin 1 → Nat :=
  let c1_i32_15 : BitVec 32 := 1#32
  let arg0 : BitVec 32 := BitVec.ofNat 32 (i 0).val
  let c2_i32 : BitVec 32 := 2#32
  let v0 : BitVec 32 := Scalar.remsi arg0 c2_i32
  let v29 : BitVec 32 := Scalar.subi c1_i32_15 v0
  ![v29.toNat]
def k0_off5 (i : grid0.Coords) : Fin 3 → Nat :=
  let c1_i32_15 : BitVec 32 := 1#32
  let arg0 : BitVec 32 := BitVec.ofNat 32 (i 0).val
  let c2_i32 : BitVec 32 := 2#32
  let v0 : BitVec 32 := Scalar.remsi arg0 c2_i32
  let v29 : BitVec 32 := Scalar.subi c1_i32_15 v0
  let c0_i32_16 : BitVec 32 := 0#32
  let c0_i32_17 : BitVec 32 := 0#32
  ![v29.toNat, 0, 0]
def k0_off6 (i : grid0.Coords) : Fin 2 → Nat :=
  let arg0 : BitVec 32 := BitVec.ofNat 32 (i 0).val
  let c1_i32_14 : BitVec 32 := 1#32
  let v28 : BitVec 32 := Scalar.addi arg0 c1_i32_14
  let c128_i32 : BitVec 32 := 128#32
  let v30 : BitVec 32 := Scalar.muli v28 c128_i32
  let v31 : BitVec 32 := v30
  let c0_i32_18 : BitVec 32 := 0#32
  ![v31.toNat, 0]
def k0_cond4 (i : grid0.Coords) : BitVec 1 :=
  let arg0 : BitVec 32 := BitVec.ofNat 32 (i 0).val
  let c0_i32_4 : BitVec 32 := 0#32
  let v11 : BitVec 1 := Scalar.cmpi .eq arg0 c0_i32_4
  let v12 : BitVec 32 := Scalar.extui v11
  let c0_i32_5 : BitVec 32 := 0#32
  let v13 : BitVec 1 := Scalar.cmpi .ne v12 c0_i32_5
  v13

@[reducible] def k0_t1_loop : Scf.Loop 32 :=
  let c0_i32_14 : BitVec 32 := 0#32
  let c25_i32 : BitVec 32 := 25#32
  let v29 : BitVec 32 := Scalar.addi c0_i32_14 c25_i32
  let c1_i32_15 : BitVec 32 := 1#32
  ⟨c0_i32_14, v29, c1_i32_15⟩
def k0_mult4 (k0_t1 : Fin k0_t1_loop.trips) : BitVec 32 :=
  let c0_i32_14 : BitVec 32 := 0#32
  let c1_i32_15 : BitVec 32 := 1#32
  let arg16 : BitVec 32 := Scf.iv c0_i32_14 c1_i32_15 k0_t1
  let c1280_i32 : BitVec 32 := 1280#32
  let v38 : BitVec 32 := Scalar.muli arg16 c1280_i32
  v38
@[reducible] def k0_t2_loop : Scf.Loop 32 :=
  let c0_i32_19 : BitVec 32 := 0#32
  let c10_i32 : BitVec 32 := 10#32
  let v40 : BitVec 32 := Scalar.addi c0_i32_19 c10_i32
  let c1_i32_20 : BitVec 32 := 1#32
  ⟨c0_i32_19, v40, c1_i32_20⟩
def k0_mult5 (k0_t1 : Fin k0_t1_loop.trips) (k0_t2 : Fin k0_t2_loop.trips) : BitVec 32 :=
  let c0_i32_14 : BitVec 32 := 0#32
  let c1_i32_15 : BitVec 32 := 1#32
  let arg16 : BitVec 32 := Scf.iv c0_i32_14 c1_i32_15 k0_t1
  let c1280_i32 : BitVec 32 := 1280#32
  let v38 : BitVec 32 := Scalar.muli arg16 c1280_i32
  let v39 : BitVec 32 := v38
  let c0_i32_19 : BitVec 32 := 0#32
  let c1_i32_20 : BitVec 32 := 1#32
  let arg18 : BitVec 32 := Scf.iv c0_i32_19 c1_i32_20 k0_t2
  let c128_i32 : BitVec 32 := 128#32
  let v45 : BitVec 32 := Scalar.muli arg18 c128_i32
  let v46 : BitVec 32 := Scalar.addi v39 v45
  v46
def k0_off7 (i : grid0.Coords) (k0_t1 : Fin k0_t1_loop.trips) (k0_t2 : Fin k0_t2_loop.trips) : Fin 3 → Nat :=
  let arg0 : BitVec 32 := BitVec.ofNat 32 (i 0).val
  let c2_i32 : BitVec 32 := 2#32
  let v0 : BitVec 32 := Scalar.remsi arg0 c2_i32
  let v48 : Index := Scalar.indexCast v0
  let c0_25 : Index := 0#32
  let c0_i32_14 : BitVec 32 := 0#32
  let c1_i32_15 : BitVec 32 := 1#32
  let arg16 : BitVec 32 := Scf.iv c0_i32_14 c1_i32_15 k0_t1
  let c1280_i32 : BitVec 32 := 1280#32
  let v38 : BitVec 32 := Scalar.muli arg16 c1280_i32
  let v39 : BitVec 32 := v38
  let c0_i32_19 : BitVec 32 := 0#32
  let c1_i32_20 : BitVec 32 := 1#32
  let arg18 : BitVec 32 := Scf.iv c0_i32_19 c1_i32_20 k0_t2
  let c128_i32 : BitVec 32 := 128#32
  let v45 : BitVec 32 := Scalar.muli arg18 c128_i32
  let v46 : BitVec 32 := Scalar.addi v39 v45
  let v47 : BitVec 32 := v46
  let v49 : Index := Scalar.indexCast v47
  ![v48.toNat, 0, v49.toNat]
def k0_mult6 (k0_t1 : Fin k0_t1_loop.trips) (k0_t2 : Fin k0_t2_loop.trips) : BitVec 32 :=
  let c0_i32_14 : BitVec 32 := 0#32
  let c1_i32_15 : BitVec 32 := 1#32
  let arg16 : BitVec 32 := Scf.iv c0_i32_14 c1_i32_15 k0_t1
  let c1280_i32 : BitVec 32 := 1280#32
  let v38 : BitVec 32 := Scalar.muli arg16 c1280_i32
  let v39 : BitVec 32 := v38
  let c0_i32_19 : BitVec 32 := 0#32
  let c1_i32_20 : BitVec 32 := 1#32
  let arg18 : BitVec 32 := Scf.iv c0_i32_19 c1_i32_20 k0_t2
  let c128_i32_26 : BitVec 32 := 128#32
  let v53 : BitVec 32 := Scalar.muli arg18 c128_i32_26
  let v54 : BitVec 32 := Scalar.addi v39 v53
  v54
def k0_off8 (k0_t1 : Fin k0_t1_loop.trips) (k0_t2 : Fin k0_t2_loop.trips) : Fin 2 → Nat :=
  let c0_i32_14 : BitVec 32 := 0#32
  let c1_i32_15 : BitVec 32 := 1#32
  let arg16 : BitVec 32 := Scf.iv c0_i32_14 c1_i32_15 k0_t1
  let c1280_i32 : BitVec 32 := 1280#32
  let v38 : BitVec 32 := Scalar.muli arg16 c1280_i32
  let v39 : BitVec 32 := v38
  let c0_i32_19 : BitVec 32 := 0#32
  let c1_i32_20 : BitVec 32 := 1#32
  let arg18 : BitVec 32 := Scf.iv c0_i32_19 c1_i32_20 k0_t2
  let c128_i32_26 : BitVec 32 := 128#32
  let v53 : BitVec 32 := Scalar.muli arg18 c128_i32_26
  let v54 : BitVec 32 := Scalar.addi v39 v53
  let v55 : BitVec 32 := v54
  let v56 : Index := Scalar.indexCast v55
  let c0_27 : Index := 0#32
  ![v56.toNat, 0]
def k0_mult7 (k0_t2 : Fin k0_t2_loop.trips) : BitVec 32 :=
  let c0_i32_19 : BitVec 32 := 0#32
  let c1_i32_20 : BitVec 32 := 1#32
  let arg18 : BitVec 32 := Scf.iv c0_i32_19 c1_i32_20 k0_t2
  let c4_i32 : BitVec 32 := 4#32
  let v63 : BitVec 32 := Scalar.muli arg18 c4_i32
  let c0_i32_28 : BitVec 32 := 0#32
  let v64 : BitVec 32 := Scalar.addi v63 c0_i32_28
  let c8_i32 : BitVec 32 := 8#32
  let v65 : BitVec 32 := Scalar.muli v64 c8_i32
  v65
def k0_off9 (k0_t2 : Fin k0_t2_loop.trips) (c0_i32_28 : BitVec 32) : Fin 2 → Nat :=
  let c0_i32_19 : BitVec 32 := 0#32
  let c1_i32_20 : BitVec 32 := 1#32
  let arg18 : BitVec 32 := Scf.iv c0_i32_19 c1_i32_20 k0_t2
  let c4_i32 : BitVec 32 := 4#32
  let v63 : BitVec 32 := Scalar.muli arg18 c4_i32
  let v64 : BitVec 32 := Scalar.addi v63 c0_i32_28
  let c8_i32 : BitVec 32 := 8#32
  let v65 : BitVec 32 := Scalar.muli v64 c8_i32
  let v66 : BitVec 32 := v65
  let v68 : Index := Scalar.indexCast v66
  let c0_29 : Index := 0#32
  ![v68.toNat, 0]
def k0_mult8 (k0_t2 : Fin k0_t2_loop.trips) : BitVec 32 :=
  let c0_i32_19 : BitVec 32 := 0#32
  let c1_i32_20 : BitVec 32 := 1#32
  let arg18 : BitVec 32 := Scf.iv c0_i32_19 c1_i32_20 k0_t2
  let c4_i32_30 : BitVec 32 := 4#32
  let v75 : BitVec 32 := Scalar.muli arg18 c4_i32_30
  let c1_i32_31 : BitVec 32 := 1#32
  let v76 : BitVec 32 := Scalar.addi v75 c1_i32_31
  let c8_i32_32 : BitVec 32 := 8#32
  let v77 : BitVec 32 := Scalar.muli v76 c8_i32_32
  v77
def k0_mult9 (k0_t2 : Fin k0_t2_loop.trips) : BitVec 32 :=
  let c0_i32_19 : BitVec 32 := 0#32
  let c1_i32_20 : BitVec 32 := 1#32
  let arg18 : BitVec 32 := Scf.iv c0_i32_19 c1_i32_20 k0_t2
  let c4_i32_34 : BitVec 32 := 4#32
  let v87 : BitVec 32 := Scalar.muli arg18 c4_i32_34
  let c2_i32_35 : BitVec 32 := 2#32
  let v88 : BitVec 32 := Scalar.addi v87 c2_i32_35
  let c8_i32_36 : BitVec 32 := 8#32
  let v89 : BitVec 32 := Scalar.muli v88 c8_i32_36
  v89
def k0_mult10 (k0_t2 : Fin k0_t2_loop.trips) : BitVec 32 :=
  let c0_i32_19 : BitVec 32 := 0#32
  let c1_i32_20 : BitVec 32 := 1#32
  let arg18 : BitVec 32 := Scf.iv c0_i32_19 c1_i32_20 k0_t2
  let c4_i32_38 : BitVec 32 := 4#32
  let v99 : BitVec 32 := Scalar.muli arg18 c4_i32_38
  let c3_i32 : BitVec 32 := 3#32
  let v100 : BitVec 32 := Scalar.addi v99 c3_i32
  let c8_i32_39 : BitVec 32 := 8#32
  let v101 : BitVec 32 := Scalar.muli v100 c8_i32_39
  v101
def k0_mult11 (k0_t1 : Fin k0_t1_loop.trips) : BitVec 32 :=
  let c0_i32_14 : BitVec 32 := 0#32
  let c1_i32_15 : BitVec 32 := 1#32
  let arg16 : BitVec 32 := Scf.iv c0_i32_14 c1_i32_15 k0_t1
  let c40_i32 : BitVec 32 := 40#32
  let v41 : BitVec 32 := Scalar.muli arg16 c40_i32
  v41
@[reducible] def k0_t3_loop : Scf.Loop 32 :=
  let c0_i32_22 : BitVec 32 := 0#32
  let c5_i32 : BitVec 32 := 5#32
  let v43 : BitVec 32 := Scalar.addi c0_i32_22 c5_i32
  let c1_i32_23 : BitVec 32 := 1#32
  ⟨c0_i32_22, v43, c1_i32_23⟩
def k0_off10 (k0_t3 : Fin k0_t3_loop.trips) (c0_i32_26 : BitVec 32) : Fin 2 → Nat :=
  let c0_i32_22 : BitVec 32 := 0#32
  let c1_i32_23 : BitVec 32 := 1#32
  let arg18 : BitVec 32 := Scf.iv c0_i32_22 c1_i32_23 k0_t3
  let c8_i32 : BitVec 32 := 8#32
  let v45 : BitVec 32 := Scalar.muli arg18 c8_i32
  let c8_i32_25 : BitVec 32 := 8#32
  let v46 : BitVec 32 := Scalar.muli v45 c8_i32_25
  let v47 : BitVec 32 := Scalar.addi v46 c0_i32_26
  let v48 : Index := Scalar.indexCast v47
  let c0_27 : Index := 0#32
  ![v48.toNat, 0]
def k0_mult12 (k0_t1 : Fin k0_t1_loop.trips) (k0_t3 : Fin k0_t3_loop.trips) : BitVec 32 :=
  let c0_i32_14 : BitVec 32 := 0#32
  let c1_i32_15 : BitVec 32 := 1#32
  let arg16 : BitVec 32 := Scf.iv c0_i32_14 c1_i32_15 k0_t1
  let c40_i32 : BitVec 32 := 40#32
  let v41 : BitVec 32 := Scalar.muli arg16 c40_i32
  let v42 : BitVec 32 := v41
  let c0_i32_22 : BitVec 32 := 0#32
  let c1_i32_23 : BitVec 32 := 1#32
  let arg18 : BitVec 32 := Scf.iv c0_i32_22 c1_i32_23 k0_t3
  let c8_i32_38 : BitVec 32 := 8#32
  let v94 : BitVec 32 := Scalar.muli arg18 c8_i32_38
  let v95 : BitVec 32 := Scalar.addi v42 v94
  v95
def k0_off11 (k0_t1 : Fin k0_t1_loop.trips) (k0_t3 : Fin k0_t3_loop.trips) : Fin 2 → Nat :=
  let c0_i32_14 : BitVec 32 := 0#32
  let c1_i32_15 : BitVec 32 := 1#32
  let arg16 : BitVec 32 := Scf.iv c0_i32_14 c1_i32_15 k0_t1
  let c40_i32 : BitVec 32 := 40#32
  let v41 : BitVec 32 := Scalar.muli arg16 c40_i32
  let v42 : BitVec 32 := v41
  let c0_i32_22 : BitVec 32 := 0#32
  let c1_i32_23 : BitVec 32 := 1#32
  let arg18 : BitVec 32 := Scf.iv c0_i32_22 c1_i32_23 k0_t3
  let c8_i32_38 : BitVec 32 := 8#32
  let v94 : BitVec 32 := Scalar.muli arg18 c8_i32_38
  let v95 : BitVec 32 := Scalar.addi v42 v94
  let v96 : BitVec 32 := v95
  let v97 : Index := Scalar.indexCast v96
  let c0_39 : Index := 0#32
  ![v97.toNat, 0]
def k0_cond5 (i : grid0.Coords) : BitVec 1 :=
  let arg0 : BitVec 32 := BitVec.ofNat 32 (i 0).val
  let c1_i32_6 : BitVec 32 := 1#32
  let v14 : BitVec 1 := Scalar.cmpi .eq arg0 c1_i32_6
  let v15 : BitVec 32 := Scalar.extui v14
  let c0_i32_7 : BitVec 32 := 0#32
  let v16 : BitVec 1 := Scalar.cmpi .ne v15 c0_i32_7
  v16

@[reducible] def k0_t4_loop : Scf.Loop 32 :=
  let c0_i32_19 : BitVec 32 := 0#32
  let c25_i32 : BitVec 32 := 25#32
  let v34 : BitVec 32 := Scalar.addi c0_i32_19 c25_i32
  let c1_i32_20 : BitVec 32 := 1#32
  ⟨c0_i32_19, v34, c1_i32_20⟩
def k0_mult13 (k0_t4 : Fin k0_t4_loop.trips) : BitVec 32 :=
  let c0_i32_19 : BitVec 32 := 0#32
  let c1_i32_20 : BitVec 32 := 1#32
  let arg16 : BitVec 32 := Scf.iv c0_i32_19 c1_i32_20 k0_t4
  let c1280_i32 : BitVec 32 := 1280#32
  let v53 : BitVec 32 := Scalar.muli arg16 c1280_i32
  v53
def k0_mult14 (k0_t4 : Fin k0_t4_loop.trips) : BitVec 32 :=
  let c0_i32_19 : BitVec 32 := 0#32
  let c1_i32_20 : BitVec 32 := 1#32
  let arg16 : BitVec 32 := Scf.iv c0_i32_19 c1_i32_20 k0_t4
  let c40_i32 : BitVec 32 := 40#32
  let v55 : BitVec 32 := Scalar.muli arg16 c40_i32
  v55
@[reducible] def k0_t5_loop : Scf.Loop 32 :=
  let c0_i32_29 : BitVec 32 := 0#32
  let c40_i32_30 : BitVec 32 := 40#32
  let v57 : BitVec 32 := Scalar.addi c0_i32_29 c40_i32_30
  let c1_i32_31 : BitVec 32 := 1#32
  ⟨c0_i32_29, v57, c1_i32_31⟩
def k0_mult15 (k0_t4 : Fin k0_t4_loop.trips) (k0_t5 : Fin k0_t5_loop.trips) : BitVec 32 :=
  let c0_i32_19 : BitVec 32 := 0#32
  let c1_i32_20 : BitVec 32 := 1#32
  let arg16 : BitVec 32 := Scf.iv c0_i32_19 c1_i32_20 k0_t4
  let c1280_i32 : BitVec 32 := 1280#32
  let v53 : BitVec 32 := Scalar.muli arg16 c1280_i32
  let v54 : BitVec 32 := v53
  let c0_i32_29 : BitVec 32 := 0#32
  let c1_i32_31 : BitVec 32 := 1#32
  let arg22 : BitVec 32 := Scf.iv c0_i32_29 c1_i32_31 k0_t5
  let c32_i32 : BitVec 32 := 32#32
  let v67 : BitVec 32 := Scalar.muli arg22 c32_i32
  let v68 : BitVec 32 := Scalar.addi v54 v67
  v68
def k0_off12 (k0_t4 : Fin k0_t4_loop.trips) (k0_t5 : Fin k0_t5_loop.trips) : Fin 2 → Nat :=
  let c0_i32_19 : BitVec 32 := 0#32
  let c1_i32_20 : BitVec 32 := 1#32
  let arg16 : BitVec 32 := Scf.iv c0_i32_19 c1_i32_20 k0_t4
  let c1280_i32 : BitVec 32 := 1280#32
  let v53 : BitVec 32 := Scalar.muli arg16 c1280_i32
  let v54 : BitVec 32 := v53
  let c0_i32_29 : BitVec 32 := 0#32
  let c1_i32_31 : BitVec 32 := 1#32
  let arg22 : BitVec 32 := Scf.iv c0_i32_29 c1_i32_31 k0_t5
  let c32_i32 : BitVec 32 := 32#32
  let v67 : BitVec 32 := Scalar.muli arg22 c32_i32
  let v68 : BitVec 32 := Scalar.addi v54 v67
  let v69 : BitVec 32 := v68
  let v70 : Index := Scalar.indexCast v69
  let c0_46 : Index := 0#32
  ![v70.toNat, 0]
def k0_off13 (k0_t4 : Fin k0_t4_loop.trips) (k0_t5 : Fin k0_t5_loop.trips) (c0_i32_47 : BitVec 32) : Fin 2 → Nat :=
  let c0_i32_19 : BitVec 32 := 0#32
  let c1_i32_20 : BitVec 32 := 1#32
  let arg16 : BitVec 32 := Scf.iv c0_i32_19 c1_i32_20 k0_t4
  let c1280_i32 : BitVec 32 := 1280#32
  let v53 : BitVec 32 := Scalar.muli arg16 c1280_i32
  let v54 : BitVec 32 := v53
  let c0_i32_29 : BitVec 32 := 0#32
  let c1_i32_31 : BitVec 32 := 1#32
  let arg22 : BitVec 32 := Scf.iv c0_i32_29 c1_i32_31 k0_t5
  let c32_i32 : BitVec 32 := 32#32
  let v67 : BitVec 32 := Scalar.muli arg22 c32_i32
  let v68 : BitVec 32 := Scalar.addi v54 v67
  let v69 : BitVec 32 := v68
  let v78 : BitVec 32 := Scalar.addi v69 c0_i32_47
  let v79 : Index := Scalar.indexCast v78
  let c0_48 : Index := 0#32
  ![v79.toNat, 0]
@[reducible] def k0_t6_loop : Scf.Loop 32 :=
  let c0_i32_34 : BitVec 32 := 0#32
  let c5_i32 : BitVec 32 := 5#32
  let v59 : BitVec 32 := Scalar.addi c0_i32_34 c5_i32
  let c1_i32_35 : BitVec 32 := 1#32
  ⟨c0_i32_34, v59, c1_i32_35⟩
def k0_mult16 (k0_t4 : Fin k0_t4_loop.trips) (k0_t6 : Fin k0_t6_loop.trips) : BitVec 32 :=
  let c0_i32_19 : BitVec 32 := 0#32
  let c1_i32_20 : BitVec 32 := 1#32
  let arg16 : BitVec 32 := Scf.iv c0_i32_19 c1_i32_20 k0_t4
  let c40_i32 : BitVec 32 := 40#32
  let v55 : BitVec 32 := Scalar.muli arg16 c40_i32
  let v56 : BitVec 32 := v55
  let c0_i32_34 : BitVec 32 := 0#32
  let c1_i32_35 : BitVec 32 := 1#32
  let arg22 : BitVec 32 := Scf.iv c0_i32_34 c1_i32_35 k0_t6
  let c8_i32 : BitVec 32 := 8#32
  let v67 : BitVec 32 := Scalar.muli arg22 c8_i32
  let v68 : BitVec 32 := Scalar.addi v56 v67
  v68
def k0_off14 (k0_t4 : Fin k0_t4_loop.trips) (k0_t6 : Fin k0_t6_loop.trips) : Fin 2 → Nat :=
  let c0_i32_19 : BitVec 32 := 0#32
  let c1_i32_20 : BitVec 32 := 1#32
  let arg16 : BitVec 32 := Scf.iv c0_i32_19 c1_i32_20 k0_t4
  let c40_i32 : BitVec 32 := 40#32
  let v55 : BitVec 32 := Scalar.muli arg16 c40_i32
  let v56 : BitVec 32 := v55
  let c0_i32_34 : BitVec 32 := 0#32
  let c1_i32_35 : BitVec 32 := 1#32
  let arg22 : BitVec 32 := Scf.iv c0_i32_34 c1_i32_35 k0_t6
  let c8_i32 : BitVec 32 := 8#32
  let v67 : BitVec 32 := Scalar.muli arg22 c8_i32
  let v68 : BitVec 32 := Scalar.addi v56 v67
  let v69 : BitVec 32 := v68
  let v70 : Index := Scalar.indexCast v69
  let c0_46 : Index := 0#32
  ![v70.toNat, 0]
def k0_mult17 (k0_t4 : Fin k0_t4_loop.trips) : BitVec 32 :=
  let c0_i32_19 : BitVec 32 := 0#32
  let c1_i32_20 : BitVec 32 := 1#32
  let arg16 : BitVec 32 := Scf.iv c0_i32_19 c1_i32_20 k0_t4
  let c1280_i32_37 : BitVec 32 := 1280#32
  let v60 : BitVec 32 := Scalar.muli arg16 c1280_i32_37
  v60
@[reducible] def k0_t7_loop : Scf.Loop 32 :=
  let c0_i32_38 : BitVec 32 := 0#32
  let c10_i32 : BitVec 32 := 10#32
  let v62 : BitVec 32 := Scalar.addi c0_i32_38 c10_i32
  let c1_i32_39 : BitVec 32 := 1#32
  ⟨c0_i32_38, v62, c1_i32_39⟩
def k0_mult18 (k0_t4 : Fin k0_t4_loop.trips) (k0_t7 : Fin k0_t7_loop.trips) : BitVec 32 :=
  let c0_i32_19 : BitVec 32 := 0#32
  let c1_i32_20 : BitVec 32 := 1#32
  let arg16 : BitVec 32 := Scf.iv c0_i32_19 c1_i32_20 k0_t4
  let c1280_i32_37 : BitVec 32 := 1280#32
  let v60 : BitVec 32 := Scalar.muli arg16 c1280_i32_37
  let v61 : BitVec 32 := v60
  let c0_i32_38 : BitVec 32 := 0#32
  let c1_i32_39 : BitVec 32 := 1#32
  let arg22 : BitVec 32 := Scf.iv c0_i32_38 c1_i32_39 k0_t7
  let c128_i32 : BitVec 32 := 128#32
  let v67 : BitVec 32 := Scalar.muli arg22 c128_i32
  let v68 : BitVec 32 := Scalar.addi v61 v67
  v68
def k0_off15 (i : grid0.Coords) (k0_t4 : Fin k0_t4_loop.trips) (k0_t7 : Fin k0_t7_loop.trips) : Fin 3 → Nat :=
  let arg0 : BitVec 32 := BitVec.ofNat 32 (i 0).val
  let c2_i32 : BitVec 32 := 2#32
  let v0 : BitVec 32 := Scalar.remsi arg0 c2_i32
  let v70 : Index := Scalar.indexCast v0
  let c0_46 : Index := 0#32
  let c0_i32_19 : BitVec 32 := 0#32
  let c1_i32_20 : BitVec 32 := 1#32
  let arg16 : BitVec 32 := Scf.iv c0_i32_19 c1_i32_20 k0_t4
  let c1280_i32_37 : BitVec 32 := 1280#32
  let v60 : BitVec 32 := Scalar.muli arg16 c1280_i32_37
  let v61 : BitVec 32 := v60
  let c0_i32_38 : BitVec 32 := 0#32
  let c1_i32_39 : BitVec 32 := 1#32
  let arg22 : BitVec 32 := Scf.iv c0_i32_38 c1_i32_39 k0_t7
  let c128_i32 : BitVec 32 := 128#32
  let v67 : BitVec 32 := Scalar.muli arg22 c128_i32
  let v68 : BitVec 32 := Scalar.addi v61 v67
  let v69 : BitVec 32 := v68
  let v71 : Index := Scalar.indexCast v69
  ![v70.toNat, 0, v71.toNat]
def k0_mult19 (k0_t4 : Fin k0_t4_loop.trips) (k0_t7 : Fin k0_t7_loop.trips) : BitVec 32 :=
  let c0_i32_19 : BitVec 32 := 0#32
  let c1_i32_20 : BitVec 32 := 1#32
  let arg16 : BitVec 32 := Scf.iv c0_i32_19 c1_i32_20 k0_t4
  let c1280_i32_37 : BitVec 32 := 1280#32
  let v60 : BitVec 32 := Scalar.muli arg16 c1280_i32_37
  let v61 : BitVec 32 := v60
  let c0_i32_38 : BitVec 32 := 0#32
  let c1_i32_39 : BitVec 32 := 1#32
  let arg22 : BitVec 32 := Scf.iv c0_i32_38 c1_i32_39 k0_t7
  let c128_i32_47 : BitVec 32 := 128#32
  let v75 : BitVec 32 := Scalar.muli arg22 c128_i32_47
  let v76 : BitVec 32 := Scalar.addi v61 v75
  v76
def k0_off16 (k0_t4 : Fin k0_t4_loop.trips) (k0_t7 : Fin k0_t7_loop.trips) : Fin 2 → Nat :=
  let c0_i32_19 : BitVec 32 := 0#32
  let c1_i32_20 : BitVec 32 := 1#32
  let arg16 : BitVec 32 := Scf.iv c0_i32_19 c1_i32_20 k0_t4
  let c1280_i32_37 : BitVec 32 := 1280#32
  let v60 : BitVec 32 := Scalar.muli arg16 c1280_i32_37
  let v61 : BitVec 32 := v60
  let c0_i32_38 : BitVec 32 := 0#32
  let c1_i32_39 : BitVec 32 := 1#32
  let arg22 : BitVec 32 := Scf.iv c0_i32_38 c1_i32_39 k0_t7
  let c128_i32_47 : BitVec 32 := 128#32
  let v75 : BitVec 32 := Scalar.muli arg22 c128_i32_47
  let v76 : BitVec 32 := Scalar.addi v61 v75
  let v77 : BitVec 32 := v76
  let v78 : Index := Scalar.indexCast v77
  let c0_48 : Index := 0#32
  ![v78.toNat, 0]
def k0_mult20 (k0_t7 : Fin k0_t7_loop.trips) : BitVec 32 :=
  let c0_i32_38 : BitVec 32 := 0#32
  let c1_i32_39 : BitVec 32 := 1#32
  let arg22 : BitVec 32 := Scf.iv c0_i32_38 c1_i32_39 k0_t7
  let c4_i32 : BitVec 32 := 4#32
  let v85 : BitVec 32 := Scalar.muli arg22 c4_i32
  let c0_i32_49 : BitVec 32 := 0#32
  let v86 : BitVec 32 := Scalar.addi v85 c0_i32_49
  let c8_i32 : BitVec 32 := 8#32
  let v87 : BitVec 32 := Scalar.muli v86 c8_i32
  v87
def k0_off17 (k0_t7 : Fin k0_t7_loop.trips) (c0_i32_49 : BitVec 32) : Fin 2 → Nat :=
  let c0_i32_38 : BitVec 32 := 0#32
  let c1_i32_39 : BitVec 32 := 1#32
  let arg22 : BitVec 32 := Scf.iv c0_i32_38 c1_i32_39 k0_t7
  let c4_i32 : BitVec 32 := 4#32
  let v85 : BitVec 32 := Scalar.muli arg22 c4_i32
  let v86 : BitVec 32 := Scalar.addi v85 c0_i32_49
  let c8_i32 : BitVec 32 := 8#32
  let v87 : BitVec 32 := Scalar.muli v86 c8_i32
  let v88 : BitVec 32 := v87
  let v90 : Index := Scalar.indexCast v88
  let c0_50 : Index := 0#32
  ![v90.toNat, 0]
def k0_mult21 (k0_t7 : Fin k0_t7_loop.trips) : BitVec 32 :=
  let c0_i32_38 : BitVec 32 := 0#32
  let c1_i32_39 : BitVec 32 := 1#32
  let arg22 : BitVec 32 := Scf.iv c0_i32_38 c1_i32_39 k0_t7
  let c4_i32_51 : BitVec 32 := 4#32
  let v97 : BitVec 32 := Scalar.muli arg22 c4_i32_51
  let c1_i32_52 : BitVec 32 := 1#32
  let v98 : BitVec 32 := Scalar.addi v97 c1_i32_52
  let c8_i32_53 : BitVec 32 := 8#32
  let v99 : BitVec 32 := Scalar.muli v98 c8_i32_53
  v99
def k0_mult22 (k0_t7 : Fin k0_t7_loop.trips) : BitVec 32 :=
  let c0_i32_38 : BitVec 32 := 0#32
  let c1_i32_39 : BitVec 32 := 1#32
  let arg22 : BitVec 32 := Scf.iv c0_i32_38 c1_i32_39 k0_t7
  let c4_i32_55 : BitVec 32 := 4#32
  let v109 : BitVec 32 := Scalar.muli arg22 c4_i32_55
  let c2_i32_56 : BitVec 32 := 2#32
  let v110 : BitVec 32 := Scalar.addi v109 c2_i32_56
  let c8_i32_57 : BitVec 32 := 8#32
  let v111 : BitVec 32 := Scalar.muli v110 c8_i32_57
  v111
def k0_mult23 (k0_t7 : Fin k0_t7_loop.trips) : BitVec 32 :=
  let c0_i32_38 : BitVec 32 := 0#32
  let c1_i32_39 : BitVec 32 := 1#32
  let arg22 : BitVec 32 := Scf.iv c0_i32_38 c1_i32_39 k0_t7
  let c4_i32_59 : BitVec 32 := 4#32
  let v121 : BitVec 32 := Scalar.muli arg22 c4_i32_59
  let c3_i32 : BitVec 32 := 3#32
  let v122 : BitVec 32 := Scalar.addi v121 c3_i32
  let c8_i32_60 : BitVec 32 := 8#32
  let v123 : BitVec 32 := Scalar.muli v122 c8_i32_60
  v123
def k0_mult24 (k0_t4 : Fin k0_t4_loop.trips) : BitVec 32 :=
  let c0_i32_19 : BitVec 32 := 0#32
  let c1_i32_20 : BitVec 32 := 1#32
  let arg16 : BitVec 32 := Scf.iv c0_i32_19 c1_i32_20 k0_t4
  let c40_i32_41 : BitVec 32 := 40#32
  let v63 : BitVec 32 := Scalar.muli arg16 c40_i32_41
  v63
@[reducible] def k0_t8_loop : Scf.Loop 32 :=
  let c0_i32_42 : BitVec 32 := 0#32
  let c5_i32_43 : BitVec 32 := 5#32
  let v65 : BitVec 32 := Scalar.addi c0_i32_42 c5_i32_43
  let c1_i32_44 : BitVec 32 := 1#32
  ⟨c0_i32_42, v65, c1_i32_44⟩
def k0_off18 (k0_t8 : Fin k0_t8_loop.trips) (c0_i32_47 : BitVec 32) : Fin 2 → Nat :=
  let c0_i32_42 : BitVec 32 := 0#32
  let c1_i32_44 : BitVec 32 := 1#32
  let arg22 : BitVec 32 := Scf.iv c0_i32_42 c1_i32_44 k0_t8
  let c8_i32 : BitVec 32 := 8#32
  let v67 : BitVec 32 := Scalar.muli arg22 c8_i32
  let c8_i32_46 : BitVec 32 := 8#32
  let v68 : BitVec 32 := Scalar.muli v67 c8_i32_46
  let v69 : BitVec 32 := Scalar.addi v68 c0_i32_47
  let v70 : Index := Scalar.indexCast v69
  let c0_48 : Index := 0#32
  ![v70.toNat, 0]
def k0_mult25 (k0_t4 : Fin k0_t4_loop.trips) (k0_t8 : Fin k0_t8_loop.trips) : BitVec 32 :=
  let c0_i32_19 : BitVec 32 := 0#32
  let c1_i32_20 : BitVec 32 := 1#32
  let arg16 : BitVec 32 := Scf.iv c0_i32_19 c1_i32_20 k0_t4
  let c40_i32_41 : BitVec 32 := 40#32
  let v63 : BitVec 32 := Scalar.muli arg16 c40_i32_41
  let v64 : BitVec 32 := v63
  let c0_i32_42 : BitVec 32 := 0#32
  let c1_i32_44 : BitVec 32 := 1#32
  let arg22 : BitVec 32 := Scf.iv c0_i32_42 c1_i32_44 k0_t8
  let c8_i32_59 : BitVec 32 := 8#32
  let v116 : BitVec 32 := Scalar.muli arg22 c8_i32_59
  let v117 : BitVec 32 := Scalar.addi v64 v116
  v117
def k0_off19 (k0_t4 : Fin k0_t4_loop.trips) (k0_t8 : Fin k0_t8_loop.trips) : Fin 2 → Nat :=
  let c0_i32_19 : BitVec 32 := 0#32
  let c1_i32_20 : BitVec 32 := 1#32
  let arg16 : BitVec 32 := Scf.iv c0_i32_19 c1_i32_20 k0_t4
  let c40_i32_41 : BitVec 32 := 40#32
  let v63 : BitVec 32 := Scalar.muli arg16 c40_i32_41
  let v64 : BitVec 32 := v63
  let c0_i32_42 : BitVec 32 := 0#32
  let c1_i32_44 : BitVec 32 := 1#32
  let arg22 : BitVec 32 := Scf.iv c0_i32_42 c1_i32_44 k0_t8
  let c8_i32_59 : BitVec 32 := 8#32
  let v116 : BitVec 32 := Scalar.muli arg22 c8_i32_59
  let v117 : BitVec 32 := Scalar.addi v64 v116
  let v118 : BitVec 32 := v117
  let v119 : Index := Scalar.indexCast v118
  let c0_60 : Index := 0#32
  ![v119.toNat, 0]
def k0_cond6 (i : grid0.Coords) : BitVec 1 :=
  let arg0 : BitVec 32 := BitVec.ofNat 32 (i 0).val
  let c2_i32_8 : BitVec 32 := 2#32
  let v17 : BitVec 1 := Scalar.cmpi .sge arg0 c2_i32_8
  let c72_i32_9 : BitVec 32 := 72#32
  let v18 : BitVec 1 := Scalar.cmpi .slt arg0 c72_i32_9
  let v19 : BitVec 1 := Scalar.andi v17 v18
  let v20 : BitVec 32 := Scalar.extui v19
  let c0_i32_10 : BitVec 32 := 0#32
  let v21 : BitVec 1 := Scalar.cmpi .ne v20 c0_i32_10
  v21

@[reducible] def k0_t9_loop : Scf.Loop 32 :=
  let c0_i32_25 : BitVec 32 := 0#32
  let c25_i32 : BitVec 32 := 25#32
  let v42 : BitVec 32 := Scalar.addi c0_i32_25 c25_i32
  let c1_i32_26 : BitVec 32 := 1#32
  ⟨c0_i32_25, v42, c1_i32_26⟩
def k0_mult26 (k0_t9 : Fin k0_t9_loop.trips) : BitVec 32 :=
  let c0_i32_25 : BitVec 32 := 0#32
  let c1_i32_26 : BitVec 32 := 1#32
  let arg16 : BitVec 32 := Scf.iv c0_i32_25 c1_i32_26 k0_t9
  let c1280_i32 : BitVec 32 := 1280#32
  let v85 : BitVec 32 := Scalar.muli arg16 c1280_i32
  v85
def k0_mult27 (k0_t9 : Fin k0_t9_loop.trips) : BitVec 32 :=
  let c0_i32_25 : BitVec 32 := 0#32
  let c1_i32_26 : BitVec 32 := 1#32
  let arg16 : BitVec 32 := Scf.iv c0_i32_25 c1_i32_26 k0_t9
  let c40_i32 : BitVec 32 := 40#32
  let v87 : BitVec 32 := Scalar.muli arg16 c40_i32
  v87
@[reducible] def k0_t10_loop : Scf.Loop 32 :=
  let c0_i32_59 : BitVec 32 := 0#32
  let c5_i32 : BitVec 32 := 5#32
  let v89 : BitVec 32 := Scalar.addi c0_i32_59 c5_i32
  let c1_i32_60 : BitVec 32 := 1#32
  ⟨c0_i32_59, v89, c1_i32_60⟩
def k0_mult28 (k0_t9 : Fin k0_t9_loop.trips) (k0_t10 : Fin k0_t10_loop.trips) : BitVec 32 :=
  let c0_i32_25 : BitVec 32 := 0#32
  let c1_i32_26 : BitVec 32 := 1#32
  let arg16 : BitVec 32 := Scf.iv c0_i32_25 c1_i32_26 k0_t9
  let c40_i32 : BitVec 32 := 40#32
  let v87 : BitVec 32 := Scalar.muli arg16 c40_i32
  let v88 : BitVec 32 := v87
  let c0_i32_59 : BitVec 32 := 0#32
  let c1_i32_60 : BitVec 32 := 1#32
  let arg22 : BitVec 32 := Scf.iv c0_i32_59 c1_i32_60 k0_t10
  let c8_i32 : BitVec 32 := 8#32
  let v105 : BitVec 32 := Scalar.muli arg22 c8_i32
  let v106 : BitVec 32 := Scalar.addi v88 v105
  v106
def k0_off20 (k0_t9 : Fin k0_t9_loop.trips) (k0_t10 : Fin k0_t10_loop.trips) : Fin 2 → Nat :=
  let c0_i32_25 : BitVec 32 := 0#32
  let c1_i32_26 : BitVec 32 := 1#32
  let arg16 : BitVec 32 := Scf.iv c0_i32_25 c1_i32_26 k0_t9
  let c40_i32 : BitVec 32 := 40#32
  let v87 : BitVec 32 := Scalar.muli arg16 c40_i32
  let v88 : BitVec 32 := v87
  let c0_i32_59 : BitVec 32 := 0#32
  let c1_i32_60 : BitVec 32 := 1#32
  let arg22 : BitVec 32 := Scf.iv c0_i32_59 c1_i32_60 k0_t10
  let c8_i32 : BitVec 32 := 8#32
  let v105 : BitVec 32 := Scalar.muli arg22 c8_i32
  let v106 : BitVec 32 := Scalar.addi v88 v105
  let v107 : BitVec 32 := v106
  let v108 : Index := Scalar.indexCast v107
  let c0_87 : Index := 0#32
  ![v108.toNat, 0]
def k0_mult29 (k0_t10 : Fin k0_t10_loop.trips) : BitVec 32 :=
  let c0_i32_59 : BitVec 32 := 0#32
  let c1_i32_60 : BitVec 32 := 1#32
  let arg22 : BitVec 32 := Scf.iv c0_i32_59 c1_i32_60 k0_t10
  let c8_i32_92 : BitVec 32 := 8#32
  let v136 : BitVec 32 := Scalar.muli arg22 c8_i32_92
  v136
def k0_off21 (k0_t10 : Fin k0_t10_loop.trips) : Fin 2 → Nat :=
  let c0_i32_59 : BitVec 32 := 0#32
  let c1_i32_60 : BitVec 32 := 1#32
  let arg22 : BitVec 32 := Scf.iv c0_i32_59 c1_i32_60 k0_t10
  let c8_i32_92 : BitVec 32 := 8#32
  let v136 : BitVec 32 := Scalar.muli arg22 c8_i32_92
  let v137 : BitVec 32 := v136
  let v138 : Index := Scalar.indexCast v137
  let c0_93 : Index := 0#32
  ![v138.toNat, 0]
@[reducible] def k0_t11_loop : Scf.Loop 32 :=
  let c0_i32_62 : BitVec 32 := 0#32
  let c10_i32 : BitVec 32 := 10#32
  let v90 : BitVec 32 := Scalar.addi c0_i32_62 c10_i32
  let c1_i32_63 : BitVec 32 := 1#32
  ⟨c0_i32_62, v90, c1_i32_63⟩
def k0_off22 (k0_t11 : Fin k0_t11_loop.trips) (c0_i32_87 : BitVec 32) : Fin 2 → Nat :=
  let c0_i32_62 : BitVec 32 := 0#32
  let c1_i32_63 : BitVec 32 := 1#32
  let arg22 : BitVec 32 := Scf.iv c0_i32_62 c1_i32_63 k0_t11
  let c4_i32 : BitVec 32 := 4#32
  let v105 : BitVec 32 := Scalar.muli arg22 c4_i32
  let v106 : BitVec 32 := Scalar.addi v105 c0_i32_87
  let v107 : Index := Scalar.indexCast v106
  let c0_88 : Index := 0#32
  ![v107.toNat, 0]
def k0_mult30 (k0_t9 : Fin k0_t9_loop.trips) (k0_t11 : Fin k0_t11_loop.trips) : BitVec 32 :=
  let c0_i32_25 : BitVec 32 := 0#32
  let c1_i32_26 : BitVec 32 := 1#32
  let arg16 : BitVec 32 := Scf.iv c0_i32_25 c1_i32_26 k0_t9
  let c1280_i32 : BitVec 32 := 1280#32
  let v85 : BitVec 32 := Scalar.muli arg16 c1280_i32
  let v86 : BitVec 32 := v85
  let c0_i32_62 : BitVec 32 := 0#32
  let c1_i32_63 : BitVec 32 := 1#32
  let arg22 : BitVec 32 := Scf.iv c0_i32_62 c1_i32_63 k0_t11
  let c128_i32 : BitVec 32 := 128#32
  let v109 : BitVec 32 := Scalar.muli arg22 c128_i32
  let v110 : BitVec 32 := Scalar.addi v86 v109
  let c0_i32_89 : BitVec 32 := 0#32
  let v111 : BitVec 32 := Scalar.addi v110 c0_i32_89
  v111
def k0_off23 (k0_t9 : Fin k0_t9_loop.trips) (k0_t11 : Fin k0_t11_loop.trips) (c0_i32_89 : BitVec 32) : Fin 2 → Nat :=
  let c0_i32_25 : BitVec 32 := 0#32
  let c1_i32_26 : BitVec 32 := 1#32
  let arg16 : BitVec 32 := Scf.iv c0_i32_25 c1_i32_26 k0_t9
  let c1280_i32 : BitVec 32 := 1280#32
  let v85 : BitVec 32 := Scalar.muli arg16 c1280_i32
  let v86 : BitVec 32 := v85
  let c0_i32_62 : BitVec 32 := 0#32
  let c1_i32_63 : BitVec 32 := 1#32
  let arg22 : BitVec 32 := Scf.iv c0_i32_62 c1_i32_63 k0_t11
  let c128_i32 : BitVec 32 := 128#32
  let v109 : BitVec 32 := Scalar.muli arg22 c128_i32
  let v110 : BitVec 32 := Scalar.addi v86 v109
  let v111 : BitVec 32 := Scalar.addi v110 c0_i32_89
  let v112 : BitVec 32 := v111
  let v113 : Index := Scalar.indexCast v112
  let c0_90 : Index := 0#32
  ![v113.toNat, 0]
def k0_mult31 (k0_t9 : Fin k0_t9_loop.trips) (k0_t11 : Fin k0_t11_loop.trips) : BitVec 32 :=
  let c0_i32_25 : BitVec 32 := 0#32
  let c1_i32_26 : BitVec 32 := 1#32
  let arg16 : BitVec 32 := Scf.iv c0_i32_25 c1_i32_26 k0_t9
  let c1280_i32 : BitVec 32 := 1280#32
  let v85 : BitVec 32 := Scalar.muli arg16 c1280_i32
  let v86 : BitVec 32 := v85
  let c0_i32_62 : BitVec 32 := 0#32
  let c1_i32_63 : BitVec 32 := 1#32
  let arg22 : BitVec 32 := Scf.iv c0_i32_62 c1_i32_63 k0_t11
  let c128_i32_96 : BitVec 32 := 128#32
  let v126 : BitVec 32 := Scalar.muli arg22 c128_i32_96
  let v127 : BitVec 32 := Scalar.addi v86 v126
  let c32_i32 : BitVec 32 := 32#32
  let v128 : BitVec 32 := Scalar.addi v127 c32_i32
  v128
def k0_mult32 (k0_t9 : Fin k0_t9_loop.trips) (k0_t11 : Fin k0_t11_loop.trips) : BitVec 32 :=
  let c0_i32_25 : BitVec 32 := 0#32
  let c1_i32_26 : BitVec 32 := 1#32
  let arg16 : BitVec 32 := Scf.iv c0_i32_25 c1_i32_26 k0_t9
  let c1280_i32 : BitVec 32 := 1280#32
  let v85 : BitVec 32 := Scalar.muli arg16 c1280_i32
  let v86 : BitVec 32 := v85
  let c0_i32_62 : BitVec 32 := 0#32
  let c1_i32_63 : BitVec 32 := 1#32
  let arg22 : BitVec 32 := Scf.iv c0_i32_62 c1_i32_63 k0_t11
  let c128_i32_103 : BitVec 32 := 128#32
  let v143 : BitVec 32 := Scalar.muli arg22 c128_i32_103
  let v144 : BitVec 32 := Scalar.addi v86 v143
  let c64_i32 : BitVec 32 := 64#32
  let v145 : BitVec 32 := Scalar.addi v144 c64_i32
  v145
def k0_mult33 (k0_t9 : Fin k0_t9_loop.trips) (k0_t11 : Fin k0_t11_loop.trips) : BitVec 32 :=
  let c0_i32_25 : BitVec 32 := 0#32
  let c1_i32_26 : BitVec 32 := 1#32
  let arg16 : BitVec 32 := Scf.iv c0_i32_25 c1_i32_26 k0_t9
  let c1280_i32 : BitVec 32 := 1280#32
  let v85 : BitVec 32 := Scalar.muli arg16 c1280_i32
  let v86 : BitVec 32 := v85
  let c0_i32_62 : BitVec 32 := 0#32
  let c1_i32_63 : BitVec 32 := 1#32
  let arg22 : BitVec 32 := Scf.iv c0_i32_62 c1_i32_63 k0_t11
  let c128_i32_109 : BitVec 32 := 128#32
  let v160 : BitVec 32 := Scalar.muli arg22 c128_i32_109
  let v161 : BitVec 32 := Scalar.addi v86 v160
  let c96_i32 : BitVec 32 := 96#32
  let v162 : BitVec 32 := Scalar.addi v161 c96_i32
  v162
def k0_mult34 (k0_t9 : Fin k0_t9_loop.trips) (k0_t11 : Fin k0_t11_loop.trips) : BitVec 32 :=
  let c0_i32_25 : BitVec 32 := 0#32
  let c1_i32_26 : BitVec 32 := 1#32
  let arg16 : BitVec 32 := Scf.iv c0_i32_25 c1_i32_26 k0_t9
  let c1280_i32 : BitVec 32 := 1280#32
  let v85 : BitVec 32 := Scalar.muli arg16 c1280_i32
  let v86 : BitVec 32 := v85
  let c0_i32_62 : BitVec 32 := 0#32
  let c1_i32_63 : BitVec 32 := 1#32
  let arg22 : BitVec 32 := Scf.iv c0_i32_62 c1_i32_63 k0_t11
  let c128_i32_113 : BitVec 32 := 128#32
  let v175 : BitVec 32 := Scalar.muli arg22 c128_i32_113
  let v176 : BitVec 32 := Scalar.addi v86 v175
  v176
def k0_off24 (k0_t9 : Fin k0_t9_loop.trips) (k0_t11 : Fin k0_t11_loop.trips) : Fin 2 → Nat :=
  let c0_114 : Index := 0#32
  let c0_i32_25 : BitVec 32 := 0#32
  let c1_i32_26 : BitVec 32 := 1#32
  let arg16 : BitVec 32 := Scf.iv c0_i32_25 c1_i32_26 k0_t9
  let c1280_i32 : BitVec 32 := 1280#32
  let v85 : BitVec 32 := Scalar.muli arg16 c1280_i32
  let v86 : BitVec 32 := v85
  let c0_i32_62 : BitVec 32 := 0#32
  let c1_i32_63 : BitVec 32 := 1#32
  let arg22 : BitVec 32 := Scf.iv c0_i32_62 c1_i32_63 k0_t11
  let c128_i32_113 : BitVec 32 := 128#32
  let v175 : BitVec 32 := Scalar.muli arg22 c128_i32_113
  let v176 : BitVec 32 := Scalar.addi v86 v175
  let v177 : BitVec 32 := v176
  let v178 : Index := Scalar.indexCast v177
  ![0, v178.toNat]
def k0_mult35 (k0_t9 : Fin k0_t9_loop.trips) : BitVec 32 :=
  let c0_i32_25 : BitVec 32 := 0#32
  let c1_i32_26 : BitVec 32 := 1#32
  let arg16 : BitVec 32 := Scf.iv c0_i32_25 c1_i32_26 k0_t9
  let c1280_i32_65 : BitVec 32 := 1280#32
  let v91 : BitVec 32 := Scalar.muli arg16 c1280_i32_65
  v91
def k0_mult36 (k0_t9 : Fin k0_t9_loop.trips) : BitVec 32 :=
  let c0_i32_25 : BitVec 32 := 0#32
  let c1_i32_26 : BitVec 32 := 1#32
  let arg16 : BitVec 32 := Scf.iv c0_i32_25 c1_i32_26 k0_t9
  let c40_i32_66 : BitVec 32 := 40#32
  let v93 : BitVec 32 := Scalar.muli arg16 c40_i32_66
  v93
@[reducible] def k0_t12_loop : Scf.Loop 32 :=
  let c0_i32_68 : BitVec 32 := 0#32
  let c40_i32_69 : BitVec 32 := 40#32
  let v95 : BitVec 32 := Scalar.addi c0_i32_68 c40_i32_69
  let c1_i32_70 : BitVec 32 := 1#32
  ⟨c0_i32_68, v95, c1_i32_70⟩
def k0_mult37 (k0_t9 : Fin k0_t9_loop.trips) (k0_t12 : Fin k0_t12_loop.trips) : BitVec 32 :=
  let c0_i32_25 : BitVec 32 := 0#32
  let c1_i32_26 : BitVec 32 := 1#32
  let arg16 : BitVec 32 := Scf.iv c0_i32_25 c1_i32_26 k0_t9
  let c1280_i32_65 : BitVec 32 := 1280#32
  let v91 : BitVec 32 := Scalar.muli arg16 c1280_i32_65
  let v92 : BitVec 32 := v91
  let c0_i32_68 : BitVec 32 := 0#32
  let c1_i32_70 : BitVec 32 := 1#32
  let arg22 : BitVec 32 := Scf.iv c0_i32_68 c1_i32_70 k0_t12
  let c32_i32 : BitVec 32 := 32#32
  let v105 : BitVec 32 := Scalar.muli arg22 c32_i32
  let v106 : BitVec 32 := Scalar.addi v92 v105
  v106
def k0_off25 (k0_t9 : Fin k0_t9_loop.trips) (k0_t12 : Fin k0_t12_loop.trips) : Fin 2 → Nat :=
  let c0_i32_25 : BitVec 32 := 0#32
  let c1_i32_26 : BitVec 32 := 1#32
  let arg16 : BitVec 32 := Scf.iv c0_i32_25 c1_i32_26 k0_t9
  let c1280_i32_65 : BitVec 32 := 1280#32
  let v91 : BitVec 32 := Scalar.muli arg16 c1280_i32_65
  let v92 : BitVec 32 := v91
  let c0_i32_68 : BitVec 32 := 0#32
  let c1_i32_70 : BitVec 32 := 1#32
  let arg22 : BitVec 32 := Scf.iv c0_i32_68 c1_i32_70 k0_t12
  let c32_i32 : BitVec 32 := 32#32
  let v105 : BitVec 32 := Scalar.muli arg22 c32_i32
  let v106 : BitVec 32 := Scalar.addi v92 v105
  let v107 : BitVec 32 := v106
  let v108 : Index := Scalar.indexCast v107
  let c0_87 : Index := 0#32
  ![v108.toNat, 0]
def k0_off26 (k0_t9 : Fin k0_t9_loop.trips) (k0_t12 : Fin k0_t12_loop.trips) (c0_i32_88 : BitVec 32) : Fin 2 → Nat :=
  let c0_i32_25 : BitVec 32 := 0#32
  let c1_i32_26 : BitVec 32 := 1#32
  let arg16 : BitVec 32 := Scf.iv c0_i32_25 c1_i32_26 k0_t9
  let c1280_i32_65 : BitVec 32 := 1280#32
  let v91 : BitVec 32 := Scalar.muli arg16 c1280_i32_65
  let v92 : BitVec 32 := v91
  let c0_i32_68 : BitVec 32 := 0#32
  let c1_i32_70 : BitVec 32 := 1#32
  let arg22 : BitVec 32 := Scf.iv c0_i32_68 c1_i32_70 k0_t12
  let c32_i32 : BitVec 32 := 32#32
  let v105 : BitVec 32 := Scalar.muli arg22 c32_i32
  let v106 : BitVec 32 := Scalar.addi v92 v105
  let v107 : BitVec 32 := v106
  let v116 : BitVec 32 := Scalar.addi v107 c0_i32_88
  let v117 : Index := Scalar.indexCast v116
  let c0_89 : Index := 0#32
  ![v117.toNat, 0]
@[reducible] def k0_t13_loop : Scf.Loop 32 :=
  let c0_i32_73 : BitVec 32 := 0#32
  let c5_i32_74 : BitVec 32 := 5#32
  let v97 : BitVec 32 := Scalar.addi c0_i32_73 c5_i32_74
  let c1_i32_75 : BitVec 32 := 1#32
  ⟨c0_i32_73, v97, c1_i32_75⟩
def k0_mult38 (k0_t9 : Fin k0_t9_loop.trips) (k0_t13 : Fin k0_t13_loop.trips) : BitVec 32 :=
  let c0_i32_25 : BitVec 32 := 0#32
  let c1_i32_26 : BitVec 32 := 1#32
  let arg16 : BitVec 32 := Scf.iv c0_i32_25 c1_i32_26 k0_t9
  let c40_i32_66 : BitVec 32 := 40#32
  let v93 : BitVec 32 := Scalar.muli arg16 c40_i32_66
  let v94 : BitVec 32 := v93
  let c0_i32_73 : BitVec 32 := 0#32
  let c1_i32_75 : BitVec 32 := 1#32
  let arg22 : BitVec 32 := Scf.iv c0_i32_73 c1_i32_75 k0_t13
  let c8_i32 : BitVec 32 := 8#32
  let v105 : BitVec 32 := Scalar.muli arg22 c8_i32
  let v106 : BitVec 32 := Scalar.addi v94 v105
  v106
def k0_off27 (k0_t9 : Fin k0_t9_loop.trips) (k0_t13 : Fin k0_t13_loop.trips) : Fin 2 → Nat :=
  let c0_i32_25 : BitVec 32 := 0#32
  let c1_i32_26 : BitVec 32 := 1#32
  let arg16 : BitVec 32 := Scf.iv c0_i32_25 c1_i32_26 k0_t9
  let c40_i32_66 : BitVec 32 := 40#32
  let v93 : BitVec 32 := Scalar.muli arg16 c40_i32_66
  let v94 : BitVec 32 := v93
  let c0_i32_73 : BitVec 32 := 0#32
  let c1_i32_75 : BitVec 32 := 1#32
  let arg22 : BitVec 32 := Scf.iv c0_i32_73 c1_i32_75 k0_t13
  let c8_i32 : BitVec 32 := 8#32
  let v105 : BitVec 32 := Scalar.muli arg22 c8_i32
  let v106 : BitVec 32 := Scalar.addi v94 v105
  let v107 : BitVec 32 := v106
  let v108 : Index := Scalar.indexCast v107
  let c0_87 : Index := 0#32
  ![v108.toNat, 0]
def k0_mult39 (k0_t9 : Fin k0_t9_loop.trips) : BitVec 32 :=
  let c0_i32_25 : BitVec 32 := 0#32
  let c1_i32_26 : BitVec 32 := 1#32
  let arg16 : BitVec 32 := Scf.iv c0_i32_25 c1_i32_26 k0_t9
  let c1280_i32_77 : BitVec 32 := 1280#32
  let v98 : BitVec 32 := Scalar.muli arg16 c1280_i32_77
  v98
@[reducible] def k0_t14_loop : Scf.Loop 32 :=
  let c0_i32_78 : BitVec 32 := 0#32
  let c10_i32_79 : BitVec 32 := 10#32
  let v100 : BitVec 32 := Scalar.addi c0_i32_78 c10_i32_79
  let c1_i32_80 : BitVec 32 := 1#32
  ⟨c0_i32_78, v100, c1_i32_80⟩
def k0_mult40 (k0_t9 : Fin k0_t9_loop.trips) (k0_t14 : Fin k0_t14_loop.trips) : BitVec 32 :=
  let c0_i32_25 : BitVec 32 := 0#32
  let c1_i32_26 : BitVec 32 := 1#32
  let arg16 : BitVec 32 := Scf.iv c0_i32_25 c1_i32_26 k0_t9
  let c1280_i32_77 : BitVec 32 := 1280#32
  let v98 : BitVec 32 := Scalar.muli arg16 c1280_i32_77
  let v99 : BitVec 32 := v98
  let c0_i32_78 : BitVec 32 := 0#32
  let c1_i32_80 : BitVec 32 := 1#32
  let arg22 : BitVec 32 := Scf.iv c0_i32_78 c1_i32_80 k0_t14
  let c128_i32 : BitVec 32 := 128#32
  let v105 : BitVec 32 := Scalar.muli arg22 c128_i32
  let v106 : BitVec 32 := Scalar.addi v99 v105
  v106
def k0_off28 (i : grid0.Coords) (k0_t9 : Fin k0_t9_loop.trips) (k0_t14 : Fin k0_t14_loop.trips) : Fin 3 → Nat :=
  let arg0 : BitVec 32 := BitVec.ofNat 32 (i 0).val
  let c2_i32 : BitVec 32 := 2#32
  let v0 : BitVec 32 := Scalar.remsi arg0 c2_i32
  let v108 : Index := Scalar.indexCast v0
  let c0_87 : Index := 0#32
  let c0_i32_25 : BitVec 32 := 0#32
  let c1_i32_26 : BitVec 32 := 1#32
  let arg16 : BitVec 32 := Scf.iv c0_i32_25 c1_i32_26 k0_t9
  let c1280_i32_77 : BitVec 32 := 1280#32
  let v98 : BitVec 32 := Scalar.muli arg16 c1280_i32_77
  let v99 : BitVec 32 := v98
  let c0_i32_78 : BitVec 32 := 0#32
  let c1_i32_80 : BitVec 32 := 1#32
  let arg22 : BitVec 32 := Scf.iv c0_i32_78 c1_i32_80 k0_t14
  let c128_i32 : BitVec 32 := 128#32
  let v105 : BitVec 32 := Scalar.muli arg22 c128_i32
  let v106 : BitVec 32 := Scalar.addi v99 v105
  let v107 : BitVec 32 := v106
  let v109 : Index := Scalar.indexCast v107
  ![v108.toNat, 0, v109.toNat]
def k0_mult41 (k0_t9 : Fin k0_t9_loop.trips) (k0_t14 : Fin k0_t14_loop.trips) : BitVec 32 :=
  let c0_i32_25 : BitVec 32 := 0#32
  let c1_i32_26 : BitVec 32 := 1#32
  let arg16 : BitVec 32 := Scf.iv c0_i32_25 c1_i32_26 k0_t9
  let c1280_i32_77 : BitVec 32 := 1280#32
  let v98 : BitVec 32 := Scalar.muli arg16 c1280_i32_77
  let v99 : BitVec 32 := v98
  let c0_i32_78 : BitVec 32 := 0#32
  let c1_i32_80 : BitVec 32 := 1#32
  let arg22 : BitVec 32 := Scf.iv c0_i32_78 c1_i32_80 k0_t14
  let c128_i32_88 : BitVec 32 := 128#32
  let v113 : BitVec 32 := Scalar.muli arg22 c128_i32_88
  let v114 : BitVec 32 := Scalar.addi v99 v113
  v114
def k0_off29 (k0_t9 : Fin k0_t9_loop.trips) (k0_t14 : Fin k0_t14_loop.trips) : Fin 2 → Nat :=
  let c0_i32_25 : BitVec 32 := 0#32
  let c1_i32_26 : BitVec 32 := 1#32
  let arg16 : BitVec 32 := Scf.iv c0_i32_25 c1_i32_26 k0_t9
  let c1280_i32_77 : BitVec 32 := 1280#32
  let v98 : BitVec 32 := Scalar.muli arg16 c1280_i32_77
  let v99 : BitVec 32 := v98
  let c0_i32_78 : BitVec 32 := 0#32
  let c1_i32_80 : BitVec 32 := 1#32
  let arg22 : BitVec 32 := Scf.iv c0_i32_78 c1_i32_80 k0_t14
  let c128_i32_88 : BitVec 32 := 128#32
  let v113 : BitVec 32 := Scalar.muli arg22 c128_i32_88
  let v114 : BitVec 32 := Scalar.addi v99 v113
  let v115 : BitVec 32 := v114
  let v116 : Index := Scalar.indexCast v115
  let c0_89 : Index := 0#32
  ![v116.toNat, 0]
def k0_mult42 (k0_t14 : Fin k0_t14_loop.trips) : BitVec 32 :=
  let c0_i32_78 : BitVec 32 := 0#32
  let c1_i32_80 : BitVec 32 := 1#32
  let arg22 : BitVec 32 := Scf.iv c0_i32_78 c1_i32_80 k0_t14
  let c4_i32 : BitVec 32 := 4#32
  let v123 : BitVec 32 := Scalar.muli arg22 c4_i32
  let c0_i32_90 : BitVec 32 := 0#32
  let v124 : BitVec 32 := Scalar.addi v123 c0_i32_90
  let c8_i32 : BitVec 32 := 8#32
  let v125 : BitVec 32 := Scalar.muli v124 c8_i32
  v125
def k0_off30 (k0_t14 : Fin k0_t14_loop.trips) (c0_i32_90 : BitVec 32) : Fin 2 → Nat :=
  let c0_i32_78 : BitVec 32 := 0#32
  let c1_i32_80 : BitVec 32 := 1#32
  let arg22 : BitVec 32 := Scf.iv c0_i32_78 c1_i32_80 k0_t14
  let c4_i32 : BitVec 32 := 4#32
  let v123 : BitVec 32 := Scalar.muli arg22 c4_i32
  let v124 : BitVec 32 := Scalar.addi v123 c0_i32_90
  let c8_i32 : BitVec 32 := 8#32
  let v125 : BitVec 32 := Scalar.muli v124 c8_i32
  let v126 : BitVec 32 := v125
  let v128 : Index := Scalar.indexCast v126
  let c0_91 : Index := 0#32
  ![v128.toNat, 0]
def k0_mult43 (k0_t14 : Fin k0_t14_loop.trips) : BitVec 32 :=
  let c0_i32_78 : BitVec 32 := 0#32
  let c1_i32_80 : BitVec 32 := 1#32
  let arg22 : BitVec 32 := Scf.iv c0_i32_78 c1_i32_80 k0_t14
  let c4_i32_92 : BitVec 32 := 4#32
  let v135 : BitVec 32 := Scalar.muli arg22 c4_i32_92
  let c1_i32_93 : BitVec 32 := 1#32
  let v136 : BitVec 32 := Scalar.addi v135 c1_i32_93
  let c8_i32_94 : BitVec 32 := 8#32
  let v137 : BitVec 32 := Scalar.muli v136 c8_i32_94
  v137
def k0_mult44 (k0_t14 : Fin k0_t14_loop.trips) : BitVec 32 :=
  let c0_i32_78 : BitVec 32 := 0#32
  let c1_i32_80 : BitVec 32 := 1#32
  let arg22 : BitVec 32 := Scf.iv c0_i32_78 c1_i32_80 k0_t14
  let c4_i32_96 : BitVec 32 := 4#32
  let v147 : BitVec 32 := Scalar.muli arg22 c4_i32_96
  let c2_i32_97 : BitVec 32 := 2#32
  let v148 : BitVec 32 := Scalar.addi v147 c2_i32_97
  let c8_i32_98 : BitVec 32 := 8#32
  let v149 : BitVec 32 := Scalar.muli v148 c8_i32_98
  v149
def k0_mult45 (k0_t14 : Fin k0_t14_loop.trips) : BitVec 32 :=
  let c0_i32_78 : BitVec 32 := 0#32
  let c1_i32_80 : BitVec 32 := 1#32
  let arg22 : BitVec 32 := Scf.iv c0_i32_78 c1_i32_80 k0_t14
  let c4_i32_100 : BitVec 32 := 4#32
  let v159 : BitVec 32 := Scalar.muli arg22 c4_i32_100
  let c3_i32 : BitVec 32 := 3#32
  let v160 : BitVec 32 := Scalar.addi v159 c3_i32
  let c8_i32_101 : BitVec 32 := 8#32
  let v161 : BitVec 32 := Scalar.muli v160 c8_i32_101
  v161
def k0_mult46 (k0_t9 : Fin k0_t9_loop.trips) : BitVec 32 :=
  let c0_i32_25 : BitVec 32 := 0#32
  let c1_i32_26 : BitVec 32 := 1#32
  let arg16 : BitVec 32 := Scf.iv c0_i32_25 c1_i32_26 k0_t9
  let c40_i32_82 : BitVec 32 := 40#32
  let v101 : BitVec 32 := Scalar.muli arg16 c40_i32_82
  v101
@[reducible] def k0_t15_loop : Scf.Loop 32 :=
  let c0_i32_83 : BitVec 32 := 0#32
  let c5_i32_84 : BitVec 32 := 5#32
  let v103 : BitVec 32 := Scalar.addi c0_i32_83 c5_i32_84
  let c1_i32_85 : BitVec 32 := 1#32
  ⟨c0_i32_83, v103, c1_i32_85⟩
def k0_off31 (k0_t15 : Fin k0_t15_loop.trips) (c0_i32_88 : BitVec 32) : Fin 2 → Nat :=
  let c0_i32_83 : BitVec 32 := 0#32
  let c1_i32_85 : BitVec 32 := 1#32
  let arg22 : BitVec 32 := Scf.iv c0_i32_83 c1_i32_85 k0_t15
  let c8_i32 : BitVec 32 := 8#32
  let v105 : BitVec 32 := Scalar.muli arg22 c8_i32
  let c8_i32_87 : BitVec 32 := 8#32
  let v106 : BitVec 32 := Scalar.muli v105 c8_i32_87
  let v107 : BitVec 32 := Scalar.addi v106 c0_i32_88
  let v108 : Index := Scalar.indexCast v107
  let c0_89 : Index := 0#32
  ![v108.toNat, 0]
def k0_mult47 (k0_t9 : Fin k0_t9_loop.trips) (k0_t15 : Fin k0_t15_loop.trips) : BitVec 32 :=
  let c0_i32_25 : BitVec 32 := 0#32
  let c1_i32_26 : BitVec 32 := 1#32
  let arg16 : BitVec 32 := Scf.iv c0_i32_25 c1_i32_26 k0_t9
  let c40_i32_82 : BitVec 32 := 40#32
  let v101 : BitVec 32 := Scalar.muli arg16 c40_i32_82
  let v102 : BitVec 32 := v101
  let c0_i32_83 : BitVec 32 := 0#32
  let c1_i32_85 : BitVec 32 := 1#32
  let arg22 : BitVec 32 := Scf.iv c0_i32_83 c1_i32_85 k0_t15
  let c8_i32_100 : BitVec 32 := 8#32
  let v154 : BitVec 32 := Scalar.muli arg22 c8_i32_100
  let v155 : BitVec 32 := Scalar.addi v102 v154
  v155
def k0_off32 (k0_t9 : Fin k0_t9_loop.trips) (k0_t15 : Fin k0_t15_loop.trips) : Fin 2 → Nat :=
  let c0_i32_25 : BitVec 32 := 0#32
  let c1_i32_26 : BitVec 32 := 1#32
  let arg16 : BitVec 32 := Scf.iv c0_i32_25 c1_i32_26 k0_t9
  let c40_i32_82 : BitVec 32 := 40#32
  let v101 : BitVec 32 := Scalar.muli arg16 c40_i32_82
  let v102 : BitVec 32 := v101
  let c0_i32_83 : BitVec 32 := 0#32
  let c1_i32_85 : BitVec 32 := 1#32
  let arg22 : BitVec 32 := Scf.iv c0_i32_83 c1_i32_85 k0_t15
  let c8_i32_100 : BitVec 32 := 8#32
  let v154 : BitVec 32 := Scalar.muli arg22 c8_i32_100
  let v155 : BitVec 32 := Scalar.addi v102 v154
  let v156 : BitVec 32 := v155
  let v157 : Index := Scalar.indexCast v156
  let c0_101 : Index := 0#32
  ![v157.toNat, 0]
def k0_cond7 (i : grid0.Coords) : BitVec 1 :=
  let arg0 : BitVec 32 := BitVec.ofNat 32 (i 0).val
  let c72_i32_11 : BitVec 32 := 72#32
  let v22 : BitVec 1 := Scalar.cmpi .eq arg0 c72_i32_11
  let v23 : BitVec 32 := Scalar.extui v22
  let c0_i32_12 : BitVec 32 := 0#32
  let v24 : BitVec 1 := Scalar.cmpi .ne v23 c0_i32_12
  v24

@[reducible] def k0_t16_loop : Scf.Loop 32 :=
  let c0_i32_24 : BitVec 32 := 0#32
  let c25_i32 : BitVec 32 := 25#32
  let v41 : BitVec 32 := Scalar.addi c0_i32_24 c25_i32
  let c1_i32_25 : BitVec 32 := 1#32
  ⟨c0_i32_24, v41, c1_i32_25⟩
def k0_mult48 (k0_t16 : Fin k0_t16_loop.trips) : BitVec 32 :=
  let c0_i32_24 : BitVec 32 := 0#32
  let c1_i32_25 : BitVec 32 := 1#32
  let arg16 : BitVec 32 := Scf.iv c0_i32_24 c1_i32_25 k0_t16
  let c1280_i32 : BitVec 32 := 1280#32
  let v77 : BitVec 32 := Scalar.muli arg16 c1280_i32
  v77
def k0_mult49 (k0_t16 : Fin k0_t16_loop.trips) : BitVec 32 :=
  let c0_i32_24 : BitVec 32 := 0#32
  let c1_i32_25 : BitVec 32 := 1#32
  let arg16 : BitVec 32 := Scf.iv c0_i32_24 c1_i32_25 k0_t16
  let c40_i32 : BitVec 32 := 40#32
  let v79 : BitVec 32 := Scalar.muli arg16 c40_i32
  v79
@[reducible] def k0_t17_loop : Scf.Loop 32 :=
  let c0_i32_55 : BitVec 32 := 0#32
  let c5_i32 : BitVec 32 := 5#32
  let v81 : BitVec 32 := Scalar.addi c0_i32_55 c5_i32
  let c1_i32_56 : BitVec 32 := 1#32
  ⟨c0_i32_55, v81, c1_i32_56⟩
def k0_mult50 (k0_t16 : Fin k0_t16_loop.trips) (k0_t17 : Fin k0_t17_loop.trips) : BitVec 32 :=
  let c0_i32_24 : BitVec 32 := 0#32
  let c1_i32_25 : BitVec 32 := 1#32
  let arg16 : BitVec 32 := Scf.iv c0_i32_24 c1_i32_25 k0_t16
  let c40_i32 : BitVec 32 := 40#32
  let v79 : BitVec 32 := Scalar.muli arg16 c40_i32
  let v80 : BitVec 32 := v79
  let c0_i32_55 : BitVec 32 := 0#32
  let c1_i32_56 : BitVec 32 := 1#32
  let arg21 : BitVec 32 := Scf.iv c0_i32_55 c1_i32_56 k0_t17
  let c8_i32 : BitVec 32 := 8#32
  let v90 : BitVec 32 := Scalar.muli arg21 c8_i32
  let v91 : BitVec 32 := Scalar.addi v80 v90
  v91
def k0_off33 (k0_t16 : Fin k0_t16_loop.trips) (k0_t17 : Fin k0_t17_loop.trips) : Fin 2 → Nat :=
  let c0_i32_24 : BitVec 32 := 0#32
  let c1_i32_25 : BitVec 32 := 1#32
  let arg16 : BitVec 32 := Scf.iv c0_i32_24 c1_i32_25 k0_t16
  let c40_i32 : BitVec 32 := 40#32
  let v79 : BitVec 32 := Scalar.muli arg16 c40_i32
  let v80 : BitVec 32 := v79
  let c0_i32_55 : BitVec 32 := 0#32
  let c1_i32_56 : BitVec 32 := 1#32
  let arg21 : BitVec 32 := Scf.iv c0_i32_55 c1_i32_56 k0_t17
  let c8_i32 : BitVec 32 := 8#32
  let v90 : BitVec 32 := Scalar.muli arg21 c8_i32
  let v91 : BitVec 32 := Scalar.addi v80 v90
  let v92 : BitVec 32 := v91
  let v93 : Index := Scalar.indexCast v92
  let c0_73 : Index := 0#32
  ![v93.toNat, 0]
def k0_mult51 (k0_t17 : Fin k0_t17_loop.trips) : BitVec 32 :=
  let c0_i32_55 : BitVec 32 := 0#32
  let c1_i32_56 : BitVec 32 := 1#32
  let arg21 : BitVec 32 := Scf.iv c0_i32_55 c1_i32_56 k0_t17
  let c8_i32_78 : BitVec 32 := 8#32
  let v121 : BitVec 32 := Scalar.muli arg21 c8_i32_78
  v121
def k0_off34 (k0_t17 : Fin k0_t17_loop.trips) : Fin 2 → Nat :=
  let c0_i32_55 : BitVec 32 := 0#32
  let c1_i32_56 : BitVec 32 := 1#32
  let arg21 : BitVec 32 := Scf.iv c0_i32_55 c1_i32_56 k0_t17
  let c8_i32_78 : BitVec 32 := 8#32
  let v121 : BitVec 32 := Scalar.muli arg21 c8_i32_78
  let v122 : BitVec 32 := v121
  let v123 : Index := Scalar.indexCast v122
  let c0_79 : Index := 0#32
  ![v123.toNat, 0]
@[reducible] def k0_t18_loop : Scf.Loop 32 :=
  let c0_i32_58 : BitVec 32 := 0#32
  let c10_i32 : BitVec 32 := 10#32
  let v82 : BitVec 32 := Scalar.addi c0_i32_58 c10_i32
  let c1_i32_59 : BitVec 32 := 1#32
  ⟨c0_i32_58, v82, c1_i32_59⟩
def k0_off35 (k0_t18 : Fin k0_t18_loop.trips) (c0_i32_73 : BitVec 32) : Fin 2 → Nat :=
  let c0_i32_58 : BitVec 32 := 0#32
  let c1_i32_59 : BitVec 32 := 1#32
  let arg21 : BitVec 32 := Scf.iv c0_i32_58 c1_i32_59 k0_t18
  let c4_i32 : BitVec 32 := 4#32
  let v90 : BitVec 32 := Scalar.muli arg21 c4_i32
  let v91 : BitVec 32 := Scalar.addi v90 c0_i32_73
  let v92 : Index := Scalar.indexCast v91
  let c0_74 : Index := 0#32
  ![v92.toNat, 0]
def k0_mult52 (k0_t16 : Fin k0_t16_loop.trips) (k0_t18 : Fin k0_t18_loop.trips) : BitVec 32 :=
  let c0_i32_24 : BitVec 32 := 0#32
  let c1_i32_25 : BitVec 32 := 1#32
  let arg16 : BitVec 32 := Scf.iv c0_i32_24 c1_i32_25 k0_t16
  let c1280_i32 : BitVec 32 := 1280#32
  let v77 : BitVec 32 := Scalar.muli arg16 c1280_i32
  let v78 : BitVec 32 := v77
  let c0_i32_58 : BitVec 32 := 0#32
  let c1_i32_59 : BitVec 32 := 1#32
  let arg21 : BitVec 32 := Scf.iv c0_i32_58 c1_i32_59 k0_t18
  let c128_i32 : BitVec 32 := 128#32
  let v94 : BitVec 32 := Scalar.muli arg21 c128_i32
  let v95 : BitVec 32 := Scalar.addi v78 v94
  let c0_i32_75 : BitVec 32 := 0#32
  let v96 : BitVec 32 := Scalar.addi v95 c0_i32_75
  v96
def k0_off36 (k0_t16 : Fin k0_t16_loop.trips) (k0_t18 : Fin k0_t18_loop.trips) (c0_i32_75 : BitVec 32) : Fin 2 → Nat :=
  let c0_i32_24 : BitVec 32 := 0#32
  let c1_i32_25 : BitVec 32 := 1#32
  let arg16 : BitVec 32 := Scf.iv c0_i32_24 c1_i32_25 k0_t16
  let c1280_i32 : BitVec 32 := 1280#32
  let v77 : BitVec 32 := Scalar.muli arg16 c1280_i32
  let v78 : BitVec 32 := v77
  let c0_i32_58 : BitVec 32 := 0#32
  let c1_i32_59 : BitVec 32 := 1#32
  let arg21 : BitVec 32 := Scf.iv c0_i32_58 c1_i32_59 k0_t18
  let c128_i32 : BitVec 32 := 128#32
  let v94 : BitVec 32 := Scalar.muli arg21 c128_i32
  let v95 : BitVec 32 := Scalar.addi v78 v94
  let v96 : BitVec 32 := Scalar.addi v95 c0_i32_75
  let v97 : BitVec 32 := v96
  let v98 : Index := Scalar.indexCast v97
  let c0_76 : Index := 0#32
  ![v98.toNat, 0]
def k0_mult53 (k0_t16 : Fin k0_t16_loop.trips) (k0_t18 : Fin k0_t18_loop.trips) : BitVec 32 :=
  let c0_i32_24 : BitVec 32 := 0#32
  let c1_i32_25 : BitVec 32 := 1#32
  let arg16 : BitVec 32 := Scf.iv c0_i32_24 c1_i32_25 k0_t16
  let c1280_i32 : BitVec 32 := 1280#32
  let v77 : BitVec 32 := Scalar.muli arg16 c1280_i32
  let v78 : BitVec 32 := v77
  let c0_i32_58 : BitVec 32 := 0#32
  let c1_i32_59 : BitVec 32 := 1#32
  let arg21 : BitVec 32 := Scf.iv c0_i32_58 c1_i32_59 k0_t18
  let c128_i32_82 : BitVec 32 := 128#32
  let v111 : BitVec 32 := Scalar.muli arg21 c128_i32_82
  let v112 : BitVec 32 := Scalar.addi v78 v111
  let c32_i32 : BitVec 32 := 32#32
  let v113 : BitVec 32 := Scalar.addi v112 c32_i32
  v113
def k0_mult54 (k0_t16 : Fin k0_t16_loop.trips) (k0_t18 : Fin k0_t18_loop.trips) : BitVec 32 :=
  let c0_i32_24 : BitVec 32 := 0#32
  let c1_i32_25 : BitVec 32 := 1#32
  let arg16 : BitVec 32 := Scf.iv c0_i32_24 c1_i32_25 k0_t16
  let c1280_i32 : BitVec 32 := 1280#32
  let v77 : BitVec 32 := Scalar.muli arg16 c1280_i32
  let v78 : BitVec 32 := v77
  let c0_i32_58 : BitVec 32 := 0#32
  let c1_i32_59 : BitVec 32 := 1#32
  let arg21 : BitVec 32 := Scf.iv c0_i32_58 c1_i32_59 k0_t18
  let c128_i32_89 : BitVec 32 := 128#32
  let v128 : BitVec 32 := Scalar.muli arg21 c128_i32_89
  let v129 : BitVec 32 := Scalar.addi v78 v128
  let c64_i32 : BitVec 32 := 64#32
  let v130 : BitVec 32 := Scalar.addi v129 c64_i32
  v130
def k0_mult55 (k0_t16 : Fin k0_t16_loop.trips) (k0_t18 : Fin k0_t18_loop.trips) : BitVec 32 :=
  let c0_i32_24 : BitVec 32 := 0#32
  let c1_i32_25 : BitVec 32 := 1#32
  let arg16 : BitVec 32 := Scf.iv c0_i32_24 c1_i32_25 k0_t16
  let c1280_i32 : BitVec 32 := 1280#32
  let v77 : BitVec 32 := Scalar.muli arg16 c1280_i32
  let v78 : BitVec 32 := v77
  let c0_i32_58 : BitVec 32 := 0#32
  let c1_i32_59 : BitVec 32 := 1#32
  let arg21 : BitVec 32 := Scf.iv c0_i32_58 c1_i32_59 k0_t18
  let c128_i32_95 : BitVec 32 := 128#32
  let v145 : BitVec 32 := Scalar.muli arg21 c128_i32_95
  let v146 : BitVec 32 := Scalar.addi v78 v145
  let c96_i32 : BitVec 32 := 96#32
  let v147 : BitVec 32 := Scalar.addi v146 c96_i32
  v147
def k0_mult56 (k0_t16 : Fin k0_t16_loop.trips) (k0_t18 : Fin k0_t18_loop.trips) : BitVec 32 :=
  let c0_i32_24 : BitVec 32 := 0#32
  let c1_i32_25 : BitVec 32 := 1#32
  let arg16 : BitVec 32 := Scf.iv c0_i32_24 c1_i32_25 k0_t16
  let c1280_i32 : BitVec 32 := 1280#32
  let v77 : BitVec 32 := Scalar.muli arg16 c1280_i32
  let v78 : BitVec 32 := v77
  let c0_i32_58 : BitVec 32 := 0#32
  let c1_i32_59 : BitVec 32 := 1#32
  let arg21 : BitVec 32 := Scf.iv c0_i32_58 c1_i32_59 k0_t18
  let c128_i32_99 : BitVec 32 := 128#32
  let v160 : BitVec 32 := Scalar.muli arg21 c128_i32_99
  let v161 : BitVec 32 := Scalar.addi v78 v160
  v161
def k0_off37 (k0_t16 : Fin k0_t16_loop.trips) (k0_t18 : Fin k0_t18_loop.trips) : Fin 2 → Nat :=
  let c0_100 : Index := 0#32
  let c0_i32_24 : BitVec 32 := 0#32
  let c1_i32_25 : BitVec 32 := 1#32
  let arg16 : BitVec 32 := Scf.iv c0_i32_24 c1_i32_25 k0_t16
  let c1280_i32 : BitVec 32 := 1280#32
  let v77 : BitVec 32 := Scalar.muli arg16 c1280_i32
  let v78 : BitVec 32 := v77
  let c0_i32_58 : BitVec 32 := 0#32
  let c1_i32_59 : BitVec 32 := 1#32
  let arg21 : BitVec 32 := Scf.iv c0_i32_58 c1_i32_59 k0_t18
  let c128_i32_99 : BitVec 32 := 128#32
  let v160 : BitVec 32 := Scalar.muli arg21 c128_i32_99
  let v161 : BitVec 32 := Scalar.addi v78 v160
  let v162 : BitVec 32 := v161
  let v163 : Index := Scalar.indexCast v162
  ![0, v163.toNat]
def k0_mult57 (k0_t16 : Fin k0_t16_loop.trips) : BitVec 32 :=
  let c0_i32_24 : BitVec 32 := 0#32
  let c1_i32_25 : BitVec 32 := 1#32
  let arg16 : BitVec 32 := Scf.iv c0_i32_24 c1_i32_25 k0_t16
  let c1280_i32_61 : BitVec 32 := 1280#32
  let v83 : BitVec 32 := Scalar.muli arg16 c1280_i32_61
  v83
def k0_mult58 (k0_t16 : Fin k0_t16_loop.trips) : BitVec 32 :=
  let c0_i32_24 : BitVec 32 := 0#32
  let c1_i32_25 : BitVec 32 := 1#32
  let arg16 : BitVec 32 := Scf.iv c0_i32_24 c1_i32_25 k0_t16
  let c40_i32_62 : BitVec 32 := 40#32
  let v85 : BitVec 32 := Scalar.muli arg16 c40_i32_62
  v85
@[reducible] def k0_t19_loop : Scf.Loop 32 :=
  let c0_i32_64 : BitVec 32 := 0#32
  let c40_i32_65 : BitVec 32 := 40#32
  let v87 : BitVec 32 := Scalar.addi c0_i32_64 c40_i32_65
  let c1_i32_66 : BitVec 32 := 1#32
  ⟨c0_i32_64, v87, c1_i32_66⟩
def k0_mult59 (k0_t16 : Fin k0_t16_loop.trips) (k0_t19 : Fin k0_t19_loop.trips) : BitVec 32 :=
  let c0_i32_24 : BitVec 32 := 0#32
  let c1_i32_25 : BitVec 32 := 1#32
  let arg16 : BitVec 32 := Scf.iv c0_i32_24 c1_i32_25 k0_t16
  let c1280_i32_61 : BitVec 32 := 1280#32
  let v83 : BitVec 32 := Scalar.muli arg16 c1280_i32_61
  let v84 : BitVec 32 := v83
  let c0_i32_64 : BitVec 32 := 0#32
  let c1_i32_66 : BitVec 32 := 1#32
  let arg21 : BitVec 32 := Scf.iv c0_i32_64 c1_i32_66 k0_t19
  let c32_i32 : BitVec 32 := 32#32
  let v90 : BitVec 32 := Scalar.muli arg21 c32_i32
  let v91 : BitVec 32 := Scalar.addi v84 v90
  v91
def k0_off38 (k0_t16 : Fin k0_t16_loop.trips) (k0_t19 : Fin k0_t19_loop.trips) : Fin 2 → Nat :=
  let c0_i32_24 : BitVec 32 := 0#32
  let c1_i32_25 : BitVec 32 := 1#32
  let arg16 : BitVec 32 := Scf.iv c0_i32_24 c1_i32_25 k0_t16
  let c1280_i32_61 : BitVec 32 := 1280#32
  let v83 : BitVec 32 := Scalar.muli arg16 c1280_i32_61
  let v84 : BitVec 32 := v83
  let c0_i32_64 : BitVec 32 := 0#32
  let c1_i32_66 : BitVec 32 := 1#32
  let arg21 : BitVec 32 := Scf.iv c0_i32_64 c1_i32_66 k0_t19
  let c32_i32 : BitVec 32 := 32#32
  let v90 : BitVec 32 := Scalar.muli arg21 c32_i32
  let v91 : BitVec 32 := Scalar.addi v84 v90
  let v92 : BitVec 32 := v91
  let v93 : Index := Scalar.indexCast v92
  let c0_73 : Index := 0#32
  ![v93.toNat, 0]
def k0_off39 (k0_t16 : Fin k0_t16_loop.trips) (k0_t19 : Fin k0_t19_loop.trips) (c0_i32_74 : BitVec 32) : Fin 2 → Nat :=
  let c0_i32_24 : BitVec 32 := 0#32
  let c1_i32_25 : BitVec 32 := 1#32
  let arg16 : BitVec 32 := Scf.iv c0_i32_24 c1_i32_25 k0_t16
  let c1280_i32_61 : BitVec 32 := 1280#32
  let v83 : BitVec 32 := Scalar.muli arg16 c1280_i32_61
  let v84 : BitVec 32 := v83
  let c0_i32_64 : BitVec 32 := 0#32
  let c1_i32_66 : BitVec 32 := 1#32
  let arg21 : BitVec 32 := Scf.iv c0_i32_64 c1_i32_66 k0_t19
  let c32_i32 : BitVec 32 := 32#32
  let v90 : BitVec 32 := Scalar.muli arg21 c32_i32
  let v91 : BitVec 32 := Scalar.addi v84 v90
  let v92 : BitVec 32 := v91
  let v101 : BitVec 32 := Scalar.addi v92 c0_i32_74
  let v102 : Index := Scalar.indexCast v101
  let c0_75 : Index := 0#32
  ![v102.toNat, 0]
@[reducible] def k0_t20_loop : Scf.Loop 32 :=
  let c0_i32_69 : BitVec 32 := 0#32
  let c5_i32_70 : BitVec 32 := 5#32
  let v89 : BitVec 32 := Scalar.addi c0_i32_69 c5_i32_70
  let c1_i32_71 : BitVec 32 := 1#32
  ⟨c0_i32_69, v89, c1_i32_71⟩
def k0_mult60 (k0_t16 : Fin k0_t16_loop.trips) (k0_t20 : Fin k0_t20_loop.trips) : BitVec 32 :=
  let c0_i32_24 : BitVec 32 := 0#32
  let c1_i32_25 : BitVec 32 := 1#32
  let arg16 : BitVec 32 := Scf.iv c0_i32_24 c1_i32_25 k0_t16
  let c40_i32_62 : BitVec 32 := 40#32
  let v85 : BitVec 32 := Scalar.muli arg16 c40_i32_62
  let v86 : BitVec 32 := v85
  let c0_i32_69 : BitVec 32 := 0#32
  let c1_i32_71 : BitVec 32 := 1#32
  let arg21 : BitVec 32 := Scf.iv c0_i32_69 c1_i32_71 k0_t20
  let c8_i32 : BitVec 32 := 8#32
  let v90 : BitVec 32 := Scalar.muli arg21 c8_i32
  let v91 : BitVec 32 := Scalar.addi v86 v90
  v91
def k0_off40 (k0_t16 : Fin k0_t16_loop.trips) (k0_t20 : Fin k0_t20_loop.trips) : Fin 2 → Nat :=
  let c0_i32_24 : BitVec 32 := 0#32
  let c1_i32_25 : BitVec 32 := 1#32
  let arg16 : BitVec 32 := Scf.iv c0_i32_24 c1_i32_25 k0_t16
  let c40_i32_62 : BitVec 32 := 40#32
  let v85 : BitVec 32 := Scalar.muli arg16 c40_i32_62
  let v86 : BitVec 32 := v85
  let c0_i32_69 : BitVec 32 := 0#32
  let c1_i32_71 : BitVec 32 := 1#32
  let arg21 : BitVec 32 := Scf.iv c0_i32_69 c1_i32_71 k0_t20
  let c8_i32 : BitVec 32 := 8#32
  let v90 : BitVec 32 := Scalar.muli arg21 c8_i32
  let v91 : BitVec 32 := Scalar.addi v86 v90
  let v92 : BitVec 32 := v91
  let v93 : Index := Scalar.indexCast v92
  let c0_73 : Index := 0#32
  ![v93.toNat, 0]
def k0_cond8 (i : grid0.Coords) : BitVec 1 :=
  let arg0 : BitVec 32 := BitVec.ofNat 32 (i 0).val
  let c73_i32 : BitVec 32 := 73#32
  let v25 : BitVec 1 := Scalar.cmpi .eq arg0 c73_i32
  let v26 : BitVec 32 := Scalar.extui v25
  let c0_i32_13 : BitVec 32 := 0#32
  let v27 : BitVec 1 := Scalar.cmpi .ne v26 c0_i32_13
  v27

@[reducible] def k0_t21_loop : Scf.Loop 32 :=
  let c0_i32_18 : BitVec 32 := 0#32
  let c25_i32 : BitVec 32 := 25#32
  let v36 : BitVec 32 := Scalar.addi c0_i32_18 c25_i32
  let c1_i32_19 : BitVec 32 := 1#32
  ⟨c0_i32_18, v36, c1_i32_19⟩
def k0_mult61 (k0_t21 : Fin k0_t21_loop.trips) : BitVec 32 :=
  let c0_i32_18 : BitVec 32 := 0#32
  let c1_i32_19 : BitVec 32 := 1#32
  let arg16 : BitVec 32 := Scf.iv c0_i32_18 c1_i32_19 k0_t21
  let c1280_i32 : BitVec 32 := 1280#32
  let v61 : BitVec 32 := Scalar.muli arg16 c1280_i32
  v61
def k0_mult62 (k0_t21 : Fin k0_t21_loop.trips) : BitVec 32 :=
  let c0_i32_18 : BitVec 32 := 0#32
  let c1_i32_19 : BitVec 32 := 1#32
  let arg16 : BitVec 32 := Scf.iv c0_i32_18 c1_i32_19 k0_t21
  let c40_i32 : BitVec 32 := 40#32
  let v63 : BitVec 32 := Scalar.muli arg16 c40_i32
  v63
@[reducible] def k0_t22_loop : Scf.Loop 32 :=
  let c0_i32_46 : BitVec 32 := 0#32
  let c5_i32 : BitVec 32 := 5#32
  let v65 : BitVec 32 := Scalar.addi c0_i32_46 c5_i32
  let c1_i32_47 : BitVec 32 := 1#32
  ⟨c0_i32_46, v65, c1_i32_47⟩
def k0_mult63 (k0_t21 : Fin k0_t21_loop.trips) (k0_t22 : Fin k0_t22_loop.trips) : BitVec 32 :=
  let c0_i32_18 : BitVec 32 := 0#32
  let c1_i32_19 : BitVec 32 := 1#32
  let arg16 : BitVec 32 := Scf.iv c0_i32_18 c1_i32_19 k0_t21
  let c40_i32 : BitVec 32 := 40#32
  let v63 : BitVec 32 := Scalar.muli arg16 c40_i32
  let v64 : BitVec 32 := v63
  let c0_i32_46 : BitVec 32 := 0#32
  let c1_i32_47 : BitVec 32 := 1#32
  let arg17 : BitVec 32 := Scf.iv c0_i32_46 c1_i32_47 k0_t22
  let c8_i32 : BitVec 32 := 8#32
  let v67 : BitVec 32 := Scalar.muli arg17 c8_i32
  let v68 : BitVec 32 := Scalar.addi v64 v67
  v68
def k0_off41 (k0_t21 : Fin k0_t21_loop.trips) (k0_t22 : Fin k0_t22_loop.trips) : Fin 2 → Nat :=
  let c0_i32_18 : BitVec 32 := 0#32
  let c1_i32_19 : BitVec 32 := 1#32
  let arg16 : BitVec 32 := Scf.iv c0_i32_18 c1_i32_19 k0_t21
  let c40_i32 : BitVec 32 := 40#32
  let v63 : BitVec 32 := Scalar.muli arg16 c40_i32
  let v64 : BitVec 32 := v63
  let c0_i32_46 : BitVec 32 := 0#32
  let c1_i32_47 : BitVec 32 := 1#32
  let arg17 : BitVec 32 := Scf.iv c0_i32_46 c1_i32_47 k0_t22
  let c8_i32 : BitVec 32 := 8#32
  let v67 : BitVec 32 := Scalar.muli arg17 c8_i32
  let v68 : BitVec 32 := Scalar.addi v64 v67
  let v69 : BitVec 32 := v68
  let v70 : Index := Scalar.indexCast v69
  let c0_52 : Index := 0#32
  ![v70.toNat, 0]
def k0_mult64 (k0_t22 : Fin k0_t22_loop.trips) : BitVec 32 :=
  let c0_i32_46 : BitVec 32 := 0#32
  let c1_i32_47 : BitVec 32 := 1#32
  let arg17 : BitVec 32 := Scf.iv c0_i32_46 c1_i32_47 k0_t22
  let c8_i32_57 : BitVec 32 := 8#32
  let v98 : BitVec 32 := Scalar.muli arg17 c8_i32_57
  v98
def k0_off42 (k0_t22 : Fin k0_t22_loop.trips) : Fin 2 → Nat :=
  let c0_i32_46 : BitVec 32 := 0#32
  let c1_i32_47 : BitVec 32 := 1#32
  let arg17 : BitVec 32 := Scf.iv c0_i32_46 c1_i32_47 k0_t22
  let c8_i32_57 : BitVec 32 := 8#32
  let v98 : BitVec 32 := Scalar.muli arg17 c8_i32_57
  let v99 : BitVec 32 := v98
  let v100 : Index := Scalar.indexCast v99
  let c0_58 : Index := 0#32
  ![v100.toNat, 0]
@[reducible] def k0_t23_loop : Scf.Loop 32 :=
  let c0_i32_49 : BitVec 32 := 0#32
  let c10_i32 : BitVec 32 := 10#32
  let v66 : BitVec 32 := Scalar.addi c0_i32_49 c10_i32
  let c1_i32_50 : BitVec 32 := 1#32
  ⟨c0_i32_49, v66, c1_i32_50⟩
def k0_off43 (k0_t23 : Fin k0_t23_loop.trips) (c0_i32_52 : BitVec 32) : Fin 2 → Nat :=
  let c0_i32_49 : BitVec 32 := 0#32
  let c1_i32_50 : BitVec 32 := 1#32
  let arg17 : BitVec 32 := Scf.iv c0_i32_49 c1_i32_50 k0_t23
  let c4_i32 : BitVec 32 := 4#32
  let v67 : BitVec 32 := Scalar.muli arg17 c4_i32
  let v68 : BitVec 32 := Scalar.addi v67 c0_i32_52
  let v69 : Index := Scalar.indexCast v68
  let c0_53 : Index := 0#32
  ![v69.toNat, 0]
def k0_mult65 (k0_t21 : Fin k0_t21_loop.trips) (k0_t23 : Fin k0_t23_loop.trips) : BitVec 32 :=
  let c0_i32_18 : BitVec 32 := 0#32
  let c1_i32_19 : BitVec 32 := 1#32
  let arg16 : BitVec 32 := Scf.iv c0_i32_18 c1_i32_19 k0_t21
  let c1280_i32 : BitVec 32 := 1280#32
  let v61 : BitVec 32 := Scalar.muli arg16 c1280_i32
  let v62 : BitVec 32 := v61
  let c0_i32_49 : BitVec 32 := 0#32
  let c1_i32_50 : BitVec 32 := 1#32
  let arg17 : BitVec 32 := Scf.iv c0_i32_49 c1_i32_50 k0_t23
  let c128_i32 : BitVec 32 := 128#32
  let v71 : BitVec 32 := Scalar.muli arg17 c128_i32
  let v72 : BitVec 32 := Scalar.addi v62 v71
  let c0_i32_54 : BitVec 32 := 0#32
  let v73 : BitVec 32 := Scalar.addi v72 c0_i32_54
  v73
def k0_off44 (k0_t21 : Fin k0_t21_loop.trips) (k0_t23 : Fin k0_t23_loop.trips) (c0_i32_54 : BitVec 32) : Fin 2 → Nat :=
  let c0_i32_18 : BitVec 32 := 0#32
  let c1_i32_19 : BitVec 32 := 1#32
  let arg16 : BitVec 32 := Scf.iv c0_i32_18 c1_i32_19 k0_t21
  let c1280_i32 : BitVec 32 := 1280#32
  let v61 : BitVec 32 := Scalar.muli arg16 c1280_i32
  let v62 : BitVec 32 := v61
  let c0_i32_49 : BitVec 32 := 0#32
  let c1_i32_50 : BitVec 32 := 1#32
  let arg17 : BitVec 32 := Scf.iv c0_i32_49 c1_i32_50 k0_t23
  let c128_i32 : BitVec 32 := 128#32
  let v71 : BitVec 32 := Scalar.muli arg17 c128_i32
  let v72 : BitVec 32 := Scalar.addi v62 v71
  let v73 : BitVec 32 := Scalar.addi v72 c0_i32_54
  let v74 : BitVec 32 := v73
  let v75 : Index := Scalar.indexCast v74
  let c0_55 : Index := 0#32
  ![v75.toNat, 0]
def k0_mult66 (k0_t21 : Fin k0_t21_loop.trips) (k0_t23 : Fin k0_t23_loop.trips) : BitVec 32 :=
  let c0_i32_18 : BitVec 32 := 0#32
  let c1_i32_19 : BitVec 32 := 1#32
  let arg16 : BitVec 32 := Scf.iv c0_i32_18 c1_i32_19 k0_t21
  let c1280_i32 : BitVec 32 := 1280#32
  let v61 : BitVec 32 := Scalar.muli arg16 c1280_i32
  let v62 : BitVec 32 := v61
  let c0_i32_49 : BitVec 32 := 0#32
  let c1_i32_50 : BitVec 32 := 1#32
  let arg17 : BitVec 32 := Scf.iv c0_i32_49 c1_i32_50 k0_t23
  let c128_i32_61 : BitVec 32 := 128#32
  let v88 : BitVec 32 := Scalar.muli arg17 c128_i32_61
  let v89 : BitVec 32 := Scalar.addi v62 v88
  let c32_i32 : BitVec 32 := 32#32
  let v90 : BitVec 32 := Scalar.addi v89 c32_i32
  v90
def k0_mult67 (k0_t21 : Fin k0_t21_loop.trips) (k0_t23 : Fin k0_t23_loop.trips) : BitVec 32 :=
  let c0_i32_18 : BitVec 32 := 0#32
  let c1_i32_19 : BitVec 32 := 1#32
  let arg16 : BitVec 32 := Scf.iv c0_i32_18 c1_i32_19 k0_t21
  let c1280_i32 : BitVec 32 := 1280#32
  let v61 : BitVec 32 := Scalar.muli arg16 c1280_i32
  let v62 : BitVec 32 := v61
  let c0_i32_49 : BitVec 32 := 0#32
  let c1_i32_50 : BitVec 32 := 1#32
  let arg17 : BitVec 32 := Scf.iv c0_i32_49 c1_i32_50 k0_t23
  let c128_i32_68 : BitVec 32 := 128#32
  let v105 : BitVec 32 := Scalar.muli arg17 c128_i32_68
  let v106 : BitVec 32 := Scalar.addi v62 v105
  let c64_i32 : BitVec 32 := 64#32
  let v107 : BitVec 32 := Scalar.addi v106 c64_i32
  v107
def k0_mult68 (k0_t21 : Fin k0_t21_loop.trips) (k0_t23 : Fin k0_t23_loop.trips) : BitVec 32 :=
  let c0_i32_18 : BitVec 32 := 0#32
  let c1_i32_19 : BitVec 32 := 1#32
  let arg16 : BitVec 32 := Scf.iv c0_i32_18 c1_i32_19 k0_t21
  let c1280_i32 : BitVec 32 := 1280#32
  let v61 : BitVec 32 := Scalar.muli arg16 c1280_i32
  let v62 : BitVec 32 := v61
  let c0_i32_49 : BitVec 32 := 0#32
  let c1_i32_50 : BitVec 32 := 1#32
  let arg17 : BitVec 32 := Scf.iv c0_i32_49 c1_i32_50 k0_t23
  let c128_i32_74 : BitVec 32 := 128#32
  let v122 : BitVec 32 := Scalar.muli arg17 c128_i32_74
  let v123 : BitVec 32 := Scalar.addi v62 v122
  let c96_i32 : BitVec 32 := 96#32
  let v124 : BitVec 32 := Scalar.addi v123 c96_i32
  v124
def k0_mult69 (k0_t21 : Fin k0_t21_loop.trips) (k0_t23 : Fin k0_t23_loop.trips) : BitVec 32 :=
  let c0_i32_18 : BitVec 32 := 0#32
  let c1_i32_19 : BitVec 32 := 1#32
  let arg16 : BitVec 32 := Scf.iv c0_i32_18 c1_i32_19 k0_t21
  let c1280_i32 : BitVec 32 := 1280#32
  let v61 : BitVec 32 := Scalar.muli arg16 c1280_i32
  let v62 : BitVec 32 := v61
  let c0_i32_49 : BitVec 32 := 0#32
  let c1_i32_50 : BitVec 32 := 1#32
  let arg17 : BitVec 32 := Scf.iv c0_i32_49 c1_i32_50 k0_t23
  let c128_i32_78 : BitVec 32 := 128#32
  let v137 : BitVec 32 := Scalar.muli arg17 c128_i32_78
  let v138 : BitVec 32 := Scalar.addi v62 v137
  v138
def k0_off45 (k0_t21 : Fin k0_t21_loop.trips) (k0_t23 : Fin k0_t23_loop.trips) : Fin 2 → Nat :=
  let c0_79 : Index := 0#32
  let c0_i32_18 : BitVec 32 := 0#32
  let c1_i32_19 : BitVec 32 := 1#32
  let arg16 : BitVec 32 := Scf.iv c0_i32_18 c1_i32_19 k0_t21
  let c1280_i32 : BitVec 32 := 1280#32
  let v61 : BitVec 32 := Scalar.muli arg16 c1280_i32
  let v62 : BitVec 32 := v61
  let c0_i32_49 : BitVec 32 := 0#32
  let c1_i32_50 : BitVec 32 := 1#32
  let arg17 : BitVec 32 := Scf.iv c0_i32_49 c1_i32_50 k0_t23
  let c128_i32_78 : BitVec 32 := 128#32
  let v137 : BitVec 32 := Scalar.muli arg17 c128_i32_78
  let v138 : BitVec 32 := Scalar.addi v62 v137
  let v139 : BitVec 32 := v138
  let v140 : Index := Scalar.indexCast v139
  ![0, v140.toNat]
def cc0_transform_1 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c71_i32 : BitVec 32 := 71#32
  let v1 : BitVec 32 := Scalar.maxsi c0_i32 v0
  let v2 : BitVec 32 := Scalar.minsi c71_i32 v1
  let c0_i32_0 : BitVec 32 := 0#32
  let c0_i32_1 : BitVec 32 := 0#32
  let c0_i32_2 : BitVec 32 := 0#32
  ![v2.toNat, c0_i32_0.toNat, c0_i32_1.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c71_i32 : BitVec 32 := 71#32
  let v1 : BitVec 32 := Scalar.maxsi c0_i32 v0
  let v2 : BitVec 32 := Scalar.minsi c71_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c71_i32 : BitVec 32 := 71#32
  let v1 : BitVec 32 := Scalar.maxsi c0_i32 v0
  let v2 : BitVec 32 := Scalar.minsi c71_i32 v1
  let c0_i32_0 : BitVec 32 := 0#32
  let c0_i32_1 : BitVec 32 := 0#32
  ![v2.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32000 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
abbrev S6x1536x32000 : Shape := ⟨3, ![6, 1536, 32000]⟩
abbrev S9216x32000 : Shape := ⟨2, ![9216, 32000]⟩
abbrev S72x1x128 : Shape := ⟨3, ![72, 1, 128]⟩
abbrev S9216x1000 : Shape := ⟨2, ![9216, 1000]⟩
abbrev S1x1x128 : Shape := ⟨3, ![1, 1, 128]⟩
abbrev S128x32000 : Shape := ⟨2, ![128, 32000]⟩
abbrev S128x1000 : Shape := ⟨2, ![128, 1000]⟩
abbrev S2x128x32000 : Shape := ⟨3, ![2, 128, 32000]⟩
abbrev S32000x128 : Shape := ⟨2, ![32000, 128]⟩
abbrev S1000x128 : Shape := ⟨2, ![1000, 128]⟩
abbrev S320x128 : Shape := ⟨2, ![320, 128]⟩
abbrev S320x2x128 : Shape := ⟨3, ![320, 2, 128]⟩
abbrev S320x1x128 : Shape := ⟨3, ![320, 1, 128]⟩
abbrev S40x128 : Shape := ⟨2, ![40, 128]⟩
abbrev S8x128 : Shape := ⟨2, ![8, 128]⟩
abbrev S2 : Shape := ⟨1, ![2]⟩
abbrev S1 : Shape := ⟨1, ![1]⟩
abbrev S_ : Shape := ⟨0, ![]⟩
abbrev S1x128x32000 : Shape := ⟨3, ![1, 128, 32000]⟩
abbrev S1x128x128 : Shape := ⟨3, ![1, 128, 128]⟩
abbrev S128x128 : Shape := ⟨2, ![128, 128]⟩
abbrev S16x128 : Shape := ⟨2, ![16, 128]⟩
abbrev S8x2x128 : Shape := ⟨3, ![8, 2, 128]⟩
abbrev S8x1x128 : Shape := ⟨3, ![8, 1, 128]⟩
abbrev S128 : Shape := ⟨1, ![128]⟩
abbrev S1x128 : Shape := ⟨2, ![1, 128]⟩
abbrev S32x128 : Shape := ⟨2, ![32, 128]⟩
abbrev S104x128 : Shape := ⟨2, ![104, 128]⟩
abbrev S128x104 : Shape := ⟨2, ![128, 104]⟩

abbrev nBuf : Space → Nat
  | .hbm => 5
  | .vmem => 16
  | .smem => 0
  | _ => 0

abbrev bufTy : (tb : Table) → Fin (tcTables nBuf tb) → BufTy
  | .hbm, ⟨0, _⟩ => ⟨S6x1536x32000, .bf16⟩
  | .hbm, ⟨1, _⟩ => ⟨S9216x32000, .bf16⟩
  | .hbm, ⟨2, _⟩ => ⟨S72x1x128, .f32⟩
  | .hbm, ⟨3, _⟩ => ⟨S9216x32000, .fp8e4m3⟩
  | .hbm, ⟨4, _⟩ => ⟨S9216x1000, .f32⟩
  | .local _ .vmem, ⟨0, _⟩ => ⟨S1x1x128, .f32⟩
  | .local _ .vmem, ⟨1, _⟩ => ⟨S1x1x128, .f32⟩
  | .local _ .vmem, ⟨2, _⟩ => ⟨S128x32000, .fp8e4m3⟩
  | .local _ .vmem, ⟨3, _⟩ => ⟨S128x32000, .fp8e4m3⟩
  | .local _ .vmem, ⟨4, _⟩ => ⟨S128x1000, .f32⟩
  | .local _ .vmem, ⟨5, _⟩ => ⟨S128x1000, .f32⟩
  | .local _ .vmem, ⟨6, _⟩ => ⟨S2x128x32000, .bf16⟩
  | .local _ .vmem, ⟨7, _⟩ => ⟨S32000x128, .bf16⟩
  | .local _ .vmem, ⟨8, _⟩ => ⟨S32000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S320x2x128, .bf16⟩
  | .local _ .vmem, ⟨13, _⟩ => ⟨S40x128, .f32⟩
  | .local _ .vmem, ⟨14, _⟩ => ⟨S8x128, .f32⟩
  | .local _ .vmem, ⟨15, _⟩ => ⟨S8x128, .f32⟩
  | _, _ => ⟨S6x1536x32000, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F] [Named F]

def κ : String → Option EReal := fun
  | "log2e_over_t" => some (((Real.log 2)⁻¹ * (13421773 / 16777216)⁻¹ : ℝ) : EReal)
  | _ => none

abbrev grid0 : Pipeline.Grid := ⟨1, ![74], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_mult1 : BitVec 32 :=
  let c0_i32_14 : BitVec 32 := 0#32
  c0_i32_14
def k0_cond2 (i : grid0.Coords) : BitVec 1 :=
  let arg0 : BitVec 32 := BitVec.ofNat 32 (i 0).val
  let c72_i32 : BitVec 32 := 72#32
  let v4 : BitVec 1 := Scalar.cmpi .slt arg0 c72_i32
  let v5 : BitVec 32 := Scalar.extui v4
  let c0_i32_1 : BitVec 32 := 0#32
  let v6 : BitVec 1 := Scalar.cmpi .ne v5 c0_i32_1
  v6

def k0_mult2 (i : grid0.Coords) : BitVec 32 :=
  let arg0 : BitVec 32 := BitVec.ofNat 32 (i 0).val
  let c128_i32 : BitVec 32 := 128#32
  let v28 : BitVec 32 := Scalar.muli arg0 c128_i32
  v28
def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 3 → Nat :=
  let arg0 : BitVec 32 := BitVec.ofNat 32 (i 0).val
  let c2_i32 : BitVec 32 := 2#32
  let v0 : BitVec 32 := Scalar.remsi arg0 c2_i32
  let c0_i32_14 : BitVec 32 := 0#32
  let c0_i32_15 : BitVec 32 := 0#32
  ![v0.toNat, 0, 0]
def k0_off3 (i : grid0.Coords) : Fin 2 → Nat :=
  let arg0 : BitVec 32 := BitVec.ofNat 32 (i 0).val
  let c128_i32 : BitVec 32 := 128#32
  let v28 : BitVec 32 := Scalar.muli arg0 c128_i32
  let v29 : BitVec 32 := v28
  let c0_i32_16 : BitVec 32 := 0#32
  ![v29.toNat, 0]
def k0_cond3 (i : grid0.Coords) : BitVec 1 :=
  let arg0 : BitVec 32 := BitVec.ofNat 32 (i 0).val
  let c1_i32 : BitVec 32 := 1#32
  let v7 : BitVec 32 := Scalar.addi arg0 c1_i32
  let c72_i32_2 : BitVec 32 := 72#32
  let v8 : BitVec 1 := Scalar.cmpi .slt v7 c72_i32_2
  let v9 : BitVec 32 := Scalar.extui v8
  let c0_i32_3 : BitVec 32 := 0#32
  let v10 : BitVec 1 := Scalar.cmpi .ne v9 c0_i32_3
  v10

def k0_mult3 (i : grid0.Coords) : BitVec 32 :=
  let arg0 : BitVec 32 := BitVec.ofNat 32 (i 0).val
  let c1_i32_14 : BitVec 32 := 1#32
  let v28 : BitVec 32 := Scalar.addi arg0 c1_i32_14
  let c128_i32 : BitVec 32 := 128#32
  let v30 : BitVec 32 := Scalar.muli v28 c128_i32
  v30
def k0_off4 (i : grid0.Coords) : Fin 1 → Nat :=
  let c1_i32_15 : BitVec 32 := 1#32
  let arg0 : BitVec 32 := BitVec.ofNat 32 (i 0).val
  let c2_i32 : BitVec 32 := 2#32
  let v0 : BitVec 32 := Scalar.remsi arg0 c2_i32
  let v29 : BitVec 32 := Scalar.subi c1_i32_15 v0
  ![v29.toNat]
def k0_off5 (i : grid0.Coords) : Fin 3 → Nat :=
  let c1_i32_15 : BitVec 32 := 1#32
  let arg0 : BitVec 32 := BitVec.ofNat 32 (i 0).val
  let c2_i32 : BitVec 32 := 2#32
  let v0 : BitVec 32 := Scalar.remsi arg0 c2_i32
  let v29 : BitVec 32 := Scalar.subi c1_i32_15 v0
  let c0_i32_16 : BitVec 32 := 0#32
  let c0_i32_17 : BitVec 32 := 0#32
  ![v29.toNat, 0, 0]
def k0_off6 (i : grid0.Coords) : Fin 2 → Nat :=
  let arg0 : BitVec 32 := BitVec.ofNat 32 (i 0).val
  let c1_i32_14 : BitVec 32 := 1#32
  let v28 : BitVec 32 := Scalar.addi arg0 c1_i32_14
  let c128_i32 : BitVec 32 := 128#32
  let v30 : BitVec 32 := Scalar.muli v28 c128_i32
  let v31 : BitVec 32 := v30
  let c0_i32_18 : BitVec 32 := 0#32
  ![v31.toNat, 0]
def k0_cond4 (i : grid0.Coords) : BitVec 1 :=
  let arg0 : BitVec 32 := BitVec.ofNat 32 (i 0).val
  let c0_i32_4 : BitVec 32 := 0#32
  let v11 : BitVec 1 := Scalar.cmpi .eq arg0 c0_i32_4
  let v12 : BitVec 32 := Scalar.extui v11
  let c0_i32_5 : BitVec 32 := 0#32
  let v13 : BitVec 1 := Scalar.cmpi .ne v12 c0_i32_5
  v13

@[reducible] def k0_t1_loop : Scf.Loop 32 :=
  let c0_i32_14 : BitVec 32 := 0#32
  let c25_i32 : BitVec 32 := 25#32
  let v29 : BitVec 32 := Scalar.addi c0_i32_14 c25_i32
  let c1_i32_15 : BitVec 32 := 1#32
  ⟨c0_i32_14, v29, c1_i32_15⟩
def k0_mult4 (k0_t1 : Fin k0_t1_loop.trips) : BitVec 32 :=
  let c0_i32_14 : BitVec 32 := 0#32
  let c1_i32_15 : BitVec 32 := 1#32
  let arg16 : BitVec 32 := Scf.iv c0_i32_14 c1_i32_15 k0_t1
  let c1280_i32 : BitVec 32 := 1280#32
  let v38 : BitVec 32 := Scalar.muli arg16 c1280_i32
  v38
@[reducible] def k0_t2_loop : Scf.Loop 32 :=
  let c0_i32_19 : BitVec 32 := 0#32
  let c10_i32 : BitVec 32 := 10#32
  let v40 : BitVec 32 := Scalar.addi c0_i32_19 c10_i32
  let c1_i32_20 : BitVec 32 := 1#32
  ⟨c0_i32_19, v40, c1_i32_20⟩
def k0_mult5 (k0_t1 : Fin k0_t1_loop.trips) (k0_t2 : Fin k0_t2_loop.trips) : BitVec 32 :=
  let c0_i32_14 : BitVec 32 := 0#32
  let c1_i32_15 : BitVec 32 := 1#32
  let arg16 : BitVec 32 := Scf.iv c0_i32_14 c1_i32_15 k0_t1
  let c1280_i32 : BitVec 32 := 1280#32
  let v38 : BitVec 32 := Scalar.muli arg16 c1280_i32
  let v39 : BitVec 32 := v38
  let c0_i32_19 : BitVec 32 := 0#32
  let c1_i32_20 : BitVec 32 := 1#32
  let arg18 : BitVec 32 := Scf.iv c0_i32_19 c1_i32_20 k0_t2
  let c128_i32 : BitVec 32 := 128#32
  let v45 : BitVec 32 := Scalar.muli arg18 c128_i32
  let v46 : BitVec 32 := Scalar.addi v39 v45
  v46
def k0_off7 (i : grid0.Coords) (k0_t1 : Fin k0_t1_loop.trips) (k0_t2 : Fin k0_t2_loop.trips) : Fin 3 → Nat :=
  let arg0 : BitVec 32 := BitVec.ofNat 32 (i 0).val
  let c2_i32 : BitVec 32 := 2#32
  let v0 : BitVec 32 := Scalar.remsi arg0 c2_i32
  let v48 : Index := Scalar.indexCast v0
  let c0_25 : Index := 0#32
  let c0_i32_14 : BitVec 32 := 0#32
  let c1_i32_15 : BitVec 32 := 1#32
  let arg16 : BitVec 32 := Scf.iv c0_i32_14 c1_i32_15 k0_t1
  let c1280_i32 : BitVec 32 := 1280#32
  let v38 : BitVec 32 := Scalar.muli arg16 c1280_i32
  let v39 : BitVec 32 := v38
  let c0_i32_19 : BitVec 32 := 0#32
  let c1_i32_20 : BitVec 32 := 1#32
  let arg18 : BitVec 32 := Scf.iv c0_i32_19 c1_i32_20 k0_t2
  let c128_i32 : BitVec 32 := 128#32
  let v45 : BitVec 32 := Scalar.muli arg18 c128_i32
  let v46 : BitVec 32 := Scalar.addi v39 v45
  let v47 : BitVec 32 := v46
  let v49 : Index := Scalar.indexCast v47
  ![v48.toNat, 0, v49.toNat]
def k0_mult6 (k0_t1 : Fin k0_t1_loop.trips) (k0_t2 : Fin k0_t2_loop.trips) : BitVec 32 :=
  let c0_i32_14 : BitVec 32 := 0#32
  let c1_i32_15 : BitVec 32 := 1#32
  let arg16 : BitVec 32 := Scf.iv c0_i32_14 c1_i32_15 k0_t1
  let c1280_i32 : BitVec 32 := 1280#32
  let v38 : BitVec 32 := Scalar.muli arg16 c1280_i32
  let v39 : BitVec 32 := v38
  let c0_i32_19 : BitVec 32 := 0#32
  let c1_i32_20 : BitVec 32 := 1#32
  let arg18 : BitVec 32 := Scf.iv c0_i32_19 c1_i32_20 k0_t2
  let c128_i32_26 : BitVec 32 := 128#32
  let v53 : BitVec 32 := Scalar.muli arg18 c128_i32_26
  let v54 : BitVec 32 := Scalar.addi v39 v53
  v54
def k0_off8 (k0_t1 : Fin k0_t1_loop.trips) (k0_t2 : Fin k0_t2_loop.trips) : Fin 2 → Nat :=
  let c0_i32_14 : BitVec 32 := 0#32
  let c1_i32_15 : BitVec 32 := 1#32
  let arg16 : BitVec 32 := Scf.iv c0_i32_14 c1_i32_15 k0_t1
  let c1280_i32 : BitVec 32 := 1280#32
  let v38 : BitVec 32 := Scalar.muli arg16 c1280_i32
  let v39 : BitVec 32 := v38
  let c0_i32_19 : BitVec 32 := 0#32
  let c1_i32_20 : BitVec 32 := 1#32
  let arg18 : BitVec 32 := Scf.iv c0_i32_19 c1_i32_20 k0_t2
  let c128_i32_26 : BitVec 32 := 128#32
  let v53 : BitVec 32 := Scalar.muli arg18 c128_i32_26
  let v54 : BitVec 32 := Scalar.addi v39 v53
  let v55 : BitVec 32 := v54
  let v56 : Index := Scalar.indexCast v55
  let c0_27 : Index := 0#32
  ![v56.toNat, 0]
def k0_mult7 (k0_t2 : Fin k0_t2_loop.trips) : BitVec 32 :=
  let c0_i32_19 : BitVec 32 := 0#32
  let c1_i32_20 : BitVec 32 := 1#32
  let arg18 : BitVec 32 := Scf.iv c0_i32_19 c1_i32_20 k0_t2
  let c4_i32 : BitVec 32 := 4#32
  let v63 : BitVec 32 := Scalar.muli arg18 c4_i32
  let c0_i32_28 : BitVec 32 := 0#32
  let v64 : BitVec 32 := Scalar.addi v63 c0_i32_28
  let c8_i32 : BitVec 32 := 8#32
  let v65 : BitVec 32 := Scalar.muli v64 c8_i32
  v65
def k0_off9 (k0_t2 : Fin k0_t2_loop.trips) (c0_i32_28 : BitVec 32) : Fin 3 → Nat :=
  let c0_i32_19 : BitVec 32 := 0#32
  let c1_i32_20 : BitVec 32 := 1#32
  let arg18 : BitVec 32 := Scf.iv c0_i32_19 c1_i32_20 k0_t2
  let c4_i32 : BitVec 32 := 4#32
  let v63 : BitVec 32 := Scalar.muli arg18 c4_i32
  let v64 : BitVec 32 := Scalar.addi v63 c0_i32_28
  let c8_i32 : BitVec 32 := 8#32
  let v65 : BitVec 32 := Scalar.muli v64 c8_i32
  let v66 : BitVec 32 := v65
  let v68 : Index := Scalar.indexCast v66
  let c0_29 : Index := 0#32
  ![v68.toNat, 0, 0]
def k0_mult8 (k0_t2 : Fin k0_t2_loop.trips) : BitVec 32 :=
  let c0_i32_19 : BitVec 32 := 0#32
  let c1_i32_20 : BitVec 32 := 1#32
  let arg18 : BitVec 32 := Scf.iv c0_i32_19 c1_i32_20 k0_t2
  let c4_i32_30 : BitVec 32 := 4#32
  let v75 : BitVec 32 := Scalar.muli arg18 c4_i32_30
  let c1_i32_31 : BitVec 32 := 1#32
  let v76 : BitVec 32 := Scalar.addi v75 c1_i32_31
  let c8_i32_32 : BitVec 32 := 8#32
  let v77 : BitVec 32 := Scalar.muli v76 c8_i32_32
  v77
def k0_mult9 (k0_t2 : Fin k0_t2_loop.trips) : BitVec 32 :=
  let c0_i32_19 : BitVec 32 := 0#32
  let c1_i32_20 : BitVec 32 := 1#32
  let arg18 : BitVec 32 := Scf.iv c0_i32_19 c1_i32_20 k0_t2
  let c4_i32_34 : BitVec 32 := 4#32
  let v87 : BitVec 32 := Scalar.muli arg18 c4_i32_34
  let c2_i32_35 : BitVec 32 := 2#32
  let v88 : BitVec 32 := Scalar.addi v87 c2_i32_35
  let c8_i32_36 : BitVec 32 := 8#32
  let v89 : BitVec 32 := Scalar.muli v88 c8_i32_36
  v89
def k0_mult10 (k0_t2 : Fin k0_t2_loop.trips) : BitVec 32 :=
  let c0_i32_19 : BitVec 32 := 0#32
  let c1_i32_20 : BitVec 32 := 1#32
  let arg18 : BitVec 32 := Scf.iv c0_i32_19 c1_i32_20 k0_t2
  let c4_i32_38 : BitVec 32 := 4#32
  let v99 : BitVec 32 := Scalar.muli arg18 c4_i32_38
  let c3_i32 : BitVec 32 := 3#32
  let v100 : BitVec 32 := Scalar.addi v99 c3_i32
  let c8_i32_39 : BitVec 32 := 8#32
  let v101 : BitVec 32 := Scalar.muli v100 c8_i32_39
  v101
def k0_mult11 (k0_t1 : Fin k0_t1_loop.trips) : BitVec 32 :=
  let c0_i32_14 : BitVec 32 := 0#32
  let c1_i32_15 : BitVec 32 := 1#32
  let arg16 : BitVec 32 := Scf.iv c0_i32_14 c1_i32_15 k0_t1
  let c40_i32 : BitVec 32 := 40#32
  let v41 : BitVec 32 := Scalar.muli arg16 c40_i32
  v41
@[reducible] def k0_t3_loop : Scf.Loop 32 :=
  let c0_i32_22 : BitVec 32 := 0#32
  let c5_i32 : BitVec 32 := 5#32
  let v43 : BitVec 32 := Scalar.addi c0_i32_22 c5_i32
  let c1_i32_23 : BitVec 32 := 1#32
  ⟨c0_i32_22, v43, c1_i32_23⟩
def k0_off10 (k0_t3 : Fin k0_t3_loop.trips) (c0_i32_26 : BitVec 32) : Fin 3 → Nat :=
  let c0_i32_22 : BitVec 32 := 0#32
  let c1_i32_23 : BitVec 32 := 1#32
  let arg18 : BitVec 32 := Scf.iv c0_i32_22 c1_i32_23 k0_t3
  let c8_i32 : BitVec 32 := 8#32
  let v45 : BitVec 32 := Scalar.muli arg18 c8_i32
  let c8_i32_25 : BitVec 32 := 8#32
  let v46 : BitVec 32 := Scalar.muli v45 c8_i32_25
  let v47 : BitVec 32 := Scalar.addi v46 c0_i32_26
  let v48 : Index := Scalar.indexCast v47
  let c0_27 : Index := 0#32
  ![v48.toNat, 0, 0]
def k0_mult12 (k0_t1 : Fin k0_t1_loop.trips) (k0_t3 : Fin k0_t3_loop.trips) : BitVec 32 :=
  let c0_i32_14 : BitVec 32 := 0#32
  let c1_i32_15 : BitVec 32 := 1#32
  let arg16 : BitVec 32 := Scf.iv c0_i32_14 c1_i32_15 k0_t1
  let c40_i32 : BitVec 32 := 40#32
  let v41 : BitVec 32 := Scalar.muli arg16 c40_i32
  let v42 : BitVec 32 := v41
  let c0_i32_22 : BitVec 32 := 0#32
  let c1_i32_23 : BitVec 32 := 1#32
  let arg18 : BitVec 32 := Scf.iv c0_i32_22 c1_i32_23 k0_t3
  let c8_i32_38 : BitVec 32 := 8#32
  let v94 : BitVec 32 := Scalar.muli arg18 c8_i32_38
  let v95 : BitVec 32 := Scalar.addi v42 v94
  v95
def k0_off11 (k0_t1 : Fin k0_t1_loop.trips) (k0_t3 : Fin k0_t3_loop.trips) : Fin 2 → Nat :=
  let c0_i32_14 : BitVec 32 := 0#32
  let c1_i32_15 : BitVec 32 := 1#32
  let arg16 : BitVec 32 := Scf.iv c0_i32_14 c1_i32_15 k0_t1
  let c40_i32 : BitVec 32 := 40#32
  let v41 : BitVec 32 := Scalar.muli arg16 c40_i32
  let v42 : BitVec 32 := v41
  let c0_i32_22 : BitVec 32 := 0#32
  let c1_i32_23 : BitVec 32 := 1#32
  let arg18 : BitVec 32 := Scf.iv c0_i32_22 c1_i32_23 k0_t3
  let c8_i32_38 : BitVec 32 := 8#32
  let v94 : BitVec 32 := Scalar.muli arg18 c8_i32_38
  let v95 : BitVec 32 := Scalar.addi v42 v94
  let v96 : BitVec 32 := v95
  let v97 : Index := Scalar.indexCast v96
  let c0_39 : Index := 0#32
  ![v97.toNat, 0]
def k0_cond5 (i : grid0.Coords) : BitVec 1 :=
  let arg0 : BitVec 32 := BitVec.ofNat 32 (i 0).val
  let c1_i32_6 : BitVec 32 := 1#32
  let v14 : BitVec 1 := Scalar.cmpi .eq arg0 c1_i32_6
  let v15 : BitVec 32 := Scalar.extui v14
  let c0_i32_7 : BitVec 32 := 0#32
  let v16 : BitVec 1 := Scalar.cmpi .ne v15 c0_i32_7
  v16

@[reducible] def k0_t4_loop : Scf.Loop 32 :=
  let c0_i32_19 : BitVec 32 := 0#32
  let c25_i32 : BitVec 32 := 25#32
  let v34 : BitVec 32 := Scalar.addi c0_i32_19 c25_i32
  let c1_i32_20 : BitVec 32 := 1#32
  ⟨c0_i32_19, v34, c1_i32_20⟩
def k0_mult13 (k0_t4 : Fin k0_t4_loop.trips) : BitVec 32 :=
  let c0_i32_19 : BitVec 32 := 0#32
  let c1_i32_20 : BitVec 32 := 1#32
  let arg16 : BitVec 32 := Scf.iv c0_i32_19 c1_i32_20 k0_t4
  let c1280_i32 : BitVec 32 := 1280#32
  let v53 : BitVec 32 := Scalar.muli arg16 c1280_i32
  v53
def k0_mult14 (k0_t4 : Fin k0_t4_loop.trips) : BitVec 32 :=
  let c0_i32_19 : BitVec 32 := 0#32
  let c1_i32_20 : BitVec 32 := 1#32
  let arg16 : BitVec 32 := Scf.iv c0_i32_19 c1_i32_20 k0_t4
  let c40_i32 : BitVec 32 := 40#32
  let v55 : BitVec 32 := Scalar.muli arg16 c40_i32
  v55
@[reducible] def k0_t5_loop : Scf.Loop 32 :=
  let c0_i32_29 : BitVec 32 := 0#32
  let c40_i32_30 : BitVec 32 := 40#32
  let v57 : BitVec 32 := Scalar.addi c0_i32_29 c40_i32_30
  let c1_i32_31 : BitVec 32 := 1#32
  ⟨c0_i32_29, v57, c1_i32_31⟩
def k0_mult15 (k0_t4 : Fin k0_t4_loop.trips) (k0_t5 : Fin k0_t5_loop.trips) : BitVec 32 :=
  let c0_i32_19 : BitVec 32 := 0#32
  let c1_i32_20 : BitVec 32 := 1#32
  let arg16 : BitVec 32 := Scf.iv c0_i32_19 c1_i32_20 k0_t4
  let c1280_i32 : BitVec 32 := 1280#32
  let v53 : BitVec 32 := Scalar.muli arg16 c1280_i32
  let v54 : BitVec 32 := v53
  let c0_i32_29 : BitVec 32 := 0#32
  let c1_i32_31 : BitVec 32 := 1#32
  let arg22 : BitVec 32 := Scf.iv c0_i32_29 c1_i32_31 k0_t5
  let c32_i32 : BitVec 32 := 32#32
  let v67 : BitVec 32 := Scalar.muli arg22 c32_i32
  let v68 : BitVec 32 := Scalar.addi v54 v67
  v68
def k0_off12 (k0_t4 : Fin k0_t4_loop.trips) (k0_t5 : Fin k0_t5_loop.trips) : Fin 2 → Nat :=
  let c0_i32_19 : BitVec 32 := 0#32
  let c1_i32_20 : BitVec 32 := 1#32
  let arg16 : BitVec 32 := Scf.iv c0_i32_19 c1_i32_20 k0_t4
  let c1280_i32 : BitVec 32 := 1280#32
  let v53 : BitVec 32 := Scalar.muli arg16 c1280_i32
  let v54 : BitVec 32 := v53
  let c0_i32_29 : BitVec 32 := 0#32
  let c1_i32_31 : BitVec 32 := 1#32
  let arg22 : BitVec 32 := Scf.iv c0_i32_29 c1_i32_31 k0_t5
  let c32_i32 : BitVec 32 := 32#32
  let v67 : BitVec 32 := Scalar.muli arg22 c32_i32
  let v68 : BitVec 32 := Scalar.addi v54 v67
  let v69 : BitVec 32 := v68
  let v70 : Index := Scalar.indexCast v69
  let c0_46 : Index := 0#32
  ![v70.toNat, 0]
def k0_off13 (k0_t4 : Fin k0_t4_loop.trips) (k0_t5 : Fin k0_t5_loop.trips) (c0_i32_47 : BitVec 32) : Fin 2 → Nat :=
  let c0_i32_19 : BitVec 32 := 0#32
  let c1_i32_20 : BitVec 32 := 1#32
  let arg16 : BitVec 32 := Scf.iv c0_i32_19 c1_i32_20 k0_t4
  let c1280_i32 : BitVec 32 := 1280#32
  let v53 : BitVec 32 := Scalar.muli arg16 c1280_i32
  let v54 : BitVec 32 := v53
  let c0_i32_29 : BitVec 32 := 0#32
  let c1_i32_31 : BitVec 32 := 1#32
  let arg22 : BitVec 32 := Scf.iv c0_i32_29 c1_i32_31 k0_t5
  let c32_i32 : BitVec 32 := 32#32
  let v67 : BitVec 32 := Scalar.muli arg22 c32_i32
  let v68 : BitVec 32 := Scalar.addi v54 v67
  let v69 : BitVec 32 := v68
  let v78 : BitVec 32 := Scalar.addi v69 c0_i32_47
  let v79 : Index := Scalar.indexCast v78
  let c0_48 : Index := 0#32
  ![v79.toNat, 0]
@[reducible] def k0_t6_loop : Scf.Loop 32 :=
  let c0_i32_34 : BitVec 32 := 0#32
  let c5_i32 : BitVec 32 := 5#32
  let v59 : BitVec 32 := Scalar.addi c0_i32_34 c5_i32
  let c1_i32_35 : BitVec 32 := 1#32
  ⟨c0_i32_34, v59, c1_i32_35⟩
def k0_mult16 (k0_t4 : Fin k0_t4_loop.trips) (k0_t6 : Fin k0_t6_loop.trips) : BitVec 32 :=
  let c0_i32_19 : BitVec 32 := 0#32
  let c1_i32_20 : BitVec 32 := 1#32
  let arg16 : BitVec 32 := Scf.iv c0_i32_19 c1_i32_20 k0_t4
  let c40_i32 : BitVec 32 := 40#32
  let v55 : BitVec 32 := Scalar.muli arg16 c40_i32
  let v56 : BitVec 32 := v55
  let c0_i32_34 : BitVec 32 := 0#32
  let c1_i32_35 : BitVec 32 := 1#32
  let arg22 : BitVec 32 := Scf.iv c0_i32_34 c1_i32_35 k0_t6
  let c8_i32 : BitVec 32 := 8#32
  let v67 : BitVec 32 := Scalar.muli arg22 c8_i32
  let v68 : BitVec 32 := Scalar.addi v56 v67
  v68
def k0_off14 (k0_t4 : Fin k0_t4_loop.trips) (k0_t6 : Fin k0_t6_loop.trips) : Fin 2 → Nat :=
  let c0_i32_19 : BitVec 32 := 0#32
  let c1_i32_20 : BitVec 32 := 1#32
  let arg16 : BitVec 32 := Scf.iv c0_i32_19 c1_i32_20 k0_t4
  let c40_i32 : BitVec 32 := 40#32
  let v55 : BitVec 32 := Scalar.muli arg16 c40_i32
  let v56 : BitVec 32 := v55
  let c0_i32_34 : BitVec 32 := 0#32
  let c1_i32_35 : BitVec 32 := 1#32
  let arg22 : BitVec 32 := Scf.iv c0_i32_34 c1_i32_35 k0_t6
  let c8_i32 : BitVec 32 := 8#32
  let v67 : BitVec 32 := Scalar.muli arg22 c8_i32
  let v68 : BitVec 32 := Scalar.addi v56 v67
  let v69 : BitVec 32 := v68
  let v70 : Index := Scalar.indexCast v69
  let c0_46 : Index := 0#32
  ![v70.toNat, 0]
def k0_mult17 (k0_t4 : Fin k0_t4_loop.trips) : BitVec 32 :=
  let c0_i32_19 : BitVec 32 := 0#32
  let c1_i32_20 : BitVec 32 := 1#32
  let arg16 : BitVec 32 := Scf.iv c0_i32_19 c1_i32_20 k0_t4
  let c1280_i32_37 : BitVec 32 := 1280#32
  let v60 : BitVec 32 := Scalar.muli arg16 c1280_i32_37
  v60
@[reducible] def k0_t7_loop : Scf.Loop 32 :=
  let c0_i32_38 : BitVec 32 := 0#32
  let c10_i32 : BitVec 32 := 10#32
  let v62 : BitVec 32 := Scalar.addi c0_i32_38 c10_i32
  let c1_i32_39 : BitVec 32 := 1#32
  ⟨c0_i32_38, v62, c1_i32_39⟩
def k0_mult18 (k0_t4 : Fin k0_t4_loop.trips) (k0_t7 : Fin k0_t7_loop.trips) : BitVec 32 :=
  let c0_i32_19 : BitVec 32 := 0#32
  let c1_i32_20 : BitVec 32 := 1#32
  let arg16 : BitVec 32 := Scf.iv c0_i32_19 c1_i32_20 k0_t4
  let c1280_i32_37 : BitVec 32 := 1280#32
  let v60 : BitVec 32 := Scalar.muli arg16 c1280_i32_37
  let v61 : BitVec 32 := v60
  let c0_i32_38 : BitVec 32 := 0#32
  let c1_i32_39 : BitVec 32 := 1#32
  let arg22 : BitVec 32 := Scf.iv c0_i32_38 c1_i32_39 k0_t7
  let c128_i32 : BitVec 32 := 128#32
  let v67 : BitVec 32 := Scalar.muli arg22 c128_i32
  let v68 : BitVec 32 := Scalar.addi v61 v67
  v68
def k0_off15 (i : grid0.Coords) (k0_t4 : Fin k0_t4_loop.trips) (k0_t7 : Fin k0_t7_loop.trips) : Fin 3 → Nat :=
  let arg0 : BitVec 32 := BitVec.ofNat 32 (i 0).val
  let c2_i32 : BitVec 32 := 2#32
  let v0 : BitVec 32 := Scalar.remsi arg0 c2_i32
  let v70 : Index := Scalar.indexCast v0
  let c0_46 : Index := 0#32
  let c0_i32_19 : BitVec 32 := 0#32
  let c1_i32_20 : BitVec 32 := 1#32
  let arg16 : BitVec 32 := Scf.iv c0_i32_19 c1_i32_20 k0_t4
  let c1280_i32_37 : BitVec 32 := 1280#32
  let v60 : BitVec 32 := Scalar.muli arg16 c1280_i32_37
  let v61 : BitVec 32 := v60
  let c0_i32_38 : BitVec 32 := 0#32
  let c1_i32_39 : BitVec 32 := 1#32
  let arg22 : BitVec 32 := Scf.iv c0_i32_38 c1_i32_39 k0_t7
  let c128_i32 : BitVec 32 := 128#32
  let v67 : BitVec 32 := Scalar.muli arg22 c128_i32
  let v68 : BitVec 32 := Scalar.addi v61 v67
  let v69 : BitVec 32 := v68
  let v71 : Index := Scalar.indexCast v69
  ![v70.toNat, 0, v71.toNat]
def k0_mult19 (k0_t4 : Fin k0_t4_loop.trips) (k0_t7 : Fin k0_t7_loop.trips) : BitVec 32 :=
  let c0_i32_19 : BitVec 32 := 0#32
  let c1_i32_20 : BitVec 32 := 1#32
  let arg16 : BitVec 32 := Scf.iv c0_i32_19 c1_i32_20 k0_t4
  let c1280_i32_37 : BitVec 32 := 1280#32
  let v60 : BitVec 32 := Scalar.muli arg16 c1280_i32_37
  let v61 : BitVec 32 := v60
  let c0_i32_38 : BitVec 32 := 0#32
  let c1_i32_39 : BitVec 32 := 1#32
  let arg22 : BitVec 32 := Scf.iv c0_i32_38 c1_i32_39 k0_t7
  let c128_i32_47 : BitVec 32 := 128#32
  let v75 : BitVec 32 := Scalar.muli arg22 c128_i32_47
  let v76 : BitVec 32 := Scalar.addi v61 v75
  v76
def k0_off16 (k0_t4 : Fin k0_t4_loop.trips) (k0_t7 : Fin k0_t7_loop.trips) : Fin 2 → Nat :=
  let c0_i32_19 : BitVec 32 := 0#32
  let c1_i32_20 : BitVec 32 := 1#32
  let arg16 : BitVec 32 := Scf.iv c0_i32_19 c1_i32_20 k0_t4
  let c1280_i32_37 : BitVec 32 := 1280#32
  let v60 : BitVec 32 := Scalar.muli arg16 c1280_i32_37
  let v61 : BitVec 32 := v60
  let c0_i32_38 : BitVec 32 := 0#32
  let c1_i32_39 : BitVec 32 := 1#32
  let arg22 : BitVec 32 := Scf.iv c0_i32_38 c1_i32_39 k0_t7
  let c128_i32_47 : BitVec 32 := 128#32
  let v75 : BitVec 32 := Scalar.muli arg22 c128_i32_47
  let v76 : BitVec 32 := Scalar.addi v61 v75
  let v77 : BitVec 32 := v76
  let v78 : Index := Scalar.indexCast v77
  let c0_48 : Index := 0#32
  ![v78.toNat, 0]
def k0_mult20 (k0_t7 : Fin k0_t7_loop.trips) : BitVec 32 :=
  let c0_i32_38 : BitVec 32 := 0#32
  let c1_i32_39 : BitVec 32 := 1#32
  let arg22 : BitVec 32 := Scf.iv c0_i32_38 c1_i32_39 k0_t7
  let c4_i32 : BitVec 32 := 4#32
  let v85 : BitVec 32 := Scalar.muli arg22 c4_i32
  let c0_i32_49 : BitVec 32 := 0#32
  let v86 : BitVec 32 := Scalar.addi v85 c0_i32_49
  let c8_i32 : BitVec 32 := 8#32
  let v87 : BitVec 32 := Scalar.muli v86 c8_i32
  v87
def k0_off17 (k0_t7 : Fin k0_t7_loop.trips) (c0_i32_49 : BitVec 32) : Fin 3 → Nat :=
  let c0_i32_38 : BitVec 32 := 0#32
  let c1_i32_39 : BitVec 32 := 1#32
  let arg22 : BitVec 32 := Scf.iv c0_i32_38 c1_i32_39 k0_t7
  let c4_i32 : BitVec 32 := 4#32
  let v85 : BitVec 32 := Scalar.muli arg22 c4_i32
  let v86 : BitVec 32 := Scalar.addi v85 c0_i32_49
  let c8_i32 : BitVec 32 := 8#32
  let v87 : BitVec 32 := Scalar.muli v86 c8_i32
  let v88 : BitVec 32 := v87
  let v90 : Index := Scalar.indexCast v88
  let c0_50 : Index := 0#32
  ![v90.toNat, 0, 0]
def k0_mult21 (k0_t7 : Fin k0_t7_loop.trips) : BitVec 32 :=
  let c0_i32_38 : BitVec 32 := 0#32
  let c1_i32_39 : BitVec 32 := 1#32
  let arg22 : BitVec 32 := Scf.iv c0_i32_38 c1_i32_39 k0_t7
  let c4_i32_51 : BitVec 32 := 4#32
  let v97 : BitVec 32 := Scalar.muli arg22 c4_i32_51
  let c1_i32_52 : BitVec 32 := 1#32
  let v98 : BitVec 32 := Scalar.addi v97 c1_i32_52
  let c8_i32_53 : BitVec 32 := 8#32
  let v99 : BitVec 32 := Scalar.muli v98 c8_i32_53
  v99
def k0_mult22 (k0_t7 : Fin k0_t7_loop.trips) : BitVec 32 :=
  let c0_i32_38 : BitVec 32 := 0#32
  let c1_i32_39 : BitVec 32 := 1#32
  let arg22 : BitVec 32 := Scf.iv c0_i32_38 c1_i32_39 k0_t7
  let c4_i32_55 : BitVec 32 := 4#32
  let v109 : BitVec 32 := Scalar.muli arg22 c4_i32_55
  let c2_i32_56 : BitVec 32 := 2#32
  let v110 : BitVec 32 := Scalar.addi v109 c2_i32_56
  let c8_i32_57 : BitVec 32 := 8#32
  let v111 : BitVec 32 := Scalar.muli v110 c8_i32_57
  v111
def k0_mult23 (k0_t7 : Fin k0_t7_loop.trips) : BitVec 32 :=
  let c0_i32_38 : BitVec 32 := 0#32
  let c1_i32_39 : BitVec 32 := 1#32
  let arg22 : BitVec 32 := Scf.iv c0_i32_38 c1_i32_39 k0_t7
  let c4_i32_59 : BitVec 32 := 4#32
  let v121 : BitVec 32 := Scalar.muli arg22 c4_i32_59
  let c3_i32 : BitVec 32 := 3#32
  let v122 : BitVec 32 := Scalar.addi v121 c3_i32
  let c8_i32_60 : BitVec 32 := 8#32
  let v123 : BitVec 32 := Scalar.muli v122 c8_i32_60
  v123
def k0_mult24 (k0_t4 : Fin k0_t4_loop.trips) : BitVec 32 :=
  let c0_i32_19 : BitVec 32 := 0#32
  let c1_i32_20 : BitVec 32 := 1#32
  let arg16 : BitVec 32 := Scf.iv c0_i32_19 c1_i32_20 k0_t4
  let c40_i32_41 : BitVec 32 := 40#32
  let v63 : BitVec 32 := Scalar.muli arg16 c40_i32_41
  v63
@[reducible] def k0_t8_loop : Scf.Loop 32 :=
  let c0_i32_42 : BitVec 32 := 0#32
  let c5_i32_43 : BitVec 32 := 5#32
  let v65 : BitVec 32 := Scalar.addi c0_i32_42 c5_i32_43
  let c1_i32_44 : BitVec 32 := 1#32
  ⟨c0_i32_42, v65, c1_i32_44⟩
def k0_off18 (k0_t8 : Fin k0_t8_loop.trips) (c0_i32_47 : BitVec 32) : Fin 3 → Nat :=
  let c0_i32_42 : BitVec 32 := 0#32
  let c1_i32_44 : BitVec 32 := 1#32
  let arg22 : BitVec 32 := Scf.iv c0_i32_42 c1_i32_44 k0_t8
  let c8_i32 : BitVec 32 := 8#32
  let v67 : BitVec 32 := Scalar.muli arg22 c8_i32
  let c8_i32_46 : BitVec 32 := 8#32
  let v68 : BitVec 32 := Scalar.muli v67 c8_i32_46
  let v69 : BitVec 32 := Scalar.addi v68 c0_i32_47
  let v70 : Index := Scalar.indexCast v69
  let c0_48 : Index := 0#32
  ![v70.toNat, 0, 0]
def k0_mult25 (k0_t4 : Fin k0_t4_loop.trips) (k0_t8 : Fin k0_t8_loop.trips) : BitVec 32 :=
  let c0_i32_19 : BitVec 32 := 0#32
  let c1_i32_20 : BitVec 32 := 1#32
  let arg16 : BitVec 32 := Scf.iv c0_i32_19 c1_i32_20 k0_t4
  let c40_i32_41 : BitVec 32 := 40#32
  let v63 : BitVec 32 := Scalar.muli arg16 c40_i32_41
  let v64 : BitVec 32 := v63
  let c0_i32_42 : BitVec 32 := 0#32
  let c1_i32_44 : BitVec 32 := 1#32
  let arg22 : BitVec 32 := Scf.iv c0_i32_42 c1_i32_44 k0_t8
  let c8_i32_59 : BitVec 32 := 8#32
  let v116 : BitVec 32 := Scalar.muli arg22 c8_i32_59
  let v117 : BitVec 32 := Scalar.addi v64 v116
  v117
def k0_off19 (k0_t4 : Fin k0_t4_loop.trips) (k0_t8 : Fin k0_t8_loop.trips) : Fin 2 → Nat :=
  let c0_i32_19 : BitVec 32 := 0#32
  let c1_i32_20 : BitVec 32 := 1#32
  let arg16 : BitVec 32 := Scf.iv c0_i32_19 c1_i32_20 k0_t4
  let c40_i32_41 : BitVec 32 := 40#32
  let v63 : BitVec 32 := Scalar.muli arg16 c40_i32_41
  let v64 : BitVec 32 := v63
  let c0_i32_42 : BitVec 32 := 0#32
  let c1_i32_44 : BitVec 32 := 1#32
  let arg22 : BitVec 32 := Scf.iv c0_i32_42 c1_i32_44 k0_t8
  let c8_i32_59 : BitVec 32 := 8#32
  let v116 : BitVec 32 := Scalar.muli arg22 c8_i32_59
  let v117 : BitVec 32 := Scalar.addi v64 v116
  let v118 : BitVec 32 := v117
  let v119 : Index := Scalar.indexCast v118
  let c0_60 : Index := 0#32
  ![v119.toNat, 0]
def k0_cond6 (i : grid0.Coords) : BitVec 1 :=
  let arg0 : BitVec 32 := BitVec.ofNat 32 (i 0).val
  let c2_i32_8 : BitVec 32 := 2#32
  let v17 : BitVec 1 := Scalar.cmpi .sge arg0 c2_i32_8
  let c72_i32_9 : BitVec 32 := 72#32
  let v18 : BitVec 1 := Scalar.cmpi .slt arg0 c72_i32_9
  let v19 : BitVec 1 := Scalar.andi v17 v18
  let v20 : BitVec 32 := Scalar.extui v19
  let c0_i32_10 : BitVec 32 := 0#32
  let v21 : BitVec 1 := Scalar.cmpi .ne v20 c0_i32_10
  v21

@[reducible] def k0_t9_loop : Scf.Loop 32 :=
  let c0_i32_25 : BitVec 32 := 0#32
  let c25_i32 : BitVec 32 := 25#32
  let v42 : BitVec 32 := Scalar.addi c0_i32_25 c25_i32
  let c1_i32_26 : BitVec 32 := 1#32
  ⟨c0_i32_25, v42, c1_i32_26⟩
def k0_mult26 (k0_t9 : Fin k0_t9_loop.trips) : BitVec 32 :=
  let c0_i32_25 : BitVec 32 := 0#32
  let c1_i32_26 : BitVec 32 := 1#32
  let arg16 : BitVec 32 := Scf.iv c0_i32_25 c1_i32_26 k0_t9
  let c1280_i32 : BitVec 32 := 1280#32
  let v85 : BitVec 32 := Scalar.muli arg16 c1280_i32
  v85
def k0_mult27 (k0_t9 : Fin k0_t9_loop.trips) : BitVec 32 :=
  let c0_i32_25 : BitVec 32 := 0#32
  let c1_i32_26 : BitVec 32 := 1#32
  let arg16 : BitVec 32 := Scf.iv c0_i32_25 c1_i32_26 k0_t9
  let c40_i32 : BitVec 32 := 40#32
  let v87 : BitVec 32 := Scalar.muli arg16 c40_i32
  v87
@[reducible] def k0_t10_loop : Scf.Loop 32 :=
  let c0_i32_59 : BitVec 32 := 0#32
  let c5_i32 : BitVec 32 := 5#32
  let v89 : BitVec 32 := Scalar.addi c0_i32_59 c5_i32
  let c1_i32_60 : BitVec 32 := 1#32
  ⟨c0_i32_59, v89, c1_i32_60⟩
def k0_mult28 (k0_t9 : Fin k0_t9_loop.trips) (k0_t10 : Fin k0_t10_loop.trips) : BitVec 32 :=
  let c0_i32_25 : BitVec 32 := 0#32
  let c1_i32_26 : BitVec 32 := 1#32
  let arg16 : BitVec 32 := Scf.iv c0_i32_25 c1_i32_26 k0_t9
  let c40_i32 : BitVec 32 := 40#32
  let v87 : BitVec 32 := Scalar.muli arg16 c40_i32
  let v88 : BitVec 32 := v87
  let c0_i32_59 : BitVec 32 := 0#32
  let c1_i32_60 : BitVec 32 := 1#32
  let arg22 : BitVec 32 := Scf.iv c0_i32_59 c1_i32_60 k0_t10
  let c8_i32 : BitVec 32 := 8#32
  let v105 : BitVec 32 := Scalar.muli arg22 c8_i32
  let v106 : BitVec 32 := Scalar.addi v88 v105
  v106
def k0_off20 (k0_t9 : Fin k0_t9_loop.trips) (k0_t10 : Fin k0_t10_loop.trips) : Fin 2 → Nat :=
  let c0_i32_25 : BitVec 32 := 0#32
  let c1_i32_26 : BitVec 32 := 1#32
  let arg16 : BitVec 32 := Scf.iv c0_i32_25 c1_i32_26 k0_t9
  let c40_i32 : BitVec 32 := 40#32
  let v87 : BitVec 32 := Scalar.muli arg16 c40_i32
  let v88 : BitVec 32 := v87
  let c0_i32_59 : BitVec 32 := 0#32
  let c1_i32_60 : BitVec 32 := 1#32
  let arg22 : BitVec 32 := Scf.iv c0_i32_59 c1_i32_60 k0_t10
  let c8_i32 : BitVec 32 := 8#32
  let v105 : BitVec 32 := Scalar.muli arg22 c8_i32
  let v106 : BitVec 32 := Scalar.addi v88 v105
  let v107 : BitVec 32 := v106
  let v108 : Index := Scalar.indexCast v107
  let c0_87 : Index := 0#32
  ![v108.toNat, 0]
def k0_mult29 (k0_t10 : Fin k0_t10_loop.trips) : BitVec 32 :=
  let c0_i32_59 : BitVec 32 := 0#32
  let c1_i32_60 : BitVec 32 := 1#32
  let arg22 : BitVec 32 := Scf.iv c0_i32_59 c1_i32_60 k0_t10
  let c8_i32_92 : BitVec 32 := 8#32
  let v136 : BitVec 32 := Scalar.muli arg22 c8_i32_92
  v136
def k0_off21 (k0_t10 : Fin k0_t10_loop.trips) : Fin 2 → Nat :=
  let c0_i32_59 : BitVec 32 := 0#32
  let c1_i32_60 : BitVec 32 := 1#32
  let arg22 : BitVec 32 := Scf.iv c0_i32_59 c1_i32_60 k0_t10
  let c8_i32_92 : BitVec 32 := 8#32
  let v136 : BitVec 32 := Scalar.muli arg22 c8_i32_92
  let v137 : BitVec 32 := v136
  let v138 : Index := Scalar.indexCast v137
  let c0_93 : Index := 0#32
  ![v138.toNat, 0]
@[reducible] def k0_t11_loop : Scf.Loop 32 :=
  let c0_i32_62 : BitVec 32 := 0#32
  let c10_i32 : BitVec 32 := 10#32
  let v90 : BitVec 32 := Scalar.addi c0_i32_62 c10_i32
  let c1_i32_63 : BitVec 32 := 1#32
  ⟨c0_i32_62, v90, c1_i32_63⟩
def k0_off22 (k0_t11 : Fin k0_t11_loop.trips) (c0_i32_87 : BitVec 32) : Fin 2 → Nat :=
  let c0_i32_62 : BitVec 32 := 0#32
  let c1_i32_63 : BitVec 32 := 1#32
  let arg22 : BitVec 32 := Scf.iv c0_i32_62 c1_i32_63 k0_t11
  let c4_i32 : BitVec 32 := 4#32
  let v105 : BitVec 32 := Scalar.muli arg22 c4_i32
  let v106 : BitVec 32 := Scalar.addi v105 c0_i32_87
  let v107 : Index := Scalar.indexCast v106
  let c0_88 : Index := 0#32
  ![v107.toNat, 0]
def k0_mult30 (k0_t9 : Fin k0_t9_loop.trips) (k0_t11 : Fin k0_t11_loop.trips) : BitVec 32 :=
  let c0_i32_25 : BitVec 32 := 0#32
  let c1_i32_26 : BitVec 32 := 1#32
  let arg16 : BitVec 32 := Scf.iv c0_i32_25 c1_i32_26 k0_t9
  let c1280_i32 : BitVec 32 := 1280#32
  let v85 : BitVec 32 := Scalar.muli arg16 c1280_i32
  let v86 : BitVec 32 := v85
  let c0_i32_62 : BitVec 32 := 0#32
  let c1_i32_63 : BitVec 32 := 1#32
  let arg22 : BitVec 32 := Scf.iv c0_i32_62 c1_i32_63 k0_t11
  let c128_i32 : BitVec 32 := 128#32
  let v109 : BitVec 32 := Scalar.muli arg22 c128_i32
  let v110 : BitVec 32 := Scalar.addi v86 v109
  let c0_i32_89 : BitVec 32 := 0#32
  let v111 : BitVec 32 := Scalar.addi v110 c0_i32_89
  v111
def k0_off23 (k0_t9 : Fin k0_t9_loop.trips) (k0_t11 : Fin k0_t11_loop.trips) (c0_i32_89 : BitVec 32) : Fin 2 → Nat :=
  let c0_i32_25 : BitVec 32 := 0#32
  let c1_i32_26 : BitVec 32 := 1#32
  let arg16 : BitVec 32 := Scf.iv c0_i32_25 c1_i32_26 k0_t9
  let c1280_i32 : BitVec 32 := 1280#32
  let v85 : BitVec 32 := Scalar.muli arg16 c1280_i32
  let v86 : BitVec 32 := v85
  let c0_i32_62 : BitVec 32 := 0#32
  let c1_i32_63 : BitVec 32 := 1#32
  let arg22 : BitVec 32 := Scf.iv c0_i32_62 c1_i32_63 k0_t11
  let c128_i32 : BitVec 32 := 128#32
  let v109 : BitVec 32 := Scalar.muli arg22 c128_i32
  let v110 : BitVec 32 := Scalar.addi v86 v109
  let v111 : BitVec 32 := Scalar.addi v110 c0_i32_89
  let v112 : BitVec 32 := v111
  let v113 : Index := Scalar.indexCast v112
  let c0_90 : Index := 0#32
  ![v113.toNat, 0]
def k0_mult31 (k0_t9 : Fin k0_t9_loop.trips) (k0_t11 : Fin k0_t11_loop.trips) : BitVec 32 :=
  let c0_i32_25 : BitVec 32 := 0#32
  let c1_i32_26 : BitVec 32 := 1#32
  let arg16 : BitVec 32 := Scf.iv c0_i32_25 c1_i32_26 k0_t9
  let c1280_i32 : BitVec 32 := 1280#32
  let v85 : BitVec 32 := Scalar.muli arg16 c1280_i32
  let v86 : BitVec 32 := v85
  let c0_i32_62 : BitVec 32 := 0#32
  let c1_i32_63 : BitVec 32 := 1#32
  let arg22 : BitVec 32 := Scf.iv c0_i32_62 c1_i32_63 k0_t11
  let c128_i32_96 : BitVec 32 := 128#32
  let v126 : BitVec 32 := Scalar.muli arg22 c128_i32_96
  let v127 : BitVec 32 := Scalar.addi v86 v126
  let c32_i32 : BitVec 32 := 32#32
  let v128 : BitVec 32 := Scalar.addi v127 c32_i32
  v128
def k0_mult32 (k0_t9 : Fin k0_t9_loop.trips) (k0_t11 : Fin k0_t11_loop.trips) : BitVec 32 :=
  let c0_i32_25 : BitVec 32 := 0#32
  let c1_i32_26 : BitVec 32 := 1#32
  let arg16 : BitVec 32 := Scf.iv c0_i32_25 c1_i32_26 k0_t9
  let c1280_i32 : BitVec 32 := 1280#32
  let v85 : BitVec 32 := Scalar.muli arg16 c1280_i32
  let v86 : BitVec 32 := v85
  let c0_i32_62 : BitVec 32 := 0#32
  let c1_i32_63 : BitVec 32 := 1#32
  let arg22 : BitVec 32 := Scf.iv c0_i32_62 c1_i32_63 k0_t11
  let c128_i32_103 : BitVec 32 := 128#32
  let v143 : BitVec 32 := Scalar.muli arg22 c128_i32_103
  let v144 : BitVec 32 := Scalar.addi v86 v143
  let c64_i32 : BitVec 32 := 64#32
  let v145 : BitVec 32 := Scalar.addi v144 c64_i32
  v145
def k0_mult33 (k0_t9 : Fin k0_t9_loop.trips) (k0_t11 : Fin k0_t11_loop.trips) : BitVec 32 :=
  let c0_i32_25 : BitVec 32 := 0#32
  let c1_i32_26 : BitVec 32 := 1#32
  let arg16 : BitVec 32 := Scf.iv c0_i32_25 c1_i32_26 k0_t9
  let c1280_i32 : BitVec 32 := 1280#32
  let v85 : BitVec 32 := Scalar.muli arg16 c1280_i32
  let v86 : BitVec 32 := v85
  let c0_i32_62 : BitVec 32 := 0#32
  let c1_i32_63 : BitVec 32 := 1#32
  let arg22 : BitVec 32 := Scf.iv c0_i32_62 c1_i32_63 k0_t11
  let c128_i32_109 : BitVec 32 := 128#32
  let v160 : BitVec 32 := Scalar.muli arg22 c128_i32_109
  let v161 : BitVec 32 := Scalar.addi v86 v160
  let c96_i32 : BitVec 32 := 96#32
  let v162 : BitVec 32 := Scalar.addi v161 c96_i32
  v162
def k0_mult34 (k0_t9 : Fin k0_t9_loop.trips) (k0_t11 : Fin k0_t11_loop.trips) : BitVec 32 :=
  let c0_i32_25 : BitVec 32 := 0#32
  let c1_i32_26 : BitVec 32 := 1#32
  let arg16 : BitVec 32 := Scf.iv c0_i32_25 c1_i32_26 k0_t9
  let c1280_i32 : BitVec 32 := 1280#32
  let v85 : BitVec 32 := Scalar.muli arg16 c1280_i32
  let v86 : BitVec 32 := v85
  let c0_i32_62 : BitVec 32 := 0#32
  let c1_i32_63 : BitVec 32 := 1#32
  let arg22 : BitVec 32 := Scf.iv c0_i32_62 c1_i32_63 k0_t11
  let c128_i32_113 : BitVec 32 := 128#32
  let v175 : BitVec 32 := Scalar.muli arg22 c128_i32_113
  let v176 : BitVec 32 := Scalar.addi v86 v175
  v176
def k0_off24 (k0_t9 : Fin k0_t9_loop.trips) (k0_t11 : Fin k0_t11_loop.trips) : Fin 2 → Nat :=
  let c0_114 : Index := 0#32
  let c0_i32_25 : BitVec 32 := 0#32
  let c1_i32_26 : BitVec 32 := 1#32
  let arg16 : BitVec 32 := Scf.iv c0_i32_25 c1_i32_26 k0_t9
  let c1280_i32 : BitVec 32 := 1280#32
  let v85 : BitVec 32 := Scalar.muli arg16 c1280_i32
  let v86 : BitVec 32 := v85
  let c0_i32_62 : BitVec 32 := 0#32
  let c1_i32_63 : BitVec 32 := 1#32
  let arg22 : BitVec 32 := Scf.iv c0_i32_62 c1_i32_63 k0_t11
  let c128_i32_113 : BitVec 32 := 128#32
  let v175 : BitVec 32 := Scalar.muli arg22 c128_i32_113
  let v176 : BitVec 32 := Scalar.addi v86 v175
  let v177 : BitVec 32 := v176
  let v178 : Index := Scalar.indexCast v177
  ![0, v178.toNat]
def k0_mult35 (k0_t9 : Fin k0_t9_loop.trips) : BitVec 32 :=
  let c0_i32_25 : BitVec 32 := 0#32
  let c1_i32_26 : BitVec 32 := 1#32
  let arg16 : BitVec 32 := Scf.iv c0_i32_25 c1_i32_26 k0_t9
  let c1280_i32_65 : BitVec 32 := 1280#32
  let v91 : BitVec 32 := Scalar.muli arg16 c1280_i32_65
  v91
def k0_mult36 (k0_t9 : Fin k0_t9_loop.trips) : BitVec 32 :=
  let c0_i32_25 : BitVec 32 := 0#32
  let c1_i32_26 : BitVec 32 := 1#32
  let arg16 : BitVec 32 := Scf.iv c0_i32_25 c1_i32_26 k0_t9
  let c40_i32_66 : BitVec 32 := 40#32
  let v93 : BitVec 32 := Scalar.muli arg16 c40_i32_66
  v93
@[reducible] def k0_t12_loop : Scf.Loop 32 :=
  let c0_i32_68 : BitVec 32 := 0#32
  let c40_i32_69 : BitVec 32 := 40#32
  let v95 : BitVec 32 := Scalar.addi c0_i32_68 c40_i32_69
  let c1_i32_70 : BitVec 32 := 1#32
  ⟨c0_i32_68, v95, c1_i32_70⟩
def k0_mult37 (k0_t9 : Fin k0_t9_loop.trips) (k0_t12 : Fin k0_t12_loop.trips) : BitVec 32 :=
  let c0_i32_25 : BitVec 32 := 0#32
  let c1_i32_26 : BitVec 32 := 1#32
  let arg16 : BitVec 32 := Scf.iv c0_i32_25 c1_i32_26 k0_t9
  let c1280_i32_65 : BitVec 32 := 1280#32
  let v91 : BitVec 32 := Scalar.muli arg16 c1280_i32_65
  let v92 : BitVec 32 := v91
  let c0_i32_68 : BitVec 32 := 0#32
  let c1_i32_70 : BitVec 32 := 1#32
  let arg22 : BitVec 32 := Scf.iv c0_i32_68 c1_i32_70 k0_t12
  let c32_i32 : BitVec 32 := 32#32
  let v105 : BitVec 32 := Scalar.muli arg22 c32_i32
  let v106 : BitVec 32 := Scalar.addi v92 v105
  v106
def k0_off25 (k0_t9 : Fin k0_t9_loop.trips) (k0_t12 : Fin k0_t12_loop.trips) : Fin 2 → Nat :=
  let c0_i32_25 : BitVec 32 := 0#32
  let c1_i32_26 : BitVec 32 := 1#32
  let arg16 : BitVec 32 := Scf.iv c0_i32_25 c1_i32_26 k0_t9
  let c1280_i32_65 : BitVec 32 := 1280#32
  let v91 : BitVec 32 := Scalar.muli arg16 c1280_i32_65
  let v92 : BitVec 32 := v91
  let c0_i32_68 : BitVec 32 := 0#32
  let c1_i32_70 : BitVec 32 := 1#32
  let arg22 : BitVec 32 := Scf.iv c0_i32_68 c1_i32_70 k0_t12
  let c32_i32 : BitVec 32 := 32#32
  let v105 : BitVec 32 := Scalar.muli arg22 c32_i32
  let v106 : BitVec 32 := Scalar.addi v92 v105
  let v107 : BitVec 32 := v106
  let v108 : Index := Scalar.indexCast v107
  let c0_87 : Index := 0#32
  ![v108.toNat, 0]
def k0_off26 (k0_t9 : Fin k0_t9_loop.trips) (k0_t12 : Fin k0_t12_loop.trips) (c0_i32_88 : BitVec 32) : Fin 2 → Nat :=
  let c0_i32_25 : BitVec 32 := 0#32
  let c1_i32_26 : BitVec 32 := 1#32
  let arg16 : BitVec 32 := Scf.iv c0_i32_25 c1_i32_26 k0_t9
  let c1280_i32_65 : BitVec 32 := 1280#32
  let v91 : BitVec 32 := Scalar.muli arg16 c1280_i32_65
  let v92 : BitVec 32 := v91
  let c0_i32_68 : BitVec 32 := 0#32
  let c1_i32_70 : BitVec 32 := 1#32
  let arg22 : BitVec 32 := Scf.iv c0_i32_68 c1_i32_70 k0_t12
  let c32_i32 : BitVec 32 := 32#32
  let v105 : BitVec 32 := Scalar.muli arg22 c32_i32
  let v106 : BitVec 32 := Scalar.addi v92 v105
  let v107 : BitVec 32 := v106
  let v116 : BitVec 32 := Scalar.addi v107 c0_i32_88
  let v117 : Index := Scalar.indexCast v116
  let c0_89 : Index := 0#32
  ![v117.toNat, 0]
@[reducible] def k0_t13_loop : Scf.Loop 32 :=
  let c0_i32_73 : BitVec 32 := 0#32
  let c5_i32_74 : BitVec 32 := 5#32
  let v97 : BitVec 32 := Scalar.addi c0_i32_73 c5_i32_74
  let c1_i32_75 : BitVec 32 := 1#32
  ⟨c0_i32_73, v97, c1_i32_75⟩
def k0_mult38 (k0_t9 : Fin k0_t9_loop.trips) (k0_t13 : Fin k0_t13_loop.trips) : BitVec 32 :=
  let c0_i32_25 : BitVec 32 := 0#32
  let c1_i32_26 : BitVec 32 := 1#32
  let arg16 : BitVec 32 := Scf.iv c0_i32_25 c1_i32_26 k0_t9
  let c40_i32_66 : BitVec 32 := 40#32
  let v93 : BitVec 32 := Scalar.muli arg16 c40_i32_66
  let v94 : BitVec 32 := v93
  let c0_i32_73 : BitVec 32 := 0#32
  let c1_i32_75 : BitVec 32 := 1#32
  let arg22 : BitVec 32 := Scf.iv c0_i32_73 c1_i32_75 k0_t13
  let c8_i32 : BitVec 32 := 8#32
  let v105 : BitVec 32 := Scalar.muli arg22 c8_i32
  let v106 : BitVec 32 := Scalar.addi v94 v105
  v106
def k0_off27 (k0_t9 : Fin k0_t9_loop.trips) (k0_t13 : Fin k0_t13_loop.trips) : Fin 2 → Nat :=
  let c0_i32_25 : BitVec 32 := 0#32
  let c1_i32_26 : BitVec 32 := 1#32
  let arg16 : BitVec 32 := Scf.iv c0_i32_25 c1_i32_26 k0_t9
  let c40_i32_66 : BitVec 32 := 40#32
  let v93 : BitVec 32 := Scalar.muli arg16 c40_i32_66
  let v94 : BitVec 32 := v93
  let c0_i32_73 : BitVec 32 := 0#32
  let c1_i32_75 : BitVec 32 := 1#32
  let arg22 : BitVec 32 := Scf.iv c0_i32_73 c1_i32_75 k0_t13
  let c8_i32 : BitVec 32 := 8#32
  let v105 : BitVec 32 := Scalar.muli arg22 c8_i32
  let v106 : BitVec 32 := Scalar.addi v94 v105
  let v107 : BitVec 32 := v106
  let v108 : Index := Scalar.indexCast v107
  let c0_87 : Index := 0#32
  ![v108.toNat, 0]
def k0_mult39 (k0_t9 : Fin k0_t9_loop.trips) : BitVec 32 :=
  let c0_i32_25 : BitVec 32 := 0#32
  let c1_i32_26 : BitVec 32 := 1#32
  let arg16 : BitVec 32 := Scf.iv c0_i32_25 c1_i32_26 k0_t9
  let c1280_i32_77 : BitVec 32 := 1280#32
  let v98 : BitVec 32 := Scalar.muli arg16 c1280_i32_77
  v98
@[reducible] def k0_t14_loop : Scf.Loop 32 :=
  let c0_i32_78 : BitVec 32 := 0#32
  let c10_i32_79 : BitVec 32 := 10#32
  let v100 : BitVec 32 := Scalar.addi c0_i32_78 c10_i32_79
  let c1_i32_80 : BitVec 32 := 1#32
  ⟨c0_i32_78, v100, c1_i32_80⟩
def k0_mult40 (k0_t9 : Fin k0_t9_loop.trips) (k0_t14 : Fin k0_t14_loop.trips) : BitVec 32 :=
  let c0_i32_25 : BitVec 32 := 0#32
  let c1_i32_26 : BitVec 32 := 1#32
  let arg16 : BitVec 32 := Scf.iv c0_i32_25 c1_i32_26 k0_t9
  let c1280_i32_77 : BitVec 32 := 1280#32
  let v98 : BitVec 32 := Scalar.muli arg16 c1280_i32_77
  let v99 : BitVec 32 := v98
  let c0_i32_78 : BitVec 32 := 0#32
  let c1_i32_80 : BitVec 32 := 1#32
  let arg22 : BitVec 32 := Scf.iv c0_i32_78 c1_i32_80 k0_t14
  let c128_i32 : BitVec 32 := 128#32
  let v105 : BitVec 32 := Scalar.muli arg22 c128_i32
  let v106 : BitVec 32 := Scalar.addi v99 v105
  v106
def k0_off28 (i : grid0.Coords) (k0_t9 : Fin k0_t9_loop.trips) (k0_t14 : Fin k0_t14_loop.trips) : Fin 3 → Nat :=
  let arg0 : BitVec 32 := BitVec.ofNat 32 (i 0).val
  let c2_i32 : BitVec 32 := 2#32
  let v0 : BitVec 32 := Scalar.remsi arg0 c2_i32
  let v108 : Index := Scalar.indexCast v0
  let c0_87 : Index := 0#32
  let c0_i32_25 : BitVec 32 := 0#32
  let c1_i32_26 : BitVec 32 := 1#32
  let arg16 : BitVec 32 := Scf.iv c0_i32_25 c1_i32_26 k0_t9
  let c1280_i32_77 : BitVec 32 := 1280#32
  let v98 : BitVec 32 := Scalar.muli arg16 c1280_i32_77
  let v99 : BitVec 32 := v98
  let c0_i32_78 : BitVec 32 := 0#32
  let c1_i32_80 : BitVec 32 := 1#32
  let arg22 : BitVec 32 := Scf.iv c0_i32_78 c1_i32_80 k0_t14
  let c128_i32 : BitVec 32 := 128#32
  let v105 : BitVec 32 := Scalar.muli arg22 c128_i32
  let v106 : BitVec 32 := Scalar.addi v99 v105
  let v107 : BitVec 32 := v106
  let v109 : Index := Scalar.indexCast v107
  ![v108.toNat, 0, v109.toNat]
def k0_mult41 (k0_t9 : Fin k0_t9_loop.trips) (k0_t14 : Fin k0_t14_loop.trips) : BitVec 32 :=
  let c0_i32_25 : BitVec 32 := 0#32
  let c1_i32_26 : BitVec 32 := 1#32
  let arg16 : BitVec 32 := Scf.iv c0_i32_25 c1_i32_26 k0_t9
  let c1280_i32_77 : BitVec 32 := 1280#32
  let v98 : BitVec 32 := Scalar.muli arg16 c1280_i32_77
  let v99 : BitVec 32 := v98
  let c0_i32_78 : BitVec 32 := 0#32
  let c1_i32_80 : BitVec 32 := 1#32
  let arg22 : BitVec 32 := Scf.iv c0_i32_78 c1_i32_80 k0_t14
  let c128_i32_88 : BitVec 32 := 128#32
  let v113 : BitVec 32 := Scalar.muli arg22 c128_i32_88
  let v114 : BitVec 32 := Scalar.addi v99 v113
  v114
def k0_off29 (k0_t9 : Fin k0_t9_loop.trips) (k0_t14 : Fin k0_t14_loop.trips) : Fin 2 → Nat :=
  let c0_i32_25 : BitVec 32 := 0#32
  let c1_i32_26 : BitVec 32 := 1#32
  let arg16 : BitVec 32 := Scf.iv c0_i32_25 c1_i32_26 k0_t9
  let c1280_i32_77 : BitVec 32 := 1280#32
  let v98 : BitVec 32 := Scalar.muli arg16 c1280_i32_77
  let v99 : BitVec 32 := v98
  let c0_i32_78 : BitVec 32 := 0#32
  let c1_i32_80 : BitVec 32 := 1#32
  let arg22 : BitVec 32 := Scf.iv c0_i32_78 c1_i32_80 k0_t14
  let c128_i32_88 : BitVec 32 := 128#32
  let v113 : BitVec 32 := Scalar.muli arg22 c128_i32_88
  let v114 : BitVec 32 := Scalar.addi v99 v113
  let v115 : BitVec 32 := v114
  let v116 : Index := Scalar.indexCast v115
  let c0_89 : Index := 0#32
  ![v116.toNat, 0]
def k0_mult42 (k0_t14 : Fin k0_t14_loop.trips) : BitVec 32 :=
  let c0_i32_78 : BitVec 32 := 0#32
  let c1_i32_80 : BitVec 32 := 1#32
  let arg22 : BitVec 32 := Scf.iv c0_i32_78 c1_i32_80 k0_t14
  let c4_i32 : BitVec 32 := 4#32
  let v123 : BitVec 32 := Scalar.muli arg22 c4_i32
  let c0_i32_90 : BitVec 32 := 0#32
  let v124 : BitVec 32 := Scalar.addi v123 c0_i32_90
  let c8_i32 : BitVec 32 := 8#32
  let v125 : BitVec 32 := Scalar.muli v124 c8_i32
  v125
def k0_off30 (k0_t14 : Fin k0_t14_loop.trips) (c0_i32_90 : BitVec 32) : Fin 3 → Nat :=
  let c0_i32_78 : BitVec 32 := 0#32
  let c1_i32_80 : BitVec 32 := 1#32
  let arg22 : BitVec 32 := Scf.iv c0_i32_78 c1_i32_80 k0_t14
  let c4_i32 : BitVec 32 := 4#32
  let v123 : BitVec 32 := Scalar.muli arg22 c4_i32
  let v124 : BitVec 32 := Scalar.addi v123 c0_i32_90
  let c8_i32 : BitVec 32 := 8#32
  let v125 : BitVec 32 := Scalar.muli v124 c8_i32
  let v126 : BitVec 32 := v125
  let v128 : Index := Scalar.indexCast v126
  let c0_91 : Index := 0#32
  ![v128.toNat, 0, 0]
def k0_mult43 (k0_t14 : Fin k0_t14_loop.trips) : BitVec 32 :=
  let c0_i32_78 : BitVec 32 := 0#32
  let c1_i32_80 : BitVec 32 := 1#32
  let arg22 : BitVec 32 := Scf.iv c0_i32_78 c1_i32_80 k0_t14
  let c4_i32_92 : BitVec 32 := 4#32
  let v135 : BitVec 32 := Scalar.muli arg22 c4_i32_92
  let c1_i32_93 : BitVec 32 := 1#32
  let v136 : BitVec 32 := Scalar.addi v135 c1_i32_93
  let c8_i32_94 : BitVec 32 := 8#32
  let v137 : BitVec 32 := Scalar.muli v136 c8_i32_94
  v137
def k0_mult44 (k0_t14 : Fin k0_t14_loop.trips) : BitVec 32 :=
  let c0_i32_78 : BitVec 32 := 0#32
  let c1_i32_80 : BitVec 32 := 1#32
  let arg22 : BitVec 32 := Scf.iv c0_i32_78 c1_i32_80 k0_t14
  let c4_i32_96 : BitVec 32 := 4#32
  let v147 : BitVec 32 := Scalar.muli arg22 c4_i32_96
  let c2_i32_97 : BitVec 32 := 2#32
  let v148 : BitVec 32 := Scalar.addi v147 c2_i32_97
  let c8_i32_98 : BitVec 32 := 8#32
  let v149 : BitVec 32 := Scalar.muli v148 c8_i32_98
  v149
def k0_mult45 (k0_t14 : Fin k0_t14_loop.trips) : BitVec 32 :=
  let c0_i32_78 : BitVec 32 := 0#32
  let c1_i32_80 : BitVec 32 := 1#32
  let arg22 : BitVec 32 := Scf.iv c0_i32_78 c1_i32_80 k0_t14
  let c4_i32_100 : BitVec 32 := 4#32
  let v159 : BitVec 32 := Scalar.muli arg22 c4_i32_100
  let c3_i32 : BitVec 32 := 3#32
  let v160 : BitVec 32 := Scalar.addi v159 c3_i32
  let c8_i32_101 : BitVec 32 := 8#32
  let v161 : BitVec 32 := Scalar.muli v160 c8_i32_101
  v161
def k0_mult46 (k0_t9 : Fin k0_t9_loop.trips) : BitVec 32 :=
  let c0_i32_25 : BitVec 32 := 0#32
  let c1_i32_26 : BitVec 32 := 1#32
  let arg16 : BitVec 32 := Scf.iv c0_i32_25 c1_i32_26 k0_t9
  let c40_i32_82 : BitVec 32 := 40#32
  let v101 : BitVec 32 := Scalar.muli arg16 c40_i32_82
  v101
@[reducible] def k0_t15_loop : Scf.Loop 32 :=
  let c0_i32_83 : BitVec 32 := 0#32
  let c5_i32_84 : BitVec 32 := 5#32
  let v103 : BitVec 32 := Scalar.addi c0_i32_83 c5_i32_84
  let c1_i32_85 : BitVec 32 := 1#32
  ⟨c0_i32_83, v103, c1_i32_85⟩
def k0_off31 (k0_t15 : Fin k0_t15_loop.trips) (c0_i32_88 : BitVec 32) : Fin 3 → Nat :=
  let c0_i32_83 : BitVec 32 := 0#32
  let c1_i32_85 : BitVec 32 := 1#32
  let arg22 : BitVec 32 := Scf.iv c0_i32_83 c1_i32_85 k0_t15
  let c8_i32 : BitVec 32 := 8#32
  let v105 : BitVec 32 := Scalar.muli arg22 c8_i32
  let c8_i32_87 : BitVec 32 := 8#32
  let v106 : BitVec 32 := Scalar.muli v105 c8_i32_87
  let v107 : BitVec 32 := Scalar.addi v106 c0_i32_88
  let v108 : Index := Scalar.indexCast v107
  let c0_89 : Index := 0#32
  ![v108.toNat, 0, 0]
def k0_mult47 (k0_t9 : Fin k0_t9_loop.trips) (k0_t15 : Fin k0_t15_loop.trips) : BitVec 32 :=
  let c0_i32_25 : BitVec 32 := 0#32
  let c1_i32_26 : BitVec 32 := 1#32
  let arg16 : BitVec 32 := Scf.iv c0_i32_25 c1_i32_26 k0_t9
  let c40_i32_82 : BitVec 32 := 40#32
  let v101 : BitVec 32 := Scalar.muli arg16 c40_i32_82
  let v102 : BitVec 32 := v101
  let c0_i32_83 : BitVec 32 := 0#32
  let c1_i32_85 : BitVec 32 := 1#32
  let arg22 : BitVec 32 := Scf.iv c0_i32_83 c1_i32_85 k0_t15
  let c8_i32_100 : BitVec 32 := 8#32
  let v154 : BitVec 32 := Scalar.muli arg22 c8_i32_100
  let v155 : BitVec 32 := Scalar.addi v102 v154
  v155
def k0_off32 (k0_t9 : Fin k0_t9_loop.trips) (k0_t15 : Fin k0_t15_loop.trips) : Fin 2 → Nat :=
  let c0_i32_25 : BitVec 32 := 0#32
  let c1_i32_26 : BitVec 32 := 1#32
  let arg16 : BitVec 32 := Scf.iv c0_i32_25 c1_i32_26 k0_t9
  let c40_i32_82 : BitVec 32 := 40#32
  let v101 : BitVec 32 := Scalar.muli arg16 c40_i32_82
  let v102 : BitVec 32 := v101
  let c0_i32_83 : BitVec 32 := 0#32
  let c1_i32_85 : BitVec 32 := 1#32
  let arg22 : BitVec 32 := Scf.iv c0_i32_83 c1_i32_85 k0_t15
  let c8_i32_100 : BitVec 32 := 8#32
  let v154 : BitVec 32 := Scalar.muli arg22 c8_i32_100
  let v155 : BitVec 32 := Scalar.addi v102 v154
  let v156 : BitVec 32 := v155
  let v157 : Index := Scalar.indexCast v156
  let c0_101 : Index := 0#32
  ![v157.toNat, 0]
def k0_cond7 (i : grid0.Coords) : BitVec 1 :=
  let arg0 : BitVec 32 := BitVec.ofNat 32 (i 0).val
  let c72_i32_11 : BitVec 32 := 72#32
  let v22 : BitVec 1 := Scalar.cmpi .eq arg0 c72_i32_11
  let v23 : BitVec 32 := Scalar.extui v22
  let c0_i32_12 : BitVec 32 := 0#32
  let v24 : BitVec 1 := Scalar.cmpi .ne v23 c0_i32_12
  v24

@[reducible] def k0_t16_loop : Scf.Loop 32 :=
  let c0_i32_24 : BitVec 32 := 0#32
  let c25_i32 : BitVec 32 := 25#32
  let v41 : BitVec 32 := Scalar.addi c0_i32_24 c25_i32
  let c1_i32_25 : BitVec 32 := 1#32
  ⟨c0_i32_24, v41, c1_i32_25⟩
def k0_mult48 (k0_t16 : Fin k0_t16_loop.trips) : BitVec 32 :=
  let c0_i32_24 : BitVec 32 := 0#32
  let c1_i32_25 : BitVec 32 := 1#32
  let arg16 : BitVec 32 := Scf.iv c0_i32_24 c1_i32_25 k0_t16
  let c1280_i32 : BitVec 32 := 1280#32
  let v77 : BitVec 32 := Scalar.muli arg16 c1280_i32
  v77
def k0_mult49 (k0_t16 : Fin k0_t16_loop.trips) : BitVec 32 :=
  let c0_i32_24 : BitVec 32 := 0#32
  let c1_i32_25 : BitVec 32 := 1#32
  let arg16 : BitVec 32 := Scf.iv c0_i32_24 c1_i32_25 k0_t16
  let c40_i32 : BitVec 32 := 40#32
  let v79 : BitVec 32 := Scalar.muli arg16 c40_i32
  v79
@[reducible] def k0_t17_loop : Scf.Loop 32 :=
  let c0_i32_55 : BitVec 32 := 0#32
  let c5_i32 : BitVec 32 := 5#32
  let v81 : BitVec 32 := Scalar.addi c0_i32_55 c5_i32
  let c1_i32_56 : BitVec 32 := 1#32
  ⟨c0_i32_55, v81, c1_i32_56⟩
def k0_mult50 (k0_t16 : Fin k0_t16_loop.trips) (k0_t17 : Fin k0_t17_loop.trips) : BitVec 32 :=
  let c0_i32_24 : BitVec 32 := 0#32
  let c1_i32_25 : BitVec 32 := 1#32
  let arg16 : BitVec 32 := Scf.iv c0_i32_24 c1_i32_25 k0_t16
  let c40_i32 : BitVec 32 := 40#32
  let v79 : BitVec 32 := Scalar.muli arg16 c40_i32
  let v80 : BitVec 32 := v79
  let c0_i32_55 : BitVec 32 := 0#32
  let c1_i32_56 : BitVec 32 := 1#32
  let arg21 : BitVec 32 := Scf.iv c0_i32_55 c1_i32_56 k0_t17
  let c8_i32 : BitVec 32 := 8#32
  let v90 : BitVec 32 := Scalar.muli arg21 c8_i32
  let v91 : BitVec 32 := Scalar.addi v80 v90
  v91
def k0_off33 (k0_t16 : Fin k0_t16_loop.trips) (k0_t17 : Fin k0_t17_loop.trips) : Fin 2 → Nat :=
  let c0_i32_24 : BitVec 32 := 0#32
  let c1_i32_25 : BitVec 32 := 1#32
  let arg16 : BitVec 32 := Scf.iv c0_i32_24 c1_i32_25 k0_t16
  let c40_i32 : BitVec 32 := 40#32
  let v79 : BitVec 32 := Scalar.muli arg16 c40_i32
  let v80 : BitVec 32 := v79
  let c0_i32_55 : BitVec 32 := 0#32
  let c1_i32_56 : BitVec 32 := 1#32
  let arg21 : BitVec 32 := Scf.iv c0_i32_55 c1_i32_56 k0_t17
  let c8_i32 : BitVec 32 := 8#32
  let v90 : BitVec 32 := Scalar.muli arg21 c8_i32
  let v91 : BitVec 32 := Scalar.addi v80 v90
  let v92 : BitVec 32 := v91
  let v93 : Index := Scalar.indexCast v92
  let c0_73 : Index := 0#32
  ![v93.toNat, 0]
def k0_mult51 (k0_t17 : Fin k0_t17_loop.trips) : BitVec 32 :=
  let c0_i32_55 : BitVec 32 := 0#32
  let c1_i32_56 : BitVec 32 := 1#32
  let arg21 : BitVec 32 := Scf.iv c0_i32_55 c1_i32_56 k0_t17
  let c8_i32_78 : BitVec 32 := 8#32
  let v121 : BitVec 32 := Scalar.muli arg21 c8_i32_78
  v121
def k0_off34 (k0_t17 : Fin k0_t17_loop.trips) : Fin 2 → Nat :=
  let c0_i32_55 : BitVec 32 := 0#32
  let c1_i32_56 : BitVec 32 := 1#32
  let arg21 : BitVec 32 := Scf.iv c0_i32_55 c1_i32_56 k0_t17
  let c8_i32_78 : BitVec 32 := 8#32
  let v121 : BitVec 32 := Scalar.muli arg21 c8_i32_78
  let v122 : BitVec 32 := v121
  let v123 : Index := Scalar.indexCast v122
  let c0_79 : Index := 0#32
  ![v123.toNat, 0]
@[reducible] def k0_t18_loop : Scf.Loop 32 :=
  let c0_i32_58 : BitVec 32 := 0#32
  let c10_i32 : BitVec 32 := 10#32
  let v82 : BitVec 32 := Scalar.addi c0_i32_58 c10_i32
  let c1_i32_59 : BitVec 32 := 1#32
  ⟨c0_i32_58, v82, c1_i32_59⟩
def k0_off35 (k0_t18 : Fin k0_t18_loop.trips) (c0_i32_73 : BitVec 32) : Fin 2 → Nat :=
  let c0_i32_58 : BitVec 32 := 0#32
  let c1_i32_59 : BitVec 32 := 1#32
  let arg21 : BitVec 32 := Scf.iv c0_i32_58 c1_i32_59 k0_t18
  let c4_i32 : BitVec 32 := 4#32
  let v90 : BitVec 32 := Scalar.muli arg21 c4_i32
  let v91 : BitVec 32 := Scalar.addi v90 c0_i32_73
  let v92 : Index := Scalar.indexCast v91
  let c0_74 : Index := 0#32
  ![v92.toNat, 0]
def k0_mult52 (k0_t16 : Fin k0_t16_loop.trips) (k0_t18 : Fin k0_t18_loop.trips) : BitVec 32 :=
  let c0_i32_24 : BitVec 32 := 0#32
  let c1_i32_25 : BitVec 32 := 1#32
  let arg16 : BitVec 32 := Scf.iv c0_i32_24 c1_i32_25 k0_t16
  let c1280_i32 : BitVec 32 := 1280#32
  let v77 : BitVec 32 := Scalar.muli arg16 c1280_i32
  let v78 : BitVec 32 := v77
  let c0_i32_58 : BitVec 32 := 0#32
  let c1_i32_59 : BitVec 32 := 1#32
  let arg21 : BitVec 32 := Scf.iv c0_i32_58 c1_i32_59 k0_t18
  let c128_i32 : BitVec 32 := 128#32
  let v94 : BitVec 32 := Scalar.muli arg21 c128_i32
  let v95 : BitVec 32 := Scalar.addi v78 v94
  let c0_i32_75 : BitVec 32 := 0#32
  let v96 : BitVec 32 := Scalar.addi v95 c0_i32_75
  v96
def k0_off36 (k0_t16 : Fin k0_t16_loop.trips) (k0_t18 : Fin k0_t18_loop.trips) (c0_i32_75 : BitVec 32) : Fin 2 → Nat :=
  let c0_i32_24 : BitVec 32 := 0#32
  let c1_i32_25 : BitVec 32 := 1#32
  let arg16 : BitVec 32 := Scf.iv c0_i32_24 c1_i32_25 k0_t16
  let c1280_i32 : BitVec 32 := 1280#32
  let v77 : BitVec 32 := Scalar.muli arg16 c1280_i32
  let v78 : BitVec 32 := v77
  let c0_i32_58 : BitVec 32 := 0#32
  let c1_i32_59 : BitVec 32 := 1#32
  let arg21 : BitVec 32 := Scf.iv c0_i32_58 c1_i32_59 k0_t18
  let c128_i32 : BitVec 32 := 128#32
  let v94 : BitVec 32 := Scalar.muli arg21 c128_i32
  let v95 : BitVec 32 := Scalar.addi v78 v94
  let v96 : BitVec 32 := Scalar.addi v95 c0_i32_75
  let v97 : BitVec 32 := v96
  let v98 : Index := Scalar.indexCast v97
  let c0_76 : Index := 0#32
  ![v98.toNat, 0]
def k0_mult53 (k0_t16 : Fin k0_t16_loop.trips) (k0_t18 : Fin k0_t18_loop.trips) : BitVec 32 :=
  let c0_i32_24 : BitVec 32 := 0#32
  let c1_i32_25 : BitVec 32 := 1#32
  let arg16 : BitVec 32 := Scf.iv c0_i32_24 c1_i32_25 k0_t16
  let c1280_i32 : BitVec 32 := 1280#32
  let v77 : BitVec 32 := Scalar.muli arg16 c1280_i32
  let v78 : BitVec 32 := v77
  let c0_i32_58 : BitVec 32 := 0#32
  let c1_i32_59 : BitVec 32 := 1#32
  let arg21 : BitVec 32 := Scf.iv c0_i32_58 c1_i32_59 k0_t18
  let c128_i32_82 : BitVec 32 := 128#32
  let v111 : BitVec 32 := Scalar.muli arg21 c128_i32_82
  let v112 : BitVec 32 := Scalar.addi v78 v111
  let c32_i32 : BitVec 32 := 32#32
  let v113 : BitVec 32 := Scalar.addi v112 c32_i32
  v113
def k0_mult54 (k0_t16 : Fin k0_t16_loop.trips) (k0_t18 : Fin k0_t18_loop.trips) : BitVec 32 :=
  let c0_i32_24 : BitVec 32 := 0#32
  let c1_i32_25 : BitVec 32 := 1#32
  let arg16 : BitVec 32 := Scf.iv c0_i32_24 c1_i32_25 k0_t16
  let c1280_i32 : BitVec 32 := 1280#32
  let v77 : BitVec 32 := Scalar.muli arg16 c1280_i32
  let v78 : BitVec 32 := v77
  let c0_i32_58 : BitVec 32 := 0#32
  let c1_i32_59 : BitVec 32 := 1#32
  let arg21 : BitVec 32 := Scf.iv c0_i32_58 c1_i32_59 k0_t18
  let c128_i32_89 : BitVec 32 := 128#32
  let v128 : BitVec 32 := Scalar.muli arg21 c128_i32_89
  let v129 : BitVec 32 := Scalar.addi v78 v128
  let c64_i32 : BitVec 32 := 64#32
  let v130 : BitVec 32 := Scalar.addi v129 c64_i32
  v130
def k0_mult55 (k0_t16 : Fin k0_t16_loop.trips) (k0_t18 : Fin k0_t18_loop.trips) : BitVec 32 :=
  let c0_i32_24 : BitVec 32 := 0#32
  let c1_i32_25 : BitVec 32 := 1#32
  let arg16 : BitVec 32 := Scf.iv c0_i32_24 c1_i32_25 k0_t16
  let c1280_i32 : BitVec 32 := 1280#32
  let v77 : BitVec 32 := Scalar.muli arg16 c1280_i32
  let v78 : BitVec 32 := v77
  let c0_i32_58 : BitVec 32 := 0#32
  let c1_i32_59 : BitVec 32 := 1#32
  let arg21 : BitVec 32 := Scf.iv c0_i32_58 c1_i32_59 k0_t18
  let c128_i32_95 : BitVec 32 := 128#32
  let v145 : BitVec 32 := Scalar.muli arg21 c128_i32_95
  let v146 : BitVec 32 := Scalar.addi v78 v145
  let c96_i32 : BitVec 32 := 96#32
  let v147 : BitVec 32 := Scalar.addi v146 c96_i32
  v147
def k0_mult56 (k0_t16 : Fin k0_t16_loop.trips) (k0_t18 : Fin k0_t18_loop.trips) : BitVec 32 :=
  let c0_i32_24 : BitVec 32 := 0#32
  let c1_i32_25 : BitVec 32 := 1#32
  let arg16 : BitVec 32 := Scf.iv c0_i32_24 c1_i32_25 k0_t16
  let c1280_i32 : BitVec 32 := 1280#32
  let v77 : BitVec 32 := Scalar.muli arg16 c1280_i32
  let v78 : BitVec 32 := v77
  let c0_i32_58 : BitVec 32 := 0#32
  let c1_i32_59 : BitVec 32 := 1#32
  let arg21 : BitVec 32 := Scf.iv c0_i32_58 c1_i32_59 k0_t18
  let c128_i32_99 : BitVec 32 := 128#32
  let v160 : BitVec 32 := Scalar.muli arg21 c128_i32_99
  let v161 : BitVec 32 := Scalar.addi v78 v160
  v161
def k0_off37 (k0_t16 : Fin k0_t16_loop.trips) (k0_t18 : Fin k0_t18_loop.trips) : Fin 2 → Nat :=
  let c0_100 : Index := 0#32
  let c0_i32_24 : BitVec 32 := 0#32
  let c1_i32_25 : BitVec 32 := 1#32
  let arg16 : BitVec 32 := Scf.iv c0_i32_24 c1_i32_25 k0_t16
  let c1280_i32 : BitVec 32 := 1280#32
  let v77 : BitVec 32 := Scalar.muli arg16 c1280_i32
  let v78 : BitVec 32 := v77
  let c0_i32_58 : BitVec 32 := 0#32
  let c1_i32_59 : BitVec 32 := 1#32
  let arg21 : BitVec 32 := Scf.iv c0_i32_58 c1_i32_59 k0_t18
  let c128_i32_99 : BitVec 32 := 128#32
  let v160 : BitVec 32 := Scalar.muli arg21 c128_i32_99
  let v161 : BitVec 32 := Scalar.addi v78 v160
  let v162 : BitVec 32 := v161
  let v163 : Index := Scalar.indexCast v162
  ![0, v163.toNat]
def k0_mult57 (k0_t16 : Fin k0_t16_loop.trips) : BitVec 32 :=
  let c0_i32_24 : BitVec 32 := 0#32
  let c1_i32_25 : BitVec 32 := 1#32
  let arg16 : BitVec 32 := Scf.iv c0_i32_24 c1_i32_25 k0_t16
  let c1280_i32_61 : BitVec 32 := 1280#32
  let v83 : BitVec 32 := Scalar.muli arg16 c1280_i32_61
  v83
def k0_mult58 (k0_t16 : Fin k0_t16_loop.trips) : BitVec 32 :=
  let c0_i32_24 : BitVec 32 := 0#32
  let c1_i32_25 : BitVec 32 := 1#32
  let arg16 : BitVec 32 := Scf.iv c0_i32_24 c1_i32_25 k0_t16
  let c40_i32_62 : BitVec 32 := 40#32
  let v85 : BitVec 32 := Scalar.muli arg16 c40_i32_62
  v85
@[reducible] def k0_t19_loop : Scf.Loop 32 :=
  let c0_i32_64 : BitVec 32 := 0#32
  let c40_i32_65 : BitVec 32 := 40#32
  let v87 : BitVec 32 := Scalar.addi c0_i32_64 c40_i32_65
  let c1_i32_66 : BitVec 32 := 1#32
  ⟨c0_i32_64, v87, c1_i32_66⟩
def k0_mult59 (k0_t16 : Fin k0_t16_loop.trips) (k0_t19 : Fin k0_t19_loop.trips) : BitVec 32 :=
  let c0_i32_24 : BitVec 32 := 0#32
  let c1_i32_25 : BitVec 32 := 1#32
  let arg16 : BitVec 32 := Scf.iv c0_i32_24 c1_i32_25 k0_t16
  let c1280_i32_61 : BitVec 32 := 1280#32
  let v83 : BitVec 32 := Scalar.muli arg16 c1280_i32_61
  let v84 : BitVec 32 := v83
  let c0_i32_64 : BitVec 32 := 0#32
  let c1_i32_66 : BitVec 32 := 1#32
  let arg21 : BitVec 32 := Scf.iv c0_i32_64 c1_i32_66 k0_t19
  let c32_i32 : BitVec 32 := 32#32
  let v90 : BitVec 32 := Scalar.muli arg21 c32_i32
  let v91 : BitVec 32 := Scalar.addi v84 v90
  v91
def k0_off38 (k0_t16 : Fin k0_t16_loop.trips) (k0_t19 : Fin k0_t19_loop.trips) : Fin 2 → Nat :=
  let c0_i32_24 : BitVec 32 := 0#32
  let c1_i32_25 : BitVec 32 := 1#32
  let arg16 : BitVec 32 := Scf.iv c0_i32_24 c1_i32_25 k0_t16
  let c1280_i32_61 : BitVec 32 := 1280#32
  let v83 : BitVec 32 := Scalar.muli arg16 c1280_i32_61
  let v84 : BitVec 32 := v83
  let c0_i32_64 : BitVec 32 := 0#32
  let c1_i32_66 : BitVec 32 := 1#32
  let arg21 : BitVec 32 := Scf.iv c0_i32_64 c1_i32_66 k0_t19
  let c32_i32 : BitVec 32 := 32#32
  let v90 : BitVec 32 := Scalar.muli arg21 c32_i32
  let v91 : BitVec 32 := Scalar.addi v84 v90
  let v92 : BitVec 32 := v91
  let v93 : Index := Scalar.indexCast v92
  let c0_73 : Index := 0#32
  ![v93.toNat, 0]
def k0_off39 (k0_t16 : Fin k0_t16_loop.trips) (k0_t19 : Fin k0_t19_loop.trips) (c0_i32_74 : BitVec 32) : Fin 2 → Nat :=
  let c0_i32_24 : BitVec 32 := 0#32
  let c1_i32_25 : BitVec 32 := 1#32
  let arg16 : BitVec 32 := Scf.iv c0_i32_24 c1_i32_25 k0_t16
  let c1280_i32_61 : BitVec 32 := 1280#32
  let v83 : BitVec 32 := Scalar.muli arg16 c1280_i32_61
  let v84 : BitVec 32 := v83
  let c0_i32_64 : BitVec 32 := 0#32
  let c1_i32_66 : BitVec 32 := 1#32
  let arg21 : BitVec 32 := Scf.iv c0_i32_64 c1_i32_66 k0_t19
  let c32_i32 : BitVec 32 := 32#32
  let v90 : BitVec 32 := Scalar.muli arg21 c32_i32
  let v91 : BitVec 32 := Scalar.addi v84 v90
  let v92 : BitVec 32 := v91
  let v101 : BitVec 32 := Scalar.addi v92 c0_i32_74
  let v102 : Index := Scalar.indexCast v101
  let c0_75 : Index := 0#32
  ![v102.toNat, 0]
@[reducible] def k0_t20_loop : Scf.Loop 32 :=
  let c0_i32_69 : BitVec 32 := 0#32
  let c5_i32_70 : BitVec 32 := 5#32
  let v89 : BitVec 32 := Scalar.addi c0_i32_69 c5_i32_70
  let c1_i32_71 : BitVec 32 := 1#32
  ⟨c0_i32_69, v89, c1_i32_71⟩
def k0_mult60 (k0_t16 : Fin k0_t16_loop.trips) (k0_t20 : Fin k0_t20_loop.trips) : BitVec 32 :=
  let c0_i32_24 : BitVec 32 := 0#32
  let c1_i32_25 : BitVec 32 := 1#32
  let arg16 : BitVec 32 := Scf.iv c0_i32_24 c1_i32_25 k0_t16
  let c40_i32_62 : BitVec 32 := 40#32
  let v85 : BitVec 32 := Scalar.muli arg16 c40_i32_62
  let v86 : BitVec 32 := v85
  let c0_i32_69 : BitVec 32 := 0#32
  let c1_i32_71 : BitVec 32 := 1#32
  let arg21 : BitVec 32 := Scf.iv c0_i32_69 c1_i32_71 k0_t20
  let c8_i32 : BitVec 32 := 8#32
  let v90 : BitVec 32 := Scalar.muli arg21 c8_i32
  let v91 : BitVec 32 := Scalar.addi v86 v90
  v91
def k0_off40 (k0_t16 : Fin k0_t16_loop.trips) (k0_t20 : Fin k0_t20_loop.trips) : Fin 2 → Nat :=
  let c0_i32_24 : BitVec 32 := 0#32
  let c1_i32_25 : BitVec 32 := 1#32
  let arg16 : BitVec 32 := Scf.iv c0_i32_24 c1_i32_25 k0_t16
  let c40_i32_62 : BitVec 32 := 40#32
  let v85 : BitVec 32 := Scalar.muli arg16 c40_i32_62
  let v86 : BitVec 32 := v85
  let c0_i32_69 : BitVec 32 := 0#32
  let c1_i32_71 : BitVec 32 := 1#32
  let arg21 : BitVec 32 := Scf.iv c0_i32_69 c1_i32_71 k0_t20
  let c8_i32 : BitVec 32 := 8#32
  let v90 : BitVec 32 := Scalar.muli arg21 c8_i32
  let v91 : BitVec 32 := Scalar.addi v86 v90
  let v92 : BitVec 32 := v91
  let v93 : Index := Scalar.indexCast v92
  let c0_73 : Index := 0#32
  ![v93.toNat, 0]
def k0_cond8 (i : grid0.Coords) : BitVec 1 :=
  let arg0 : BitVec 32 := BitVec.ofNat 32 (i 0).val
  let c73_i32 : BitVec 32 := 73#32
  let v25 : BitVec 1 := Scalar.cmpi .eq arg0 c73_i32
  let v26 : BitVec 32 := Scalar.extui v25
  let c0_i32_13 : BitVec 32 := 0#32
  let v27 : BitVec 1 := Scalar.cmpi .ne v26 c0_i32_13
  v27

@[reducible] def k0_t21_loop : Scf.Loop 32 :=
  let c0_i32_18 : BitVec 32 := 0#32
  let c25_i32 : BitVec 32 := 25#32
  let v36 : BitVec 32 := Scalar.addi c0_i32_18 c25_i32
  let c1_i32_19 : BitVec 32 := 1#32
  ⟨c0_i32_18, v36, c1_i32_19⟩
def k0_mult61 (k0_t21 : Fin k0_t21_loop.trips) : BitVec 32 :=
  let c0_i32_18 : BitVec 32 := 0#32
  let c1_i32_19 : BitVec 32 := 1#32
  let arg16 : BitVec 32 := Scf.iv c0_i32_18 c1_i32_19 k0_t21
  let c1280_i32 : BitVec 32 := 1280#32
  let v61 : BitVec 32 := Scalar.muli arg16 c1280_i32
  v61
def k0_mult62 (k0_t21 : Fin k0_t21_loop.trips) : BitVec 32 :=
  let c0_i32_18 : BitVec 32 := 0#32
  let c1_i32_19 : BitVec 32 := 1#32
  let arg16 : BitVec 32 := Scf.iv c0_i32_18 c1_i32_19 k0_t21
  let c40_i32 : BitVec 32 := 40#32
  let v63 : BitVec 32 := Scalar.muli arg16 c40_i32
  v63
@[reducible] def k0_t22_loop : Scf.Loop 32 :=
  let c0_i32_46 : BitVec 32 := 0#32
  let c5_i32 : BitVec 32 := 5#32
  let v65 : BitVec 32 := Scalar.addi c0_i32_46 c5_i32
  let c1_i32_47 : BitVec 32 := 1#32
  ⟨c0_i32_46, v65, c1_i32_47⟩
def k0_mult63 (k0_t21 : Fin k0_t21_loop.trips) (k0_t22 : Fin k0_t22_loop.trips) : BitVec 32 :=
  let c0_i32_18 : BitVec 32 := 0#32
  let c1_i32_19 : BitVec 32 := 1#32
  let arg16 : BitVec 32 := Scf.iv c0_i32_18 c1_i32_19 k0_t21
  let c40_i32 : BitVec 32 := 40#32
  let v63 : BitVec 32 := Scalar.muli arg16 c40_i32
  let v64 : BitVec 32 := v63
  let c0_i32_46 : BitVec 32 := 0#32
  let c1_i32_47 : BitVec 32 := 1#32
  let arg17 : BitVec 32 := Scf.iv c0_i32_46 c1_i32_47 k0_t22
  let c8_i32 : BitVec 32 := 8#32
  let v67 : BitVec 32 := Scalar.muli arg17 c8_i32
  let v68 : BitVec 32 := Scalar.addi v64 v67
  v68
def k0_off41 (k0_t21 : Fin k0_t21_loop.trips) (k0_t22 : Fin k0_t22_loop.trips) : Fin 2 → Nat :=
  let c0_i32_18 : BitVec 32 := 0#32
  let c1_i32_19 : BitVec 32 := 1#32
  let arg16 : BitVec 32 := Scf.iv c0_i32_18 c1_i32_19 k0_t21
  let c40_i32 : BitVec 32 := 40#32
  let v63 : BitVec 32 := Scalar.muli arg16 c40_i32
  let v64 : BitVec 32 := v63
  let c0_i32_46 : BitVec 32 := 0#32
  let c1_i32_47 : BitVec 32 := 1#32
  let arg17 : BitVec 32 := Scf.iv c0_i32_46 c1_i32_47 k0_t22
  let c8_i32 : BitVec 32 := 8#32
  let v67 : BitVec 32 := Scalar.muli arg17 c8_i32
  let v68 : BitVec 32 := Scalar.addi v64 v67
  let v69 : BitVec 32 := v68
  let v70 : Index := Scalar.indexCast v69
  let c0_52 : Index := 0#32
  ![v70.toNat, 0]
def k0_mult64 (k0_t22 : Fin k0_t22_loop.trips) : BitVec 32 :=
  let c0_i32_46 : BitVec 32 := 0#32
  let c1_i32_47 : BitVec 32 := 1#32
  let arg17 : BitVec 32 := Scf.iv c0_i32_46 c1_i32_47 k0_t22
  let c8_i32_57 : BitVec 32 := 8#32
  let v98 : BitVec 32 := Scalar.muli arg17 c8_i32_57
  v98
def k0_off42 (k0_t22 : Fin k0_t22_loop.trips) : Fin 2 → Nat :=
  let c0_i32_46 : BitVec 32 := 0#32
  let c1_i32_47 : BitVec 32 := 1#32
  let arg17 : BitVec 32 := Scf.iv c0_i32_46 c1_i32_47 k0_t22
  let c8_i32_57 : BitVec 32 := 8#32
  let v98 : BitVec 32 := Scalar.muli arg17 c8_i32_57
  let v99 : BitVec 32 := v98
  let v100 : Index := Scalar.indexCast v99
  let c0_58 : Index := 0#32
  ![v100.toNat, 0]
@[reducible] def k0_t23_loop : Scf.Loop 32 :=
  let c0_i32_49 : BitVec 32 := 0#32
  let c10_i32 : BitVec 32 := 10#32
  let v66 : BitVec 32 := Scalar.addi c0_i32_49 c10_i32
  let c1_i32_50 : BitVec 32 := 1#32
  ⟨c0_i32_49, v66, c1_i32_50⟩
def k0_off43 (k0_t23 : Fin k0_t23_loop.trips) (c0_i32_52 : BitVec 32) : Fin 2 → Nat :=
  let c0_i32_49 : BitVec 32 := 0#32
  let c1_i32_50 : BitVec 32 := 1#32
  let arg17 : BitVec 32 := Scf.iv c0_i32_49 c1_i32_50 k0_t23
  let c4_i32 : BitVec 32 := 4#32
  let v67 : BitVec 32 := Scalar.muli arg17 c4_i32
  let v68 : BitVec 32 := Scalar.addi v67 c0_i32_52
  let v69 : Index := Scalar.indexCast v68
  let c0_53 : Index := 0#32
  ![v69.toNat, 0]
def k0_mult65 (k0_t21 : Fin k0_t21_loop.trips) (k0_t23 : Fin k0_t23_loop.trips) : BitVec 32 :=
  let c0_i32_18 : BitVec 32 := 0#32
  let c1_i32_19 : BitVec 32 := 1#32
  let arg16 : BitVec 32 := Scf.iv c0_i32_18 c1_i32_19 k0_t21
  let c1280_i32 : BitVec 32 := 1280#32
  let v61 : BitVec 32 := Scalar.muli arg16 c1280_i32
  let v62 : BitVec 32 := v61
  let c0_i32_49 : BitVec 32 := 0#32
  let c1_i32_50 : BitVec 32 := 1#32
  let arg17 : BitVec 32 := Scf.iv c0_i32_49 c1_i32_50 k0_t23
  let c128_i32 : BitVec 32 := 128#32
  let v71 : BitVec 32 := Scalar.muli arg17 c128_i32
  let v72 : BitVec 32 := Scalar.addi v62 v71
  let c0_i32_54 : BitVec 32 := 0#32
  let v73 : BitVec 32 := Scalar.addi v72 c0_i32_54
  v73
def k0_off44 (k0_t21 : Fin k0_t21_loop.trips) (k0_t23 : Fin k0_t23_loop.trips) (c0_i32_54 : BitVec 32) : Fin 2 → Nat :=
  let c0_i32_18 : BitVec 32 := 0#32
  let c1_i32_19 : BitVec 32 := 1#32
  let arg16 : BitVec 32 := Scf.iv c0_i32_18 c1_i32_19 k0_t21
  let c1280_i32 : BitVec 32 := 1280#32
  let v61 : BitVec 32 := Scalar.muli arg16 c1280_i32
  let v62 : BitVec 32 := v61
  let c0_i32_49 : BitVec 32 := 0#32
  let c1_i32_50 : BitVec 32 := 1#32
  let arg17 : BitVec 32 := Scf.iv c0_i32_49 c1_i32_50 k0_t23
  let c128_i32 : BitVec 32 := 128#32
  let v71 : BitVec 32 := Scalar.muli arg17 c128_i32
  let v72 : BitVec 32 := Scalar.addi v62 v71
  let v73 : BitVec 32 := Scalar.addi v72 c0_i32_54
  let v74 : BitVec 32 := v73
  let v75 : Index := Scalar.indexCast v74
  let c0_55 : Index := 0#32
  ![v75.toNat, 0]
def k0_mult66 (k0_t21 : Fin k0_t21_loop.trips) (k0_t23 : Fin k0_t23_loop.trips) : BitVec 32 :=
  let c0_i32_18 : BitVec 32 := 0#32
  let c1_i32_19 : BitVec 32 := 1#32
  let arg16 : BitVec 32 := Scf.iv c0_i32_18 c1_i32_19 k0_t21
  let c1280_i32 : BitVec 32 := 1280#32
  let v61 : BitVec 32 := Scalar.muli arg16 c1280_i32
  let v62 : BitVec 32 := v61
  let c0_i32_49 : BitVec 32 := 0#32
  let c1_i32_50 : BitVec 32 := 1#32
  let arg17 : BitVec 32 := Scf.iv c0_i32_49 c1_i32_50 k0_t23
  let c128_i32_61 : BitVec 32 := 128#32
  let v88 : BitVec 32 := Scalar.muli arg17 c128_i32_61
  let v89 : BitVec 32 := Scalar.addi v62 v88
  let c32_i32 : BitVec 32 := 32#32
  let v90 : BitVec 32 := Scalar.addi v89 c32_i32
  v90
def k0_mult67 (k0_t21 : Fin k0_t21_loop.trips) (k0_t23 : Fin k0_t23_loop.trips) : BitVec 32 :=
  let c0_i32_18 : BitVec 32 := 0#32
  let c1_i32_19 : BitVec 32 := 1#32
  let arg16 : BitVec 32 := Scf.iv c0_i32_18 c1_i32_19 k0_t21
  let c1280_i32 : BitVec 32 := 1280#32
  let v61 : BitVec 32 := Scalar.muli arg16 c1280_i32
  let v62 : BitVec 32 := v61
  let c0_i32_49 : BitVec 32 := 0#32
  let c1_i32_50 : BitVec 32 := 1#32
  let arg17 : BitVec 32 := Scf.iv c0_i32_49 c1_i32_50 k0_t23
  let c128_i32_68 : BitVec 32 := 128#32
  let v105 : BitVec 32 := Scalar.muli arg17 c128_i32_68
  let v106 : BitVec 32 := Scalar.addi v62 v105
  let c64_i32 : BitVec 32 := 64#32
  let v107 : BitVec 32 := Scalar.addi v106 c64_i32
  v107
def k0_mult68 (k0_t21 : Fin k0_t21_loop.trips) (k0_t23 : Fin k0_t23_loop.trips) : BitVec 32 :=
  let c0_i32_18 : BitVec 32 := 0#32
  let c1_i32_19 : BitVec 32 := 1#32
  let arg16 : BitVec 32 := Scf.iv c0_i32_18 c1_i32_19 k0_t21
  let c1280_i32 : BitVec 32 := 1280#32
  let v61 : BitVec 32 := Scalar.muli arg16 c1280_i32
  let v62 : BitVec 32 := v61
  let c0_i32_49 : BitVec 32 := 0#32
  let c1_i32_50 : BitVec 32 := 1#32
  let arg17 : BitVec 32 := Scf.iv c0_i32_49 c1_i32_50 k0_t23
  let c128_i32_74 : BitVec 32 := 128#32
  let v122 : BitVec 32 := Scalar.muli arg17 c128_i32_74
  let v123 : BitVec 32 := Scalar.addi v62 v122
  let c96_i32 : BitVec 32 := 96#32
  let v124 : BitVec 32 := Scalar.addi v123 c96_i32
  v124
def k0_mult69 (k0_t21 : Fin k0_t21_loop.trips) (k0_t23 : Fin k0_t23_loop.trips) : BitVec 32 :=
  let c0_i32_18 : BitVec 32 := 0#32
  let c1_i32_19 : BitVec 32 := 1#32
  let arg16 : BitVec 32 := Scf.iv c0_i32_18 c1_i32_19 k0_t21
  let c1280_i32 : BitVec 32 := 1280#32
  let v61 : BitVec 32 := Scalar.muli arg16 c1280_i32
  let v62 : BitVec 32 := v61
  let c0_i32_49 : BitVec 32 := 0#32
  let c1_i32_50 : BitVec 32 := 1#32
  let arg17 : BitVec 32 := Scf.iv c0_i32_49 c1_i32_50 k0_t23
  let c128_i32_78 : BitVec 32 := 128#32
  let v137 : BitVec 32 := Scalar.muli arg17 c128_i32_78
  let v138 : BitVec 32 := Scalar.addi v62 v137
  v138
def k0_off45 (k0_t21 : Fin k0_t21_loop.trips) (k0_t23 : Fin k0_t23_loop.trips) : Fin 2 → Nat :=
  let c0_79 : Index := 0#32
  let c0_i32_18 : BitVec 32 := 0#32
  let c1_i32_19 : BitVec 32 := 1#32
  let arg16 : BitVec 32 := Scf.iv c0_i32_18 c1_i32_19 k0_t21
  let c1280_i32 : BitVec 32 := 1280#32
  let v61 : BitVec 32 := Scalar.muli arg16 c1280_i32
  let v62 : BitVec 32 := v61
  let c0_i32_49 : BitVec 32 := 0#32
  let c1_i32_50 : BitVec 32 := 1#32
  let arg17 : BitVec 32 := Scf.iv c0_i32_49 c1_i32_50 k0_t23
  let c128_i32_78 : BitVec 32 := 128#32
  let v137 : BitVec 32 := Scalar.muli arg17 c128_i32_78
  let v138 : BitVec 32 := Scalar.addi v62 v137
  let v139 : BitVec 32 := v138
  let v140 : Index := Scalar.indexCast v139
  ![0, v140.toNat]
def cc0_transform_1 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c71_i32 : BitVec 32 := 71#32
  let v1 : BitVec 32 := Scalar.maxsi c0_i32 v0
  let v2 : BitVec 32 := Scalar.minsi c71_i32 v1
  let c0_i32_0 : BitVec 32 := 0#32
  let c0_i32_1 : BitVec 32 := 0#32
  let c0_i32_2 : BitVec 32 := 0#32
  ![v2.toNat, c0_i32_0.toNat, c0_i32_1.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c71_i32 : BitVec 32 := 71#32
  let v1 : BitVec 32 := Scalar.maxsi c0_i32 v0
  let v2 : BitVec 32 := Scalar.minsi c71_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c71_i32 : BitVec 32 := 71#32
  let v1 : BitVec 32 := Scalar.maxsi c0_i32 v0
  let v2 : BitVec 32 := Scalar.minsi c71_i32 v1
  let c0_i32_0 : BitVec 32 := 0#32
  let c0_i32_1 : BitVec 32 := 0#32
  ![v2.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32000 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S6x1536x32000 : Shape := ⟨3, ![6, 1536, 32000]⟩
abbrev S9216x32000 : Shape := ⟨2, ![9216, 32000]⟩
abbrev S_ : Shape := ⟨0, ![]⟩
abbrev S9216 : Shape := ⟨1, ![9216]⟩
abbrev S9216x1 : Shape := ⟨2, ![9216, 1]⟩
abbrev S9216x1000x32 : Shape := ⟨3, ![9216, 1000, 32]⟩
abbrev S9216x1000 : Shape := ⟨2, ![9216, 1000]⟩
abbrev S9216x1000x1 : Shape := ⟨3, ![9216, 1000, 1]⟩
abbrev S72x1x128 : Shape := ⟨3, ![72, 1, 128]⟩

abbrev nBuf : Space → Nat
  | .hbm => 55
  | .vmem => 0
  | .smem => 0
  | _ => 0

abbrev bufTy : (tb : Table) → Fin (tcTables nBuf tb) → BufTy
  | .hbm, ⟨0, _⟩ => ⟨S6x1536x32000, .bf16⟩
  | .hbm, ⟨1, _⟩ => ⟨S9216x32000, .bf16⟩
  | .hbm, ⟨2, _⟩ => ⟨S9216x32000, .f32⟩
  | .hbm, ⟨3, _⟩ => ⟨S_, .f32⟩
  | .hbm, ⟨4, _⟩ => ⟨S9216x32000, .f32⟩
  | .hbm, ⟨5, _⟩ => ⟨S9216x32000, .f32⟩
  | .hbm, ⟨6, _⟩ => ⟨S_, .f32⟩
  | .hbm, ⟨7, _⟩ => ⟨S9216, .f32⟩
  | .hbm, ⟨8, _⟩ => ⟨S9216x1, .f32⟩
  | .hbm, ⟨9, _⟩ => ⟨S9216x32000, .f32⟩
  | .hbm, ⟨10, _⟩ => ⟨S9216x32000, .f32⟩
  | .hbm, ⟨11, _⟩ => ⟨S9216x32000, .f32⟩
  | .hbm, ⟨12, _⟩ => ⟨S_, .f32⟩
  | .hbm, ⟨13, _⟩ => ⟨S9216, .f32⟩
  | .hbm, ⟨14, _⟩ => ⟨S9216x1, .f32⟩
  | .hbm, ⟨15, _⟩ => ⟨S9216x1, .f32⟩
  | .hbm, ⟨16, _⟩ => ⟨S9216x32000, .f32⟩
  | .hbm, ⟨17, _⟩ => ⟨S9216x32000, .f32⟩
  | .hbm, ⟨18, _⟩ => ⟨S9216x1000x32, .f32⟩
  | .hbm, ⟨19, _⟩ => ⟨S_, .f32⟩
  | .hbm, ⟨20, _⟩ => ⟨S9216x1000, .f32⟩
  | .hbm, ⟨21, _⟩ => ⟨S_, .f32⟩
  | .hbm, ⟨22, _⟩ => ⟨S9216x1000, .f32⟩
  | .hbm, ⟨23, _⟩ => ⟨S9216x1000, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S9216x1000, .f32⟩
  | .hbm, ⟨28, _⟩ => ⟨S9216x1000, .f32⟩
  | .hbm, ⟨29, _⟩ => ⟨S9216x1000, .f32⟩
  | .hbm, ⟨30, _⟩ => ⟨S9216x1000, .f32⟩
  | .hbm, ⟨31, _⟩ => ⟨S9216x1000, .f32⟩
  | .hbm, ⟨32, _⟩ => ⟨S9216x1000, .f32⟩
  | .hbm, ⟨33, _⟩ => ⟨S_, .f32⟩
  | .hbm, ⟨34, _⟩ => ⟨S9216x1000, .f32⟩
  | .hbm, ⟨35, _⟩ => ⟨S9216x1000, .f32⟩
  | .hbm, ⟨36, _⟩ => ⟨S9216x1000, .f32⟩
  | .hbm, ⟨37, _⟩ => ⟨S9216x1000, .f32⟩
  | .hbm, ⟨38, _⟩ => ⟨S9216x1000, .f32⟩
  | .hbm, ⟨39, _⟩ => ⟨S9216x1000, .f32⟩
  | .hbm, ⟨40, _⟩ => ⟨S9216x1000, .f32⟩
  | .hbm, ⟨41, _⟩ => ⟨S9216x1000, .f32⟩
  | .hbm, ⟨42, _⟩ => ⟨S9216x1000, .f32⟩
  | .hbm, ⟨43, _⟩ => ⟨S9216x1000x1, .f32⟩
  | .hbm, ⟨44, _⟩ => ⟨S9216x1000x32, .f32⟩
  | .hbm, ⟨45, _⟩ => ⟨S9216x1000x32, .f32⟩
  | .hbm, ⟨46, _⟩ => ⟨S_, .f32⟩
  | .hbm, ⟨47, _⟩ => ⟨S9216x1000x32, .f32⟩
  | .hbm, ⟨48, _⟩ => ⟨S9216x1000x32, .f32⟩
  | .hbm, ⟨49, _⟩ => ⟨S_, .f32⟩
  | .hbm, ⟨50, _⟩ => ⟨S9216x1000x32, .f32⟩
  | .hbm, ⟨51, _⟩ => ⟨S9216x1000x32, .f32⟩
  | .hbm, ⟨52, _⟩ => ⟨S9216x1000x32, .fp8e4m3⟩
  | .hbm, ⟨53, _⟩ => ⟨S9216x32000, .fp8e4m3⟩
  | .hbm, ⟨54, _⟩ => ⟨S72x1x128, .f32⟩
  | _, _ => ⟨S6x1536x32000, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_6 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_7 : Ref sig .tc := ⟨.hbm, 46, rfl⟩
abbrev main_v37 : Ref sig .tc := ⟨.hbm, 47, rfl⟩
abbrev main_v38 : Ref sig .tc := ⟨.hbm, 48, rfl⟩
abbrev main_cst_8 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Proof.KernelRing.lean ====
/- The scratch buffers, the branch conditions over the grid and the two-slot ring that streams the input's row blocks
   through `cc0_scratch0`, stated once for the runs of the body. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384
set_option synthInstance.maxSize 4096

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- `main` up to the region, over the algebra with the transfers' counters. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The body's branch conditions over the points -/

theorem hc1 : ∀ t : Fin cfg0.N, k0_cond1 (grid0.coords t) = 1#1 ↔ t.val = 0 :=
  (by decide +kernel : ∀ t : Fin grid0.N, k0_cond1 (grid0.coords t) = 1#1 ↔ t.val = 0)
theorem hc2 : ∀ t : Fin cfg0.N, k0_cond2 (grid0.coords t) = 1#1 ↔ t.val < 72 :=
  (by decide +kernel : ∀ t : Fin grid0.N, k0_cond2 (grid0.coords t) = 1#1 ↔ t.val < 72)
theorem hc3 : ∀ t : Fin cfg0.N, k0_cond3 (grid0.coords t) = 1#1 ↔ t.val < 71 :=
  (by decide +kernel : ∀ t : Fin grid0.N, k0_cond3 (grid0.coords t) = 1#1 ↔ t.val < 71)
theorem hc4 : ∀ t : Fin cfg0.N, k0_cond4 (grid0.coords t) = 1#1 ↔ t.val = 0 :=
  (by decide +kernel : ∀ t : Fin grid0.N, k0_cond4 (grid0.coords t) = 1#1 ↔ t.val = 0)
theorem hc5 : ∀ t : Fin cfg0.N, k0_cond5 (grid0.coords t) = 1#1 ↔ t.val = 1 :=
  (by decide +kernel : ∀ t : Fin grid0.N, k0_cond5 (grid0.coords t) = 1#1 ↔ t.val = 1)
theorem hc6 : ∀ t : Fin cfg0.N, k0_cond6 (grid0.coords t) = 1#1 ↔ 2 ≤ t.val ∧ t.val < 72 :=
  (by decide +kernel : ∀ t : Fin grid0.N, k0_cond6 (grid0.coords t) = 1#1 ↔ 2 ≤ t.val ∧ t.val < 72)
theorem hc7 : ∀ t : Fin cfg0.N, k0_cond7 (grid0.coords t) = 1#1 ↔ t.val = 72 :=
  (by decide +kernel : ∀ t : Fin grid0.N, k0_cond7 (grid0.coords t) = 1#1 ↔ t.val = 72)
theorem hc8 : ∀ t : Fin cfg0.N, k0_cond8 (grid0.coords t) = 1#1 ↔ t.val = 73 :=
  (by decide +kernel : ∀ t : Fin grid0.N, k0_cond8 (grid0.coords t) = 1#1 ↔ t.val = 73)

/-! ## The staging and scratch memrefs -/

/-- Each window's current staging memref at point `t`, spelled as the pipeline passes it (`bodyAt0`), and its wholeness. -/
abbrev ms0_0 (t : Fin cfg0.N) : Memref sig .tc .vmem S1x1x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x32000 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1000 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S2x128x32000 .bf16 := Memref.whole cc0_scratch0
abbrev scM0_1 : Memref sig .tc .vmem S32000x128 .bf16 := Memref.whole cc0_scratch1
abbrev scM0_2 : Memref sig .tc .vmem S32000x128 .f32 := Memref.whole cc0_scratch2
abbrev scM0_3 : Memref sig .tc .vmem S1000x128 .f32 := Memref.whole cc0_scratch3
abbrev scM0_4 : Memref sig .tc .vmem S1000x128 .f32 := Memref.whole cc0_scratch4
abbrev scM0_5 : Memref sig .tc .vmem S1000x128 .f32 := Memref.whole cc0_scratch5
abbrev scM0_6 : Memref sig .tc .vmem S320x128 .i32 := Memref.whole cc0_scratch6
abbrev scM0_7 : Memref sig .tc .vmem S40x128 .f32 := Memref.whole cc0_scratch7
abbrev scM0_8 : Memref sig .tc .vmem S8x128 .f32 := Memref.whole cc0_scratch8
abbrev scM0_9 : Memref sig .tc .vmem S8x128 .f32 := Memref.whole cc0_scratch9
/-- The operands left in HBM that the body copies into scratch itself, whole. -/
abbrev hbM0_0 : Memref sig .tc .hbm S9216x32000 .bf16 := Memref.whole main_v0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 6, SemLoc.dma 7] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0) := by
  rw [Pipeline.ownSems0_eq_of_list c osem0 [0, 1] (by decide) (by decide)]; rfl
/-- The HBM operands the body moves, as references: unscoped, no window's array (`Pipeline.restRefs`). -/
def H0 : Finset (Ref sig .tc) := {main_v0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0)) := by
  rw [BI.bigSep_eq_bigSepL_of_eq [main_v0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r) ∗ iprop(semVal ((c : Thread nD τ), SemLoc.dma 6) 0 ∗ semVal ((c : Thread nD τ), SemLoc.dma 7) 0) ∗ iprop(hbPt0 c hbM0_0 (V m c main_v0))) := by
  rw [Pipeline.ΦD_eq, scopedRest0_eq, ownSems00_eq, hbmPts0_eq]; simp only [scM0_0, scM0_1, scM0_2, scM0_3, scM0_4, scM0_5, scM0_6, scM0_7, scM0_8, scM0_9, owns_whole]; try rfl

/-! ## Ring 0 of kernel 0: `main_v0` streamed through the 2 slots of `cc0_scratch0` on the cells of `cc0_scratch10`, 1 block ahead, in 72 steps -/

theorem inb_slot (s : Fin 2) : ∀ a, (![s.val, 0, 0] : Fin 3 → Nat) a + S1x128x32000.size a ≤ S2x128x32000.size a := by
  have := s.isLt; intro a; fin_cases a <;> simp <;> omega
theorem inb_src (b : Fin 72) : ∀ a, (![128 * b.val, 0] : Fin 2 → Nat) a + S128x32000.size a ≤ S9216x32000.size a := by
  have := b.isLt; intro a; fin_cases a <;> simp <;> omega
theorem inb_cell (s : Fin 2) : ∀ a, (![s.val] : Fin 1 → Nat) a + S1.size a ≤ S2.size a := by
  have := s.isLt; intro a; fin_cases a <;> simp <;> omega
/-- Slot `s` of the ring, spelt as the body's transfers spell their destination, at offsets in `s`. -/
def rslot (s : Fin 2) : Memref sig .tc .vmem S128x32000 .bf16 :=
  (scM0_0.slice (Rect.unit (s := S2x128x32000) ![s.val, 0, 0] S1x128x32000.size (inb_slot s)) (fun _ => rfl)).squeeze S128x32000 squeezes_S1x128x32000_S128x32000
/-- Block `b` of the operand (the block step `b` waits), spelt as the transfers spell their source, at offsets in `b`. -/
def srcB (b : Fin 72) : Memref sig .tc .hbm S128x32000 .bf16 :=
  hbM0_0.slice (Rect.unit (s := S9216x32000) ![128 * b.val, 0] S128x32000.size (inb_src b)) (fun _ => rfl)
/-- Cell `s` of `cc0_scratch10`, spelt as the body spells a cell; its number in the pool. -/
def cellA (s : Fin 2) : DmaSems sig S_ := (cc0_scratch10.slice (Rect.unit (s := S2) ![s.val] S1.size (inb_cell s))).squeeze S_ squeezes_S1_S_
abbrev cellR (s : Fin 2) : SemLoc sig := SemLoc.dma (cellA s).sem
theorem cellR_0 : cellR 0 = SemLoc.dma 6 := by decide
theorem cellR_1 : cellR 1 = SemLoc.dma 7 := by decide

section Ring
variable (c : Dev nD) (W : HbBuf0 (F := F) c hbM0_0)
/-- The operand is lent BY SHARE, one read-share copy of it per slot (the left and right halves of the full share): whatever
    blocks two transfers in flight stream — the same one twice, two that overlap —, each borrows from its own slot's copy. -/
abbrev qs (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP (s : Fin 2) (f : HbBuf0 (F := F) c (rslot s)) : sProp 𝕄 := (rslot s).view.loc (c : Thread nD τ) ↦[(rslot s).view.set]{fullShare} f
abbrev cellP (s : Fin 2) : sProp 𝕄 := semVal ((c : Thread nD τ), cellR s) 0
abbrev srcP (s : Fin 2) (b : Fin 72) : sProp 𝕄 := (srcB b).view.loc (c : Thread nD τ) ↦[(srcB b).view.set]{qs s} W
/-- (a `def`: no run reads this rest, and folded it stays out of the executor's table of held buffers) -/
def restP (s : Fin 2) (b : Fin 72) : sProp 𝕄 := ((c : Thread nD τ).loc main_v0) ↦[Finset.univ \ (srcB b).view.set]{qs s} W
abbrev wholeP (s : Fin 2) : sProp 𝕄 := ((c : Thread nD τ).loc main_v0) ↦[Finset.univ]{qs s} W
abbrev landed (s : Fin 2) (b : Fin 72) (f : HbBuf0 (F := F) c (rslot s)) : HbBuf0 (F := F) c (rslot s) :=
  (rslot s).view.writes (Elt F) f [⟨Rect.whole S128x32000, ReadAs.same.apply ((srcB b).view.read (Elt F) W)⟩]
abbrev flightP (s : Fin 2) (b : Fin 72) (f : HbBuf0 (F := F) c (rslot s)) : sProp 𝕄 :=
  Transfers.Flight countersEmb (c : Thread nD τ) (cellR s) default ((rslot s).view.amount (cellR s))
    iprop(slotP c s (landed c W s b f) ∗ srcP c W s b)
/-- Lib/Ring.lean's `slot` and `flight` families: a slot not in flight carries its copy of the operand whole; a flight, the
    rest of the copy it borrowed from. No block is held apart: the `home` family is `emp`. -/
abbrev slotW (s : Fin 2) (f : HbBuf0 (F := F) c (rslot s)) : sProp 𝕄 := iprop(slotP c s f ∗ wholeP c W s)
abbrev flightW (s : Fin 2) (b : Fin 72) (f : HbBuf0 (F := F) c (rslot s)) : sProp 𝕄 := iprop(flightP c W s b f ∗ restP c W s b)
abbrev noHome (b : Fin 72) : sProp 𝕄 := iprop(emp)
/-- The ring before its step `k` (Lib/Ring.lean `AtK`): every slot free before the first; from then on block `k` in flight
    into slot `k`, slot `k + 1` KEEPING block `k - 1` (landed, readable) until the step starts block `k + 1` over it. -/
def ringAt (k : ℕ) : sProp 𝕄 :=
  if k = 0 then Ring.At₀ (cellP c) (slotW c W) noHome
  else Ring.AtK 1 (cellP c) (slotW c W) noHome (flightW c W) (landed c W) k
omit [BitOps F] in
theorem cellP_0 : cellP (F := F) c 0 = semVal ((c : Thread nD τ), SemLoc.dma 6) 0 := congrArg (fun x => (semVal ((c : Thread nD τ), x) 0 : sProp 𝕄)) cellR_0
omit [BitOps F] in
theorem cellP_1 : cellP (F := F) c 1 = semVal ((c : Thread nD τ), SemLoc.dma 7) 0 := congrArg (fun x => (semVal ((c : Thread nD τ), x) 0 : sProp 𝕄)) cellR_1
end Ring

/-! ### The slots, disjoint and covering the scratch (Lib/Ring.lean `lead_disjoint` / `lead_cover`) -/

abbrev slotSet (s : Fin 2) : Finset S2x128x32000.Idx := (Rect.unit (s := S2x128x32000) ![s.val, 0, 0] S1x128x32000.size (inb_slot s)).set
theorem slotSet_eq (s : Fin 2) : (rslot s).view.set = slotSet s := by
  simp only [rslot, Memref.view_squeeze, View.set_reshape]; exact View.set_slice_whole _ _
theorem slots_disjoint (s s' : Fin 2) (h : s ≠ s') : Disjoint (slotSet s) (slotSet s') :=
  Ring.lead_disjoint (s := S2x128x32000) (0 : Fin 3) 1 (fun s : Fin 2 => (![s.val, 0, 0] : Fin 3 → Nat)) S1x128x32000.size inb_slot (fun s => by simp) rfl s s' h
theorem slots_cover : Finset.univ.biUnion slotSet = Finset.univ :=
  Ring.lead_cover (s := S2x128x32000) (0 : Fin 3) 1 (fun s : Fin 2 => (![s.val, 0, 0] : Fin 3 → Nat)) S1x128x32000.size inb_slot (fun s => by simp)
    (fun s a ha => by fin_cases a <;> first | exact absurd rfl ha | rfl) rfl (fun a ha => by fin_cases a <;> first | exact absurd rfl ha | rfl) rfl

/-! ### What the launch hands the ring, and takes back -/

section InOut
variable (c : Dev nD) (W : HbBuf0 (F := F) c hbM0_0)
theorem slotP_eq (s : Fin 2) (f) : slotP (F := F) c s f = (((c : Thread nD τ).loc cc0_scratch0) ↦[slotSet s]{fullShare} f : sProp 𝕄) := by
  unfold slotP; rw [slotSet_eq]; rfl
/-- A slot's copy of the operand, whole, is block `b`'s elements and the rest (any `b`: what a run splits off before its step
    starts block `b`, and joins back once the wait returned it); -/
theorem src_split (s : Fin 2) (b : Fin 72) : wholeP (F := F) c W s ⊣⊢ iprop(srcP c W s b ∗ restP c W s b) := by
  unfold restP; exact pointsTo_split_subset (Finset.subset_univ _)
/-- the operand whole at the full share is the two copies. -/
theorem whole_split : (hbPt0 c hbM0_0 W : sProp 𝕄) ⊣⊢ iprop(wholeP c W 0 ∗ wholeP c W 1) :=
  pointsTo_share (PosShare.mem_left_op_right fullShare)
set_option maxHeartbeats 1000000 in
/-- the scratch whole at anything is its slots at something each, and back. -/
theorem slots_in : iprop(∃ d, owns (c : Thread nD τ) scM0_0 fullShare d) ⊢ (iprop((∃ f, slotP (F := F) c 0 f) ∗ ∃ f, slotP (F := F) c 1 f) : sProp 𝕄) := by
  simp only [scM0_0, owns_whole]
  exact Ring.slots2_split (U := Pipeline.UD sig nD τ) (ℓ := (c : Thread nD τ).loc cc0_scratch0) (q := fullShare) slotSet slots_disjoint slots_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄) ⊢ iprop(∃ d, owns (c : Thread nD τ) scM0_0 fullShare d) := by
  simp only [scM0_0, owns_whole]
  exact Ring.slots2_join (U := Pipeline.UD sig nD τ) (ℓ := (c : Thread nD τ).loc cc0_scratch0) (q := fullShare) slotSet slots_disjoint slots_cover
    (slotP c 0) (slotP c 1) (slotP_eq c 0) (slotP_eq c 1)
end InOut

/-- INTO THE RING: the launch's pieces — the scratch whole, the cells at zero, the operand whole — are the ring before its first step; -/
theorem ring_in (c : Dev nD) :
    iprop((∃ d, owns (c : Thread nD τ) scM0_0 fullShare d) ∗ (semVal ((c : Thread nD τ), SemLoc.dma 6) 0 ∗ semVal ((c : Thread nD τ), SemLoc.dma 7) 0) ∗ hbPt0 c hbM0_0 (V m c main_v0))
      ⊢ ringAt c (V m c main_v0) 0 := by
  unfold ringAt; rw [if_pos rfl]; unfold Ring.At₀
  rw [Ring.bigSep_fin2]
  simp only [Ring.free, cellP_0, cellP_1]
  iintro ⟨HS, Hc, HW⟩
  iapply Ring.with_homes₀
  icases Hc with ⟨H0, H1⟩
  ihave HS' := (slots_in (F := F) c) $$ HS
  icases HS' with ⟨⟨%d0, HS0⟩, ⟨%d1, HS1⟩⟩
  ihave HW' := (whole_split (F := F) c (V m c main_v0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring_out (c : Dev nD) :
    ringAt c (V m c main_v0) 72
      ⊢ iprop((∃ d, owns (c : Thread nD τ) scM0_0 fullShare d) ∗ (semVal ((c : Thread nD τ), SemLoc.dma 6) 0 ∗ semVal ((c : Thread nD τ), SemLoc.dma 7) 0) ∗ hbPt0 c hbM0_0 (V m c main_v0)) := by
  unfold ringAt; rw [if_neg (by decide)]
  iintro H
  ihave H' := (Ring.free2_of_AtK_last _ _ _ _ _) $$ H
  simp only [Ring.free, cellP_0, cellP_1]
  icases H' with ⟨-, ⟨H0, ⟨%f0, HS0, HW0⟩⟩, ⟨H1, ⟨%f1, HS1, HW1⟩⟩⟩
  isplitl [HS0 HS1]
  · iapply (slots_out (F := F) c); isplitl [HS0]; · iexists f0; iexact HS0
    iexists f1; iexact HS1
  isplitl [H0 H1]
  · isplitl [H0]; · iexact H0
    iexact H1
  · iapply (whole_split (F := F) c (V m c main_v0)).2; isplitl [HW0]; · iexact HW0
    iexact HW1

/-! ### The transfers' operands at a point, in the ring's spelling -/

section Canon
omit [BitOps F]
theorem cell_first : ∀ t : Fin grid0.N, k0_cond1 (grid0.coords t) = 1#1 → (![0] : Fin 1 → Nat) = ![(Ring.sl 2 t.val).val] := by decide +kernel
theorem slot_first : ∀ t : Fin grid0.N, k0_cond1 (grid0.coords t) = 1#1 → (![0, 0, 0] : Fin 3 → Nat) = ![(Ring.sl 2 t.val).val, 0, 0] := by decide +kernel
theorem src_first : ∀ t : Fin grid0.N, k0_cond1 (grid0.coords t) = 1#1 → (![0, 0] : Fin 2 → Nat) = ![128 * (Ring.bk 72 t.val).val, 0] := by decide +kernel
theorem off1_eq : ∀ t : Fin grid0.N, k0_off1 (grid0.coords t) = ![(Ring.sl 2 t.val).val] := by decide +kernel
theorem off2_eq : ∀ t : Fin grid0.N, k0_off2 (grid0.coords t) = ![(Ring.sl 2 t.val).val, 0, 0] := by decide +kernel
theorem off4_eq : ∀ t : Fin grid0.N, k0_off4 (grid0.coords t) = ![(Ring.sl 2 (t.val + 1)).val] := by decide +kernel
theorem off5_eq : ∀ t : Fin grid0.N, k0_off5 (grid0.coords t) = ![(Ring.sl 2 (t.val + 1)).val, 0, 0] := by decide +kernel
theorem off6_eq : ∀ t : Fin grid0.N, k0_cond3 (grid0.coords t) = 1#1 → k0_off6 (grid0.coords t) = ![128 * (Ring.bk 72 (t.val + 1)).val, 0] := by decide +kernel

/-- The first copy's slot. -/
@[sl_canon] theorem canon_slot_first (t : Fin grid0.N) (h : k0_cond1 (grid0.coords t) = 1#1) :
    (scM0_0.slice (Rect.unit (s := S2x128x32000) ![0, 0, 0] S1x128x32000.size inb_S2x128x32000_S1x128x32000_0_0_0) (fun _ => rfl)).squeeze S128x32000 squeezes_S1x128x32000_S128x32000 = rslot (Ring.sl 2 t.val) :=
  congrArg (fun M : Memref sig .tc .vmem S1x128x32000 .bf16 => M.squeeze S128x32000 squeezes_S1x128x32000_S128x32000) (Memref.slice_unit_congr _ (slot_first t h) _ _ (fun _ => rfl) (fun _ => rfl))
/-- The first copy's cell. -/
@[sl_canon] theorem canon_cell_first (t : Fin grid0.N) (h : k0_cond1 (grid0.coords t) = 1#1) :
    (cc0_scratch10.slice (Rect.unit (s := S2) ![0] S1.size inb_S2_S1_0)).squeeze S_ squeezes_S1_S_ = cellA (Ring.sl 2 t.val) :=
  congrArg (fun A : DmaSems sig S1 => A.squeeze S_ squeezes_S1_S_) (SemArray.slice_unit_congr _ (cell_first t h) _ _)
/-- The first copy's block. -/
@[sl_canon] theorem canon_src_first (t : Fin grid0.N) (h : k0_cond1 (grid0.coords t) = 1#1) :
    hbM0_0.slice (Rect.unit (s := S9216x32000) ![0, 0] S128x32000.size inb_S9216x32000_S128x32000_0_0) (fun _ => rfl) = srcB (Ring.bk 72 t.val) :=
  congrArg (fun M : Memref sig .tc .hbm S128x32000 .bf16 => M) (Memref.slice_unit_congr _ (src_first t h) _ _ (fun _ => rfl) (fun _ => rfl))
/-- The awaited slot. -/
@[sl_canon] theorem canon_slot_wait (t : Fin grid0.N) (h : k0_cond2 (grid0.coords t) = 1#1) :
    (scM0_0.slice (Rect.unit (s := S2x128x32000) (k0_off2 (grid0.coords t)) S1x128x32000.size (k0_off2_inb (grid0.coords t) h)) (fun _ => rfl)).squeeze S128x32000 squeezes_S1x128x32000_S128x32000 = rslot (Ring.sl 2 t.val) :=
  congrArg (fun M : Memref sig .tc .vmem S1x128x32000 .bf16 => M.squeeze S128x32000 squeezes_S1x128x32000_S128x32000) (Memref.slice_unit_congr _ (off2_eq t) _ _ (fun _ => rfl) (fun _ => rfl))
/-- The awaited cell. -/
@[sl_canon] theorem canon_cell_wait (t : Fin grid0.N) (h : k0_cond2 (grid0.coords t) = 1#1) :
    (cc0_scratch10.slice (Rect.unit (s := S2) (k0_off1 (grid0.coords t)) S1.size (k0_off1_inb (grid0.coords t) h))).squeeze S_ squeezes_S1_S_ = cellA (Ring.sl 2 t.val) :=
  congrArg (fun A : DmaSems sig S1 => A.squeeze S_ squeezes_S1_S_) (SemArray.slice_unit_congr _ (off1_eq t) _ _)
/-- The next copy's slot. -/
@[sl_canon] theorem canon_slot_next (t : Fin grid0.N) (h : k0_cond3 (grid0.coords t) = 1#1) :
    (scM0_0.slice (Rect.unit (s := S2x128x32000) (k0_off5 (grid0.coords t)) S1x128x32000.size (k0_off5_inb (grid0.coords t) h)) (fun _ => rfl)).squeeze S128x32000 squeezes_S1x128x32000_S128x32000 = rslot (Ring.sl 2 (t.val + 1)) :=
  congrArg (fun M : Memref sig .tc .vmem S1x128x32000 .bf16 => M.squeeze S128x32000 squeezes_S1x128x32000_S128x32000) (Memref.slice_unit_congr _ (off5_eq t) _ _ (fun _ => rfl) (fun _ => rfl))
/-- The next copy's cell. -/
@[sl_canon] theorem canon_cell_next (t : Fin grid0.N) (h : k0_cond3 (grid0.coords t) = 1#1) :
    (cc0_scratch10.slice (Rect.unit (s := S2) (k0_off4 (grid0.coords t)) S1.size (k0_off4_inb (grid0.coords t) h))).squeeze S_ squeezes_S1_S_ = cellA (Ring.sl 2 (t.val + 1)) :=
  congrArg (fun A : DmaSems sig S1 => A.squeeze S_ squeezes_S1_S_) (SemArray.slice_unit_congr _ (off4_eq t) _ _)
/-- The next copy's block. -/
@[sl_canon] theorem canon_src_next (t : Fin grid0.N) (h : k0_cond3 (grid0.coords t) = 1#1) :
    hbM0_0.slice (Rect.unit (s := S9216x32000) (k0_off6 (grid0.coords t)) S128x32000.size (k0_off6_inb (grid0.coords t) h)) (fun _ => rfl) = srcB (Ring.bk 72 (t.val + 1)) :=
  congrArg (fun M : Memref sig .tc .hbm S128x32000 .bf16 => M) (Memref.slice_unit_congr _ (off6_eq t h) _ _ (fun _ => rfl) (fun _ => rfl))
end Canon

end Cert.Kernel.Run

end
-- ==== Proof.KernelStages.lean ====
/- The loops of the body's stages: what each needs and gives back, with the buffers it touches held at some contents. -/
module

public import proofs.«01_k».proof.Proof.KernelRing
public import proofs.«01_k».proof.Proof.Gen.Kernel.Loops

@[expose] public section

set_option warn.classDefReducibility false
set_option maxRecDepth 16384
set_option synthInstance.maxSize 4096

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The slot a point waits is the parity of its coordinate. -/
theorem slot_mod (t : Fin grid0.N) : ((grid0.coords t) 0).val % 2 = (Ring.sl 2 t.val).val :=
  (by decide +kernel : ∀ t : Fin grid0.N, ((grid0.coords t) 0).val % 2 = (Ring.sl 2 t.val).val) t
/-- Point 2 of the grid. -/
abbrev pt2 : Fin grid0.N := ⟨2, by decide⟩
/-- Point 2 takes the branch of all three stages. -/
theorem h2 : k0_cond6 (grid0.coords pt2) = 1#1 := by decide +kernel

variable (c : Dev nD) (i : grid0.Coords) (arg1 : Memref sig .tc .hbm S9216x32000 .bf16) (harg1 : arg1.IsWhole) (arg2 : Memref sig .tc .vmem S1x1x128 .f32) (harg2 : arg2.IsWhole) (arg3 : Memref sig .tc .vmem S128x32000 .fp8e4m3) (harg3 : arg3.IsWhole) (arg4 : Memref sig .tc .vmem S128x1000 .f32) (harg4 : arg4.IsWhole) (arg5 : Memref sig .tc .vmem S2x128x32000 .bf16) (harg5 : arg5.IsWhole) (arg6 : Memref sig .tc .vmem S32000x128 .bf16) (harg6 : arg6.IsWhole) (arg7 : Memref sig .tc .vmem S32000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S320x128 .i32) (harg11 : arg11.IsWhole) (arg12 : Memref sig .tc .vmem S40x128 .f32) (harg12 : arg12.IsWhole) (arg13 : Memref sig .tc .vmem S8x128 .f32) (harg13 : arg13.IsWhole) (arg14 : Memref sig .tc .vmem S8x128 .f32) (harg14 : arg14.IsWhole) (arg15 : DmaSems sig S2)

/-- A box of the ring's buffer in one slab lies in that slab's slot. -/
theorem slot_box (t : Fin grid0.N) {off : Fin 3 → Nat} {inb : ∀ a, off a + S1x128x128.size a ≤ S2x128x32000.size a}
    (h0 : off 0 = (Ring.sl 2 t.val).val) (h1 : off 1 = 0) :
    scM0_0.view.setOn (Rect.unit (s := S2x128x32000) off S1x128x128.size inb).set ⊆ (rslot (Ring.sl 2 t.val)).view.set := by
  have hs : (rslot (Ring.sl 2 t.val)).view.set = (scM0_0.slice (Rect.unit (s := S2x128x32000) ![(Ring.sl 2 t.val).val, 0, 0] S1x128x32000.size (inb_slot (Ring.sl 2 t.val))) (fun _ => rfl)).view.set := by
    simp only [rslot, Memref.view_squeeze, View.set_reshape]
  rw [hs]
  refine Memref.setOn_subset_slice_of_within scM0_0 _ (fun _ => rfl) _ (decide_eq_true fun a => ?_)
  have := inb a
  fin_cases a <;> simp [Rect.unit, h0, h1] at this ⊢
  omega

/-- A buffer held at some contents. -/
abbrev some' {sp : Space} {S : Shape} {e : EltTy} (M : Memref sig .tc sp S e) : sProp 𝕄 :=
  iprop(∃ f, M.view.loc (c : Thread nD τ) ↦[M.view.set]{fullShare} f)

section Any

/-- Stage 3, block scales: eight rows of `e`-block maxima become a scale row and a reciprocal row each. -/
@[sl_loop] def li_t10 (v0 : BitVec 32) (h6 : k0_cond6 i = 1#1) (v29 : Vec F S8x128 .f32) (t9 : Fin k0_t9_loop.trips) :
    LoopInvTy_k0_t10 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 v0 h6 v29 t9 where
  inv _ _ := iprop(some' (F := F) c arg9 ∗ some' (F := F) c arg10 ∗ some' (F := F) c arg12)
  step k acc := by
    unfold some' k0_t10_body
    iintro ⟨⟨%f9, H9⟩, ⟨%f10, H10⟩, ⟨%f12, H12⟩⟩
    sl_exec
    sl_step
    isplitl [H9]
    · iexists _; iexact H9
    isplitl [H10]
    · iexists _; iexact H10
    iexists _; iexact H12

/-- Stage 3, codes: one 128-column tile of the codes. -/
@[sl_loop] def li_t11 (v0 : BitVec 32) (h6 : k0_cond6 i = 1#1) (t9 : Fin k0_t9_loop.trips) (v86 : BitVec 32) :
    LoopInvTy_k0_t11 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 v0 h6 t9 v86 where
  inv _ _ := iprop(some' (F := F) c arg7 ∗ some' (F := F) c arg12 ∗ some' (F := F) c arg3)
  step k acc := by
    unfold some' k0_t11_body
    iintro ⟨⟨%f7, H7⟩, ⟨%f12, H12⟩, ⟨%f3, H3⟩⟩
    sl_exec
    sl_step
    isplitl [H7]
    · iexists _; iexact H7
    isplitl [H12]
    · iexists _; iexact H12
    iexists _; iexact H3

/-- Stage 2, exponentials: one 32-row block, added to the four running sums. -/
@[sl_loop] def li_t12 (v0 : BitVec 32) (h6 : k0_cond6 i = 1#1) (v28 : Vec F S8x128 .f32) (t9 : Fin k0_t9_loop.trips) (v92 : BitVec 32) (cst : F .f32) (init : FVec F S8x128 .f32 × FVec F S8x128 .f32 × FVec F S8x128 .f32 × FVec F S8x128 .f32) :
    LoopInvTy_k0_t12 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 v0 h6 v28 t9 v92 cst init where
  inv _ _ := iprop(some' (F := F) c arg6 ∗ some' (F := F) c arg7)
  step k acc := by
    unfold some' k0_t12_body
    iintro ⟨⟨%f6, H6⟩, ⟨%f7, H7⟩⟩
    sl_exec
    sl_step
    isplitl [H6]
    · iexists _; iexact H6
    iexists _; iexact H7

/-- Stage 2, block maxima: the exponentials of eight rows of block maxima. -/
@[sl_loop] def li_t13 (v0 : BitVec 32) (h6 : k0_cond6 i = 1#1) (v28 : Vec F S8x128 .f32) (t9 : Fin k0_t9_loop.trips) :
    LoopInvTy_k0_t13 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 v0 h6 v28 t9 where
  inv _ _ := iprop(some' (F := F) c arg8 ∗ some' (F := F) c arg9)
  step k acc := by
    unfold some' k0_t13_body
    iintro ⟨⟨%f8, H8⟩, ⟨%f9, H9⟩⟩
    sl_exec
    sl_step
    isplitl [H8]
    · iexists _; iexact H8
    iexists _; iexact H9

/-- Stage 1, block maxima: eight rows out of the packed pair maxima, and the running row maximum. -/
@[sl_loop] def li_t15 (v0 : BitVec 32) (h6 : k0_cond6 i = 1#1) (t9 : Fin k0_t9_loop.trips) (init : FVec F S8x128 .f32) :
    LoopInvTy_k0_t15 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 v0 h6 t9 init where
  inv _ _ := iprop(some' (F := F) c arg11 ∗ some' (F := F) c arg8)
  step k acc := by
    unfold some' k0_t15_body
    iintro ⟨⟨%f11, H11⟩, ⟨%f8, H8⟩⟩
    sl_exec
    sl_step
    isplitl [H11]
    · iexists _; iexact H11
    iexists _; iexact H8

end Any

section Slot
variable (t : Fin grid0.N)

/-- Stage 1, tiles: one 128-column tile, transposed, and its packed pair maxima. -/
@[sl_loop] def li_t2 (v0 : BitVec 32) (h : k0_cond4 (grid0.coords t) = 1#1) (k : Fin k0_t1_loop.trips) (v : BitVec 32) (X : HbBuf0 (F := F) c (rslot (Ring.sl 2 t.val))) :
    LoopInvTy_k0_t2 (F := F) Unit ℕ (Pipeline.UD sig nD τ) ℕ Variants.none c none Set.univ (grid0.coords t) arg1 harg1 arg2 harg2 arg3 harg3 arg4 harg4 scM0_0 (Memref.isWhole_whole _) arg6 harg6 arg7 harg7 arg8 harg8 arg9 harg9 arg10 harg10 arg11 harg11 arg12 harg12 arg13 harg13 arg14 harg14 arg15 v0 h k v where
  inv _ _ := iprop(slotP (F := F) c (Ring.sl 2 t.val) X ∗ some' (F := F) c arg11 ∗ some' (F := F) c arg6)
  step k' acc := by
    unfold some' k0_t2_body
    iintro ⟨H5, ⟨%f11, H11⟩, ⟨%f6, H6⟩⟩
    have hin := slot_box t (off := k0_off7 (grid0.coords t) k k') (inb := k0_off7_inb (grid0.coords t) k k' h) (by rw [Gen.k0_off7_eq]; exact slot_mod t) (by rw [Gen.k0_off7_eq]; rfl)
    sl_exec
    sl_step
    isplitl [H5]
    · iexact H5
    isplitl [H11]
    · iexists _; iexact H11
    iexists _; iexact H6

/-- Stage 1, tiles: one 128-column tile, transposed, and its packed pair maxima. -/
@[sl_loop] def li_t7 (v0 : BitVec 32) (h : k0_cond5 (grid0.coords t) = 1#1) (k : Fin k0_t4_loop.trips) (v : BitVec 32) (X : HbBuf0 (F := F) c (rslot (Ring.sl 2 t.val))) :
    LoopInvTy_k0_t7 (F := F) Unit ℕ (Pipeline.UD sig nD τ) ℕ Variants.none c none Set.univ (grid0.coords t) arg1 harg1 arg2 harg2 arg3 harg3 arg4 harg4 scM0_0 (Memref.isWhole_whole _) arg6 harg6 arg7 harg7 arg8 harg8 arg9 harg9 arg10 harg10 arg11 harg11 arg12 harg12 arg13 harg13 arg14 harg14 arg15 v0 h k v where
  inv _ _ := iprop(slotP (F := F) c (Ring.sl 2 t.val) X ∗ some' (F := F) c arg11 ∗ some' (F := F) c arg6)
  step k' acc := by
    unfold some' k0_t7_body
    iintro ⟨H5, ⟨%f11, H11⟩, ⟨%f6, H6⟩⟩
    have hin := slot_box t (off := k0_off15 (grid0.coords t) k k') (inb := k0_off15_inb (grid0.coords t) k k' h) (by rw [Gen.k0_off15_eq]; exact slot_mod t) (by rw [Gen.k0_off15_eq]; rfl)
    sl_exec
    sl_step
    isplitl [H5]
    · iexact H5
    isplitl [H11]
    · iexists _; iexact H11
    iexists _; iexact H6

/-- Stage 1, tiles: one 128-column tile, transposed, and its packed pair maxima. -/
@[sl_loop] def li_t14 (v0 : BitVec 32) (h : k0_cond6 (grid0.coords t) = 1#1) (k : Fin k0_t9_loop.trips) (v : BitVec 32) (X : HbBuf0 (F := F) c (rslot (Ring.sl 2 t.val))) :
    LoopInvTy_k0_t14 (F := F) Unit ℕ (Pipeline.UD sig nD τ) ℕ Variants.none c none Set.univ (grid0.coords t) arg1 harg1 arg2 harg2 arg3 harg3 arg4 harg4 scM0_0 (Memref.isWhole_whole _) arg6 harg6 arg7 harg7 arg8 harg8 arg9 harg9 arg10 harg10 arg11 harg11 arg12 harg12 arg13 harg13 arg14 harg14 arg15 v0 h k v where
  inv _ _ := iprop(slotP (F := F) c (Ring.sl 2 t.val) X ∗ some' (F := F) c arg11 ∗ some' (F := F) c arg6)
  step k' acc := by
    unfold some' k0_t14_body
    iintro ⟨H5, ⟨%f11, H11⟩, ⟨%f6, H6⟩⟩
    have hin := slot_box t (off := k0_off28 (grid0.coords t) k k') (inb := k0_off28_inb (grid0.coords t) k k' h) (by rw [Gen.k0_off28_eq]; exact slot_mod t) (by rw [Gen.k0_off28_eq]; rfl)
    sl_exec
    sl_step
    isplitl [H5]
    · iexact H5
    isplitl [H11]
    · iexists _; iexact H11
    iexists _; iexact H6

end Slot

section Same

/-- The same loop in another branch of the body. -/
theorem body_t3 (h : k0_cond4 i = 1#1) (t : Fin k0_t1_loop.trips) :
    k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h t = k0_t15_body (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 t := by
  unfold k0_t3_body k0_t15_body k0_part2 k0_part9; rfl
@[sl_loop] def li_t3 (h : k0_cond4 i = 1#1) (t : Fin k0_t1_loop.trips) (init : FVec F S8x128 .f32) :
    LoopInvTy_k0_t3 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h t init where
  inv := fun _ _ => iprop(some' (F := F) c arg11 ∗ some' (F := F) c arg8)
  step k acc := by rw [body_t3]; exact (li_t15 c (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 t init).step k acc

/-- The same loop in another branch of the body. -/
theorem body_t5 (h : k0_cond5 i = 1#1) (m : Vec F S8x128 .f32) (t : Fin k0_t4_loop.trips) (v : BitVec 32) (cst : F .f32) :
    k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h m t v cst = k0_t12_body (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t v cst := by
  unfold k0_t5_body k0_t12_body k0_part3 k0_part7; rfl
@[sl_loop] def li_t5 (h : k0_cond5 i = 1#1) (m : Vec F S8x128 .f32) (t : Fin k0_t4_loop.trips) (v : BitVec 32) (cst : F .f32) (init : FVec F S8x128 .f32 × FVec F S8x128 .f32 × FVec F S8x128 .f32 × FVec F S8x128 .f32) :
    LoopInvTy_k0_t5 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h m t v cst init where
  inv := fun _ _ => iprop(some' (F := F) c arg6 ∗ some' (F := F) c arg7)
  step k acc := by rw [body_t5]; exact (li_t12 c (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t v cst init).step k acc

/-- The same loop in another branch of the body. -/
theorem body_t6 (h : k0_cond5 i = 1#1) (m : Vec F S8x128 .f32) (t : Fin k0_t4_loop.trips) :
    k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h m t = k0_t13_body (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t := by
  unfold k0_t6_body k0_t13_body ; rfl
@[sl_loop] def li_t6 (h : k0_cond5 i = 1#1) (m : Vec F S8x128 .f32) (t : Fin k0_t4_loop.trips) :
    LoopInvTy_k0_t6 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h m t where
  inv := fun _ _ => iprop(some' (F := F) c arg8 ∗ some' (F := F) c arg9)
  step k acc := by rw [body_t6]; exact (li_t13 c (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t).step k acc

/-- The same loop in another branch of the body. -/
theorem body_t8 (h : k0_cond5 i = 1#1) (t : Fin k0_t4_loop.trips) :
    k0_t8_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h t = k0_t15_body (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 t := by
  unfold k0_t8_body k0_t15_body k0_part5 k0_part9; rfl
@[sl_loop] def li_t8 (h : k0_cond5 i = 1#1) (t : Fin k0_t4_loop.trips) (init : FVec F S8x128 .f32) :
    LoopInvTy_k0_t8 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h t init where
  inv := fun _ _ => iprop(some' (F := F) c arg11 ∗ some' (F := F) c arg8)
  step k acc := by rw [body_t8]; exact (li_t15 c (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 t init).step k acc

/-- The same loop in another branch of the body. -/
theorem body_t17 (h : k0_cond7 i = 1#1) (m : Vec F S8x128 .f32) (t : Fin k0_t16_loop.trips) :
    k0_t17_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h m t = k0_t10_body (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t := by
  unfold k0_t17_body k0_t10_body ; rfl
@[sl_loop] def li_t17 (h : k0_cond7 i = 1#1) (m : Vec F S8x128 .f32) (t : Fin k0_t16_loop.trips) :
    LoopInvTy_k0_t17 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h m t where
  inv := fun _ _ => iprop(some' (F := F) c arg9 ∗ some' (F := F) c arg10 ∗ some' (F := F) c arg12)
  step k acc := by rw [body_t17]; exact (li_t10 c (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t).step k acc

/-- The same loop in another branch of the body. -/
theorem body_t18 (h : k0_cond7 i = 1#1) (t : Fin k0_t16_loop.trips) (v : BitVec 32) :
    k0_t18_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h t v = k0_t11_body (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 t v := by
  unfold k0_t18_body k0_t11_body k0_part12 k0_part6; rfl
@[sl_loop] def li_t18 (h : k0_cond7 i = 1#1) (t : Fin k0_t16_loop.trips) (v : BitVec 32) :
    LoopInvTy_k0_t18 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h t v where
  inv := fun _ _ => iprop(some' (F := F) c arg7 ∗ some' (F := F) c arg12 ∗ some' (F := F) c arg3)
  step k acc := by rw [body_t18]; exact (li_t11 c (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 t v).step k acc

/-- The same loop in another branch of the body. -/
theorem body_t19 (h : k0_cond7 i = 1#1) (m : Vec F S8x128 .f32) (t : Fin k0_t16_loop.trips) (v : BitVec 32) (cst : F .f32) :
    k0_t19_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h m t v cst = k0_t12_body (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t v cst := by
  unfold k0_t19_body k0_t12_body k0_part13 k0_part7; rfl
@[sl_loop] def li_t19 (h : k0_cond7 i = 1#1) (m : Vec F S8x128 .f32) (t : Fin k0_t16_loop.trips) (v : BitVec 32) (cst : F .f32) (init : FVec F S8x128 .f32 × FVec F S8x128 .f32 × FVec F S8x128 .f32 × FVec F S8x128 .f32) :
    LoopInvTy_k0_t19 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h m t v cst init where
  inv := fun _ _ => iprop(some' (F := F) c arg6 ∗ some' (F := F) c arg7)
  step k acc := by rw [body_t19]; exact (li_t12 c (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t v cst init).step k acc

/-- The same loop in another branch of the body. -/
theorem body_t20 (h : k0_cond7 i = 1#1) (m : Vec F S8x128 .f32) (t : Fin k0_t16_loop.trips) :
    k0_t20_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h m t = k0_t13_body (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t := by
  unfold k0_t20_body k0_t13_body ; rfl
@[sl_loop] def li_t20 (h : k0_cond7 i = 1#1) (m : Vec F S8x128 .f32) (t : Fin k0_t16_loop.trips) :
    LoopInvTy_k0_t20 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h m t where
  inv := fun _ _ => iprop(some' (F := F) c arg8 ∗ some' (F := F) c arg9)
  step k acc := by rw [body_t20]; exact (li_t13 c (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t).step k acc

/-- The same loop in another branch of the body. -/
theorem body_t22 (h : k0_cond8 i = 1#1) (m : Vec F S8x128 .f32) (t : Fin k0_t21_loop.trips) :
    k0_t22_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h m t = k0_t10_body (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t := by
  unfold k0_t22_body k0_t10_body ; rfl
@[sl_loop] def li_t22 (h : k0_cond8 i = 1#1) (m : Vec F S8x128 .f32) (t : Fin k0_t21_loop.trips) :
    LoopInvTy_k0_t22 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h m t where
  inv := fun _ _ => iprop(some' (F := F) c arg9 ∗ some' (F := F) c arg10 ∗ some' (F := F) c arg12)
  step k acc := by rw [body_t22]; exact (li_t10 c (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t).step k acc

/-- The same loop in another branch of the body. -/
theorem body_t23 (h : k0_cond8 i = 1#1) (t : Fin k0_t21_loop.trips) (v : BitVec 32) :
    k0_t23_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h t v = k0_t11_body (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 t v := by
  unfold k0_t23_body k0_t11_body k0_part15 k0_part6; rfl
@[sl_loop] def li_t23 (h : k0_cond8 i = 1#1) (t : Fin k0_t21_loop.trips) (v : BitVec 32) :
    LoopInvTy_k0_t23 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h t v where
  inv := fun _ _ => iprop(some' (F := F) c arg7 ∗ some' (F := F) c arg12 ∗ some' (F := F) c arg3)
  step k acc := by rw [body_t23]; exact (li_t11 c (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 t v).step k acc

end Same

section Chunks
variable (t : Fin grid0.N)

/-- One chunk of the body: the stages of this branch in turn. -/
@[sl_loop] def li_t1 (v0 : BitVec 32) (h : k0_cond4 (grid0.coords t) = 1#1) (init : FVec F S8x128 .f32) (X : HbBuf0 (F := F) c (rslot (Ring.sl 2 t.val))) :
    LoopInvTy_k0_t1 (F := F) Unit ℕ (Pipeline.UD sig nD τ) ℕ Variants.none c none Set.univ (grid0.coords t) arg1 harg1 arg2 harg2 arg3 harg3 arg4 harg4 scM0_0 (Memref.isWhole_whole _) arg6 harg6 arg7 harg7 arg8 harg8 arg9 harg9 arg10 harg10 arg11 harg11 arg12 harg12 arg13 harg13 arg14 harg14 arg15 v0 h init where
  inv _ _ := iprop(slotP (F := F) c (Ring.sl 2 t.val) X ∗ some' (F := F) c arg6 ∗ some' (F := F) c arg11 ∗ some' (F := F) c arg8)
  step k acc := by
    unfold some' k0_t1_body
    iintro ⟨H5, ⟨%f6, H6⟩, ⟨%f11, H11⟩, ⟨%f8, H8⟩⟩
    sl_exec
    sl_step
    isplitl [H5]
    · iexact H5
    isplitl [H6]
    · iexists _; iexact H6
    isplitl [H11]
    · iexists _; iexact H11
    iexists _; iexact H8

/-- One chunk of the body: the stages of this branch in turn. -/
@[sl_loop] def li_t4 (v0 : BitVec 32) (h : k0_cond5 (grid0.coords t) = 1#1) (m : Vec F S8x128 .f32) (init : FVec F S8x128 .f32 × FVec F S8x128 .f32 × FVec F S8x128 .f32 × FVec F S8x128 .f32 × FVec F S8x128 .f32) (X : HbBuf0 (F := F) c (rslot (Ring.sl 2 t.val))) :
    LoopInvTy_k0_t4 (F := F) Unit ℕ (Pipeline.UD sig nD τ) ℕ Variants.none c none Set.univ (grid0.coords t) arg1 harg1 arg2 harg2 arg3 harg3 arg4 harg4 scM0_0 (Memref.isWhole_whole _) arg6 harg6 arg7 harg7 arg8 harg8 arg9 harg9 arg10 harg10 arg11 harg11 arg12 harg12 arg13 harg13 arg14 harg14 arg15 v0 h m init where
  inv _ _ := iprop(slotP (F := F) c (Ring.sl 2 t.val) X ∗ some' (F := F) c arg6 ∗ some' (F := F) c arg7 ∗ some' (F := F) c arg8 ∗ some' (F := F) c arg9 ∗ some' (F := F) c arg11)
  step k acc := by
    unfold some' k0_t4_body
    iintro ⟨H5, ⟨%f6, H6⟩, ⟨%f7, H7⟩, ⟨%f8, H8⟩, ⟨%f9, H9⟩, ⟨%f11, H11⟩⟩
    sl_exec
    sl_step
    isplitl [H5]
    · iexact H5
    isplitl [H6]
    · iexists _; iexact H6
    isplitl [H7]
    · iexists _; iexact H7
    isplitl [H8]
    · iexists _; iexact H8
    isplitl [H9]
    · iexists _; iexact H9
    iexists _; iexact H11

/-- One chunk of the body: the stages of this branch in turn. -/
@[sl_loop] def li_t9 (v0 : BitVec 32) (h : k0_cond6 (grid0.coords t) = 1#1) (m s : Vec F S8x128 .f32) (init : FVec F S8x128 .f32 × FVec F S8x128 .f32 × FVec F S8x128 .f32 × FVec F S8x128 .f32 × FVec F S8x128 .f32) (X : HbBuf0 (F := F) c (rslot (Ring.sl 2 t.val))) :
    LoopInvTy_k0_t9 (F := F) Unit ℕ (Pipeline.UD sig nD τ) ℕ Variants.none c none Set.univ (grid0.coords t) arg1 harg1 arg2 harg2 arg3 harg3 arg4 harg4 scM0_0 (Memref.isWhole_whole _) arg6 harg6 arg7 harg7 arg8 harg8 arg9 harg9 arg10 harg10 arg11 harg11 arg12 harg12 arg13 harg13 arg14 harg14 arg15 v0 h m s init where
  inv _ _ := iprop(slotP (F := F) c (Ring.sl 2 t.val) X ∗ some' (F := F) c arg3 ∗ some' (F := F) c arg6 ∗ some' (F := F) c arg7 ∗ some' (F := F) c arg8 ∗ some' (F := F) c arg9 ∗ some' (F := F) c arg10 ∗ some' (F := F) c arg11 ∗ some' (F := F) c arg12)
  step k acc := by
    unfold some' k0_t9_body
    iintro ⟨H5, ⟨%f3, H3⟩, ⟨%f6, H6⟩, ⟨%f7, H7⟩, ⟨%f8, H8⟩, ⟨%f9, H9⟩, ⟨%f10, H10⟩, ⟨%f11, H11⟩, ⟨%f12, H12⟩⟩
    sl_exec
    sl_step
    isplitl [H5]
    · iexact H5
    isplitl [H3]
    · iexists _; iexact H3
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    iexists _; iexact H12

/-- One chunk of the body: the stages of this branch in turn. -/
@[sl_loop] def li_t16 (h : k0_cond7 i = 1#1) (m s : Vec F S8x128 .f32) (init : FVec F S8x128 .f32 × FVec F S8x128 .f32 × FVec F S8x128 .f32 × FVec F S8x128 .f32) :
    LoopInvTy_k0_t16 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h m s init where
  inv _ _ := iprop(some' (F := F) c arg3 ∗ some' (F := F) c arg6 ∗ some' (F := F) c arg7 ∗ some' (F := F) c arg8 ∗ some' (F := F) c arg9 ∗ some' (F := F) c arg10 ∗ some' (F := F) c arg12)
  step k acc := by
    unfold some' k0_t16_body
    iintro ⟨⟨%f3, H3⟩, ⟨%f6, H6⟩, ⟨%f7, H7⟩, ⟨%f8, H8⟩, ⟨%f9, H9⟩, ⟨%f10, H10⟩, ⟨%f12, H12⟩⟩
    sl_exec
    sl_step
    isplitl [H3]
    · iexists _; iexact H3
    isplitl [H6]
    · iexists _; iexact H6
    isplitl [H7]
    · iexists _; iexact H7
    isplitl [H8]
    · iexists _; iexact H8
    isplitl [H9]
    · iexists _; iexact H9
    isplitl [H10]
    · iexists _; iexact H10
    iexists _; iexact H12

/-- One chunk of the body: the stages of this branch in turn. -/
@[sl_loop] def li_t21 (h : k0_cond8 i = 1#1) (s : Vec F S8x128 .f32) :
    LoopInvTy_k0_t21 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h s where
  inv _ _ := iprop(some' (F := F) c arg3 ∗ some' (F := F) c arg7 ∗ some' (F := F) c arg9 ∗ some' (F := F) c arg10 ∗ some' (F := F) c arg12)
  step k acc := by
    unfold some' k0_t21_body
    iintro ⟨⟨%f3, H3⟩, ⟨%f7, H7⟩, ⟨%f9, H9⟩, ⟨%f10, H10⟩, ⟨%f12, H12⟩⟩
    sl_exec
    sl_step
    isplitl [H3]
    · iexists _; iexact H3
    isplitl [H7]
    · iexists _; iexact H7
    isplitl [H9]
    · iexists _; iexact H9
    isplitl [H10]
    · iexists _; iexact H10
    iexists _; iexact H12

end Chunks

end Cert.Kernel.Run

end
-- ==== Proof.KernelRuns.lean ====
/- The body at each kind of grid point: which copies start and land, and which stages run. -/
module

public import proofs.«01_k».proof.Proof.KernelStages

@[expose] public section

set_option maxRecDepth 16384
set_option synthInstance.maxSize 4096

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

set_option maxHeartbeats 2000000 in
/-- At point 0: the first two copies start, the first lands, and stage 1 runs. -/
theorem run_A (c : Dev nD) (t : Fin cfg0.N) (arg2 : Memref sig .tc .vmem S1x1x128 .f32) (harg2 : arg2.IsWhole) (arg3 : Memref sig .tc .vmem S128x32000 .fp8e4m3) (harg3 : arg3.IsWhole) (arg4 : Memref sig .tc .vmem S128x1000 .f32) (harg4 : arg4.IsWhole) (arg6 : Memref sig .tc .vmem S32000x128 .bf16) (harg6 : arg6.IsWhole) (arg7 : Memref sig .tc .vmem S32000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S320x128 .i32) (harg11 : arg11.IsWhole) (arg12 : Memref sig .tc .vmem S40x128 .f32) (harg12 : arg12.IsWhole) (arg13 : Memref sig .tc .vmem S8x128 .f32) (harg13 : arg13.IsWhole) (arg14 : Memref sig .tc .vmem S8x128 .f32) (harg14 : arg14.IsWhole)
    (hc1 : k0_cond1 (grid0.coords t) = 1#1) (hc2 : k0_cond2 (grid0.coords t) = 1#1) (hc3 : k0_cond3 (grid0.coords t) = 1#1) (hc4 : k0_cond4 (grid0.coords t) = 1#1) (hc5 : ¬k0_cond5 (grid0.coords t) = 1#1) (hc6 : ¬k0_cond6 (grid0.coords t) = 1#1) (hc7 : ¬k0_cond7 (grid0.coords t) = 1#1) (hc8 : ¬k0_cond8 (grid0.coords t) = 1#1)
    (fh0 : HbBuf0 (F := F) c hbM0_0) (W : Waits sig Unit) (K : PUnit → sProp 𝕄) :
    iprop(some' (F := F) c arg2 ∗ some' (F := F) c arg3 ∗ some' (F := F) c arg4 ∗ some' (F := F) c arg6 ∗ some' (F := F) c arg7 ∗ some' (F := F) c arg8 ∗ some' (F := F) c arg9 ∗ some' (F := F) c arg10 ∗ some' (F := F) c arg11 ∗ some' (F := F) c arg12 ∗ some' (F := F) c arg13 ∗ some' (F := F) c arg14 ∗ Ring.free (cellP c) (slotW c fh0) (Ring.sl 2 t.val) ∗ Ring.free (cellP c) (slotW c fh0) (Ring.sl 2 (t.val + 1)) ∗ owes (c : Thread nD τ) 0 W
        ∗ (iprop(some' (F := F) c arg2 ∗ some' (F := F) c arg3 ∗ some' (F := F) c arg4 ∗ some' (F := F) c arg6 ∗ some' (F := F) c arg7 ∗ some' (F := F) c arg8 ∗ some' (F := F) c arg9 ∗ some' (F := F) c arg10 ∗ some' (F := F) c arg11 ∗ some' (F := F) c arg12 ∗ some' (F := F) c arg13 ∗ some' (F := F) c arg14 ∗ Ring.inflight (flightW c fh0) (Ring.sl 2 (t.val + 1)) (Ring.bk 72 (t.val + 1)) ∗ Ring.kept (cellP c) (slotW c fh0) (landed c fh0) (Ring.sl 2 t.val) (Ring.bk 72 t.val) ∗ (∃ W', owes (c : Thread nD τ) 0 W')) -∗ K ⟨⟩))
      ⊢ wp frame (wpE (defs₀ (F := F)) Variants.none c none) Set.univ (cc0_softmax_fp8 (grid0.coords t) (Memref.whole main_v0) (Memref.isWhole_whole _) arg2 harg2 arg3 harg3 arg4 harg4 scM0_0 (Memref.isWhole_whole _) arg6 harg6 arg7 harg7 arg8 harg8 arg9 harg9 arg10 harg10 arg11 harg11 arg12 harg12 arg13 harg13 arg14 harg14 cc0_scratch10) K := by
    haveI : Fact (k0_cond1 (grid0.coords t) = 1#1) := ⟨hc1⟩
    haveI : Fact (k0_cond2 (grid0.coords t) = 1#1) := ⟨hc2⟩
    haveI : Fact (k0_cond3 (grid0.coords t) = 1#1) := ⟨hc3⟩
    haveI : Fact (k0_cond4 (grid0.coords t) = 1#1) := ⟨hc4⟩
    haveI : Fact (¬k0_cond5 (grid0.coords t) = 1#1) := ⟨hc5⟩
    haveI : Fact (¬k0_cond6 (grid0.coords t) = 1#1) := ⟨hc6⟩
    haveI : Fact (¬k0_cond7 (grid0.coords t) = 1#1) := ⟨hc7⟩
    haveI : Fact (¬k0_cond8 (grid0.coords t) = 1#1) := ⟨hc8⟩
    simp only [cc0_softmax_fp8_eq_skeleton]; unfold cc0_softmax_fp8_skel
    unfold some' Ring.free Ring.inflight Ring.kept
    iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨Hc0, ⟨%fs0, Hs0, Hw0⟩⟩, ⟨Hc1, ⟨%fs1, Hs1, Hw1⟩⟩, HW, Hk⟩
    ihave Hsp := (src_split c fh0 (Ring.sl 2 t.val) (Ring.bk 72 t.val)).1 $$ Hw0
    icases Hsp with ⟨Hh0, Hr0⟩
    ihave Hsp := (src_split c fh0 (Ring.sl 2 (t.val + 1)) (Ring.bk 72 (t.val + 1))).1 $$ Hw1
    icases Hsp with ⟨Hh1, Hr1⟩
    sl_exec (disch := first | sl_exact hc1 | sl_exact hc2 | sl_exact hc3 | sl_exact hc4 | sl_exact hc5 | sl_exact hc6 | sl_exact hc7 | sl_exact hc8)
    sl_step
    iapply Hk
    isplitl [H2]; · iexists _; iexact H2
    isplitl [H3]; · iexists _; iexact H3
    isplitl [H4]; · iexists _; iexact H4
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [Hc1 Hr1]
    · iexists _; isplitl [Hc1]; · iexact Hc1
      iexact Hr1
    isplitl [Hc0 Hs0 Hh0 Hr0]
    · isplitl [Hc0]; · iexact Hc0
      iexists _; isplitl [Hs0]; · iexact Hs0
      iapply (src_split c fh0 (Ring.sl 2 t.val) (Ring.bk 72 t.val)).2; isplitl [Hh0]; · iexact Hh0
      iexact Hr0
    iexists _; iexact HW

set_option maxHeartbeats 2000000 in
/-- At point 1: block 1 lands while block 2 starts; stages 2 and 1 run. -/
theorem run_B (c : Dev nD) (t : Fin cfg0.N) (arg2 : Memref sig .tc .vmem S1x1x128 .f32) (harg2 : arg2.IsWhole) (arg3 : Memref sig .tc .vmem S128x32000 .fp8e4m3) (harg3 : arg3.IsWhole) (arg4 : Memref sig .tc .vmem S128x1000 .f32) (harg4 : arg4.IsWhole) (arg6 : Memref sig .tc .vmem S32000x128 .bf16) (harg6 : arg6.IsWhole) (arg7 : Memref sig .tc .vmem S32000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S320x128 .i32) (harg11 : arg11.IsWhole) (arg12 : Memref sig .tc .vmem S40x128 .f32) (harg12 : arg12.IsWhole) (arg13 : Memref sig .tc .vmem S8x128 .f32) (harg13 : arg13.IsWhole) (arg14 : Memref sig .tc .vmem S8x128 .f32) (harg14 : arg14.IsWhole)
    (hc1 : ¬k0_cond1 (grid0.coords t) = 1#1) (hc2 : k0_cond2 (grid0.coords t) = 1#1) (hc3 : k0_cond3 (grid0.coords t) = 1#1) (hc4 : ¬k0_cond4 (grid0.coords t) = 1#1) (hc5 : k0_cond5 (grid0.coords t) = 1#1) (hc6 : ¬k0_cond6 (grid0.coords t) = 1#1) (hc7 : ¬k0_cond7 (grid0.coords t) = 1#1) (hc8 : ¬k0_cond8 (grid0.coords t) = 1#1)
    (fh0 : HbBuf0 (F := F) c hbM0_0) (W : Waits sig Unit) (K : PUnit → sProp 𝕄) :
    iprop(some' (F := F) c arg2 ∗ some' (F := F) c arg3 ∗ some' (F := F) c arg4 ∗ some' (F := F) c arg6 ∗ some' (F := F) c arg7 ∗ some' (F := F) c arg8 ∗ some' (F := F) c arg9 ∗ some' (F := F) c arg10 ∗ some' (F := F) c arg11 ∗ some' (F := F) c arg12 ∗ some' (F := F) c arg13 ∗ some' (F := F) c arg14 ∗ Ring.inflight (flightW c fh0) (Ring.sl 2 t.val) (Ring.bk 72 t.val) ∗ Ring.kept (cellP c) (slotW c fh0) (landed c fh0) (Ring.sl 2 (t.val + 1)) (Ring.bk 72 (t.val - 1)) ∗ owes (c : Thread nD τ) 0 W
        ∗ (iprop(some' (F := F) c arg2 ∗ some' (F := F) c arg3 ∗ some' (F := F) c arg4 ∗ some' (F := F) c arg6 ∗ some' (F := F) c arg7 ∗ some' (F := F) c arg8 ∗ some' (F := F) c arg9 ∗ some' (F := F) c arg10 ∗ some' (F := F) c arg11 ∗ some' (F := F) c arg12 ∗ some' (F := F) c arg13 ∗ some' (F := F) c arg14 ∗ Ring.inflight (flightW c fh0) (Ring.sl 2 (t.val + 1)) (Ring.bk 72 (t.val + 1)) ∗ Ring.kept (cellP c) (slotW c fh0) (landed c fh0) (Ring.sl 2 t.val) (Ring.bk 72 t.val) ∗ (∃ W', owes (c : Thread nD τ) 0 W')) -∗ K ⟨⟩))
      ⊢ wp frame (wpE (defs₀ (F := F)) Variants.none c none) Set.univ (cc0_softmax_fp8 (grid0.coords t) (Memref.whole main_v0) (Memref.isWhole_whole _) arg2 harg2 arg3 harg3 arg4 harg4 scM0_0 (Memref.isWhole_whole _) arg6 harg6 arg7 harg7 arg8 harg8 arg9 harg9 arg10 harg10 arg11 harg11 arg12 harg12 arg13 harg13 arg14 harg14 cc0_scratch10) K := by
    haveI : Fact (¬k0_cond1 (grid0.coords t) = 1#1) := ⟨hc1⟩
    haveI : Fact (k0_cond2 (grid0.coords t) = 1#1) := ⟨hc2⟩
    haveI : Fact (k0_cond3 (grid0.coords t) = 1#1) := ⟨hc3⟩
    haveI : Fact (¬k0_cond4 (grid0.coords t) = 1#1) := ⟨hc4⟩
    haveI : Fact (k0_cond5 (grid0.coords t) = 1#1) := ⟨hc5⟩
    haveI : Fact (¬k0_cond6 (grid0.coords t) = 1#1) := ⟨hc6⟩
    haveI : Fact (¬k0_cond7 (grid0.coords t) = 1#1) := ⟨hc7⟩
    haveI : Fact (¬k0_cond8 (grid0.coords t) = 1#1) := ⟨hc8⟩
    simp only [cc0_softmax_fp8_eq_skeleton]; unfold cc0_softmax_fp8_skel
    unfold some' Ring.inflight Ring.kept
    iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%ff, Hf, Hrf⟩, ⟨Hc1, ⟨%fs1, Hs1, Hw1⟩⟩, HW, Hk⟩
    ihave Hsp := (src_split c fh0 (Ring.sl 2 (t.val + 1)) (Ring.bk 72 (t.val + 1))).1 $$ Hw1
    icases Hsp with ⟨Hh1, Hr1⟩
    sl_exec (disch := first | sl_exact hc1 | sl_exact hc2 | sl_exact hc3 | sl_exact hc4 | sl_exact hc5 | sl_exact hc6 | sl_exact hc7 | sl_exact hc8)
    sl_step
    iapply Hk
    isplitl [H2]; · iexists _; iexact H2
    isplitl [H3]; · iexists _; iexact H3
    isplitl [H4]; · iexists _; iexact H4
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [Hc1 Hr1]
    · iexists _; isplitl [Hc1]; · iexact Hc1
      iexact Hr1
    isplitl [Hf Hf_dst Hf_src Hrf]
    · isplitl [Hf]; · iexact Hf
      iexists _; isplitl [Hf_dst]; · iexact Hf_dst
      iapply (src_split c fh0 (Ring.sl 2 t.val) (Ring.bk 72 t.val)).2; isplitl [Hf_src]; · iexact Hf_src
      iexact Hrf
    iexists _; iexact HW

set_option maxHeartbeats 2000000 in
/-- At a point from 2 on with a block left to start: all three stages run. -/
theorem run_C (c : Dev nD) (t : Fin cfg0.N) (arg2 : Memref sig .tc .vmem S1x1x128 .f32) (harg2 : arg2.IsWhole) (arg3 : Memref sig .tc .vmem S128x32000 .fp8e4m3) (harg3 : arg3.IsWhole) (arg4 : Memref sig .tc .vmem S128x1000 .f32) (harg4 : arg4.IsWhole) (arg6 : Memref sig .tc .vmem S32000x128 .bf16) (harg6 : arg6.IsWhole) (arg7 : Memref sig .tc .vmem S32000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S320x128 .i32) (harg11 : arg11.IsWhole) (arg12 : Memref sig .tc .vmem S40x128 .f32) (harg12 : arg12.IsWhole) (arg13 : Memref sig .tc .vmem S8x128 .f32) (harg13 : arg13.IsWhole) (arg14 : Memref sig .tc .vmem S8x128 .f32) (harg14 : arg14.IsWhole)
    (hc1 : ¬k0_cond1 (grid0.coords t) = 1#1) (hc2 : k0_cond2 (grid0.coords t) = 1#1) (hc3 : k0_cond3 (grid0.coords t) = 1#1) (hc4 : ¬k0_cond4 (grid0.coords t) = 1#1) (hc5 : ¬k0_cond5 (grid0.coords t) = 1#1) (hc6 : k0_cond6 (grid0.coords t) = 1#1) (hc7 : ¬k0_cond7 (grid0.coords t) = 1#1) (hc8 : ¬k0_cond8 (grid0.coords t) = 1#1)
    (fh0 : HbBuf0 (F := F) c hbM0_0) (W : Waits sig Unit) (K : PUnit → sProp 𝕄) :
    iprop(some' (F := F) c arg2 ∗ some' (F := F) c arg3 ∗ some' (F := F) c arg4 ∗ some' (F := F) c arg6 ∗ some' (F := F) c arg7 ∗ some' (F := F) c arg8 ∗ some' (F := F) c arg9 ∗ some' (F := F) c arg10 ∗ some' (F := F) c arg11 ∗ some' (F := F) c arg12 ∗ some' (F := F) c arg13 ∗ some' (F := F) c arg14 ∗ Ring.inflight (flightW c fh0) (Ring.sl 2 t.val) (Ring.bk 72 t.val) ∗ Ring.kept (cellP c) (slotW c fh0) (landed c fh0) (Ring.sl 2 (t.val + 1)) (Ring.bk 72 (t.val - 1)) ∗ owes (c : Thread nD τ) 0 W
        ∗ (iprop(some' (F := F) c arg2 ∗ some' (F := F) c arg3 ∗ some' (F := F) c arg4 ∗ some' (F := F) c arg6 ∗ some' (F := F) c arg7 ∗ some' (F := F) c arg8 ∗ some' (F := F) c arg9 ∗ some' (F := F) c arg10 ∗ some' (F := F) c arg11 ∗ some' (F := F) c arg12 ∗ some' (F := F) c arg13 ∗ some' (F := F) c arg14 ∗ Ring.inflight (flightW c fh0) (Ring.sl 2 (t.val + 1)) (Ring.bk 72 (t.val + 1)) ∗ Ring.kept (cellP c) (slotW c fh0) (landed c fh0) (Ring.sl 2 t.val) (Ring.bk 72 t.val) ∗ (∃ W', owes (c : Thread nD τ) 0 W')) -∗ K ⟨⟩))
      ⊢ wp frame (wpE (defs₀ (F := F)) Variants.none c none) Set.univ (cc0_softmax_fp8 (grid0.coords t) (Memref.whole main_v0) (Memref.isWhole_whole _) arg2 harg2 arg3 harg3 arg4 harg4 scM0_0 (Memref.isWhole_whole _) arg6 harg6 arg7 harg7 arg8 harg8 arg9 harg9 arg10 harg10 arg11 harg11 arg12 harg12 arg13 harg13 arg14 harg14 cc0_scratch10) K := by
    haveI : Fact (¬k0_cond1 (grid0.coords t) = 1#1) := ⟨hc1⟩
    haveI : Fact (k0_cond2 (grid0.coords t) = 1#1) := ⟨hc2⟩
    haveI : Fact (k0_cond3 (grid0.coords t) = 1#1) := ⟨hc3⟩
    haveI : Fact (¬k0_cond4 (grid0.coords t) = 1#1) := ⟨hc4⟩
    haveI : Fact (¬k0_cond5 (grid0.coords t) = 1#1) := ⟨hc5⟩
    haveI : Fact (k0_cond6 (grid0.coords t) = 1#1) := ⟨hc6⟩
    haveI : Fact (¬k0_cond7 (grid0.coords t) = 1#1) := ⟨hc7⟩
    haveI : Fact (¬k0_cond8 (grid0.coords t) = 1#1) := ⟨hc8⟩
    simp only [cc0_softmax_fp8_eq_skeleton]; unfold cc0_softmax_fp8_skel
    unfold some' Ring.inflight Ring.kept
    iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%ff, Hf, Hrf⟩, ⟨Hc1, ⟨%fs1, Hs1, Hw1⟩⟩, HW, Hk⟩
    ihave Hsp := (src_split c fh0 (Ring.sl 2 (t.val + 1)) (Ring.bk 72 (t.val + 1))).1 $$ Hw1
    icases Hsp with ⟨Hh1, Hr1⟩
    sl_exec (disch := first | sl_exact hc1 | sl_exact hc2 | sl_exact hc3 | sl_exact hc4 | sl_exact hc5 | sl_exact hc6 | sl_exact hc7 | sl_exact hc8)
    sl_step
    iapply Hk
    isplitl [H2]; · iexists _; iexact H2
    isplitl [H3]; · iexists _; iexact H3
    isplitl [H4]; · iexists _; iexact H4
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [Hc1 Hr1]
    · iexists _; isplitl [Hc1]; · iexact Hc1
      iexact Hr1
    isplitl [Hf Hf_dst Hf_src Hrf]
    · isplitl [Hf]; · iexact Hf
      iexists _; isplitl [Hf_dst]; · iexact Hf_dst
      iapply (src_split c fh0 (Ring.sl 2 t.val) (Ring.bk 72 t.val)).2; isplitl [Hf_src]; · iexact Hf_src
      iexact Hrf
    iexists _; iexact HW

set_option maxHeartbeats 2000000 in
/-- At point 71: the last block lands, none starts; all three stages run. -/
theorem run_D (c : Dev nD) (t : Fin cfg0.N) (arg2 : Memref sig .tc .vmem S1x1x128 .f32) (harg2 : arg2.IsWhole) (arg3 : Memref sig .tc .vmem S128x32000 .fp8e4m3) (harg3 : arg3.IsWhole) (arg4 : Memref sig .tc .vmem S128x1000 .f32) (harg4 : arg4.IsWhole) (arg6 : Memref sig .tc .vmem S32000x128 .bf16) (harg6 : arg6.IsWhole) (arg7 : Memref sig .tc .vmem S32000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S320x128 .i32) (harg11 : arg11.IsWhole) (arg12 : Memref sig .tc .vmem S40x128 .f32) (harg12 : arg12.IsWhole) (arg13 : Memref sig .tc .vmem S8x128 .f32) (harg13 : arg13.IsWhole) (arg14 : Memref sig .tc .vmem S8x128 .f32) (harg14 : arg14.IsWhole)
    (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) (hc6 : k0_cond6 (grid0.coords t) = 1#1) (hc7 : ¬k0_cond7 (grid0.coords t) = 1#1) (hc8 : ¬k0_cond8 (grid0.coords t) = 1#1)
    (fh0 : HbBuf0 (F := F) c hbM0_0) (W : Waits sig Unit) (K : PUnit → sProp 𝕄) :
    iprop(some' (F := F) c arg2 ∗ some' (F := F) c arg3 ∗ some' (F := F) c arg4 ∗ some' (F := F) c arg6 ∗ some' (F := F) c arg7 ∗ some' (F := F) c arg8 ∗ some' (F := F) c arg9 ∗ some' (F := F) c arg10 ∗ some' (F := F) c arg11 ∗ some' (F := F) c arg12 ∗ some' (F := F) c arg13 ∗ some' (F := F) c arg14 ∗ Ring.inflight (flightW c fh0) (Ring.sl 2 t.val) (Ring.bk 72 t.val) ∗ owes (c : Thread nD τ) 0 W
        ∗ (iprop(some' (F := F) c arg2 ∗ some' (F := F) c arg3 ∗ some' (F := F) c arg4 ∗ some' (F := F) c arg6 ∗ some' (F := F) c arg7 ∗ some' (F := F) c arg8 ∗ some' (F := F) c arg9 ∗ some' (F := F) c arg10 ∗ some' (F := F) c arg11 ∗ some' (F := F) c arg12 ∗ some' (F := F) c arg13 ∗ some' (F := F) c arg14 ∗ Ring.kept (cellP c) (slotW c fh0) (landed c fh0) (Ring.sl 2 t.val) (Ring.bk 72 t.val) ∗ (∃ W', owes (c : Thread nD τ) 0 W')) -∗ K ⟨⟩))
      ⊢ wp frame (wpE (defs₀ (F := F)) Variants.none c none) Set.univ (cc0_softmax_fp8 (grid0.coords t) (Memref.whole main_v0) (Memref.isWhole_whole _) arg2 harg2 arg3 harg3 arg4 harg4 scM0_0 (Memref.isWhole_whole _) arg6 harg6 arg7 harg7 arg8 harg8 arg9 harg9 arg10 harg10 arg11 harg11 arg12 harg12 arg13 harg13 arg14 harg14 cc0_scratch10) K := by
    haveI : Fact (¬k0_cond1 (grid0.coords t) = 1#1) := ⟨hc1⟩
    haveI : Fact (k0_cond2 (grid0.coords t) = 1#1) := ⟨hc2⟩
    haveI : Fact (¬k0_cond3 (grid0.coords t) = 1#1) := ⟨hc3⟩
    haveI : Fact (¬k0_cond4 (grid0.coords t) = 1#1) := ⟨hc4⟩
    haveI : Fact (¬k0_cond5 (grid0.coords t) = 1#1) := ⟨hc5⟩
    haveI : Fact (k0_cond6 (grid0.coords t) = 1#1) := ⟨hc6⟩
    haveI : Fact (¬k0_cond7 (grid0.coords t) = 1#1) := ⟨hc7⟩
    haveI : Fact (¬k0_cond8 (grid0.coords t) = 1#1) := ⟨hc8⟩
    simp only [cc0_softmax_fp8_eq_skeleton]; unfold cc0_softmax_fp8_skel
    unfold some' Ring.inflight Ring.kept
    iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%ff, Hf, Hrf⟩, HW, Hk⟩
    sl_exec (disch := first | sl_exact hc1 | sl_exact hc2 | sl_exact hc3 | sl_exact hc4 | sl_exact hc5 | sl_exact hc6 | sl_exact hc7 | sl_exact hc8)
    sl_step
    iapply Hk
    isplitl [H2]; · iexists _; iexact H2
    isplitl [H3]; · iexists _; iexact H3
    isplitl [H4]; · iexists _; iexact H4
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [Hf Hf_dst Hf_src Hrf]
    · isplitl [Hf]; · iexact Hf
      iexists _; isplitl [Hf_dst]; · iexact Hf_dst
      iapply (src_split c fh0 (Ring.sl 2 t.val) (Ring.bk 72 t.val)).2; isplitl [Hf_src]; · iexact Hf_src
      iexact Hrf
    iexists _; iexact HW

set_option maxHeartbeats 2000000 in
/-- At point 72: stages 3 and 2 run. -/
theorem run_E (c : Dev nD) (t : Fin cfg0.N) (arg2 : Memref sig .tc .vmem S1x1x128 .f32) (harg2 : arg2.IsWhole) (arg3 : Memref sig .tc .vmem S128x32000 .fp8e4m3) (harg3 : arg3.IsWhole) (arg4 : Memref sig .tc .vmem S128x1000 .f32) (harg4 : arg4.IsWhole) (arg6 : Memref sig .tc .vmem S32000x128 .bf16) (harg6 : arg6.IsWhole) (arg7 : Memref sig .tc .vmem S32000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S320x128 .i32) (harg11 : arg11.IsWhole) (arg12 : Memref sig .tc .vmem S40x128 .f32) (harg12 : arg12.IsWhole) (arg13 : Memref sig .tc .vmem S8x128 .f32) (harg13 : arg13.IsWhole) (arg14 : Memref sig .tc .vmem S8x128 .f32) (harg14 : arg14.IsWhole)
    (hc1 : ¬k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) (hc6 : ¬k0_cond6 (grid0.coords t) = 1#1) (hc7 : k0_cond7 (grid0.coords t) = 1#1) (hc8 : ¬k0_cond8 (grid0.coords t) = 1#1)
    (fh0 : HbBuf0 (F := F) c hbM0_0) (W : Waits sig Unit) (K : PUnit → sProp 𝕄) :
    iprop(some' (F := F) c arg2 ∗ some' (F := F) c arg3 ∗ some' (F := F) c arg4 ∗ some' (F := F) c arg6 ∗ some' (F := F) c arg7 ∗ some' (F := F) c arg8 ∗ some' (F := F) c arg9 ∗ some' (F := F) c arg10 ∗ some' (F := F) c arg11 ∗ some' (F := F) c arg12 ∗ some' (F := F) c arg13 ∗ some' (F := F) c arg14 ∗ owes (c : Thread nD τ) 0 W
        ∗ (iprop(some' (F := F) c arg2 ∗ some' (F := F) c arg3 ∗ some' (F := F) c arg4 ∗ some' (F := F) c arg6 ∗ some' (F := F) c arg7 ∗ some' (F := F) c arg8 ∗ some' (F := F) c arg9 ∗ some' (F := F) c arg10 ∗ some' (F := F) c arg11 ∗ some' (F := F) c arg12 ∗ some' (F := F) c arg13 ∗ some' (F := F) c arg14 ∗ (∃ W', owes (c : Thread nD τ) 0 W')) -∗ K ⟨⟩))
      ⊢ wp frame (wpE (defs₀ (F := F)) Variants.none c none) Set.univ (cc0_softmax_fp8 (grid0.coords t) (Memref.whole main_v0) (Memref.isWhole_whole _) arg2 harg2 arg3 harg3 arg4 harg4 scM0_0 (Memref.isWhole_whole _) arg6 harg6 arg7 harg7 arg8 harg8 arg9 harg9 arg10 harg10 arg11 harg11 arg12 harg12 arg13 harg13 arg14 harg14 cc0_scratch10) K := by
    haveI : Fact (¬k0_cond1 (grid0.coords t) = 1#1) := ⟨hc1⟩
    haveI : Fact (¬k0_cond2 (grid0.coords t) = 1#1) := ⟨hc2⟩
    haveI : Fact (¬k0_cond3 (grid0.coords t) = 1#1) := ⟨hc3⟩
    haveI : Fact (¬k0_cond4 (grid0.coords t) = 1#1) := ⟨hc4⟩
    haveI : Fact (¬k0_cond5 (grid0.coords t) = 1#1) := ⟨hc5⟩
    haveI : Fact (¬k0_cond6 (grid0.coords t) = 1#1) := ⟨hc6⟩
    haveI : Fact (k0_cond7 (grid0.coords t) = 1#1) := ⟨hc7⟩
    haveI : Fact (¬k0_cond8 (grid0.coords t) = 1#1) := ⟨hc8⟩
    simp only [cc0_softmax_fp8_eq_skeleton]; unfold cc0_softmax_fp8_skel
    unfold some'
    iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, HW, Hk⟩
    sl_exec (disch := first | sl_exact hc1 | sl_exact hc2 | sl_exact hc3 | sl_exact hc4 | sl_exact hc5 | sl_exact hc6 | sl_exact hc7 | sl_exact hc8)
    sl_step
    iapply Hk
    isplitl [H2]; · iexists _; iexact H2
    isplitl [H3]; · iexists _; iexact H3
    isplitl [H4]; · iexists _; iexact H4
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact HW

set_option maxHeartbeats 2000000 in
/-- At point 73: stage 3 runs. -/
theorem run_G (c : Dev nD) (t : Fin cfg0.N) (arg2 : Memref sig .tc .vmem S1x1x128 .f32) (harg2 : arg2.IsWhole) (arg3 : Memref sig .tc .vmem S128x32000 .fp8e4m3) (harg3 : arg3.IsWhole) (arg4 : Memref sig .tc .vmem S128x1000 .f32) (harg4 : arg4.IsWhole) (arg6 : Memref sig .tc .vmem S32000x128 .bf16) (harg6 : arg6.IsWhole) (arg7 : Memref sig .tc .vmem S32000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S320x128 .i32) (harg11 : arg11.IsWhole) (arg12 : Memref sig .tc .vmem S40x128 .f32) (harg12 : arg12.IsWhole) (arg13 : Memref sig .tc .vmem S8x128 .f32) (harg13 : arg13.IsWhole) (arg14 : Memref sig .tc .vmem S8x128 .f32) (harg14 : arg14.IsWhole)
    (hc1 : ¬k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) (hc6 : ¬k0_cond6 (grid0.coords t) = 1#1) (hc7 : ¬k0_cond7 (grid0.coords t) = 1#1) (hc8 : k0_cond8 (grid0.coords t) = 1#1)
    (fh0 : HbBuf0 (F := F) c hbM0_0) (W : Waits sig Unit) (K : PUnit → sProp 𝕄) :
    iprop(some' (F := F) c arg2 ∗ some' (F := F) c arg3 ∗ some' (F := F) c arg4 ∗ some' (F := F) c arg6 ∗ some' (F := F) c arg7 ∗ some' (F := F) c arg8 ∗ some' (F := F) c arg9 ∗ some' (F := F) c arg10 ∗ some' (F := F) c arg11 ∗ some' (F := F) c arg12 ∗ some' (F := F) c arg13 ∗ some' (F := F) c arg14 ∗ owes (c : Thread nD τ) 0 W
        ∗ (iprop(some' (F := F) c arg2 ∗ some' (F := F) c arg3 ∗ some' (F := F) c arg4 ∗ some' (F := F) c arg6 ∗ some' (F := F) c arg7 ∗ some' (F := F) c arg8 ∗ some' (F := F) c arg9 ∗ some' (F := F) c arg10 ∗ some' (F := F) c arg11 ∗ some' (F := F) c arg12 ∗ some' (F := F) c arg13 ∗ some' (F := F) c arg14 ∗ (∃ W', owes (c : Thread nD τ) 0 W')) -∗ K ⟨⟩))
      ⊢ wp frame (wpE (defs₀ (F := F)) Variants.none c none) Set.univ (cc0_softmax_fp8 (grid0.coords t) (Memref.whole main_v0) (Memref.isWhole_whole _) arg2 harg2 arg3 harg3 arg4 harg4 scM0_0 (Memref.isWhole_whole _) arg6 harg6 arg7 harg7 arg8 harg8 arg9 harg9 arg10 harg10 arg11 harg11 arg12 harg12 arg13 harg13 arg14 harg14 cc0_scratch10) K := by
    haveI : Fact (¬k0_cond1 (grid0.coords t) = 1#1) := ⟨hc1⟩
    haveI : Fact (¬k0_cond2 (grid0.coords t) = 1#1) := ⟨hc2⟩
    haveI : Fact (¬k0_cond3 (grid0.coords t) = 1#1) := ⟨hc3⟩
    haveI : Fact (¬k0_cond4 (grid0.coords t) = 1#1) := ⟨hc4⟩
    haveI : Fact (¬k0_cond5 (grid0.coords t) = 1#1) := ⟨hc5⟩
    haveI : Fact (¬k0_cond6 (grid0.coords t) = 1#1) := ⟨hc6⟩
    haveI : Fact (¬k0_cond7 (grid0.coords t) = 1#1) := ⟨hc7⟩
    haveI : Fact (k0_cond8 (grid0.coords t) = 1#1) := ⟨hc8⟩
    simp only [cc0_softmax_fp8_eq_skeleton]; unfold cc0_softmax_fp8_skel
    unfold some'
    iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, HW, Hk⟩
    sl_exec (disch := first | sl_exact hc1 | sl_exact hc2 | sl_exact hc3 | sl_exact hc4 | sl_exact hc5 | sl_exact hc6 | sl_exact hc7 | sl_exact hc8)
    sl_step
    iapply Hk
    isplitl [H2]; · iexists _; iexact H2
    isplitl [H3]; · iexists _; iexact H3
    isplitl [H4]; · iexists _; iexact H4
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact HW

end Cert.Kernel.Run

end
-- ==== Proof.KernelFrame.lean ====
/- The frame: the kernel terminates, leaves its argument as it was and every semaphore at zero. -/
module

public import proofs.«01_k».proof.Proof.KernelRuns
public import Idealize.ShloMosaic.Lib.Claim

@[expose] public section

set_option maxRecDepth 16384
set_option synthInstance.maxSize 4096

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

omit [BitOps F] in
/-- A memref owned at some data is held at some contents, and back. -/
theorem some_of_owns (c : Dev nD) {sp : Space} {S : Shape} {e : EltTy} (M : Memref sig .tc sp S e) :
    (iprop(∃ d, owns (c : Thread nD τ) M fullShare d) : sProp 𝕄) ⊢ some' (F := F) c M := by
  unfold owns some'
  iintro ⟨%d, %f, -, H⟩
  iexists f; iexact H
omit [BitOps F] in
theorem owns_of_some (c : Dev nD) {sp : Space} {S : Shape} {e : EltTy} (M : Memref sig .tc sp S e) :
    some' (F := F) c M ⊢ (iprop(∃ d, owns (c : Thread nD τ) M fullShare d) : sProp 𝕄) := by
  unfold owns some'
  iintro ⟨%f, H⟩
  iexists _, f; isplitr; swap; · iexact H
  ipureintro; rfl

/-! ## The pipeline's proof data -/

/-- Before point `k`: the scratch at anything, the generator register at some state, and the ring (done after point 71). -/
def PhiR (c : Dev nD) (k : ℕ) : sProp 𝕄 := iprop((∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ r, prngReg c r) ∗ ringAt c (V m c main_v0) (min k 72))

/-- The outputs' contents are not named here. -/
def forgets0 : Fin 3 → Bool := fun w => w.val == 0 || w.val == 1 || w.val == 2

/-- The proof data: the arrays as the region finds them; the outputs unnamed; the invariant `PhiR`; nothing owed. -/
def dats (_ : Fin 1) (c : Dev nD) : Dat τ (Elt F) Unit ℕ (Pipeline.UD sig nD τ) ℕ cfg0 c where
  A w := V m c (Pipeline.arrRef spec0 w)
  after w t := match w with
    | ⟨0, h⟩ => Pipeline.Dat.unnamed (cfg := cfg0) ⟨0, h⟩ t
    | ⟨1, h⟩ => Pipeline.Dat.unnamed (cfg := cfg0) ⟨1, h⟩ t
    | ⟨2, h⟩ => Pipeline.Dat.unnamed (cfg := cfg0) ⟨2, h⟩ t
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]

/-! ## The body obligation -/

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare d) ∗ (∃ d, owns (c : Thread nD τ) (ms0_1 t) fullShare d) ∗ (∃ d, owns (c : Thread nD τ) (ms0_2 t) fullShare d))
/-- and what it returns. -/
def bodyPost (c : Dev nD) (t : Fin cfg0.N) : sProp 𝕄 :=
  iprop((dats m 0 c).Φ t.succ ∗ (dats m 0 c).owesAt () t.succ ∗ (∃ d, owns (c : Thread nD τ) (ms0_0 t) fullShare d) ∗ (∃ d, owns (c : Thread nD τ) (ms0_1 t) fullShare d) ∗ (∃ d, owns (c : Thread nD τ) (ms0_2 t) fullShare d))

set_option maxHeartbeats 4800000 in
/-- The body at any point, by the kind of the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [PhiR_castSucc m c t, PhiR_succ m c t]
  unfold Dat.owesAt Pipeline.owesWithin
  rw [show (dats m 0 c).owed t.castSucc = 0 from rfl, show (dats m 0 c).owed t.succ = 0 from rfl]
  unfold PhiR ringAt
  have hN : t.val < 74 := lt_of_lt_of_eq t.isLt (show cfg0.N = 74 from N_0)
  rcases (show (t.val = 0) ∨ (t.val = 1) ∨ (2 ≤ t.val ∧ t.val < 71) ∨ (t.val = 71) ∨ (t.val = 72) ∨ (t.val = 73) by omega) with h | h | h | h | h | h
  · have hm : min t.val 72 = 0 := by omega
    have hm1 : min (t.val + 1) 72 = t.val + 1 := by omega
    rw [hm, hm1, if_pos rfl, if_neg (show ¬t.val + 1 = 0 by omega)]
    rw [Ring.At₀_eq2' _ _ _ t.val h (by decide : 2 ≤ 72), Ring.AtK2_one' _ _ _ _ _ t.val h (by decide : 1 < 72)]
    iintro ⟨⟨HS1, HS2, HS3, HS4, HS5, HS6, HS7, HS8, HS9, Hg, ⟨-, Hr0, Hr1⟩⟩, ⟨%W, -, HW⟩, H0, H1, H2⟩
    iapply (run_A c t _ _ _ _ _ _ _ _ _ _ _ _ _ _ _ _ _ _ _ _ _ _ _ _ ((hc1 t).mpr (by omega)) ((hc2 t).mpr (by omega)) ((hc3 t).mpr (by omega)) ((hc4 t).mpr (by omega)) (fun h => by have := (hc5 t).mp h; omega) (fun h => by have := (hc6 t).mp h; omega) (fun h => by have := (hc7 t).mp h; omega) (fun h => by have := (hc8 t).mp h; omega) (V m c main_v0) W _)
    isplitl [H0]; · iapply (some_of_owns (F := F) c (ms0_0 t)); iexact H0
    isplitl [H1]; · iapply (some_of_owns (F := F) c (ms0_1 t)); iexact H1
    isplitl [H2]; · iapply (some_of_owns (F := F) c (ms0_2 t)); iexact H2
    isplitl [HS1]; · iapply (some_of_owns (F := F) c scM0_1); iexact HS1
    isplitl [HS2]; · iapply (some_of_owns (F := F) c scM0_2); iexact HS2
    isplitl [HS3]; · iapply (some_of_owns (F := F) c scM0_3); iexact HS3
    isplitl [HS4]; · iapply (some_of_owns (F := F) c scM0_4); iexact HS4
    isplitl [HS5]; · iapply (some_of_owns (F := F) c scM0_5); iexact HS5
    isplitl [HS6]; · iapply (some_of_owns (F := F) c scM0_6); iexact HS6
    isplitl [HS7]; · iapply (some_of_owns (F := F) c scM0_7); iexact HS7
    isplitl [HS8]; · iapply (some_of_owns (F := F) c scM0_8); iexact HS8
    isplitl [HS9]; · iapply (some_of_owns (F := F) c scM0_9); iexact HS9
    isplitl [Hr0]; · iexact Hr0
    isplitl [Hr1]; · iexact Hr1
    isplitl [HW]; · iexact HW
    iintro ⟨H0, H1, H2, HS1, HS2, HS3, HS4, HS5, HS6, HS7, HS8, HS9, Hq0, Hq1, ⟨%W', HW'⟩⟩
    isplitl [HS1 HS2 HS3 HS4 HS5 HS6 HS7 HS8 HS9 Hg Hq0 Hq1]
    · isplitl [HS1]; · iapply (owns_of_some (F := F) c scM0_1); iexact HS1
      isplitl [HS2]; · iapply (owns_of_some (F := F) c scM0_2); iexact HS2
      isplitl [HS3]; · iapply (owns_of_some (F := F) c scM0_3); iexact HS3
      isplitl [HS4]; · iapply (owns_of_some (F := F) c scM0_4); iexact HS4
      isplitl [HS5]; · iapply (owns_of_some (F := F) c scM0_5); iexact HS5
      isplitl [HS6]; · iapply (owns_of_some (F := F) c scM0_6); iexact HS6
      isplitl [HS7]; · iapply (owns_of_some (F := F) c scM0_7); iexact HS7
      isplitl [HS8]; · iapply (owns_of_some (F := F) c scM0_8); iexact HS8
      isplitl [HS9]; · iapply (owns_of_some (F := F) c scM0_9); iexact HS9
      isplitl [Hg]; · iexact Hg
      iapply Ring.with_homes₀
      isplitl [Hq0]; · iexact Hq0
      iexact Hq1
    isplitl [HW']
    · iexists W'; isplitr; · ipureintro; exact fun _ _ => Or.inl trivial
      iexact HW'
    isplitl [H0]; · iapply (owns_of_some (F := F) c (ms0_0 t)); iexact H0
    isplitl [H1]; · iapply (owns_of_some (F := F) c (ms0_1 t)); iexact H1
    iapply (owns_of_some (F := F) c (ms0_2 t)); iexact H2
  · have hm : min t.val 72 = t.val := by omega
    have hm1 : min (t.val + 1) 72 = t.val + 1 := by omega
    rw [hm, hm1, if_neg (show ¬t.val = 0 by omega), if_neg (show ¬t.val + 1 = 0 by omega)]
    rw [Ring.AtK2_here _ _ _ _ _ t.val (by omega) (by omega), Ring.AtK2_next _ _ _ _ _ t.val (by omega) (by omega)]
    iintro ⟨⟨HS1, HS2, HS3, HS4, HS5, HS6, HS7, HS8, HS9, Hg, ⟨-, Hr0, Hr1⟩⟩, ⟨%W, -, HW⟩, H0, H1, H2⟩
    iapply (run_B c t _ _ _ _ _ _ _ _ _ _ _ _ _ _ _ _ _ _ _ _ _ _ _ _ (fun h => by have := (hc1 t).mp h; omega) ((hc2 t).mpr (by omega)) ((hc3 t).mpr (by omega)) (fun h => by have := (hc4 t).mp h; omega) ((hc5 t).mpr (by omega)) (fun h => by have := (hc6 t).mp h; omega) (fun h => by have := (hc7 t).mp h; omega) (fun h => by have := (hc8 t).mp h; omega) (V m c main_v0) W _)
    isplitl [H0]; · iapply (some_of_owns (F := F) c (ms0_0 t)); iexact H0
    isplitl [H1]; · iapply (some_of_owns (F := F) c (ms0_1 t)); iexact H1
    isplitl [H2]; · iapply (some_of_owns (F := F) c (ms0_2 t)); iexact H2
    isplitl [HS1]; · iapply (some_of_owns (F := F) c scM0_1); iexact HS1
    isplitl [HS2]; · iapply (some_of_owns (F := F) c scM0_2); iexact HS2
    isplitl [HS3]; · iapply (some_of_owns (F := F) c scM0_3); iexact HS3
    isplitl [HS4]; · iapply (some_of_owns (F := F) c scM0_4); iexact HS4
    isplitl [HS5]; · iapply (some_of_owns (F := F) c scM0_5); iexact HS5
    isplitl [HS6]; · iapply (some_of_owns (F := F) c scM0_6); iexact HS6
    isplitl [HS7]; · iapply (some_of_owns (F := F) c scM0_7); iexact HS7
    isplitl [HS8]; · iapply (some_of_owns (F := F) c scM0_8); iexact HS8
    isplitl [HS9]; · iapply (some_of_owns (F := F) c scM0_9); iexact HS9
    isplitl [Hr0]; · iexact Hr0
    isplitl [Hr1]; · iexact Hr1
    isplitl [HW]; · iexact HW
    iintro ⟨H0, H1, H2, HS1, HS2, HS3, HS4, HS5, HS6, HS7, HS8, HS9, Hq0, Hq1, ⟨%W', HW'⟩⟩
    isplitl [HS1 HS2 HS3 HS4 HS5 HS6 HS7 HS8 HS9 Hg Hq0 Hq1]
    · isplitl [HS1]; · iapply (owns_of_some (F := F) c scM0_1); iexact HS1
      isplitl [HS2]; · iapply (owns_of_some (F := F) c scM0_2); iexact HS2
      isplitl [HS3]; · iapply (owns_of_some (F := F) c scM0_3); iexact HS3
      isplitl [HS4]; · iapply (owns_of_some (F := F) c scM0_4); iexact HS4
      isplitl [HS5]; · iapply (owns_of_some (F := F) c scM0_5); iexact HS5
      isplitl [HS6]; · iapply (owns_of_some (F := F) c scM0_6); iexact HS6
      isplitl [HS7]; · iapply (owns_of_some (F := F) c scM0_7); iexact HS7
      isplitl [HS8]; · iapply (owns_of_some (F := F) c scM0_8); iexact HS8
      isplitl [HS9]; · iapply (owns_of_some (F := F) c scM0_9); iexact HS9
      isplitl [Hg]; · iexact Hg
      iapply (Ring.with_homes (Idealize.SL.BI.Entails.refl _))
      isplitl [Hq0]; · iexact Hq0
      iexact Hq1
    isplitl [HW']
    · iexists W'; isplitr; · ipureintro; exact fun _ _ => Or.inl trivial
      iexact HW'
    isplitl [H0]; · iapply (owns_of_some (F := F) c (ms0_0 t)); iexact H0
    isplitl [H1]; · iapply (owns_of_some (F := F) c (ms0_1 t)); iexact H1
    iapply (owns_of_some (F := F) c (ms0_2 t)); iexact H2
  · have hm : min t.val 72 = t.val := by omega
    have hm1 : min (t.val + 1) 72 = t.val + 1 := by omega
    rw [hm, hm1, if_neg (show ¬t.val = 0 by omega), if_neg (show ¬t.val + 1 = 0 by omega)]
    rw [Ring.AtK2_here _ _ _ _ _ t.val (by omega) (by omega), Ring.AtK2_next _ _ _ _ _ t.val (by omega) (by omega)]
    iintro ⟨⟨HS1, HS2, HS3, HS4, HS5, HS6, HS7, HS8, HS9, Hg, ⟨-, Hr0, Hr1⟩⟩, ⟨%W, -, HW⟩, H0, H1, H2⟩
    iapply (run_C c t _ _ _ _ _ _ _ _ _ _ _ _ _ _ _ _ _ _ _ _ _ _ _ _ (fun h => by have := (hc1 t).mp h; omega) ((hc2 t).mpr (by omega)) ((hc3 t).mpr (by omega)) (fun h => by have := (hc4 t).mp h; omega) (fun h => by have := (hc5 t).mp h; omega) ((hc6 t).mpr (by omega)) (fun h => by have := (hc7 t).mp h; omega) (fun h => by have := (hc8 t).mp h; omega) (V m c main_v0) W _)
    isplitl [H0]; · iapply (some_of_owns (F := F) c (ms0_0 t)); iexact H0
    isplitl [H1]; · iapply (some_of_owns (F := F) c (ms0_1 t)); iexact H1
    isplitl [H2]; · iapply (some_of_owns (F := F) c (ms0_2 t)); iexact H2
    isplitl [HS1]; · iapply (some_of_owns (F := F) c scM0_1); iexact HS1
    isplitl [HS2]; · iapply (some_of_owns (F := F) c scM0_2); iexact HS2
    isplitl [HS3]; · iapply (some_of_owns (F := F) c scM0_3); iexact HS3
    isplitl [HS4]; · iapply (some_of_owns (F := F) c scM0_4); iexact HS4
    isplitl [HS5]; · iapply (some_of_owns (F := F) c scM0_5); iexact HS5
    isplitl [HS6]; · iapply (some_of_owns (F := F) c scM0_6); iexact HS6
    isplitl [HS7]; · iapply (some_of_owns (F := F) c scM0_7); iexact HS7
    isplitl [HS8]; · iapply (some_of_owns (F := F) c scM0_8); iexact HS8
    isplitl [HS9]; · iapply (some_of_owns (F := F) c scM0_9); iexact HS9
    isplitl [Hr0]; · iexact Hr0
    isplitl [Hr1]; · iexact Hr1
    isplitl [HW]; · iexact HW
    iintro ⟨H0, H1, H2, HS1, HS2, HS3, HS4, HS5, HS6, HS7, HS8, HS9, Hq0, Hq1, ⟨%W', HW'⟩⟩
    isplitl [HS1 HS2 HS3 HS4 HS5 HS6 HS7 HS8 HS9 Hg Hq0 Hq1]
    · isplitl [HS1]; · iapply (owns_of_some (F := F) c scM0_1); iexact HS1
      isplitl [HS2]; · iapply (owns_of_some (F := F) c scM0_2); iexact HS2
      isplitl [HS3]; · iapply (owns_of_some (F := F) c scM0_3); iexact HS3
      isplitl [HS4]; · iapply (owns_of_some (F := F) c scM0_4); iexact HS4
      isplitl [HS5]; · iapply (owns_of_some (F := F) c scM0_5); iexact HS5
      isplitl [HS6]; · iapply (owns_of_some (F := F) c scM0_6); iexact HS6
      isplitl [HS7]; · iapply (owns_of_some (F := F) c scM0_7); iexact HS7
      isplitl [HS8]; · iapply (owns_of_some (F := F) c scM0_8); iexact HS8
      isplitl [HS9]; · iapply (owns_of_some (F := F) c scM0_9); iexact HS9
      isplitl [Hg]; · iexact Hg
      iapply (Ring.with_homes (Idealize.SL.BI.Entails.refl _))
      isplitl [Hq0]; · iexact Hq0
      iexact Hq1
    isplitl [HW']
    · iexists W'; isplitr; · ipureintro; exact fun _ _ => Or.inl trivial
      iexact HW'
    isplitl [H0]; · iapply (owns_of_some (F := F) c (ms0_0 t)); iexact H0
    isplitl [H1]; · iapply (owns_of_some (F := F) c (ms0_1 t)); iexact H1
    iapply (owns_of_some (F := F) c (ms0_2 t)); iexact H2
  · have hm : min t.val 72 = t.val := by omega
    have hm1 : min (t.val + 1) 72 = t.val + 1 := by omega
    rw [hm, hm1, if_neg (show ¬t.val = 0 by omega), if_neg (show ¬t.val + 1 = 0 by omega)]
    rw [Ring.AtK2_here_last _ _ _ _ _ t.val (by omega) (by omega), Ring.AtK2_next_last _ _ _ _ _ t.val (by omega) (by omega)]
    iintro ⟨⟨HS1, HS2, HS3, HS4, HS5, HS6, HS7, HS8, HS9, Hg, ⟨-, Hr0, Hkp⟩⟩, ⟨%W, -, HW⟩, H0, H1, H2⟩
    iapply (run_D c t _ _ _ _ _ _ _ _ _ _ _ _ _ _ _ _ _ _ _ _ _ _ _ _ (fun h => by have := (hc1 t).mp h; omega) ((hc2 t).mpr (by omega)) (fun h => by have := (hc3 t).mp h; omega) (fun h => by have := (hc4 t).mp h; omega) (fun h => by have := (hc5 t).mp h; omega) ((hc6 t).mpr (by omega)) (fun h => by have := (hc7 t).mp h; omega) (fun h => by have := (hc8 t).mp h; omega) (V m c main_v0) W _)
    isplitl [H0]; · iapply (some_of_owns (F := F) c (ms0_0 t)); iexact H0
    isplitl [H1]; · iapply (some_of_owns (F := F) c (ms0_1 t)); iexact H1
    isplitl [H2]; · iapply (some_of_owns (F := F) c (ms0_2 t)); iexact H2
    isplitl [HS1]; · iapply (some_of_owns (F := F) c scM0_1); iexact HS1
    isplitl [HS2]; · iapply (some_of_owns (F := F) c scM0_2); iexact HS2
    isplitl [HS3]; · iapply (some_of_owns (F := F) c scM0_3); iexact HS3
    isplitl [HS4]; · iapply (some_of_owns (F := F) c scM0_4); iexact HS4
    isplitl [HS5]; · iapply (some_of_owns (F := F) c scM0_5); iexact HS5
    isplitl [HS6]; · iapply (some_of_owns (F := F) c scM0_6); iexact HS6
    isplitl [HS7]; · iapply (some_of_owns (F := F) c scM0_7); iexact HS7
    isplitl [HS8]; · iapply (some_of_owns (F := F) c scM0_8); iexact HS8
    isplitl [HS9]; · iapply (some_of_owns (F := F) c scM0_9); iexact HS9
    isplitl [Hr0]; · iexact Hr0
    isplitl [HW]; · iexact HW
    iintro ⟨H0, H1, H2, HS1, HS2, HS3, HS4, HS5, HS6, HS7, HS8, HS9, Hq0, ⟨%W', HW'⟩⟩
    isplitl [HS1 HS2 HS3 HS4 HS5 HS6 HS7 HS8 HS9 Hg Hkp Hq0]
    · isplitl [HS1]; · iapply (owns_of_some (F := F) c scM0_1); iexact HS1
      isplitl [HS2]; · iapply (owns_of_some (F := F) c scM0_2); iexact HS2
      isplitl [HS3]; · iapply (owns_of_some (F := F) c scM0_3); iexact HS3
      isplitl [HS4]; · iapply (owns_of_some (F := F) c scM0_4); iexact HS4
      isplitl [HS5]; · iapply (owns_of_some (F := F) c scM0_5); iexact HS5
      isplitl [HS6]; · iapply (owns_of_some (F := F) c scM0_6); iexact HS6
      isplitl [HS7]; · iapply (owns_of_some (F := F) c scM0_7); iexact HS7
      isplitl [HS8]; · iapply (owns_of_some (F := F) c scM0_8); iexact HS8
      isplitl [HS9]; · iapply (owns_of_some (F := F) c scM0_9); iexact HS9
      isplitl [Hg]; · iexact Hg
      iapply (Ring.with_homes (Idealize.SL.BI.Entails.refl _))
      isplitl [Hkp]; · iexact Hkp
      iexact Hq0
    isplitl [HW']
    · iexists W'; isplitr; · ipureintro; exact fun _ _ => Or.inl trivial
      iexact HW'
    isplitl [H0]; · iapply (owns_of_some (F := F) c (ms0_0 t)); iexact H0
    isplitl [H1]; · iapply (owns_of_some (F := F) c (ms0_1 t)); iexact H1
    iapply (owns_of_some (F := F) c (ms0_2 t)); iexact H2
  · have hm : min t.val 72 = 72 := by omega
    have hm1 : min (t.val + 1) 72 = 72 := by omega
    rw [hm, hm1]
    iintro ⟨⟨HS1, HS2, HS3, HS4, HS5, HS6, HS7, HS8, HS9, Hg, Hr⟩, ⟨%W, -, HW⟩, H0, H1, H2⟩
    iapply (run_E c t _ _ _ _ _ _ _ _ _ _ _ _ _ _ _ _ _ _ _ _ _ _ _ _ (fun h => by have := (hc1 t).mp h; omega) (fun h => by have := (hc2 t).mp h; omega) (fun h => by have := (hc3 t).mp h; omega) (fun h => by have := (hc4 t).mp h; omega) (fun h => by have := (hc5 t).mp h; omega) (fun h => by have := (hc6 t).mp h; omega) ((hc7 t).mpr (by omega)) (fun h => by have := (hc8 t).mp h; omega) (V m c main_v0) W _)
    isplitl [H0]; · iapply (some_of_owns (F := F) c (ms0_0 t)); iexact H0
    isplitl [H1]; · iapply (some_of_owns (F := F) c (ms0_1 t)); iexact H1
    isplitl [H2]; · iapply (some_of_owns (F := F) c (ms0_2 t)); iexact H2
    isplitl [HS1]; · iapply (some_of_owns (F := F) c scM0_1); iexact HS1
    isplitl [HS2]; · iapply (some_of_owns (F := F) c scM0_2); iexact HS2
    isplitl [HS3]; · iapply (some_of_owns (F := F) c scM0_3); iexact HS3
    isplitl [HS4]; · iapply (some_of_owns (F := F) c scM0_4); iexact HS4
    isplitl [HS5]; · iapply (some_of_owns (F := F) c scM0_5); iexact HS5
    isplitl [HS6]; · iapply (some_of_owns (F := F) c scM0_6); iexact HS6
    isplitl [HS7]; · iapply (some_of_owns (F := F) c scM0_7); iexact HS7
    isplitl [HS8]; · iapply (some_of_owns (F := F) c scM0_8); iexact HS8
    isplitl [HS9]; · iapply (some_of_owns (F := F) c scM0_9); iexact HS9
    isplitl [HW]; · iexact HW
    iintro ⟨H0, H1, H2, HS1, HS2, HS3, HS4, HS5, HS6, HS7, HS8, HS9, ⟨%W', HW'⟩⟩
    isplitl [HS1 HS2 HS3 HS4 HS5 HS6 HS7 HS8 HS9 Hg Hr]
    · isplitl [HS1]; · iapply (owns_of_some (F := F) c scM0_1); iexact HS1
      isplitl [HS2]; · iapply (owns_of_some (F := F) c scM0_2); iexact HS2
      isplitl [HS3]; · iapply (owns_of_some (F := F) c scM0_3); iexact HS3
      isplitl [HS4]; · iapply (owns_of_some (F := F) c scM0_4); iexact HS4
      isplitl [HS5]; · iapply (owns_of_some (F := F) c scM0_5); iexact HS5
      isplitl [HS6]; · iapply (owns_of_some (F := F) c scM0_6); iexact HS6
      isplitl [HS7]; · iapply (owns_of_some (F := F) c scM0_7); iexact HS7
      isplitl [HS8]; · iapply (owns_of_some (F := F) c scM0_8); iexact HS8
      isplitl [HS9]; · iapply (owns_of_some (F := F) c scM0_9); iexact HS9
      isplitl [Hg]; · iexact Hg
      iexact Hr
    isplitl [HW']
    · iexists W'; isplitr; · ipureintro; exact fun _ _ => Or.inl trivial
      iexact HW'
    isplitl [H0]; · iapply (owns_of_some (F := F) c (ms0_0 t)); iexact H0
    isplitl [H1]; · iapply (owns_of_some (F := F) c (ms0_1 t)); iexact H1
    iapply (owns_of_some (F := F) c (ms0_2 t)); iexact H2
  · have hm : min t.val 72 = 72 := by omega
    have hm1 : min (t.val + 1) 72 = 72 := by omega
    rw [hm, hm1]
    iintro ⟨⟨HS1, HS2, HS3, HS4, HS5, HS6, HS7, HS8, HS9, Hg, Hr⟩, ⟨%W, -, HW⟩, H0, H1, H2⟩
    iapply (run_G c t _ _ _ _ _ _ _ _ _ _ _ _ _ _ _ _ _ _ _ _ _ _ _ _ (fun h => by have := (hc1 t).mp h; omega) (fun h => by have := (hc2 t).mp h; omega) (fun h => by have := (hc3 t).mp h; omega) (fun h => by have := (hc4 t).mp h; omega) (fun h => by have := (hc5 t).mp h; omega) (fun h => by have := (hc6 t).mp h; omega) (fun h => by have := (hc7 t).mp h; omega) ((hc8 t).mpr (by omega)) (V m c main_v0) W _)
    isplitl [H0]; · iapply (some_of_owns (F := F) c (ms0_0 t)); iexact H0
    isplitl [H1]; · iapply (some_of_owns (F := F) c (ms0_1 t)); iexact H1
    isplitl [H2]; · iapply (some_of_owns (F := F) c (ms0_2 t)); iexact H2
    isplitl [HS1]; · iapply (some_of_owns (F := F) c scM0_1); iexact HS1
    isplitl [HS2]; · iapply (some_of_owns (F := F) c scM0_2); iexact HS2
    isplitl [HS3]; · iapply (some_of_owns (F := F) c scM0_3); iexact HS3
    isplitl [HS4]; · iapply (some_of_owns (F := F) c scM0_4); iexact HS4
    isplitl [HS5]; · iapply (some_of_owns (F := F) c scM0_5); iexact HS5
    isplitl [HS6]; · iapply (some_of_owns (F := F) c scM0_6); iexact HS6
    isplitl [HS7]; · iapply (some_of_owns (F := F) c scM0_7); iexact HS7
    isplitl [HS8]; · iapply (some_of_owns (F := F) c scM0_8); iexact HS8
    isplitl [HS9]; · iapply (some_of_owns (F := F) c scM0_9); iexact HS9
    isplitl [HW]; · iexact HW
    iintro ⟨H0, H1, H2, HS1, HS2, HS3, HS4, HS5, HS6, HS7, HS8, HS9, ⟨%W', HW'⟩⟩
    isplitl [HS1 HS2 HS3 HS4 HS5 HS6 HS7 HS8 HS9 Hg Hr]
    · isplitl [HS1]; · iapply (owns_of_some (F := F) c scM0_1); iexact HS1
      isplitl [HS2]; · iapply (owns_of_some (F := F) c scM0_2); iexact HS2
      isplitl [HS3]; · iapply (owns_of_some (F := F) c scM0_3); iexact HS3
      isplitl [HS4]; · iapply (owns_of_some (F := F) c scM0_4); iexact HS4
      isplitl [HS5]; · iapply (owns_of_some (F := F) c scM0_5); iexact HS5
      isplitl [HS6]; · iapply (owns_of_some (F := F) c scM0_6); iexact HS6
      isplitl [HS7]; · iapply (owns_of_some (F := F) c scM0_7); iexact HS7
      isplitl [HS8]; · iapply (owns_of_some (F := F) c scM0_8); iexact HS8
      isplitl [HS9]; · iapply (owns_of_some (F := F) c scM0_9); iexact HS9
      isplitl [Hg]; · iexact Hg
      iexact Hr
    isplitl [HW']
    · iexists W'; isplitr; · ipureintro; exact fun _ _ => Or.inl trivial
      iexact HW'
    isplitl [H0]; · iapply (owns_of_some (F := F) c (ms0_0 t)); iexact H0
    isplitl [H1]; · iapply (owns_of_some (F := F) c (ms0_1 t)); iexact H1
    iapply (owns_of_some (F := F) c (ms0_2 t)); iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant before the first point, and the invariant after the last hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  rw [show min 0 72 = 0 from rfl]
  iintro ⟨⟨HR, HS1, HS2, HS3, HS4, HS5, HS6, HS7, HS8, HS9⟩, Hg, ⟨Hq0, Hq1⟩, Hh0⟩
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [Hg]; · iexact Hg
  iapply (ring_in (F := F) m c)
  isplitl [HR]; · iexact HR
  isplitl [Hq0 Hq1]
  · isplitl [Hq0]; · iexact Hq0
    iexact Hq1
  iexact Hh0
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show min grid0.N 72 = 72 by rw [N_0]; rfl]
  iintro ⟨HS1, HS2, HS3, HS4, HS5, HS6, HS7, HS8, HS9, Hg, HR⟩
  ihave HX := (ring_out (F := F) m c) $$ HR
  icases HX with ⟨HR, ⟨Hq0, Hq1⟩, Hh0⟩
  isplitl [HR HS1 HS2 HS3 HS4 HS5 HS6 HS7 HS8 HS9]
  · isplitl [HR]; · iexact HR
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iexact HS9
  isplitl [Hg]
  · iexact Hg
  isplitl [Hq0 Hq1]
  · isplitl [Hq0]; · iexact Hq0
    iexact Hq1
  iexact Hh0

/-! ## The run and the frame -/

set_option backward.isDefEq.respectTransparency.types false in
/-- The launch: the argument's array unchanged and every semaphore at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: every execution terminates, the argument ends unchanged, every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and ((θ_run defs _ _).mono (fun _ h c => ((h.1 c).2 main_arg0 (Pipeline.mem_restRefs_of main_arg0 (by decide) (by decide))).trans (V_main_arg0 m c)) (run_main_quiescent m ρ))
    ((θ_run defs _ _).mono (fun _ h => h.2) (run_main_quiescent m ρ))

end Cert.Kernel.Run

end
-- ==== Proof.IdealRing.lean ====
/- The scratch buffers, the branch conditions over the grid and the two-slot ring that streams the input's row blocks
   through `cc0_scratch0`, stated once for the runs of the body. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384
set_option synthInstance.maxSize 4096

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- `main` up to the region, over the algebra with the transfers' counters. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The body's branch conditions over the points -/

theorem hc1 : ∀ t : Fin cfg0.N, k0_cond1 (grid0.coords t) = 1#1 ↔ t.val = 0 :=
  (by decide +kernel : ∀ t : Fin grid0.N, k0_cond1 (grid0.coords t) = 1#1 ↔ t.val = 0)
theorem hc2 : ∀ t : Fin cfg0.N, k0_cond2 (grid0.coords t) = 1#1 ↔ t.val < 72 :=
  (by decide +kernel : ∀ t : Fin grid0.N, k0_cond2 (grid0.coords t) = 1#1 ↔ t.val < 72)
theorem hc3 : ∀ t : Fin cfg0.N, k0_cond3 (grid0.coords t) = 1#1 ↔ t.val < 71 :=
  (by decide +kernel : ∀ t : Fin grid0.N, k0_cond3 (grid0.coords t) = 1#1 ↔ t.val < 71)
theorem hc4 : ∀ t : Fin cfg0.N, k0_cond4 (grid0.coords t) = 1#1 ↔ t.val = 0 :=
  (by decide +kernel : ∀ t : Fin grid0.N, k0_cond4 (grid0.coords t) = 1#1 ↔ t.val = 0)
theorem hc5 : ∀ t : Fin cfg0.N, k0_cond5 (grid0.coords t) = 1#1 ↔ t.val = 1 :=
  (by decide +kernel : ∀ t : Fin grid0.N, k0_cond5 (grid0.coords t) = 1#1 ↔ t.val = 1)
theorem hc6 : ∀ t : Fin cfg0.N, k0_cond6 (grid0.coords t) = 1#1 ↔ 2 ≤ t.val ∧ t.val < 72 :=
  (by decide +kernel : ∀ t : Fin grid0.N, k0_cond6 (grid0.coords t) = 1#1 ↔ 2 ≤ t.val ∧ t.val < 72)
theorem hc7 : ∀ t : Fin cfg0.N, k0_cond7 (grid0.coords t) = 1#1 ↔ t.val = 72 :=
  (by decide +kernel : ∀ t : Fin grid0.N, k0_cond7 (grid0.coords t) = 1#1 ↔ t.val = 72)
theorem hc8 : ∀ t : Fin cfg0.N, k0_cond8 (grid0.coords t) = 1#1 ↔ t.val = 73 :=
  (by decide +kernel : ∀ t : Fin grid0.N, k0_cond8 (grid0.coords t) = 1#1 ↔ t.val = 73)

/-! ## The staging and scratch memrefs -/

/-- Each window's current staging memref at point `t`, spelled as the pipeline passes it (`bodyAt0`), and its wholeness. -/
abbrev ms0_0 (t : Fin cfg0.N) : Memref sig .tc .vmem S1x1x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x32000 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1000 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S2x128x32000 .bf16 := Memref.whole cc0_scratch0
abbrev scM0_1 : Memref sig .tc .vmem S32000x128 .bf16 := Memref.whole cc0_scratch1
abbrev scM0_2 : Memref sig .tc .vmem S32000x128 .f32 := Memref.whole cc0_scratch2
abbrev scM0_3 : Memref sig .tc .vmem S1000x128 .f32 := Memref.whole cc0_scratch3
abbrev scM0_4 : Memref sig .tc .vmem S1000x128 .f32 := Memref.whole cc0_scratch4
abbrev scM0_5 : Memref sig .tc .vmem S1000x128 .f32 := Memref.whole cc0_scratch5
abbrev scM0_6 : Memref sig .tc .vmem S320x2x128 .bf16 := Memref.whole cc0_scratch6
abbrev scM0_7 : Memref sig .tc .vmem S40x128 .f32 := Memref.whole cc0_scratch7
abbrev scM0_8 : Memref sig .tc .vmem S8x128 .f32 := Memref.whole cc0_scratch8
abbrev scM0_9 : Memref sig .tc .vmem S8x128 .f32 := Memref.whole cc0_scratch9
/-- The operands left in HBM that the body copies into scratch itself, whole. -/
abbrev hbM0_0 : Memref sig .tc .hbm S9216x32000 .bf16 := Memref.whole main_v0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 6, SemLoc.dma 7] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0) := by
  rw [Pipeline.ownSems0_eq_of_list c osem0 [0, 1] (by decide) (by decide)]; rfl
/-- The HBM operands the body moves, as references: unscoped, no window's array (`Pipeline.restRefs`). -/
def H0 : Finset (Ref sig .tc) := {main_v0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0)) := by
  rw [BI.bigSep_eq_bigSepL_of_eq [main_v0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r) ∗ iprop(semVal ((c : Thread nD τ), SemLoc.dma 6) 0 ∗ semVal ((c : Thread nD τ), SemLoc.dma 7) 0) ∗ iprop(hbPt0 c hbM0_0 (V m c main_v0))) := by
  rw [Pipeline.ΦD_eq, scopedRest0_eq, ownSems00_eq, hbmPts0_eq]; simp only [scM0_0, scM0_1, scM0_2, scM0_3, scM0_4, scM0_5, scM0_6, scM0_7, scM0_8, scM0_9, owns_whole]; try rfl

/-! ## Ring 0 of kernel 0: `main_v0` streamed through the 2 slots of `cc0_scratch0` on the cells of `cc0_scratch10`, 1 block ahead, in 72 steps -/

theorem inb_slot (s : Fin 2) : ∀ a, (![s.val, 0, 0] : Fin 3 → Nat) a + S1x128x32000.size a ≤ S2x128x32000.size a := by
  have := s.isLt; intro a; fin_cases a <;> simp <;> omega
theorem inb_src (b : Fin 72) : ∀ a, (![128 * b.val, 0] : Fin 2 → Nat) a + S128x32000.size a ≤ S9216x32000.size a := by
  have := b.isLt; intro a; fin_cases a <;> simp <;> omega
theorem inb_cell (s : Fin 2) : ∀ a, (![s.val] : Fin 1 → Nat) a + S1.size a ≤ S2.size a := by
  have := s.isLt; intro a; fin_cases a <;> simp <;> omega
/-- Slot `s` of the ring, spelt as the body's transfers spell their destination, at offsets in `s`. -/
def rslot (s : Fin 2) : Memref sig .tc .vmem S128x32000 .bf16 :=
  (scM0_0.slice (Rect.unit (s := S2x128x32000) ![s.val, 0, 0] S1x128x32000.size (inb_slot s)) (fun _ => rfl)).squeeze S128x32000 squeezes_S1x128x32000_S128x32000
/-- Block `b` of the operand (the block step `b` waits), spelt as the transfers spell their source, at offsets in `b`. -/
def srcB (b : Fin 72) : Memref sig .tc .hbm S128x32000 .bf16 :=
  hbM0_0.slice (Rect.unit (s := S9216x32000) ![128 * b.val, 0] S128x32000.size (inb_src b)) (fun _ => rfl)
/-- Cell `s` of `cc0_scratch10`, spelt as the body spells a cell; its number in the pool. -/
def cellA (s : Fin 2) : DmaSems sig S_ := (cc0_scratch10.slice (Rect.unit (s := S2) ![s.val] S1.size (inb_cell s))).squeeze S_ squeezes_S1_S_
abbrev cellR (s : Fin 2) : SemLoc sig := SemLoc.dma (cellA s).sem
theorem cellR_0 : cellR 0 = SemLoc.dma 6 := by decide
theorem cellR_1 : cellR 1 = SemLoc.dma 7 := by decide

section Ring
variable (c : Dev nD) (W : HbBuf0 (F := F) c hbM0_0)
/-- The operand is lent BY SHARE, one read-share copy of it per slot (the left and right halves of the full share): whatever
    blocks two transfers in flight stream — the same one twice, two that overlap —, each borrows from its own slot's copy. -/
abbrev qs (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP (s : Fin 2) (f : HbBuf0 (F := F) c (rslot s)) : sProp 𝕄 := (rslot s).view.loc (c : Thread nD τ) ↦[(rslot s).view.set]{fullShare} f
abbrev cellP (s : Fin 2) : sProp 𝕄 := semVal ((c : Thread nD τ), cellR s) 0
abbrev srcP (s : Fin 2) (b : Fin 72) : sProp 𝕄 := (srcB b).view.loc (c : Thread nD τ) ↦[(srcB b).view.set]{qs s} W
/-- (a `def`: no run reads this rest, and folded it stays out of the executor's table of held buffers) -/
def restP (s : Fin 2) (b : Fin 72) : sProp 𝕄 := ((c : Thread nD τ).loc main_v0) ↦[Finset.univ \ (srcB b).view.set]{qs s} W
abbrev wholeP (s : Fin 2) : sProp 𝕄 := ((c : Thread nD τ).loc main_v0) ↦[Finset.univ]{qs s} W
abbrev landed (s : Fin 2) (b : Fin 72) (f : HbBuf0 (F := F) c (rslot s)) : HbBuf0 (F := F) c (rslot s) :=
  (rslot s).view.writes (Elt F) f [⟨Rect.whole S128x32000, ReadAs.same.apply ((srcB b).view.read (Elt F) W)⟩]
abbrev flightP (s : Fin 2) (b : Fin 72) (f : HbBuf0 (F := F) c (rslot s)) : sProp 𝕄 :=
  Transfers.Flight countersEmb (c : Thread nD τ) (cellR s) default ((rslot s).view.amount (cellR s))
    iprop(slotP c s (landed c W s b f) ∗ srcP c W s b)
/-- Lib/Ring.lean's `slot` and `flight` families: a slot not in flight carries its copy of the operand whole; a flight, the
    rest of the copy it borrowed from. No block is held apart: the `home` family is `emp`. -/
abbrev slotW (s : Fin 2) (f : HbBuf0 (F := F) c (rslot s)) : sProp 𝕄 := iprop(slotP c s f ∗ wholeP c W s)
abbrev flightW (s : Fin 2) (b : Fin 72) (f : HbBuf0 (F := F) c (rslot s)) : sProp 𝕄 := iprop(flightP c W s b f ∗ restP c W s b)
abbrev noHome (b : Fin 72) : sProp 𝕄 := iprop(emp)
/-- The ring before its step `k` (Lib/Ring.lean `AtK`): every slot free before the first; from then on block `k` in flight
    into slot `k`, slot `k + 1` KEEPING block `k - 1` (landed, readable) until the step starts block `k + 1` over it. -/
def ringAt (k : ℕ) : sProp 𝕄 :=
  if k = 0 then Ring.At₀ (cellP c) (slotW c W) noHome
  else Ring.AtK 1 (cellP c) (slotW c W) noHome (flightW c W) (landed c W) k
omit [FloatOps F] [Named F] in
theorem cellP_0 : cellP (F := F) c 0 = semVal ((c : Thread nD τ), SemLoc.dma 6) 0 := congrArg (fun x => (semVal ((c : Thread nD τ), x) 0 : sProp 𝕄)) cellR_0
omit [FloatOps F] [Named F] in
theorem cellP_1 : cellP (F := F) c 1 = semVal ((c : Thread nD τ), SemLoc.dma 7) 0 := congrArg (fun x => (semVal ((c : Thread nD τ), x) 0 : sProp 𝕄)) cellR_1
end Ring

/-! ### The slots, disjoint and covering the scratch (Lib/Ring.lean `lead_disjoint` / `lead_cover`) -/

abbrev slotSet (s : Fin 2) : Finset S2x128x32000.Idx := (Rect.unit (s := S2x128x32000) ![s.val, 0, 0] S1x128x32000.size (inb_slot s)).set
theorem slotSet_eq (s : Fin 2) : (rslot s).view.set = slotSet s := by
  simp only [rslot, Memref.view_squeeze, View.set_reshape]; exact View.set_slice_whole _ _
theorem slots_disjoint (s s' : Fin 2) (h : s ≠ s') : Disjoint (slotSet s) (slotSet s') :=
  Ring.lead_disjoint (s := S2x128x32000) (0 : Fin 3) 1 (fun s : Fin 2 => (![s.val, 0, 0] : Fin 3 → Nat)) S1x128x32000.size inb_slot (fun s => by simp) rfl s s' h
theorem slots_cover : Finset.univ.biUnion slotSet = Finset.univ :=
  Ring.lead_cover (s := S2x128x32000) (0 : Fin 3) 1 (fun s : Fin 2 => (![s.val, 0, 0] : Fin 3 → Nat)) S1x128x32000.size inb_slot (fun s => by simp)
    (fun s a ha => by fin_cases a <;> first | exact absurd rfl ha | rfl) rfl (fun a ha => by fin_cases a <;> first | exact absurd rfl ha | rfl) rfl

/-! ### What the launch hands the ring, and takes back -/

section InOut
variable (c : Dev nD) (W : HbBuf0 (F := F) c hbM0_0)
theorem slotP_eq (s : Fin 2) (f) : slotP (F := F) c s f = (((c : Thread nD τ).loc cc0_scratch0) ↦[slotSet s]{fullShare} f : sProp 𝕄) := by
  unfold slotP; rw [slotSet_eq]; rfl
/-- A slot's copy of the operand, whole, is block `b`'s elements and the rest (any `b`: what a run splits off before its step
    starts block `b`, and joins back once the wait returned it); -/
theorem src_split (s : Fin 2) (b : Fin 72) : wholeP (F := F) c W s ⊣⊢ iprop(srcP c W s b ∗ restP c W s b) := by
  unfold restP; exact pointsTo_split_subset (Finset.subset_univ _)
/-- the operand whole at the full share is the two copies. -/
theorem whole_split : (hbPt0 c hbM0_0 W : sProp 𝕄) ⊣⊢ iprop(wholeP c W 0 ∗ wholeP c W 1) :=
  pointsTo_share (PosShare.mem_left_op_right fullShare)
set_option maxHeartbeats 1000000 in
/-- the scratch whole at anything is its slots at something each, and back. -/
theorem slots_in : iprop(∃ d, owns (c : Thread nD τ) scM0_0 fullShare d) ⊢ (iprop((∃ f, slotP (F := F) c 0 f) ∗ ∃ f, slotP (F := F) c 1 f) : sProp 𝕄) := by
  simp only [scM0_0, owns_whole]
  exact Ring.slots2_split (U := Pipeline.UD sig nD τ) (ℓ := (c : Thread nD τ).loc cc0_scratch0) (q := fullShare) slotSet slots_disjoint slots_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄) ⊢ iprop(∃ d, owns (c : Thread nD τ) scM0_0 fullShare d) := by
  simp only [scM0_0, owns_whole]
  exact Ring.slots2_join (U := Pipeline.UD sig nD τ) (ℓ := (c : Thread nD τ).loc cc0_scratch0) (q := fullShare) slotSet slots_disjoint slots_cover
    (slotP c 0) (slotP c 1) (slotP_eq c 0) (slotP_eq c 1)
end InOut

/-- INTO THE RING: the launch's pieces — the scratch whole, the cells at zero, the operand whole — are the ring before its first step; -/
theorem ring_in (c : Dev nD) :
    iprop((∃ d, owns (c : Thread nD τ) scM0_0 fullShare d) ∗ (semVal ((c : Thread nD τ), SemLoc.dma 6) 0 ∗ semVal ((c : Thread nD τ), SemLoc.dma 7) 0) ∗ hbPt0 c hbM0_0 (V m c main_v0))
      ⊢ ringAt c (V m c main_v0) 0 := by
  unfold ringAt; rw [if_pos rfl]; unfold Ring.At₀
  rw [Ring.bigSep_fin2]
  simp only [Ring.free, cellP_0, cellP_1]
  iintro ⟨HS, Hc, HW⟩
  iapply Ring.with_homes₀
  icases Hc with ⟨H0, H1⟩
  ihave HS' := (slots_in (F := F) c) $$ HS
  icases HS' with ⟨⟨%d0, HS0⟩, ⟨%d1, HS1⟩⟩
  ihave HW' := (whole_split (F := F) c (V m c main_v0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring_out (c : Dev nD) :
    ringAt c (V m c main_v0) 72
      ⊢ iprop((∃ d, owns (c : Thread nD τ) scM0_0 fullShare d) ∗ (semVal ((c : Thread nD τ), SemLoc.dma 6) 0 ∗ semVal ((c : Thread nD τ), SemLoc.dma 7) 0) ∗ hbPt0 c hbM0_0 (V m c main_v0)) := by
  unfold ringAt; rw [if_neg (by decide)]
  iintro H
  ihave H' := (Ring.free2_of_AtK_last _ _ _ _ _) $$ H
  simp only [Ring.free, cellP_0, cellP_1]
  icases H' with ⟨-, ⟨H0, ⟨%f0, HS0, HW0⟩⟩, ⟨H1, ⟨%f1, HS1, HW1⟩⟩⟩
  isplitl [HS0 HS1]
  · iapply (slots_out (F := F) c); isplitl [HS0]; · iexists f0; iexact HS0
    iexists f1; iexact HS1
  isplitl [H0 H1]
  · isplitl [H0]; · iexact H0
    iexact H1
  · iapply (whole_split (F := F) c (V m c main_v0)).2; isplitl [HW0]; · iexact HW0
    iexact HW1

/-! ### The transfers' operands at a point, in the ring's spelling -/

section Canon
omit [FloatOps F] [Named F]
theorem cell_first : ∀ t : Fin grid0.N, k0_cond1 (grid0.coords t) = 1#1 → (![0] : Fin 1 → Nat) = ![(Ring.sl 2 t.val).val] := by decide +kernel
theorem slot_first : ∀ t : Fin grid0.N, k0_cond1 (grid0.coords t) = 1#1 → (![0, 0, 0] : Fin 3 → Nat) = ![(Ring.sl 2 t.val).val, 0, 0] := by decide +kernel
theorem src_first : ∀ t : Fin grid0.N, k0_cond1 (grid0.coords t) = 1#1 → (![0, 0] : Fin 2 → Nat) = ![128 * (Ring.bk 72 t.val).val, 0] := by decide +kernel
theorem off1_eq : ∀ t : Fin grid0.N, k0_off1 (grid0.coords t) = ![(Ring.sl 2 t.val).val] := by decide +kernel
theorem off2_eq : ∀ t : Fin grid0.N, k0_off2 (grid0.coords t) = ![(Ring.sl 2 t.val).val, 0, 0] := by decide +kernel
theorem off4_eq : ∀ t : Fin grid0.N, k0_off4 (grid0.coords t) = ![(Ring.sl 2 (t.val + 1)).val] := by decide +kernel
theorem off5_eq : ∀ t : Fin grid0.N, k0_off5 (grid0.coords t) = ![(Ring.sl 2 (t.val + 1)).val, 0, 0] := by decide +kernel
theorem off6_eq : ∀ t : Fin grid0.N, k0_cond3 (grid0.coords t) = 1#1 → k0_off6 (grid0.coords t) = ![128 * (Ring.bk 72 (t.val + 1)).val, 0] := by decide +kernel

/-- The first copy's slot. -/
@[sl_canon] theorem canon_slot_first (t : Fin grid0.N) (h : k0_cond1 (grid0.coords t) = 1#1) :
    (scM0_0.slice (Rect.unit (s := S2x128x32000) ![0, 0, 0] S1x128x32000.size inb_S2x128x32000_S1x128x32000_0_0_0) (fun _ => rfl)).squeeze S128x32000 squeezes_S1x128x32000_S128x32000 = rslot (Ring.sl 2 t.val) :=
  congrArg (fun M : Memref sig .tc .vmem S1x128x32000 .bf16 => M.squeeze S128x32000 squeezes_S1x128x32000_S128x32000) (Memref.slice_unit_congr _ (slot_first t h) _ _ (fun _ => rfl) (fun _ => rfl))
/-- The first copy's cell. -/
@[sl_canon] theorem canon_cell_first (t : Fin grid0.N) (h : k0_cond1 (grid0.coords t) = 1#1) :
    (cc0_scratch10.slice (Rect.unit (s := S2) ![0] S1.size inb_S2_S1_0)).squeeze S_ squeezes_S1_S_ = cellA (Ring.sl 2 t.val) :=
  congrArg (fun A : DmaSems sig S1 => A.squeeze S_ squeezes_S1_S_) (SemArray.slice_unit_congr _ (cell_first t h) _ _)
/-- The first copy's block. -/
@[sl_canon] theorem canon_src_first (t : Fin grid0.N) (h : k0_cond1 (grid0.coords t) = 1#1) :
    hbM0_0.slice (Rect.unit (s := S9216x32000) ![0, 0] S128x32000.size inb_S9216x32000_S128x32000_0_0) (fun _ => rfl) = srcB (Ring.bk 72 t.val) :=
  congrArg (fun M : Memref sig .tc .hbm S128x32000 .bf16 => M) (Memref.slice_unit_congr _ (src_first t h) _ _ (fun _ => rfl) (fun _ => rfl))
/-- The awaited slot. -/
@[sl_canon] theorem canon_slot_wait (t : Fin grid0.N) (h : k0_cond2 (grid0.coords t) = 1#1) :
    (scM0_0.slice (Rect.unit (s := S2x128x32000) (k0_off2 (grid0.coords t)) S1x128x32000.size (k0_off2_inb (grid0.coords t) h)) (fun _ => rfl)).squeeze S128x32000 squeezes_S1x128x32000_S128x32000 = rslot (Ring.sl 2 t.val) :=
  congrArg (fun M : Memref sig .tc .vmem S1x128x32000 .bf16 => M.squeeze S128x32000 squeezes_S1x128x32000_S128x32000) (Memref.slice_unit_congr _ (off2_eq t) _ _ (fun _ => rfl) (fun _ => rfl))
/-- The awaited cell. -/
@[sl_canon] theorem canon_cell_wait (t : Fin grid0.N) (h : k0_cond2 (grid0.coords t) = 1#1) :
    (cc0_scratch10.slice (Rect.unit (s := S2) (k0_off1 (grid0.coords t)) S1.size (k0_off1_inb (grid0.coords t) h))).squeeze S_ squeezes_S1_S_ = cellA (Ring.sl 2 t.val) :=
  congrArg (fun A : DmaSems sig S1 => A.squeeze S_ squeezes_S1_S_) (SemArray.slice_unit_congr _ (off1_eq t) _ _)
/-- The next copy's slot. -/
@[sl_canon] theorem canon_slot_next (t : Fin grid0.N) (h : k0_cond3 (grid0.coords t) = 1#1) :
    (scM0_0.slice (Rect.unit (s := S2x128x32000) (k0_off5 (grid0.coords t)) S1x128x32000.size (k0_off5_inb (grid0.coords t) h)) (fun _ => rfl)).squeeze S128x32000 squeezes_S1x128x32000_S128x32000 = rslot (Ring.sl 2 (t.val + 1)) :=
  congrArg (fun M : Memref sig .tc .vmem S1x128x32000 .bf16 => M.squeeze S128x32000 squeezes_S1x128x32000_S128x32000) (Memref.slice_unit_congr _ (off5_eq t) _ _ (fun _ => rfl) (fun _ => rfl))
/-- The next copy's cell. -/
@[sl_canon] theorem canon_cell_next (t : Fin grid0.N) (h : k0_cond3 (grid0.coords t) = 1#1) :
    (cc0_scratch10.slice (Rect.unit (s := S2) (k0_off4 (grid0.coords t)) S1.size (k0_off4_inb (grid0.coords t) h))).squeeze S_ squeezes_S1_S_ = cellA (Ring.sl 2 (t.val + 1)) :=
  congrArg (fun A : DmaSems sig S1 => A.squeeze S_ squeezes_S1_S_) (SemArray.slice_unit_congr _ (off4_eq t) _ _)
/-- The next copy's block. -/
@[sl_canon] theorem canon_src_next (t : Fin grid0.N) (h : k0_cond3 (grid0.coords t) = 1#1) :
    hbM0_0.slice (Rect.unit (s := S9216x32000) (k0_off6 (grid0.coords t)) S128x32000.size (k0_off6_inb (grid0.coords t) h)) (fun _ => rfl) = srcB (Ring.bk 72 (t.val + 1)) :=
  congrArg (fun M : Memref sig .tc .hbm S128x32000 .bf16 => M) (Memref.slice_unit_congr _ (off6_eq t h) _ _ (fun _ => rfl) (fun _ => rfl))
end Canon

end Cert.KernelIdeal.Run

end
-- ==== Proof.ValBase.lean ====
/- Contents by coordinates: what a buffer of the kernel holds, written as a function of row and column numbers, and what a
   write of one tile makes of it. -/
module

public import proofs.«01_k».proof.Proof.IdealRing
public import Idealize.ShloMosaic.Lib.WritesUnit
public import Idealize.ShloMosaic.Lib.Pipeline.Value

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-! ## Contents -/

/-- `G` in the rows from `a` to `n`, `D` elsewhere. -/
def seg {α : Type} (a n : ℕ) (G D : ℕ → ℕ → α) : ℕ → ℕ → α := fun i j => if a ≤ i ∧ i < n then G i j else D i j
/-- `G` in the columns from `a` to `n`, `D` elsewhere. -/
def segc {α : Type} (a n : ℕ) (G D : ℕ → ℕ → α) : ℕ → ℕ → α := fun i j => if a ≤ j ∧ j < n then G i j else D i j
/-- `G` in the slabs from `a` to `n`, `D` elsewhere. -/
def seg3 {α : Type} (a n : ℕ) (G D : ℕ → ℕ → ℕ → α) : ℕ → ℕ → ℕ → α := fun i j k => if a ≤ i ∧ i < n then G i j k else D i j k

/-- `D` after `k` writes of `h` rows of `G` each, from row `a` on. -/
def ov {α : Type} (a h : ℕ) (G D : ℕ → ℕ → α) : ℕ → ℕ → ℕ → α
  | 0 => D
  | k + 1 => seg a (a + h * (k + 1)) G D
/-- `D` after `k` writes of `h` columns of `G` each, from column `a` on. -/
def ovc {α : Type} (a h : ℕ) (G D : ℕ → ℕ → α) : ℕ → ℕ → ℕ → α
  | 0 => D
  | k + 1 => segc a (a + h * (k + 1)) G D
/-- `D` after `k` writes of `h` slabs of `G` each, from slab `a` on. -/
def ov3 {α : Type} (a h : ℕ) (G D : ℕ → ℕ → ℕ → α) : ℕ → ℕ → ℕ → ℕ → α
  | 0 => D
  | k + 1 => seg3 a (a + h * (k + 1)) G D

theorem seg_self {α : Type} (a : ℕ) (G D : ℕ → ℕ → α) : seg a a G D = D := by funext i j; unfold seg; rw [if_neg (by omega)]
theorem segc_self {α : Type} (a : ℕ) (G D : ℕ → ℕ → α) : segc a a G D = D := by funext i j; unfold segc; rw [if_neg (by omega)]
theorem seg3_self {α : Type} (a : ℕ) (G D : ℕ → ℕ → ℕ → α) : seg3 a a G D = D := by funext i j k; unfold seg3; rw [if_neg (by omega)]
theorem ov_eq {α : Type} (a h : ℕ) (G D : ℕ → ℕ → α) (k : ℕ) : ov a h G D k = seg a (a + h * k) G D := by
  cases k with
  | zero => exact (seg_self a G D).symm
  | succ k => rfl
theorem ovc_eq {α : Type} (a h : ℕ) (G D : ℕ → ℕ → α) (k : ℕ) : ovc a h G D k = segc a (a + h * k) G D := by
  cases k with
  | zero => exact (segc_self a G D).symm
  | succ k => rfl
theorem ov3_eq {α : Type} (a h : ℕ) (G D : ℕ → ℕ → ℕ → α) (k : ℕ) : ov3 a h G D k = seg3 a (a + h * k) G D := by
  cases k with
  | zero => exact (seg3_self a G D).symm
  | succ k => rfl
theorem seg_in {α : Type} {a n i : ℕ} (G D : ℕ → ℕ → α) (j : ℕ) (h : a ≤ i) (h' : i < n) : seg a n G D i j = G i j := if_pos ⟨h, h'⟩
theorem seg_out {α : Type} {a n i : ℕ} (G D : ℕ → ℕ → α) (j : ℕ) (h : i < a ∨ n ≤ i) : seg a n G D i j = D i j := if_neg (by omega)
theorem seg3_in {α : Type} {a n i : ℕ} (G D : ℕ → ℕ → ℕ → α) (j k : ℕ) (h : a ≤ i) (h' : i < n) : seg3 a n G D i j k = G i j k := if_pos ⟨h, h'⟩

/-- Chunk `k` written over the chunks before it: the same as the first `k + 1` chunks written. -/
theorem ov_chunk {α : Type} {H : ℕ} (h n k : ℕ) (G G' D : ℕ → ℕ → α) (hH : h * n = H)
    (hg : ∀ i j, H * k ≤ i → i < H * (k + 1) → G' i j = G i j) : ov (H * k) h G' (ov 0 H G D k) n = ov 0 H G D (k + 1) := by
  rw [ov_eq, ov_eq, ov_eq, hH]
  funext i j
  have hk : H * (k + 1) = H * k + H := by ring
  unfold seg
  by_cases h1 : H * k ≤ i ∧ i < H * k + H
  · rw [if_pos h1, if_pos ⟨Nat.zero_le _, by omega⟩]
    exact hg i j h1.1 (by omega)
  · rw [if_neg h1]
    by_cases h2 : i < H * k
    · rw [if_pos ⟨Nat.zero_le _, by omega⟩, if_pos ⟨Nat.zero_le _, by omega⟩]
    · rw [if_neg (by omega), if_neg (by omega)]

theorem ovc_chunk {α : Type} {H : ℕ} (h n k : ℕ) (G G' D : ℕ → ℕ → α) (hH : h * n = H)
    (hg : ∀ i j, H * k ≤ j → j < H * (k + 1) → G' i j = G i j) : ovc (H * k) h G' (ovc 0 H G D k) n = ovc 0 H G D (k + 1) := by
  rw [ovc_eq, ovc_eq, ovc_eq, hH]
  funext i j
  have hk : H * (k + 1) = H * k + H := by ring
  unfold segc
  by_cases h1 : H * k ≤ j ∧ j < H * k + H
  · rw [if_pos h1, if_pos ⟨Nat.zero_le _, by omega⟩]
    exact hg i j h1.1 (by omega)
  · rw [if_neg h1]
    by_cases h2 : j < H * k
    · rw [if_pos ⟨Nat.zero_le _, by omega⟩, if_pos ⟨Nat.zero_le _, by omega⟩]
    · rw [if_neg (by omega), if_neg (by omega)]

/-- The chunks from `k` on are as they were. -/
theorem ov_rest {α : Type} {H i : ℕ} (k : ℕ) (G D : ℕ → ℕ → α) (j : ℕ) (h : H * k ≤ i) : ov 0 H G D k i j = D i j := by
  rw [ov_eq, seg_out _ _ _ (Or.inr (by omega))]

/-- A two-axis buffer is held, and its element at row `i`, column `j` is `D i j`. -/
@[irreducible] def own2 (c : Dev nD) {sp : Space} {N W : ℕ} {e : EltTy} (M : Memref sig .tc sp ⟨2, ![N, W]⟩ e) (D : ℕ → ℕ → Elt Ideal e) : sProp 𝕄 :=
  iprop(∃ f, ⌜M.view.read (Elt Ideal) f = fun y => D (y 0).val (y 1).val⌝ ∗ (M.view.loc (c : Thread nD τ) ↦[M.view.set]{fullShare} f))

/-- A three-axis buffer is held, and its element at `i`, `j`, `k` is `D i j k`. -/
@[irreducible] def own3 (c : Dev nD) {sp : Space} {N W Z : ℕ} {e : EltTy} (M : Memref sig .tc sp ⟨3, ![N, W, Z]⟩ e) (D : ℕ → ℕ → ℕ → Elt Ideal e) : sProp 𝕄 :=
  iprop(∃ f, ⌜M.view.read (Elt Ideal) f = fun y => D (y 0).val (y 1).val (y 2).val⌝ ∗ (M.view.loc (c : Thread nD τ) ↦[M.view.set]{fullShare} f))

/-- The index at row `i`, column `j`. -/
def ix2 {N W : ℕ} (i j : ℕ) (hi : i < N) (hj : j < W) : (⟨2, ![N, W]⟩ : Shape).Idx :=
  fun a => Fin.cases (⟨i, hi⟩ : Fin ((![N, W] : Fin 2 → ℕ) 0)) (fun a => Fin.cases (⟨j, hj⟩ : Fin ((![N, W] : Fin 2 → ℕ) 1)) (fun a => a.elim0) a) a
theorem ix2_0 {N W : ℕ} (i j : ℕ) (hi : i < N) (hj : j < W) : (ix2 (N := N) (W := W) i j hi hj 0).val = i := rfl
theorem ix2_1 {N W : ℕ} (i j : ℕ) (hi : i < N) (hj : j < W) : (ix2 (N := N) (W := W) i j hi hj 1).val = j := rfl
theorem ix2_eta {N W : ℕ} (y : (⟨2, ![N, W]⟩ : Shape).Idx) (i j : ℕ) (hi : i < N) (hj : j < W) (h0 : (y 0).val = i) (h1 : (y 1).val = j) :
    y = ix2 i j hi hj := by
  funext a
  fin_cases a
  · exact Fin.ext h0
  · exact Fin.ext h1

/-- The index at `i`, `j`, `k`. -/
def ix3 {N W Z : ℕ} (i j k : ℕ) (hi : i < N) (hj : j < W) (hk : k < Z) : (⟨3, ![N, W, Z]⟩ : Shape).Idx :=
  fun a => Fin.cases (⟨i, hi⟩ : Fin ((![N, W, Z] : Fin 3 → ℕ) 0)) (fun a => Fin.cases (⟨j, hj⟩ : Fin ((![N, W, Z] : Fin 3 → ℕ) 1))
    (fun a => Fin.cases (⟨k, hk⟩ : Fin ((![N, W, Z] : Fin 3 → ℕ) 2)) (fun a => a.elim0) a) a) a
theorem ix3_eta {N W Z : ℕ} (y : (⟨3, ![N, W, Z]⟩ : Shape).Idx) (i j k : ℕ) (hi : i < N) (hj : j < W) (hk : k < Z)
    (h0 : (y 0).val = i) (h1 : (y 1).val = j) (h2 : (y 2).val = k) : y = ix3 i j k hi hj hk := by
  funext a
  fin_cases a
  · exact Fin.ext h0
  · exact Fin.ext h1
  · exact Fin.ext h2

section Writes

variable {sig : RefSig} {κ : Kind} {sp : Space} {N W Z : ℕ} {e : EltTy}

/-- A write of the `h` full rows from row `n` on, of rows that `G` names, moves the border between `G` and `D` to `n + h`. -/
theorem rows_cons (v : View sig κ sp ⟨2, ![N, W]⟩ e) (f : v.ty.Contents (Elt Ideal)) {off : Fin 2 → ℕ} {h : ℕ} (a n : ℕ) (han : a ≤ n)
    (inb : ∀ a : Fin 2, off a + (![h, W] : Fin 2 → ℕ) a ≤ (⟨2, ![N, W]⟩ : Shape).size a)
    (w : (Rect.unit (s := ⟨2, ![N, W]⟩) off ![h, W] inb).shape.Idx → Elt Ideal e) (L : List (View.Piece (Elt Ideal) ⟨2, ![N, W]⟩ e))
    (G D : ℕ → ℕ → Elt Ideal e) (ho : off = ![n, 0])
    (hL : v.read (Elt Ideal) (v.writes (Elt Ideal) f L) = fun y => seg a n G D (y 0).val (y 1).val)
    (hw : ∀ x : (⟨2, ![h, W]⟩ : Shape).Idx, w x = G (n + (x 0).val) (x 1).val) :
    v.read (Elt Ideal) (v.writes (Elt Ideal) f ((⟨Rect.unit (s := ⟨2, ![N, W]⟩) off ![h, W] inb, w⟩ : View.Piece (Elt Ideal) ⟨2, ![N, W]⟩ e) :: L))
      = fun y => seg a (n + h) G D (y 0).val (y 1).val := by
  subst ho
  funext y
  have hy1 : (y 1).val < W := (y 1).isLt
  by_cases hy : n ≤ (y 0).val ∧ (y 0).val < n + h
  · rw [View.read_writes_cons_unit_of_mem v f inb w L y
      (ix2 (N := h) (W := W) ((y 0).val - n) (y 1).val (by omega) hy1) rfl
      (fun a => by
        fin_cases a
        · show (y 0).val = n + ((y 0).val - n); omega
        · show (y 1).val = 0 + (y 1).val; omega)]
    rw [hw]
    show G (n + ((y 0).val - n)) (y 1).val = _
    rw [seg_in _ _ _ (by omega) hy.2, show n + ((y 0).val - n) = (y 0).val by omega]
  · rw [View.read_writes_cons_unit_of_not_mem v f inb w L y rfl (0 : Fin 2) (by show (y 0).val < n ∨ n + h ≤ (y 0).val; omega), hL]
    show seg a n G D _ _ = seg a (n + h) G D _ _
    unfold seg
    by_cases h1 : a ≤ (y 0).val ∧ (y 0).val < n
    · rw [if_pos h1, if_pos (by omega)]
    · rw [if_neg h1, if_neg (by omega)]

/-- A write of `h` full columns from column `n` on, of columns that `G` names, moves the border to `n + h`. -/
theorem cols_cons (v : View sig κ sp ⟨2, ![N, W]⟩ e) (f : v.ty.Contents (Elt Ideal)) {off : Fin 2 → ℕ} {h : ℕ} (a n : ℕ) (han : a ≤ n)
    (inb : ∀ a : Fin 2, off a + (![N, h] : Fin 2 → ℕ) a ≤ (⟨2, ![N, W]⟩ : Shape).size a)
    (w : (Rect.unit (s := ⟨2, ![N, W]⟩) off ![N, h] inb).shape.Idx → Elt Ideal e) (L : List (View.Piece (Elt Ideal) ⟨2, ![N, W]⟩ e))
    (G D : ℕ → ℕ → Elt Ideal e) (ho : off = ![0, n])
    (hL : v.read (Elt Ideal) (v.writes (Elt Ideal) f L) = fun y => segc a n G D (y 0).val (y 1).val)
    (hw : ∀ x : (⟨2, ![N, h]⟩ : Shape).Idx, w x = G (x 0).val (n + (x 1).val)) :
    v.read (Elt Ideal) (v.writes (Elt Ideal) f ((⟨Rect.unit (s := ⟨2, ![N, W]⟩) off ![N, h] inb, w⟩ : View.Piece (Elt Ideal) ⟨2, ![N, W]⟩ e) :: L))
      = fun y => segc a (n + h) G D (y 0).val (y 1).val := by
  subst ho
  funext y
  have hy0 : (y 0).val < N := (y 0).isLt
  by_cases hy : n ≤ (y 1).val ∧ (y 1).val < n + h
  · rw [View.read_writes_cons_unit_of_mem v f inb w L y
      (ix2 (N := N) (W := h) (y 0).val ((y 1).val - n) hy0 (by omega)) rfl
      (fun a => by
        fin_cases a
        · show (y 0).val = 0 + (y 0).val; omega
        · show (y 1).val = n + ((y 1).val - n); omega)]
    rw [hw]
    show G (y 0).val (n + ((y 1).val - n)) = _
    unfold segc
    rw [if_pos (by omega), show n + ((y 1).val - n) = (y 1).val by omega]
  · rw [View.read_writes_cons_unit_of_not_mem v f inb w L y rfl (1 : Fin 2) (by show (y 1).val < n ∨ n + h ≤ (y 1).val; omega), hL]
    show segc a n G D _ _ = segc a (n + h) G D _ _
    unfold segc
    by_cases h1 : a ≤ (y 1).val ∧ (y 1).val < n
    · rw [if_pos h1, if_pos (by omega)]
    · rw [if_neg h1, if_neg (by omega)]

/-- A write of `h` full slabs from slab `n` on, of slabs that `G` names, moves the border to `n + h`. -/
theorem slabs_cons (v : View sig κ sp ⟨3, ![N, W, Z]⟩ e) (f : v.ty.Contents (Elt Ideal)) {off : Fin 3 → ℕ} {h : ℕ} (a n : ℕ) (han : a ≤ n)
    (inb : ∀ a : Fin 3, off a + (![h, W, Z] : Fin 3 → ℕ) a ≤ (⟨3, ![N, W, Z]⟩ : Shape).size a)
    (w : (Rect.unit (s := ⟨3, ![N, W, Z]⟩) off ![h, W, Z] inb).shape.Idx → Elt Ideal e) (L : List (View.Piece (Elt Ideal) ⟨3, ![N, W, Z]⟩ e))
    (G D : ℕ → ℕ → ℕ → Elt Ideal e) (ho : off = ![n, 0, 0])
    (hL : v.read (Elt Ideal) (v.writes (Elt Ideal) f L) = fun y => seg3 a n G D (y 0).val (y 1).val (y 2).val)
    (hw : ∀ x : (⟨3, ![h, W, Z]⟩ : Shape).Idx, w x = G (n + (x 0).val) (x 1).val (x 2).val) :
    v.read (Elt Ideal) (v.writes (Elt Ideal) f ((⟨Rect.unit (s := ⟨3, ![N, W, Z]⟩) off ![h, W, Z] inb, w⟩ : View.Piece (Elt Ideal) ⟨3, ![N, W, Z]⟩ e) :: L))
      = fun y => seg3 a (n + h) G D (y 0).val (y 1).val (y 2).val := by
  subst ho
  funext y
  have hy1 : (y 1).val < W := (y 1).isLt
  have hy2 : (y 2).val < Z := (y 2).isLt
  by_cases hy : n ≤ (y 0).val ∧ (y 0).val < n + h
  · rw [View.read_writes_cons_unit_of_mem v f inb w L y
      (ix3 (N := h) (W := W) (Z := Z) ((y 0).val - n) (y 1).val (y 2).val (by omega) hy1 hy2) rfl
      (fun a => by
        fin_cases a
        · show (y 0).val = n + ((y 0).val - n); omega
        · show (y 1).val = 0 + (y 1).val; omega
        · show (y 2).val = 0 + (y 2).val; omega)]
    rw [hw]
    show G (n + ((y 0).val - n)) (y 1).val (y 2).val = _
    rw [seg3_in _ _ _ _ (by omega) hy.2, show n + ((y 0).val - n) = (y 0).val by omega]
  · rw [View.read_writes_cons_unit_of_not_mem v f inb w L y rfl (0 : Fin 3) (by show (y 0).val < n ∨ n + h ≤ (y 0).val; omega), hL]
    show seg3 a n G D _ _ _ = seg3 a (n + h) G D _ _ _
    unfold seg3
    by_cases h1 : a ≤ (y 0).val ∧ (y 0).val < n
    · rw [if_pos h1, if_pos (by omega)]
    · rw [if_neg h1, if_neg (by omega)]

/-- A load of slabs at a stride reads `D` there. -/
theorem readAt3s (v : View sig κ sp ⟨3, ![N, W, Z]⟩ e) {f : v.ty.Contents (Elt Ideal)} {D : ℕ → ℕ → ℕ → Elt Ideal e}
    (hf : v.read (Elt Ideal) f = fun y => D (y 0).val (y 1).val (y 2).val) {off : Fin 3 → ℕ} {h l z : ℕ} (a st : ℕ) (ho : off = ![a, 0, 0])
    (inb) (x : (⟨3, ![h, l, z]⟩ : Shape).Idx) :
    v.readAt (Elt Ideal) (⟨off, ![h, l, z], ![st, 1, 1], inb⟩ : LoadRect ⟨3, ![N, W, Z]⟩) f x = D (a + st * (x 0).val) (x 1).val (x 2).val := by
  subst ho
  refine (congrFun hf _).trans ?_
  show D (a + st * (x 0).val) (0 + 1 * (x 1).val) (0 + 1 * (x 2).val) = _
  simp only [Nat.one_mul, Nat.zero_add]

/-- A load of a tile reads `D` at the tile's offset. -/
theorem readAt2 (v : View sig κ sp ⟨2, ![N, W]⟩ e) {f : v.ty.Contents (Elt Ideal)} {D : ℕ → ℕ → Elt Ideal e}
    (hf : v.read (Elt Ideal) f = fun y => D (y 0).val (y 1).val) {off : Fin 2 → ℕ} {h l : ℕ} (a b : ℕ) (ho : off = ![a, b])
    (inb : ∀ a : Fin 2, off a + (![h, l] : Fin 2 → ℕ) a ≤ (⟨2, ![N, W]⟩ : Shape).size a) (x : (⟨2, ![h, l]⟩ : Shape).Idx) :
    v.readAt (Elt Ideal) (Rect.unit (s := ⟨2, ![N, W]⟩) off ![h, l] inb).toLoadRect f x = D (a + (x 0).val) (b + (x 1).val) := by
  subst ho
  refine (congrFun hf _).trans ?_
  show D (a + 1 * (x 0).val) (b + 1 * (x 1).val) = _
  rw [Nat.one_mul, Nat.one_mul]

end Writes

/-! ## Vectors of eight sublanes -/

/-- An 8 × 128 vector read at row and column numbers, the row modulo 8. -/
def vat (v : (⟨2, ![8, 128]⟩ : Shape).Idx → EReal) (i j : ℕ) : EReal :=
  v (ix2 (i % 8) (j % 128) (Nat.mod_lt _ (by decide)) (Nat.mod_lt _ (by decide)))

theorem vat_apply (v : (⟨2, ![8, 128]⟩ : Shape).Idx → EReal) (x : (⟨2, ![8, 128]⟩ : Shape).Idx) (n i : ℕ) (h : i = 8 * n + (x 0).val) :
    v x = vat v i (x 1).val := by
  have h0 : (x 0).val < 8 := (x 0).isLt
  have h1 : (x 1).val < 128 := (x 1).isLt
  unfold vat
  exact congrArg v (ix2_eta x _ _ _ _ (by omega) (by omega))

/-! ## What the stages compute -/

/-- `log2 e / T`. -/
def kc : EReal := (((Real.log 2)⁻¹ * (13421773 / 16777216)⁻¹ : ℝ) : EReal)
/-- The exponential of stage 2: of an entry `x` and the row's maximum `m`. -/
def E2 (x m : EReal) : EReal := Ideal.exp2 ((x - m) * kc)
/-- Stage 2 on a buffer: at row `i`, column `j` the exponential against `m` at sublane `i % 8`. -/
def gE (X : ℕ → ℕ → EReal) (m : (⟨2, ![8, 128]⟩ : Shape).Idx → EReal) : ℕ → ℕ → EReal := fun i j => E2 (X i j) (vat m i j)

end Cert.KernelIdeal.Val

end
-- ==== Proof.ValPay.lean ====
/- What the kernel's vector expressions compute, element by element. -/
module

public import proofs.«01_k».proof.Proof.ValBase
public import Idealize.ShloMosaic.Lib.ValueIdx
public import Idealize.ShloMosaic.Lib.Bf16PairInverse
public import Idealize.ShloMosaic.Lib.Pointwise.Reshape

@[expose] public section

set_option maxRecDepth 16384

noncomputable section

namespace Cert.KernelIdeal.Val

open Cert.KernelIdeal Cert.KernelIdeal.Gen
open Idealize.ShloMosaic Idealize.ShloMosaic.TcCoe

/-! ## Reshapes between a row of eight and a slab of eight -/

theorem cast_821 {α : Type} (x : S8x1x128.Idx → α) (h : S8x1x128.ShapeCasts S8x128) (j : S8x128.Idx) :
    shapeCast S8x128 x h j = x (ix3 (j 0).val 0 (j 1).val (j 0).isLt Nat.one_pos (j 1).isLt) := by
  rw [Pointwise.shapeCast_apply]
  refine congrArg x (Shape.reshapeEquiv_eq_of_vals h _ _ ((j 0).val * 128 + 0 * 128 + (j 1).val) ((j 0).val * 128 + (j 1).val) ?_ ?_ (by omega))
  · exact rowMajor_val3 (d := ![8, 1, 128]) (ix3 (j 0).val 0 (j 1).val (j 0).isLt Nat.one_pos (j 1).isLt) 128 128 (by decide) (by decide)
  · exact rowMajor_val2 (d := ![8, 128]) j 128 (by decide)

theorem cast_182 {α : Type} (x : S8x128.Idx → α) (h : S8x128.ShapeCasts S8x1x128) (j : S8x1x128.Idx) :
    shapeCast S8x1x128 x h j = x (ix2 (j 0).val (j 2).val (j 0).isLt (j 2).isLt) := by
  have h1 : (j 1).val < 1 := (j 1).isLt
  rw [Pointwise.shapeCast_apply]
  refine congrArg x (Shape.reshapeEquiv_eq_of_vals h _ _ ((j 0).val * 128 + (j 2).val) ((j 0).val * 128 + (j 1).val * 128 + (j 2).val) ?_ ?_ (by omega))
  · exact rowMajor_val2 (d := ![8, 128]) (ix2 (j 0).val (j 2).val (j 0).isLt (j 2).isLt) 128 (by decide)
  · exact rowMajor_val3 (d := ![8, 1, 128]) j 128 128 (by decide) (by decide)

theorem cast_1xx {α : Type} (x : S1x128x128.Idx → α) (h : S1x128x128.ShapeCasts S128x128) (j : S128x128.Idx) :
    shapeCast S128x128 x h j = x (ix3 0 (j 0).val (j 1).val Nat.one_pos (j 0).isLt (j 1).isLt) := by
  rw [Pointwise.shapeCast_apply]
  refine congrArg x (Shape.reshapeEquiv_eq_of_vals h _ _ (0 * 16384 + (j 0).val * 128 + (j 1).val) ((j 0).val * 128 + (j 1).val) ?_ ?_ (by omega))
  · exact rowMajor_val3 (d := ![1, 128, 128]) (ix3 0 (j 0).val (j 1).val Nat.one_pos (j 0).isLt (j 1).isLt) 16384 128 (by decide) (by decide)
  · exact rowMajor_val2 (d := ![128, 128]) j 128 (by decide)

theorem rop_16 {α : Type} (p : Fin 2) (w : S16x128.Idx → α) (h) (j : S8x128.Idx) :
    rowsOfParity p S8x128 w h j = w (ix2 (2 * (j 0).val + p.val) (j 1).val (by have : (j 0).val < 8 := (j 0).isLt; omega) (j 1).isLt) :=
  congrArg w (ix2_eta _ _ _ _ _ rfl rfl)

theorem rop_82 {α : Type} (p : Fin 2) (w : S8x2x128.Idx → α) (h) (j : S8x1x128.Idx) :
    rowsOfParity p S8x1x128 w h j = w (ix3 (j 0).val p.val (j 2).val (j 0).isLt p.isLt (j 2).isLt) := by
  refine congrArg w (ix3_eta _ _ _ _ _ _ _ rfl ?_ rfl)
  have h1 : (j 1).val < 1 := (j 1).isLt
  show 2 * (j 1).val + p.val = p.val
  omega

/-- The pairs of rows of a 16-row vector, as the pair buffer holds them. -/
theorem pair_rows {α : Type} (w : S16x128.Idx → α) (y : S8x2x128.Idx) :
    interleaveRows S8x2x128 (shapeCast S8x1x128 (rowsOfParity 0 S8x128 w bitcasts_S16x128_w16_S8x128_w32) shapeCasts_S8x128_S8x1x128)
      (shapeCast S8x1x128 (rowsOfParity 1 S8x128 w bitcasts_S16x128_w16_S8x128_w32) shapeCasts_S8x128_S8x1x128) bitcasts_S8x2x128_w16_S8x1x128_w32 y
      = w (ix2 (2 * (y 0).val + (y 1).val) (y 2).val (by have : (y 0).val < 8 := (y 0).isLt; have : (y 1).val < 2 := (y 1).isLt; omega) (y 2).isLt) := by
  have h1 : (y 1).val < 2 := (y 1).isLt
  obtain h | h : (y 1).val = 0 ∨ (y 1).val = 1 := by omega
  · have e : y = ix3 (y 0).val 0 (y 2).val (y 0).isLt (by decide) (y 2).isLt := ix3_eta _ _ _ _ _ _ _ rfl h rfl
    have := congrFun (rowsOfParity_zero_interleaveRows bitcasts_S8x2x128_w16_S8x1x128_w32
      (shapeCast S8x1x128 (rowsOfParity 0 S8x128 w bitcasts_S16x128_w16_S8x128_w32) shapeCasts_S8x128_S8x1x128)
      (shapeCast S8x1x128 (rowsOfParity 1 S8x128 w bitcasts_S16x128_w16_S8x128_w32) shapeCasts_S8x128_S8x1x128))
      (ix3 (y 0).val 0 (y 2).val (y 0).isLt (by decide) (y 2).isLt)
    rw [rop_82, cast_182, rop_16] at this
    rw [e]
    exact this
  · have e : y = ix3 (y 0).val 1 (y 2).val (y 0).isLt (by decide) (y 2).isLt := ix3_eta _ _ _ _ _ _ _ rfl h rfl
    have := congrFun (rowsOfParity_one_interleaveRows bitcasts_S8x2x128_w16_S8x1x128_w32
      (shapeCast S8x1x128 (rowsOfParity 0 S8x128 w bitcasts_S16x128_w16_S8x128_w32) shapeCasts_S8x128_S8x1x128)
      (shapeCast S8x1x128 (rowsOfParity 1 S8x128 w bitcasts_S16x128_w16_S8x128_w32) shapeCasts_S8x128_S8x1x128))
      (ix3 (y 0).val 0 (y 2).val (y 0).isLt (by decide) (y 2).isLt)
    rw [rop_82, cast_182, rop_16] at this
    rw [e]
    exact this

/-- A slab of pairs unpacked to sixteen rows. -/
def unp (raw : S8x2x128.Idx → EReal) : S16x128.Idx → EReal :=
  interleaveRows S16x128 (shapeCast S8x128 (rowsOfParity 0 S8x1x128 raw bitcasts_S8x2x128_w16_S8x1x128_w32) shapeCasts_S8x1x128_S8x128)
    (shapeCast S8x128 (rowsOfParity 1 S8x1x128 raw bitcasts_S8x2x128_w16_S8x1x128_w32) shapeCasts_S8x1x128_S8x128) bitcasts_S16x128_w16_S8x128_w32

theorem unp_0 (raw : S8x2x128.Idx → EReal) (j : S8x128.Idx) :
    rowsOfParity 0 S8x128 (unp raw) bitcasts_S16x128_w16_S8x128_w32 j = raw (ix3 (j 0).val 0 (j 1).val (j 0).isLt (by decide) (j 1).isLt) := by
  unfold unp
  rw [rowsOfParity_zero_interleaveRows, cast_821, rop_82]
  rfl
theorem unp_1 (raw : S8x2x128.Idx → EReal) (j : S8x128.Idx) :
    rowsOfParity 1 S8x128 (unp raw) bitcasts_S16x128_w16_S8x128_w32 j = raw (ix3 (j 0).val 1 (j 1).val (j 0).isLt (by decide) (j 1).isLt) := by
  unfold unp
  rw [rowsOfParity_one_interleaveRows, cast_821, rop_82]
  rfl

/-! ## Stage 2 -/

theorem named_kc : Named.named (F := Ideal) κ "log2e_over_t" (φ := .f32) 0x3FE6D4CA#32 = kc := by
  refine (IdealRules.named_const.ideal_named_scalar κ "log2e_over_t" _ _ rfl).trans ?_
  rfl

theorem pay95_apply (m X : Vec Ideal S8x128 .f32) (x : S8x128.Idx) : k0_pay95 (F := Ideal) m X x = E2 (X x) (m x) := by
  unfold k0_pay95 E2
  rw [shapeCast_id, ← named_kc]
  rfl

/-- `exp2 ((x - m) * k)`. -/
def E2k (k x m : EReal) : EReal := Ideal.exp2 ((x - m) * k)
/-- The same of a buffer and a vector with eight rows. -/
def gEk (k : EReal) (X : ℕ → ℕ → EReal) (m : S8x128.Idx → EReal) : ℕ → ℕ → EReal := fun i j => E2k k (X i j) (vat m i j)
/-- The kernel's constant is `log2 e / T`. -/
theorem gEk_named (X : ℕ → ℕ → EReal) (m : S8x128.Idx → EReal) :
    gEk (Named.named (F := Ideal) κ "log2e_over_t" (φ := .f32) 0x3FE6D4CA#32) X m = gE X m := by
  unfold gEk gE E2k E2
  rw [named_kc]

/-- The piece of 8 rows at row `a` of a 32-row block. -/
theorem sl_32 (v : Vec Ideal S32x128 .bf16) (m : Vec Ideal S8x128 .f32) (k : Ideal .f32) (a : ℕ) (h) (x : S8x128.Idx) (ha : a + 8 ≤ 32) :
    exp2 (mulf (subf (extractStridedSlice S8x128 ![a, 0] (k0_pay63 (F := Ideal) v) h) m) (broadcast S8x128 k)) x
      = E2k k (v (ix2 (a + (x 0).val) (x 1).val (by have : (x 0).val < 8 := (x 0).isLt; omega) (x 1).isLt)) (m x) := by
  show E2k k (v _) (m x) = _
  refine congrArg (fun y => E2k k (v y) (m x)) (ix2_eta _ _ _ _ _ rfl ?_)
  show 0 + (x 1).val = _
  omega

/-- Block maxima out of eight slabs of pairs. -/
def bm8 (P : ℕ → ℕ → EReal) : EReal :=
  max (max (max (max (max (max (max (max (P 0 0) (P 1 0)) (P 2 0)) (P 3 0)) (P 4 0)) (P 5 0)) (P 6 0)) (P 7 0))
    (max (max (max (max (max (max (max (P 0 1) (P 1 1)) (P 2 1)) (P 3 1)) (P 4 1)) (P 5 1)) (P 6 1)) (P 7 1))

theorem pay99_apply (r0 r1 r2 r3 r4 r5 r6 r7 : Vec Ideal S8x2x128 .bf16) (R : ℕ → ℕ → EReal) (x : S8x128.Idx)
    (h0 : ∀ p (hp : p < 2), r0 (ix3 (x 0).val p (x 1).val (x 0).isLt hp (x 1).isLt) = R 0 p)
    (h1 : ∀ p (hp : p < 2), r1 (ix3 (x 0).val p (x 1).val (x 0).isLt hp (x 1).isLt) = R 1 p)
    (h2 : ∀ p (hp : p < 2), r2 (ix3 (x 0).val p (x 1).val (x 0).isLt hp (x 1).isLt) = R 2 p)
    (h3 : ∀ p (hp : p < 2), r3 (ix3 (x 0).val p (x 1).val (x 0).isLt hp (x 1).isLt) = R 3 p)
    (h4 : ∀ p (hp : p < 2), r4 (ix3 (x 0).val p (x 1).val (x 0).isLt hp (x 1).isLt) = R 4 p)
    (h5 : ∀ p (hp : p < 2), r5 (ix3 (x 0).val p (x 1).val (x 0).isLt hp (x 1).isLt) = R 5 p)
    (h6 : ∀ p (hp : p < 2), r6 (ix3 (x 0).val p (x 1).val (x 0).isLt hp (x 1).isLt) = R 6 p)
    (h7 : ∀ p (hp : p < 2), r7 (ix3 (x 0).val p (x 1).val (x 0).isLt hp (x 1).isLt) = R 7 p) :
    k0_pay99 (F := Ideal) (k0_pay81 (F := Ideal) r0 r1 r2 r3 r4 r5) r6 r7 x = bm8 R := by
  have key : k0_pay99 (F := Ideal) (k0_pay81 (F := Ideal) r0 r1 r2 r3 r4 r5) r6 r7 x
      = max (max (max (max (max (max (max (max
          (rowsOfParity 0 S8x128 (unp r0) bitcasts_S16x128_w16_S8x128_w32 x) (rowsOfParity 0 S8x128 (unp r1) bitcasts_S16x128_w16_S8x128_w32 x))
          (rowsOfParity 0 S8x128 (unp r2) bitcasts_S16x128_w16_S8x128_w32 x)) (rowsOfParity 0 S8x128 (unp r3) bitcasts_S16x128_w16_S8x128_w32 x))
          (rowsOfParity 0 S8x128 (unp r4) bitcasts_S16x128_w16_S8x128_w32 x)) (rowsOfParity 0 S8x128 (unp r5) bitcasts_S16x128_w16_S8x128_w32 x))
          (rowsOfParity 0 S8x128 (unp r6) bitcasts_S16x128_w16_S8x128_w32 x)) (rowsOfParity 0 S8x128 (unp r7) bitcasts_S16x128_w16_S8x128_w32 x))
        (max (max (max (max (max (max (max
          (rowsOfParity 1 S8x128 (unp r0) bitcasts_S16x128_w16_S8x128_w32 x) (rowsOfParity 1 S8x128 (unp r1) bitcasts_S16x128_w16_S8x128_w32 x))
          (rowsOfParity 1 S8x128 (unp r2) bitcasts_S16x128_w16_S8x128_w32 x)) (rowsOfParity 1 S8x128 (unp r3) bitcasts_S16x128_w16_S8x128_w32 x))
          (rowsOfParity 1 S8x128 (unp r4) bitcasts_S16x128_w16_S8x128_w32 x)) (rowsOfParity 1 S8x128 (unp r5) bitcasts_S16x128_w16_S8x128_w32 x))
          (rowsOfParity 1 S8x128 (unp r6) bitcasts_S16x128_w16_S8x128_w32 x)) (rowsOfParity 1 S8x128 (unp r7) bitcasts_S16x128_w16_S8x128_w32 x)) := rfl
  rw [key]
  simp only [unp_0, unp_1, h0, h1, h2, h3, h4, h5, h6, h7]
  rfl

/-! ## Stage 3 -/

/-- The reciprocal of a row's sum. -/
def rsx (s : EReal) : EReal := Ideal.div (Ideal.ofBits .f32 0x3F800000#32) s
/-- The exponent field of a block's scale, from the block's largest exponential and the row's sum. -/
def fld (d s : EReal) : BitVec 32 :=
  IntOp.shli .vector (IntOp.addi (FloatOps.fptosi (F := Ideal) (φ := .f32) 32 (FloatOps.floor (F := Ideal) (φ := .f32)
    (Ideal.div (Ideal.log (max (d * rsx s) (Ideal.ofBits .f32 0x1F800000#32) * Ideal.ofBits .f32 0x3B124925#32)) (Ideal.log (Ideal.ofBits .f32 0x40000000#32))))) 127#32) 23#32
/-- A block's scale. -/
def scl (d s : EReal) : EReal := Ideal.ofBits .f32 (IntOp.addi (fld d s) 8388608#32)
/-- The factor of a block's codes: the reciprocal of its scale, over the row's sum. -/
def inr (d s : EReal) : EReal := Ideal.ofBits .f32 (IntOp.subi 2122317824#32 (fld d s)) * rsx s
/-- A product, at an index. -/
theorem mul_at {t : Shape} (a b : t.Idx → EReal) (x : t.Idx) : mulf (F := Ideal) (φ := .f32) a b x = a x * b x := rfl

/-- A code. -/
def cdx (e r : EReal) : EReal := min (Ideal.ofBits .f32 0x43E00000#32) (max (Ideal.ofBits .f32 0x00000000#32) (e * r))

theorem pay90_apply (s D : Vec Ideal S8x128 .f32) (x : S8x128.Idx) : k0_pay90 (F := Ideal) s D x = scl (D x) (s x) := by
  unfold k0_pay90
  rw [shapeCast_id]
  rfl
theorem pay91_apply (s D : Vec Ideal S8x128 .f32) (x : S8x128.Idx) : k0_pay91 (F := Ideal) s D x = inr (D x) (s x) := by
  have key : ∀ K : BitVec 32, bitcastToFloat (F := Ideal) .f32 (subi (broadcast S8x128 K) (k0_pay89 (F := Ideal) s D)) x
      = Ideal.ofBits .f32 (IntOp.subi K (fld (D x) (s x))) := fun K => rfl
  have key2 : k0_pay82 (F := Ideal) s x = rsx (s x) := rfl
  unfold k0_pay91 inr
  rw [shapeCast_id, mul_at, key, key2]

theorem bc_row (r : Vec Ideal S1x128 .f32) (x : S32x128.Idx) :
    broadcastTo S32x128 r broadcasts_S1x128_S32x128 x = r (ix2 0 (x 1).val Nat.one_pos (x 1).isLt) :=
  congrArg r (ix2_eta _ _ _ _ _ rfl rfl)

theorem pay61_apply (r : Vec Ideal S1x128 .f32) (v : Vec Ideal S32x128 .f32) (x : S32x128.Idx) :
    k0_pay61 (F := Ideal) r v x = cdx (v x) (r (ix2 0 (x 1).val Nat.one_pos (x 1).isLt)) := by
  have key : k0_pay61 (F := Ideal) r v x = cdx (v x) (broadcastTo S32x128 r broadcasts_S1x128_S32x128 x) := rfl
  rw [key, bc_row]

/-- A tile of codes: its column `v` is row `v % 32` of block `v / 32`. -/
theorem pay92_apply (r0 r1 r2 r3 : Vec Ideal S1x128 .f32) (v0 v1 v2 v3 : Vec Ideal S32x128 .f32) (R : ℕ → ℕ → EReal) (V : ℕ → ℕ → EReal)
    (hr0 : ∀ x, r0 x = R 0 (x 1).val) (hr1 : ∀ x, r1 x = R 1 (x 1).val) (hr2 : ∀ x, r2 x = R 2 (x 1).val) (hr3 : ∀ x, r3 x = R 3 (x 1).val)
    (hv0 : ∀ x, v0 x = V (0 + (x 0).val) (x 1).val) (hv1 : ∀ x, v1 x = V (32 + (x 0).val) (x 1).val)
    (hv2 : ∀ x, v2 x = V (64 + (x 0).val) (x 1).val) (hv3 : ∀ x, v3 x = V (96 + (x 0).val) (x 1).val) (y : S128x128.Idx) :
    k0_pay92 (F := Ideal) (k0_pay61 (F := Ideal) r0 v0) (k0_pay62 (F := Ideal) r1 v1) r2 v2 r3 v3 y
      = cdx (V (y 1).val (y 0).val) (R ((y 1).val / 32) (y 0).val) := by
  have hy : (y 1).val < 128 := (y 1).isLt
  have key : k0_pay92 (F := Ideal) (k0_pay61 (F := Ideal) r0 v0) (k0_pay62 (F := Ideal) r1 v1) r2 v2 r3 v3 y
      = concatenate S128x128 0 [⟨S32x128, k0_pay61 (F := Ideal) r0 v0⟩, ⟨S32x128, k0_pay61 (F := Ideal) r1 v1⟩, ⟨S32x128, k0_pay61 (F := Ideal) r2 v2⟩, ⟨S32x128, k0_pay61 (F := Ideal) r3 v3⟩]
        concatenates_S32x128_S32x128_S32x128_S32x128_S128x128_d0 (ix2 (y 1).val (y 0).val (y 1).isLt (y 0).isLt) := by
    refine congrArg (concatenate S128x128 0 [⟨S32x128, k0_pay61 (F := Ideal) r0 v0⟩, ⟨S32x128, k0_pay61 (F := Ideal) r1 v1⟩, ⟨S32x128, k0_pay61 (F := Ideal) r2 v2⟩, ⟨S32x128, k0_pay61 (F := Ideal) r3 v3⟩]
        concatenates_S32x128_S32x128_S32x128_S32x128_S128x128_d0) (ix2_eta _ _ _ _ _ rfl rfl)
  rw [key]
  have piece : ∀ (k : ℕ) (hk : k < 4) (r : Vec Ideal S1x128 .f32) (v : Vec Ideal S32x128 .f32)
      (he : ([⟨S32x128, k0_pay61 (F := Ideal) r0 v0⟩, ⟨S32x128, k0_pay61 (F := Ideal) r1 v1⟩, ⟨S32x128, k0_pay61 (F := Ideal) r2 v2⟩, ⟨S32x128, k0_pay61 (F := Ideal) r3 v3⟩] : List ((s : Shape) × (s.Idx → EReal)))[k]'hk = ⟨S32x128, k0_pay61 (F := Ideal) r v⟩)
      (hp : ((([⟨S32x128, k0_pay61 (F := Ideal) r0 v0⟩, ⟨S32x128, k0_pay61 (F := Ideal) r1 v1⟩, ⟨S32x128, k0_pay61 (F := Ideal) r2 v2⟩, ⟨S32x128, k0_pay61 (F := Ideal) r3 v3⟩] : List ((s : Shape) × (s.Idx → EReal))).take k |>.map (·.1)).map
        fun s => if h : s.rank = S128x128.rank then s.size ((0 : Fin S128x128.rank).cast h.symm) else 0).sum = 32 * k)
      (hr : ∀ x, r x = R k (x 1).val) (hv : ∀ x, v x = V (32 * k + (x 0).val) (x 1).val) (hy1 : 32 * k ≤ (y 1).val) (hy2 : (y 1).val < 32 * k + 32),
      concatenate S128x128 0 [⟨S32x128, k0_pay61 (F := Ideal) r0 v0⟩, ⟨S32x128, k0_pay61 (F := Ideal) r1 v1⟩, ⟨S32x128, k0_pay61 (F := Ideal) r2 v2⟩, ⟨S32x128, k0_pay61 (F := Ideal) r3 v3⟩]
        concatenates_S32x128_S32x128_S32x128_S32x128_S128x128_d0 (ix2 (y 1).val (y 0).val (y 1).isLt (y 0).isLt)
      = cdx (V (y 1).val (y 0).val) (R ((y 1).val / 32) (y 0).val) := by
    intro k hk r v he hp hr hv hy1 hy2
    have := concatenate_apply_piece (t := S128x128) (0 : Fin 2)
      ([⟨S32x128, k0_pay61 (F := Ideal) r0 v0⟩, ⟨S32x128, k0_pay61 (F := Ideal) r1 v1⟩, ⟨S32x128, k0_pay61 (F := Ideal) r2 v2⟩, ⟨S32x128, k0_pay61 (F := Ideal) r3 v3⟩] : List ((s : Shape) × (s.Idx → EReal)))
      concatenates_S32x128_S32x128_S32x128_S32x128_S128x128_d0 (ix2 (y 1).val (y 0).val (y 1).isLt (y 0).isLt)
      k hk S32x128 (k0_pay61 (F := Ideal) r v) he rfl (32 * k) hp (ix2 ((y 1).val - 32 * k) (y 0).val (by omega) (y 0).isLt)
      (fun b hb => by
        fin_cases b
        · exact absurd rfl hb
        · rfl)
      (by show 32 * k + ((y 1).val - 32 * k) = (y 1).val; omega)
    rw [this, pay61_apply, hr, hv]
    show cdx (V (32 * k + ((y 1).val - 32 * k)) (y 0).val) (R k (y 0).val) = _
    rw [show 32 * k + ((y 1).val - 32 * k) = (y 1).val by omega, show (y 1).val / 32 = k by omega]
  obtain h | h | h | h : (y 1).val / 32 = 0 ∨ (y 1).val / 32 = 1 ∨ (y 1).val / 32 = 2 ∨ (y 1).val / 32 = 3 := by omega
  · exact piece 0 (by decide) r0 v0 rfl rfl hr0 hv0 (by omega) (by omega)
  · exact piece 1 (by decide) r1 v1 rfl rfl hr1 hv1 (by omega) (by omega)
  · exact piece 2 (by decide) r2 v2 rfl rfl hr2 hv2 (by omega) (by omega)
  · exact piece 3 (by decide) r3 v3 rfl rfl hr3 hv3 (by omega) (by omega)

/-! ## Stage 1 -/

theorem pay74_apply (v : Vec Ideal S1x128x128 .bf16) (y : S128x128.Idx) :
    k0_pay74 (F := Ideal) v y = v (ix3 0 (y 1).val (y 0).val Nat.one_pos (y 1).isLt (y 0).isLt) := by
  unfold k0_pay74
  show shapeCast S128x128 v shapeCasts_S1x128x128_S128x128 _ = _
  rw [cast_1xx]
  rfl

theorem pay75_apply (v : Vec Ideal S1x128x128 .bf16) (y : S128x128.Idx) :
    k0_pay75 (F := Ideal) v y = v (ix3 0 (y 1).val (y 0).val Nat.one_pos (y 1).isLt (y 0).isLt) := by
  unfold k0_pay75
  rw [shapeCast_id]
  exact pay74_apply v y

/-- The pair maxima of block `b` of a tile. -/
theorem pairs_apply (v : Vec Ideal S1x128x128 .bf16) (a b : ℕ) (hb : b = a + 16) (hab : b + 16 ≤ 128) (h) (h') (y : S8x2x128.Idx)
    (q0 : a + (2 * (y 0).val + (y 1).val) < 128) (q1 : a + 16 + (2 * (y 0).val + (y 1).val) < 128) :
    interleaveRows S8x2x128 (shapeCast S8x1x128 (rowsOfParity 0 S8x128 (maximumf (extractStridedSlice S16x128 ![a, 0] (k0_pay74 (F := Ideal) v) h)
        (extractStridedSlice S16x128 ![b, 0] (k0_pay74 (F := Ideal) v) h')) bitcasts_S16x128_w16_S8x128_w32) shapeCasts_S8x128_S8x1x128)
      (shapeCast S8x1x128 (rowsOfParity 1 S8x128 (maximumf (extractStridedSlice S16x128 ![a, 0] (k0_pay74 (F := Ideal) v) h)
        (extractStridedSlice S16x128 ![b, 0] (k0_pay74 (F := Ideal) v) h')) bitcasts_S16x128_w16_S8x128_w32) shapeCasts_S8x128_S8x1x128) bitcasts_S8x2x128_w16_S8x1x128_w32 y
      = max (v (ix3 0 (y 2).val (a + (2 * (y 0).val + (y 1).val)) Nat.one_pos (y 2).isLt q0))
          (v (ix3 0 (y 2).val (a + 16 + (2 * (y 0).val + (y 1).val)) Nat.one_pos (y 2).isLt q1)) := by
  subst hb
  rw [pair_rows]
  show max (k0_pay74 (F := Ideal) v _) (k0_pay74 (F := Ideal) v _) = _
  rw [pay74_apply, pay74_apply]
  refine congrArg₂ max (congrArg v (ix3_eta _ _ _ _ _ _ _ rfl ?_ ?_)) (congrArg v (ix3_eta _ _ _ _ _ _ _ rfl ?_ ?_))
  · show 0 + (y 2).val = _; omega
  · rfl
  · show 0 + (y 2).val = _; omega
  · rfl

end Cert.KernelIdeal.Val

end
-- ==== Proof.IdealParts.lean ====
/- Facts on the ring's slots, and the loops that occur in more than one branch of the body: they are the same programs. -/
module

public import proofs.«01_k».proof.Proof.IdealRing
public import proofs.«01_k».proof.Proof.Gen.KernelIdeal.Loops

@[expose] public section

set_option warn.classDefReducibility false
set_option maxRecDepth 16384
set_option synthInstance.maxSize 4096

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The slot a point waits is the parity of its coordinate. -/
theorem slot_mod (t : Fin grid0.N) : ((grid0.coords t) 0).val % 2 = (Ring.sl 2 t.val).val :=
  (by decide +kernel : ∀ t : Fin grid0.N, ((grid0.coords t) 0).val % 2 = (Ring.sl 2 t.val).val) t
/-- Point 2 of the grid. -/
abbrev pt2 : Fin grid0.N := ⟨2, by decide⟩
/-- Point 2 takes the branch of all three stages. -/
theorem h2 : k0_cond6 (grid0.coords pt2) = 1#1 := by decide +kernel

variable (c : Dev nD) (i : grid0.Coords) (arg1 : Memref sig .tc .hbm S9216x32000 .bf16) (harg1 : arg1.IsWhole) (arg2 : Memref sig .tc .vmem S1x1x128 .f32) (harg2 : arg2.IsWhole) (arg3 : Memref sig .tc .vmem S128x32000 .fp8e4m3) (harg3 : arg3.IsWhole) (arg4 : Memref sig .tc .vmem S128x1000 .f32) (harg4 : arg4.IsWhole) (arg5 : Memref sig .tc .vmem S2x128x32000 .bf16) (harg5 : arg5.IsWhole) (arg6 : Memref sig .tc .vmem S32000x128 .bf16) (harg6 : arg6.IsWhole) (arg7 : Memref sig .tc .vmem S32000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S320x2x128 .bf16) (harg11 : arg11.IsWhole) (arg12 : Memref sig .tc .vmem S40x128 .f32) (harg12 : arg12.IsWhole) (arg13 : Memref sig .tc .vmem S8x128 .f32) (harg13 : arg13.IsWhole) (arg14 : Memref sig .tc .vmem S8x128 .f32) (harg14 : arg14.IsWhole) (arg15 : DmaSems sig S2)

/-- A box of the ring's buffer in one slab lies in that slab's slot. -/
theorem slot_box (t : Fin grid0.N) {off : Fin 3 → Nat} {inb : ∀ a, off a + S1x128x128.size a ≤ S2x128x32000.size a}
    (h0 : off 0 = (Ring.sl 2 t.val).val) (h1 : off 1 = 0) :
    scM0_0.view.setOn (Rect.unit (s := S2x128x32000) off S1x128x128.size inb).set ⊆ (rslot (Ring.sl 2 t.val)).view.set := by
  have hs : (rslot (Ring.sl 2 t.val)).view.set = (scM0_0.slice (Rect.unit (s := S2x128x32000) ![(Ring.sl 2 t.val).val, 0, 0] S1x128x32000.size (inb_slot (Ring.sl 2 t.val))) (fun _ => rfl)).view.set := by
    simp only [rslot, Memref.view_squeeze, View.set_reshape]
  rw [hs]
  refine Memref.setOn_subset_slice_of_within scM0_0 _ (fun _ => rfl) _ (decide_eq_true fun a => ?_)
  have := inb a
  fin_cases a <;> simp [Rect.unit, h0, h1] at this ⊢
  omega

/-- The same loop in another branch of the body. -/
theorem body_t3 (h : k0_cond4 i = 1#1) (t : Fin k0_t1_loop.trips) :
    k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h t = k0_t15_body (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 t := by
  unfold k0_t3_body k0_t15_body k0_part2 k0_part9; rfl

/-- The same loop in another branch of the body. -/
theorem body_t5 (h : k0_cond5 i = 1#1) (m : Vec F S8x128 .f32) (t : Fin k0_t4_loop.trips) (v : BitVec 32) (cst : F .f32) :
    k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h m t v cst = k0_t12_body (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t v cst := by
  unfold k0_t5_body k0_t12_body k0_part3 k0_part7; rfl

/-- The same loop in another branch of the body. -/
theorem body_t6 (h : k0_cond5 i = 1#1) (m : Vec F S8x128 .f32) (t : Fin k0_t4_loop.trips) :
    k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h m t = k0_t13_body (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t := by
  unfold k0_t6_body k0_t13_body ; rfl

/-- The same loop in another branch of the body. -/
theorem body_t8 (h : k0_cond5 i = 1#1) (t : Fin k0_t4_loop.trips) :
    k0_t8_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h t = k0_t15_body (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 t := by
  unfold k0_t8_body k0_t15_body k0_part5 k0_part9; rfl

/-- The same loop in another branch of the body. -/
theorem body_t17 (h : k0_cond7 i = 1#1) (m : Vec F S8x128 .f32) (t : Fin k0_t16_loop.trips) :
    k0_t17_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h m t = k0_t10_body (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t := by
  unfold k0_t17_body k0_t10_body ; rfl

/-- The same loop in another branch of the body. -/
theorem body_t18 (h : k0_cond7 i = 1#1) (t : Fin k0_t16_loop.trips) (v : BitVec 32) :
    k0_t18_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h t v = k0_t11_body (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 t v := by
  unfold k0_t18_body k0_t11_body k0_part12 k0_part6; rfl

/-- The same loop in another branch of the body. -/
theorem body_t19 (h : k0_cond7 i = 1#1) (m : Vec F S8x128 .f32) (t : Fin k0_t16_loop.trips) (v : BitVec 32) (cst : F .f32) :
    k0_t19_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h m t v cst = k0_t12_body (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t v cst := by
  unfold k0_t19_body k0_t12_body k0_part13 k0_part7; rfl

/-- The same loop in another branch of the body. -/
theorem body_t20 (h : k0_cond7 i = 1#1) (m : Vec F S8x128 .f32) (t : Fin k0_t16_loop.trips) :
    k0_t20_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h m t = k0_t13_body (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t := by
  unfold k0_t20_body k0_t13_body ; rfl

/-- The same loop in another branch of the body. -/
theorem body_t22 (h : k0_cond8 i = 1#1) (m : Vec F S8x128 .f32) (t : Fin k0_t21_loop.trips) :
    k0_t22_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h m t = k0_t10_body (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t := by
  unfold k0_t22_body k0_t10_body ; rfl

/-- The same loop in another branch of the body. -/
theorem body_t23 (h : k0_cond8 i = 1#1) (t : Fin k0_t21_loop.trips) (v : BitVec 32) :
    k0_t23_body (F := F) i arg1 harg1 arg2 harg2 arg3 harg3 arg4 harg4 arg5 harg5 arg6 harg6 arg7 harg7 arg8 harg8 arg9 harg9 arg10 harg10 arg11 harg11 arg12 harg12 arg13 harg13 arg14 harg14 arg15 h t v = k0_t11_body (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 t v := by
  unfold k0_t23_body k0_t11_body k0_part15 k0_part6; rfl

end Cert.KernelIdeal.Run

end
-- ==== Proof.ValIn.lean ====
/- The loops of one chunk, with what they compute: the contents of the buffers before and after every trip. -/
module

public import proofs.«01_k».proof.Proof.ValPay
public import proofs.«01_k».proof.Proof.IdealParts

@[expose] public section

set_option warn.classDefReducibility false
set_option maxRecDepth 16384
set_option synthInstance.maxSize 4096

noncomputable section

namespace Cert.KernelIdeal.Val

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-- Scales of the blocks of a buffer of block maxima. -/
def gS (D : ℕ → ℕ → EReal) (s : S8x128.Idx → EReal) : ℕ → ℕ → EReal := fun i j => scl (D i j) (vat s i j)
/-- The factors of the codes of the blocks from block `b` on. -/
def gR (b : ℕ) (D : ℕ → ℕ → EReal) (s : S8x128.Idx → EReal) : ℕ → ℕ → EReal := fun i j => inr (D (b + i) j) (vat s i j)
/-- Codes, from the exponentials and the factors of the blocks from block `b` on. -/
def gC (b : ℕ) (E R : ℕ → ℕ → EReal) : ℕ → ℕ → EReal := fun i j => cdx (E j i) (R (j / 32 - b) i)
/-- The maxima of pairs of rows: of block `i / 8` from block `b` on, rows `2 (i % 8) + p` and 16 further. -/
def gP (b : ℕ) (X : ℕ → ℕ → EReal) : ℕ → ℕ → ℕ → EReal := fun i p j =>
  max (X (32 * (b + i / 8) + (2 * (i % 8) + p)) j) (X (32 * (b + i / 8) + 16 + (2 * (i % 8) + p)) j)
/-- Block maxima, from the pairs of the blocks from block `b` on. -/
def gB (b : ℕ) (P : ℕ → ℕ → ℕ → EReal) : ℕ → ℕ → EReal := fun i j => bm8 fun q p => P (8 * (i - b) + q) p j
/-- The running maximum of a vector with rows of `B`, eight rows a step from row `r` on. -/
def mst (r : ℕ) (B : ℕ → ℕ → EReal) (init : S8x128.Idx → EReal) : ℕ → S8x128.Idx → EReal
  | 0 => init
  | k + 1 => fun x => max (mst r B init k x) (B (r + 8 * k + (x 0).val) (x 1).val)
/-- The running sum of a vector with rows of `E`, one in 32 rows a step from row `r` on. -/
def sst (r : ℕ) (E : ℕ → ℕ → EReal) (init : S8x128.Idx → EReal) : ℕ → S8x128.Idx → EReal
  | 0 => init
  | k + 1 => fun x => sst r E init k x + E (r + 32 * k + (x 0).val) (x 1).val
/-- The four running sums. -/
def sst4 (r : ℕ) (E : ℕ → ℕ → EReal) (init : (S8x128.Idx → EReal) × (S8x128.Idx → EReal) × (S8x128.Idx → EReal) × (S8x128.Idx → EReal)) :
    ℕ → (S8x128.Idx → EReal) × (S8x128.Idx → EReal) × (S8x128.Idx → EReal) × (S8x128.Idx → EReal)
  | 0 => init
  | k + 1 => ⟨sst r E init.1 (k + 1), sst (r + 8) E init.2.1 (k + 1), sst (r + 16) E init.2.2.1 (k + 1), sst (r + 24) E init.2.2.2 (k + 1)⟩

theorem sst4_eq (r : ℕ) (E : ℕ → ℕ → EReal) (init) (k : ℕ) : sst4 r E init k
    = ⟨sst r E init.1 k, sst (r + 8) E init.2.1 k, sst (r + 16) E init.2.2.1 k, sst (r + 24) E init.2.2.2 k⟩ := by cases k <;> rfl

variable (c : Dev nD) (i : grid0.Coords) (arg1 : Memref sig .tc .hbm S9216x32000 .bf16) (harg1 : arg1.IsWhole) (arg2 : Memref sig .tc .vmem S1x1x128 .f32) (harg2 : arg2.IsWhole) (arg3 : Memref sig .tc .vmem S128x32000 .fp8e4m3) (harg3 : arg3.IsWhole) (arg4 : Memref sig .tc .vmem S128x1000 .f32) (harg4 : arg4.IsWhole) (arg5 : Memref sig .tc .vmem S2x128x32000 .bf16) (harg5 : arg5.IsWhole) (arg6 : Memref sig .tc .vmem S32000x128 .bf16) (harg6 : arg6.IsWhole) (arg7 : Memref sig .tc .vmem S32000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S320x2x128 .bf16) (harg11 : arg11.IsWhole) (arg12 : Memref sig .tc .vmem S40x128 .f32) (harg12 : arg12.IsWhole) (arg13 : Memref sig .tc .vmem S8x128 .f32) (harg13 : arg13.IsWhole) (arg14 : Memref sig .tc .vmem S8x128 .f32) (harg14 : arg14.IsWhole) (arg15 : DmaSems sig S2)

section Any

/-- Stage 3, block scales: eight rows a trip of scales and of the codes' factors. -/
@[sl_loop] def vi_t10 (v0 : BitVec 32) (h6 : k0_cond6 i = 1#1) (v29 : Vec Ideal S8x128 .f32) (t9 : Fin k0_t9_loop.trips) (D9 D10 D12 : ℕ → ℕ → EReal) :
    LoopInvTy_k0_t10 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 v0 h6 v29 t9 where
  inv k _ := iprop(own2 c arg9 D9 ∗ own2 c arg10 (ov (40 * t9.val) 8 (gS D9 v29) D10 k) ∗ own2 c arg12 (ov 0 8 (gR (40 * t9.val) D9 v29) D12 k))
  step k acc := by
    unfold own2 k0_t10_body
    iintro ⟨⟨%f9, %hf9, H9⟩, ⟨%f10, %hf10, H10⟩, ⟨%f12, %hf12, H12⟩⟩
    sl_exec
    sl_step
    isplitl [H9]
    · iexists f9; isplitr; swap; · iexact H9
      ipureintro; exact hf9
    isplitl [H10]
    · iexists _; isplitr; swap; · iexact H10
      ipureintro
      rw [ov_eq] at hf10
      refine rows_cons arg10.view f10 (40 * t9.val) (40 * t9.val + 8 * k.val) (by omega) _ _ [] (gS D9 v29) D10 (Gen.k0_off20_eq t9 k) hf10 fun x => ?_
      rw [pay90_apply]
      exact congrArg₂ scl (readAt2 arg9.view hf9 _ 0 (Gen.k0_off20_eq t9 k) _ x |>.trans (by rw [Nat.zero_add])) (vat_apply v29 x (5 * t9.val + k.val) _ (by omega))
    iexists _; isplitr; swap; · iexact H12
    ipureintro
    rw [ov_eq] at hf12
    refine (rows_cons arg12.view f12 0 (0 + 8 * k.val) (by omega) _ _ [] (gR (40 * t9.val) D9 v29) D12 ((Gen.k0_off21_eq k).trans (by rw [Nat.zero_add])) hf12 fun x => ?_)
    rw [pay91_apply]
    exact congrArg₂ inr (readAt2 arg9.view hf9 _ 0 (Gen.k0_off20_eq t9 k) _ x |>.trans (by rw [Nat.zero_add, Nat.zero_add, Nat.add_assoc])) (vat_apply v29 x k.val _ (by omega))

/-- A load of eight slabs of pairs, eight apart. -/
theorem slab {sp : Space} {N : ℕ} (M : Memref sig .tc sp ⟨3, ![N, 2, 128]⟩ .bf16) {f} {P : ℕ → ℕ → ℕ → EReal}
    (hf : M.view.read (Elt Ideal) f = fun y => P (y 0).val (y 1).val (y 2).val) {off : Fin 3 → ℕ} {k : ℕ} (q : ℕ) (ho : off = ![64 * k + q, 0, 0]) (inb)
    (x : S8x128.Idx) (p : ℕ) (hp : p < 2) :
    M.view.readAt (Elt Ideal) (⟨off, ![8, 2, 128], ![8, 1, 1], inb⟩ : LoadRect ⟨3, ![N, 2, 128]⟩) f (ix3 (x 0).val p (x 1).val (x 0).isLt hp (x 1).isLt)
      = P (8 * (8 * k + (x 0).val) + q) p (x 1).val := by
  refine (readAt3s M.view hf _ 8 ho inb _).trans ?_
  show P (64 * k + q + 8 * (x 0).val) p (x 1).val = _
  congr 1
  omega

/-- A load of one row. -/
theorem row {sp : Space} {N : ℕ} (M : Memref sig .tc sp ⟨2, ![N, 128]⟩ .f32) {f} {D : ℕ → ℕ → EReal}
    (hf : M.view.read (Elt Ideal) f = fun y => D (y 0).val (y 1).val) {off : Fin 2 → ℕ} {n : ℕ} (b : ℕ) (ho : off = ![n + b, 0]) (inb) (y : S1x128.Idx) :
    M.view.readAt (Elt Ideal) (Rect.unit (s := ⟨2, ![N, 128]⟩) off ![1, 128] inb).toLoadRect f y = D (n + b) (y 1).val := by
  refine (readAt2 M.view hf _ 0 ho inb y).trans ?_
  have h0 : (y 0).val < 1 := (y 0).isLt
  congr 1 <;> omega

/-- Stage 3, codes: 128 columns a trip. -/
@[sl_loop] def vi_t11 (v0 : BitVec 32) (h6 : k0_cond6 i = 1#1) (t9 : Fin k0_t9_loop.trips) (v86 : BitVec 32) (D7 D12 D3 : ℕ → ℕ → EReal) :
    LoopInvTy_k0_t11 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 v0 h6 t9 v86 where
  inv k _ := iprop(own2 c arg7 D7 ∗ own2 c arg12 D12 ∗ own2 c arg3 (ovc (1280 * t9.val) 128 (gC (40 * t9.val) D7 D12) D3 k))
  step k acc := by
    unfold own2 k0_t11_body
    iintro ⟨⟨%f7, %hf7, H7⟩, ⟨%f12, %hf12, H12⟩, ⟨%f3, %hf3, H3⟩⟩
    sl_exec
    sl_step
    isplitl [H7]
    · iexists f7; isplitr; swap; · iexact H7
      ipureintro; exact hf7
    isplitl [H12]
    · iexists f12; isplitr; swap; · iexact H12
      ipureintro; exact hf12
    iexists _; isplitr; swap; · iexact H3
    ipureintro
    rw [ovc_eq] at hf3
    refine cols_cons arg3.view f3 (1280 * t9.val) (1280 * t9.val + 128 * k.val) (by omega) _ _ [] (gC (40 * t9.val) D7 D12) D3 (Gen.k0_off24_eq t9 k) hf3 fun x => ?_
    have hx : (x 1).val < 128 := (x 1).isLt
    refine (pay92_apply _ _ _ _ _ _ _ _ (fun b j => D12 (4 * k.val + b) j) (fun v j => D7 (1280 * t9.val + 128 * k.val + v) j)
      (fun y => ?_) (fun y => ?_) (fun y => ?_) (fun y => ?_) (fun y => ?_) (fun y => ?_) (fun y => ?_) (fun y => ?_) x).trans ?_
    · exact row arg12 hf12 0 (Gen.k0_off22_eq k 0) _ y
    · exact row arg12 hf12 1 (Gen.k0_off22_eq k 1) _ y
    · exact row arg12 hf12 2 (Gen.k0_off22_eq k 2) _ y
    · exact row arg12 hf12 3 (Gen.k0_off22_eq k 3) _ y
    · exact (readAt2 arg7.view hf7 _ 0 (Gen.k0_off23_eq t9 k 0) _ y).trans (by congr 1 <;> simp <;> omega)
    · exact (readAt2 arg7.view hf7 _ 0 (Gen.k0_off23_eq t9 k 1) _ y).trans (by congr 1 <;> simp <;> omega)
    · exact (readAt2 arg7.view hf7 _ 0 (Gen.k0_off23_eq t9 k 2) _ y).trans (by congr 1 <;> simp <;> omega)
    · exact (readAt2 arg7.view hf7 _ 0 (Gen.k0_off23_eq t9 k 3) _ y).trans (by congr 1 <;> simp <;> omega)
    · unfold gC
      rw [show (1280 * t9.val + 128 * k.val + (x 1).val) / 32 - 40 * t9.val = 4 * k.val + (x 1).val / 32 by omega]

/-- Stage 2, block maxima: the exponentials of eight rows of block maxima a trip. -/
@[sl_loop] def vi_t13 (v0 : BitVec 32) (h6 : k0_cond6 i = 1#1) (v28 : Vec Ideal S8x128 .f32) (t9 : Fin k0_t9_loop.trips) (D8 D9 : ℕ → ℕ → EReal) :
    LoopInvTy_k0_t13 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 v0 h6 v28 t9 where
  inv k _ := iprop(own2 c arg8 D8 ∗ own2 c arg9 (ov (40 * t9.val) 8 (gE D8 v28) D9 k))
  step k acc := by
    unfold own2 k0_t13_body
    iintro ⟨⟨%f8, %hf8, H8⟩, ⟨%f9, %hf9, H9⟩⟩
    sl_exec
    sl_step
    isplitl [H8]
    · iexists f8; isplitr; swap; · iexact H8
      ipureintro; exact hf8
    iexists _; isplitr; swap; · iexact H9
    ipureintro
    rw [ov_eq] at hf9
    refine rows_cons arg9.view f9 (40 * t9.val) (40 * t9.val + 8 * k.val) (by omega) _ _ [] (gE D8 v28) D9 (Gen.k0_off27_eq t9 k) hf9 fun x => ?_
    rw [pay95_apply]
    exact congrArg₂ E2 (readAt2 arg8.view hf8 _ 0 (Gen.k0_off27_eq t9 k) _ x |>.trans (by rw [Nat.zero_add])) (vat_apply v28 x (5 * t9.val + k.val) _ (by omega))

/-- Stage 2, exponentials: 32 rows a trip, and the four running sums. -/
@[sl_loop] def vi_t12 (v0 : BitVec 32) (h6 : k0_cond6 i = 1#1) (v28 : Vec Ideal S8x128 .f32) (t9 : Fin k0_t9_loop.trips) (v92 : BitVec 32) (cst : Ideal .f32) (init : FVec Ideal S8x128 .f32 × FVec Ideal S8x128 .f32 × FVec Ideal S8x128 .f32 × FVec Ideal S8x128 .f32) (D6 D7 : ℕ → ℕ → EReal) :
    LoopInvTy_k0_t12 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 v0 h6 v28 t9 v92 cst init where
  inv k acc := iprop(⌜acc = sst4 (1280 * t9.val) (gEk cst D6 v28) init k⌝ ∗ own2 (e := .bf16) c arg6 D6 ∗ own2 c arg7 (ov (1280 * t9.val) 32 (gEk cst D6 v28) D7 k))
  step k acc := by
    unfold own2 k0_t12_body
    iintro ⟨%hacc, ⟨%f6, %hf6, H6⟩, ⟨%f7, %hf7, H7⟩⟩
    rw [sst4_eq] at hacc
    subst hacc
    sl_exec
    sl_step
    have hld : ∀ y : S32x128.Idx, arg6.view.readAt (Elt Ideal) (Rect.unit (s := S32000x128) (k0_off25 t9 k) S32x128.size (k0_off25_inb i t9 k h6)).toLoadRect f6 y
        = D6 (1280 * t9.val + 32 * k.val + (y 0).val) (y 1).val := fun y =>
      (readAt2 arg6.view hf6 _ 0 (Gen.k0_off25_eq t9 k) _ y).trans (by rw [Nat.zero_add])
    have piece : ∀ (a q : ℕ) (h) (ha : a + 8 ≤ 32) (hq : a = 8 * q) (x : S8x128.Idx),
        exp2 (mulf (subf (extractStridedSlice S8x128 ![a, 0] (k0_pay63 (F := Ideal) (arg6.view.readAt (Elt Ideal) (Rect.unit (s := S32000x128) (k0_off25 t9 k) S32x128.size (k0_off25_inb i t9 k h6)).toLoadRect f6)) h) v28) (broadcast S8x128 cst)) x
        = gEk cst D6 v28 (1280 * t9.val + 32 * k.val + (a + (x 0).val)) (x 1).val := fun a q h ha hq x =>
      (sl_32 _ v28 cst a h x ha).trans (congrArg₂ (E2k cst) (hld _) (vat_apply v28 x (160 * t9.val + 4 * k.val + q) _ (by omega)))
    isplitr
    · ipureintro
      rw [sst4_eq]
      refine Prod.ext (funext fun x => ?_) (Prod.ext (funext fun x => ?_) (Prod.ext (funext fun x => ?_) (funext fun x => ?_)))
      · exact congrArg (sst _ _ _ _ x + ·) ((piece 0 0 _ (by omega) rfl x).trans (by congr 1; omega))
      · exact congrArg (sst _ _ _ _ x + ·) ((piece 8 1 _ (by omega) rfl x).trans (by congr 1; omega))
      · exact congrArg (sst _ _ _ _ x + ·) ((piece 16 2 _ (by omega) rfl x).trans (by congr 1; omega))
      · exact congrArg (sst _ _ _ _ x + ·) ((piece 24 3 _ (by omega) rfl x).trans (by congr 1; omega))
    isplitl [H6]
    · iexists f6; isplitr; swap; · iexact H6
      ipureintro; exact hf6
    iexists _; isplitr; swap; · iexact H7
    ipureintro
    rw [ov_eq] at hf7
    rw [ov_eq]
    have e0 := rows_cons arg7.view f7 (1280 * t9.val) (1280 * t9.val + 32 * k.val) (by omega) (k0_off26_inb i t9 k h6 0) (k0_pay65 (F := Ideal) v28 cst (arg6.view.readAt (Elt Ideal) (Rect.unit (s := S32000x128) (k0_off25 t9 k) S32x128.size (k0_off25_inb i t9 k h6)).toLoadRect f6)) [] (gEk cst D6 v28) D7
      ((Gen.k0_off26_eq t9 k 0).trans rfl) hf7 fun x => by
        unfold k0_pay65; rw [shapeCast_id]; exact (piece 0 0 _ (by omega) rfl x).trans (by rw [Nat.zero_add])
    have e1 := rows_cons arg7.view f7 (1280 * t9.val) (1280 * t9.val + 32 * k.val + 8) (by omega) (k0_off26_inb i t9 k h6 1) (k0_pay68 (F := Ideal) v28 cst (arg6.view.readAt (Elt Ideal) (Rect.unit (s := S32000x128) (k0_off25 t9 k) S32x128.size (k0_off25_inb i t9 k h6)).toLoadRect f6)) _ (gEk cst D6 v28) D7
      ((Gen.k0_off26_eq t9 k 1).trans (congrArg (fun n : ℕ => ![n, 0]) (show 1280 * t9.val + 32 * k.val + 8 * 1 = _ by omega))) e0 fun x => by
        unfold k0_pay68; rw [shapeCast_id]; exact (piece 8 1 _ (by omega) rfl x).trans (by rw [Nat.add_assoc (_ + _)])
    have e2 := rows_cons arg7.view f7 (1280 * t9.val) (1280 * t9.val + 32 * k.val + 8 + 8) (by omega) (k0_off26_inb i t9 k h6 2) (k0_pay71 (F := Ideal) v28 cst (arg6.view.readAt (Elt Ideal) (Rect.unit (s := S32000x128) (k0_off25 t9 k) S32x128.size (k0_off25_inb i t9 k h6)).toLoadRect f6)) _ (gEk cst D6 v28) D7
      ((Gen.k0_off26_eq t9 k 2).trans (congrArg (fun n : ℕ => ![n, 0]) (show 1280 * t9.val + 32 * k.val + 8 * 2 = _ by omega))) e1 fun x => by
        unfold k0_pay71; rw [shapeCast_id]; exact (piece 16 2 _ (by omega) rfl x).trans (by congr 1; omega)
    have e3 := rows_cons arg7.view f7 (1280 * t9.val) (1280 * t9.val + 32 * k.val + 8 + 8 + 8) (by omega) (k0_off26_inb i t9 k h6 3) (k0_pay93 (F := Ideal) (k0_pay73 (F := Ideal) v28 cst (arg6.view.readAt (Elt Ideal) (Rect.unit (s := S32000x128) (k0_off25 t9 k) S32x128.size (k0_off25_inb i t9 k h6)).toLoadRect f6))) _ (gEk cst D6 v28) D7
      ((Gen.k0_off26_eq t9 k 3).trans (congrArg (fun n : ℕ => ![n, 0]) (show 1280 * t9.val + 32 * k.val + 8 * 3 = _ by omega))) e2 fun x => by
        unfold k0_pay93; rw [shapeCast_id]; exact (piece 24 3 _ (by omega) rfl x).trans (by congr 1; omega)
    exact e3.trans (congrArg (fun n => fun y : S32000x128.Idx => seg (1280 * t9.val) n (gEk cst D6 v28) D7 (y 0).val (y 1).val) (show 1280 * t9.val + 32 * k.val + 8 + 8 + 8 + 8 = 1280 * t9.val + 32 * (k.val + 1) by omega))

/-- Stage 1, block maxima: eight rows a trip, and the running row maximum. -/
@[sl_loop] def vi_t15 (v0 : BitVec 32) (h6 : k0_cond6 i = 1#1) (t9 : Fin k0_t9_loop.trips) (init : FVec Ideal S8x128 .f32) (P : ℕ → ℕ → ℕ → EReal) (D8 : ℕ → ℕ → EReal) :
    LoopInvTy_k0_t15 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 v0 h6 t9 init where
  inv k acc := iprop(⌜acc = mst (40 * t9.val) (gB (40 * t9.val) P) init k⌝ ∗ own3 (e := .bf16) c arg11 P ∗ own2 c arg8 (ov (40 * t9.val) 8 (gB (40 * t9.val) P) D8 k))
  step k acc := by
    unfold own2 own3 k0_t15_body
    iintro ⟨%hacc, ⟨%f11, %hf11, H11⟩, ⟨%f8, %hf8, H8⟩⟩
    subst hacc
    sl_exec
    sl_step
    have hx : ∀ x : S8x128.Idx, k0_pay99 (F := Ideal) (vi_t15.sl.v135 i arg11 h6 k f11) (vi_t15.sl.v138_raw i arg11 h6 k f11) (vi_t15.sl.v143_raw i arg11 h6 k f11) x
        = gB (40 * t9.val) P (40 * t9.val + 8 * k.val + (x 0).val) (x 1).val := fun x =>
      (pay99_apply _ _ _ _ _ _ _ _ (fun q p => P (8 * (8 * k.val + (x 0).val) + q) p (x 1).val) x
        (fun p hp => slab arg11 hf11 0 (Gen.k0_off31_eq k 0) _ x p hp) (fun p hp => slab arg11 hf11 1 (Gen.k0_off31_eq k 1) _ x p hp)
        (fun p hp => slab arg11 hf11 2 (Gen.k0_off31_eq k 2) _ x p hp) (fun p hp => slab arg11 hf11 3 (Gen.k0_off31_eq k 3) _ x p hp)
        (fun p hp => slab arg11 hf11 4 (Gen.k0_off31_eq k 4) _ x p hp) (fun p hp => slab arg11 hf11 5 (Gen.k0_off31_eq k 5) _ x p hp)
        (fun p hp => slab arg11 hf11 6 (Gen.k0_off31_eq k 6) _ x p hp) (fun p hp => slab arg11 hf11 7 (Gen.k0_off31_eq k 7) _ x p hp)).trans
        (by unfold gB; rw [show 40 * t9.val + 8 * k.val + (x 0).val - 40 * t9.val = 8 * k.val + (x 0).val by omega])
    isplitr
    · ipureintro
      exact funext fun x => congrArg (max (mst _ _ _ _ x)) (hx x)
    isplitl [H11]
    · iexists f11; isplitr; swap; · iexact H11
      ipureintro; exact hf11
    iexists _; isplitr; swap; · iexact H8
    ipureintro
    rw [ov_eq] at hf8
    refine rows_cons arg8.view f8 (40 * t9.val) (40 * t9.val + 8 * k.val) (by omega) _ _ [] (gB (40 * t9.val) P) D8 (Gen.k0_off32_eq t9 k) hf8 fun x => ?_
    unfold k0_pay100
    rw [shapeCast_id]
    exact hx x

end Any

/-- Eight slabs of pairs for each of the four blocks of a tile. -/
theorem pairs_step {sp : Space} (M : Memref sig .tc sp S320x2x128 .bf16) {f} (b k : ℕ) (X : ℕ → ℕ → EReal) (P : ℕ → ℕ → ℕ → EReal) (V : Vec Ideal S1x128x128 .bf16)
    (hV : ∀ j i (hj : j < 128) (hi : i < 128), V (ix3 0 j i Nat.one_pos hj hi) = X (32 * b + 128 * k + i) j)
    {o0 o1 o2 o3 : Fin 3 → ℕ} (i0 i1 i2 i3) (h0 : o0 = ![32 * k, 0, 0]) (h1 : o1 = ![32 * k + 8, 0, 0]) (h2 : o2 = ![32 * k + 16, 0, 0]) (h3 : o3 = ![32 * k + 24, 0, 0])
    (hf : M.view.read (Elt Ideal) f = fun y => ov3 0 32 (gP b X) P k (y 0).val (y 1).val (y 2).val) :
    M.view.read (Elt Ideal) (M.view.writes (Elt Ideal) f
      [⟨Rect.unit (s := S320x2x128) o3 S8x2x128.size i3, k0_pay98 (F := Ideal) (k0_pay74 (F := Ideal) V)⟩,
       ⟨Rect.unit (s := S320x2x128) o2 S8x2x128.size i2, k0_pay97 (F := Ideal) (k0_pay74 (F := Ideal) V)⟩,
       ⟨Rect.unit (s := S320x2x128) o1 S8x2x128.size i1, k0_pay96 (F := Ideal) (k0_pay78 (F := Ideal) V) (k0_pay79 (F := Ideal) V)⟩,
       ⟨Rect.unit (s := S320x2x128) o0 S8x2x128.size i0, k0_pay76 (F := Ideal) V⟩])
    = fun y => ov3 0 32 (gP b X) P (k + 1) (y 0).val (y 1).val (y 2).val := by
  rw [ov3_eq] at hf
  rw [ov3_eq]
  have hp : ∀ (a q : ℕ) (ha : a = 32 * q) (hq : q < 4) (y : S8x2x128.Idx) (q0) (q1),
      max (V (ix3 0 (y 2).val (a + (2 * (y 0).val + (y 1).val)) Nat.one_pos (y 2).isLt q0)) (V (ix3 0 (y 2).val (a + 16 + (2 * (y 0).val + (y 1).val)) Nat.one_pos (y 2).isLt q1))
      = gP b X (32 * k + 8 * q + (y 0).val) (y 1).val (y 2).val := fun a q ha hq y q0 q1 => by
    have h0 : (y 0).val < 8 := (y 0).isLt
    refine congrArg₂ max ((hV _ _ _ _).trans ?_) ((hV _ _ _ _).trans ?_)
    · congr 1; omega
    · congr 1; omega
  have q0 : ∀ (a : ℕ) (y : S8x2x128.Idx), a ≤ 112 → a + (2 * (y 0).val + (y 1).val) < 128 := fun a y ha => by
    have h0 : (y 0).val < 8 := (y 0).isLt
    have h1 : (y 1).val < 2 := (y 1).isLt
    omega
  have e0 := slabs_cons M.view f 0 (0 + 32 * k) (by omega) i0 (k0_pay76 (F := Ideal) V) [] (gP b X) P (h0.trans (by rw [Nat.zero_add])) hf fun x =>
      (pairs_apply _ 0 16 rfl (by omega) _ _ x (q0 0 x (by omega)) (q0 16 x (by omega))).trans ((hp 0 0 rfl (by omega) x _ _).trans (by congr 1; omega))
  have e1 := slabs_cons M.view f 0 _ (by omega) i1 (k0_pay96 (F := Ideal) (k0_pay78 (F := Ideal) V) (k0_pay79 (F := Ideal) V)) _ (gP b X) P
    (h1.trans (by rw [Nat.zero_add])) e0 fun x =>
      (pairs_apply _ 32 48 rfl (by omega) _ _ x (q0 32 x (by omega)) (q0 48 x (by omega))).trans ((hp 32 1 rfl (by omega) x _ _).trans (by congr 1; omega))
  have e2 := slabs_cons M.view f 0 _ (by omega) i2 (k0_pay97 (F := Ideal) (k0_pay74 (F := Ideal) V)) _ (gP b X) P
    (h2.trans (by rw [Nat.zero_add])) e1 fun x =>
      (pairs_apply _ 64 80 rfl (by omega) _ _ x (q0 64 x (by omega)) (q0 80 x (by omega))).trans ((hp 64 2 rfl (by omega) x _ _).trans (by congr 1; omega))
  have e3 := slabs_cons M.view f 0 _ (by omega) i3 (k0_pay98 (F := Ideal) (k0_pay74 (F := Ideal) V)) _ (gP b X) P
    (h3.trans (by rw [Nat.zero_add])) e2 fun x =>
      (pairs_apply _ 96 112 rfl (by omega) _ _ x (q0 96 x (by omega)) (q0 112 x (by omega))).trans ((hp 96 3 rfl (by omega) x _ _).trans (by congr 1; omega))
  exact e3.trans (congrArg (fun n => fun y : S320x2x128.Idx => seg3 0 n (gP b X) P (y 0).val (y 1).val (y 2).val) (show 0 + 32 * k + 8 + 8 + 8 + 8 = 0 + 32 * (k + 1) by omega))

section Slot
variable (t : Fin grid0.N)

/-- The block in the slot that point `t` reads, transposed. -/
def xin (c : Dev nD) (t : Fin grid0.N) (X : HbBuf0 (F := Ideal) c (rslot (Ring.sl 2 t.val))) : ℕ → ℕ → EReal := fun i j =>
  if h : j < 128 ∧ i < 32000 then scM0_0.view.read (Elt Ideal) X (ix3 (Ring.sl 2 t.val).val j i (Ring.sl 2 t.val).isLt h.1 h.2) else 0

/-- A load of one tile out of the slot. -/
theorem tile (c : Dev nD) (t : Fin grid0.N) (X : HbBuf0 (F := Ideal) c (rslot (Ring.sl 2 t.val))) {off : Fin 3 → ℕ} (n : ℕ) (ho : off = ![((grid0.coords t) 0).val % 2, 0, n])
    (inb : ∀ a, off a + S1x128x128.size a ≤ S2x128x32000.size a) (j i : ℕ) (hj : j < 128) (hi : i < 128) :
    scM0_0.view.readAt (Elt Ideal) (Rect.unit (s := S2x128x32000) off S1x128x128.size inb).toLoadRect X (ix3 0 j i Nat.one_pos hj hi) = xin c t X (n + i) j := by
  subst ho
  have h2 : n + 128 ≤ 32000 := inb 2
  unfold xin
  rw [dif_pos ⟨hj, by omega⟩]
  refine congrArg (scM0_0.view.read (Elt Ideal) X) (ix3_eta _ _ _ _ _ _ _ ?_ ?_ ?_)
  · show ((grid0.coords t) 0).val % 2 + 1 * 0 = _
    rw [slot_mod]; omega
  · show 0 + 1 * j = _
    omega
  · show n + 1 * i = _
    omega

/-- Stage 1, tiles: 128 columns a trip, transposed, and their pair maxima. -/
@[sl_loop] def vi_t2 (v0 : BitVec 32) (h : k0_cond4 (grid0.coords t) = 1#1) (k : Fin k0_t1_loop.trips) (v : BitVec 32) (X : HbBuf0 (F := Ideal) c (rslot (Ring.sl 2 t.val))) (P : ℕ → ℕ → ℕ → EReal) (D6 : ℕ → ℕ → EReal) :
    LoopInvTy_k0_t2 (F := Ideal) Unit ℕ (Pipeline.UD sig nD τ) ℕ Variants.none c none Set.univ (grid0.coords t) arg1 harg1 arg2 harg2 arg3 harg3 arg4 harg4 scM0_0 (Memref.isWhole_whole _) arg6 harg6 arg7 harg7 arg8 harg8 arg9 harg9 arg10 harg10 arg11 harg11 arg12 harg12 arg13 harg13 arg14 harg14 arg15 v0 h k v where
  inv k' _ := iprop(slotP (F := Ideal) c (Ring.sl 2 t.val) X ∗ own3 (e := .bf16) c arg11 (ov3 0 32 (gP (40 * k.val) (xin c t X)) P k') ∗ own2 (e := .bf16) c arg6 (ov (1280 * k.val) 128 (xin c t X) D6 k'))
  step k' acc := by
    unfold own2 own3 k0_t2_body
    iintro ⟨H5, ⟨%f11, %hf11, H11⟩, ⟨%f6, %hf6, H6⟩⟩
    have hin := slot_box t (off := k0_off7 (grid0.coords t) k k') (inb := k0_off7_inb (grid0.coords t) k k' h) (by rw [Gen.k0_off7_eq]; exact slot_mod t) (by rw [Gen.k0_off7_eq]; rfl)
    sl_exec
    sl_step
    isplitl [H5]
    · iexact H5
    isplitl [H11]
    · iexists _; isplitr; swap; · iexact H11
      ipureintro
      exact pairs_step arg11 (40 * k.val) k'.val (xin c t X) P _
        (fun j i hj hi => (tile c t X _ (Gen.k0_off7_eq (grid0.coords t) k k') (k0_off7_inb (grid0.coords t) k k' h) j i hj hi).trans (by rw [← Nat.mul_assoc]))
        _ _ _ _ (Gen.k0_off9_eq k' 0) (Gen.k0_off9_eq k' 1) (Gen.k0_off9_eq k' 2) (Gen.k0_off9_eq k' 3) hf11
    iexists _; isplitr; swap; · iexact H6
    ipureintro
    rw [ov_eq] at hf6
    refine rows_cons arg6.view f6 (1280 * k.val) (1280 * k.val + 128 * k'.val) (by omega) _ _ [] (xin c t X) D6 (Gen.k0_off8_eq k k') hf6 fun x => ?_
    refine (pay75_apply _ x).trans ?_
    exact tile c t X _ (Gen.k0_off7_eq (grid0.coords t) k k') _ _ _ (x 1).isLt (x 0).isLt

/-- Stage 1, tiles: 128 columns a trip, transposed, and their pair maxima. -/
@[sl_loop] def vi_t7 (v0 : BitVec 32) (h : k0_cond5 (grid0.coords t) = 1#1) (k : Fin k0_t4_loop.trips) (v : BitVec 32) (X : HbBuf0 (F := Ideal) c (rslot (Ring.sl 2 t.val))) (P : ℕ → ℕ → ℕ → EReal) (D6 : ℕ → ℕ → EReal) :
    LoopInvTy_k0_t7 (F := Ideal) Unit ℕ (Pipeline.UD sig nD τ) ℕ Variants.none c none Set.univ (grid0.coords t) arg1 harg1 arg2 harg2 arg3 harg3 arg4 harg4 scM0_0 (Memref.isWhole_whole _) arg6 harg6 arg7 harg7 arg8 harg8 arg9 harg9 arg10 harg10 arg11 harg11 arg12 harg12 arg13 harg13 arg14 harg14 arg15 v0 h k v where
  inv k' _ := iprop(slotP (F := Ideal) c (Ring.sl 2 t.val) X ∗ own3 (e := .bf16) c arg11 (ov3 0 32 (gP (40 * k.val) (xin c t X)) P k') ∗ own2 (e := .bf16) c arg6 (ov (1280 * k.val) 128 (xin c t X) D6 k'))
  step k' acc := by
    unfold own2 own3 k0_t7_body
    iintro ⟨H5, ⟨%f11, %hf11, H11⟩, ⟨%f6, %hf6, H6⟩⟩
    have hin := slot_box t (off := k0_off15 (grid0.coords t) k k') (inb := k0_off15_inb (grid0.coords t) k k' h) (by rw [Gen.k0_off15_eq]; exact slot_mod t) (by rw [Gen.k0_off15_eq]; rfl)
    sl_exec
    sl_step
    isplitl [H5]
    · iexact H5
    isplitl [H11]
    · iexists _; isplitr; swap; · iexact H11
      ipureintro
      exact pairs_step arg11 (40 * k.val) k'.val (xin c t X) P _
        (fun j i hj hi => (tile c t X _ (Gen.k0_off15_eq (grid0.coords t) k k') (k0_off15_inb (grid0.coords t) k k' h) j i hj hi).trans (by rw [← Nat.mul_assoc]))
        _ _ _ _ (Gen.k0_off17_eq k' 0) (Gen.k0_off17_eq k' 1) (Gen.k0_off17_eq k' 2) (Gen.k0_off17_eq k' 3) hf11
    iexists _; isplitr; swap; · iexact H6
    ipureintro
    rw [ov_eq] at hf6
    refine rows_cons arg6.view f6 (1280 * k.val) (1280 * k.val + 128 * k'.val) (by omega) _ _ [] (xin c t X) D6 (Gen.k0_off16_eq k k') hf6 fun x => ?_
    refine (pay75_apply _ x).trans ?_
    exact tile c t X _ (Gen.k0_off15_eq (grid0.coords t) k k') _ _ _ (x 1).isLt (x 0).isLt

/-- Stage 1, tiles: 128 columns a trip, transposed, and their pair maxima. -/
@[sl_loop] def vi_t14 (v0 : BitVec 32) (h : k0_cond6 (grid0.coords t) = 1#1) (k : Fin k0_t9_loop.trips) (v : BitVec 32) (X : HbBuf0 (F := Ideal) c (rslot (Ring.sl 2 t.val))) (P : ℕ → ℕ → ℕ → EReal) (D6 : ℕ → ℕ → EReal) :
    LoopInvTy_k0_t14 (F := Ideal) Unit ℕ (Pipeline.UD sig nD τ) ℕ Variants.none c none Set.univ (grid0.coords t) arg1 harg1 arg2 harg2 arg3 harg3 arg4 harg4 scM0_0 (Memref.isWhole_whole _) arg6 harg6 arg7 harg7 arg8 harg8 arg9 harg9 arg10 harg10 arg11 harg11 arg12 harg12 arg13 harg13 arg14 harg14 arg15 v0 h k v where
  inv k' _ := iprop(slotP (F := Ideal) c (Ring.sl 2 t.val) X ∗ own3 (e := .bf16) c arg11 (ov3 0 32 (gP (40 * k.val) (xin c t X)) P k') ∗ own2 (e := .bf16) c arg6 (ov (1280 * k.val) 128 (xin c t X) D6 k'))
  step k' acc := by
    unfold own2 own3 k0_t14_body
    iintro ⟨H5, ⟨%f11, %hf11, H11⟩, ⟨%f6, %hf6, H6⟩⟩
    have hin := slot_box t (off := k0_off28 (grid0.coords t) k k') (inb := k0_off28_inb (grid0.coords t) k k' h) (by rw [Gen.k0_off28_eq]; exact slot_mod t) (by rw [Gen.k0_off28_eq]; rfl)
    sl_exec
    sl_step
    isplitl [H5]
    · iexact H5
    isplitl [H11]
    · iexists _; isplitr; swap; · iexact H11
      ipureintro
      exact pairs_step arg11 (40 * k.val) k'.val (xin c t X) P _
        (fun j i hj hi => (tile c t X _ (Gen.k0_off28_eq (grid0.coords t) k k') (k0_off28_inb (grid0.coords t) k k' h) j i hj hi).trans (by rw [← Nat.mul_assoc]))
        _ _ _ _ (Gen.k0_off30_eq k' 0) (Gen.k0_off30_eq k' 1) (Gen.k0_off30_eq k' 2) (Gen.k0_off30_eq k' 3) hf11
    iexists _; isplitr; swap; · iexact H6
    ipureintro
    rw [ov_eq] at hf6
    refine rows_cons arg6.view f6 (1280 * k.val) (1280 * k.val + 128 * k'.val) (by omega) _ _ [] (xin c t X) D6 (Gen.k0_off29_eq k k') hf6 fun x => ?_
    refine (pay75_apply _ x).trans ?_
    exact tile c t X _ (Gen.k0_off28_eq (grid0.coords t) k k') _ _ _ (x 1).isLt (x 0).isLt

end Slot

section Same

/-- The same loop in another branch of the body. -/
@[sl_loop] def vi_t3 (h : k0_cond4 i = 1#1) (t : Fin k0_t1_loop.trips) (init : FVec Ideal S8x128 .f32) (P : ℕ → ℕ → ℕ → EReal) (D8 : ℕ → ℕ → EReal) :
    LoopInvTy_k0_t3 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h t init where
  inv k acc := iprop(⌜acc = mst (40 * t.val) (gB (40 * t.val) P) init k⌝ ∗ own3 (e := .bf16) c arg11 P ∗ own2 c arg8 (ov (40 * t.val) 8 (gB (40 * t.val) P) D8 k))
  step k acc := by rw [body_t3]; exact (vi_t15 c (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 t init P D8).step k acc

/-- The same loop in another branch of the body. -/
@[sl_loop] def vi_t5 (h : k0_cond5 i = 1#1) (m : Vec Ideal S8x128 .f32) (t : Fin k0_t4_loop.trips) (v : BitVec 32) (cst : Ideal .f32) (init : FVec Ideal S8x128 .f32 × FVec Ideal S8x128 .f32 × FVec Ideal S8x128 .f32 × FVec Ideal S8x128 .f32) (D6 D7 : ℕ → ℕ → EReal) :
    LoopInvTy_k0_t5 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h m t v cst init where
  inv k acc := iprop(⌜acc = sst4 (1280 * t.val) (gEk cst D6 m) init k⌝ ∗ own2 (e := .bf16) c arg6 D6 ∗ own2 c arg7 (ov (1280 * t.val) 32 (gEk cst D6 m) D7 k))
  step k acc := by rw [body_t5]; exact (vi_t12 c (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t v cst init D6 D7).step k acc

/-- The same loop in another branch of the body. -/
@[sl_loop] def vi_t6 (h : k0_cond5 i = 1#1) (m : Vec Ideal S8x128 .f32) (t : Fin k0_t4_loop.trips) (D8 D9 : ℕ → ℕ → EReal) :
    LoopInvTy_k0_t6 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h m t where
  inv k _ := iprop(own2 c arg8 D8 ∗ own2 c arg9 (ov (40 * t.val) 8 (gE D8 m) D9 k))
  step k acc := by rw [body_t6]; exact (vi_t13 c (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t D8 D9).step k acc

/-- The same loop in another branch of the body. -/
@[sl_loop] def vi_t8 (h : k0_cond5 i = 1#1) (t : Fin k0_t4_loop.trips) (init : FVec Ideal S8x128 .f32) (P : ℕ → ℕ → ℕ → EReal) (D8 : ℕ → ℕ → EReal) :
    LoopInvTy_k0_t8 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h t init where
  inv k acc := iprop(⌜acc = mst (40 * t.val) (gB (40 * t.val) P) init k⌝ ∗ own3 (e := .bf16) c arg11 P ∗ own2 c arg8 (ov (40 * t.val) 8 (gB (40 * t.val) P) D8 k))
  step k acc := by rw [body_t8]; exact (vi_t15 c (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 t init P D8).step k acc

/-- The same loop in another branch of the body. -/
@[sl_loop] def vi_t17 (h : k0_cond7 i = 1#1) (m : Vec Ideal S8x128 .f32) (t : Fin k0_t16_loop.trips) (D9 D10 D12 : ℕ → ℕ → EReal) :
    LoopInvTy_k0_t17 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h m t where
  inv k _ := iprop(own2 c arg9 D9 ∗ own2 c arg10 (ov (40 * t.val) 8 (gS D9 m) D10 k) ∗ own2 c arg12 (ov 0 8 (gR (40 * t.val) D9 m) D12 k))
  step k acc := by rw [body_t17]; exact (vi_t10 c (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t D9 D10 D12).step k acc

/-- The same loop in another branch of the body. -/
@[sl_loop] def vi_t18 (h : k0_cond7 i = 1#1) (t : Fin k0_t16_loop.trips) (v : BitVec 32) (D7 D12 D3 : ℕ → ℕ → EReal) :
    LoopInvTy_k0_t18 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h t v where
  inv k _ := iprop(own2 c arg7 D7 ∗ own2 c arg12 D12 ∗ own2 c arg3 (ovc (1280 * t.val) 128 (gC (40 * t.val) D7 D12) D3 k))
  step k acc := by rw [body_t18]; exact (vi_t11 c (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 t v D7 D12 D3).step k acc

/-- The same loop in another branch of the body. -/
@[sl_loop] def vi_t19 (h : k0_cond7 i = 1#1) (m : Vec Ideal S8x128 .f32) (t : Fin k0_t16_loop.trips) (v : BitVec 32) (cst : Ideal .f32) (init : FVec Ideal S8x128 .f32 × FVec Ideal S8x128 .f32 × FVec Ideal S8x128 .f32 × FVec Ideal S8x128 .f32) (D6 D7 : ℕ → ℕ → EReal) :
    LoopInvTy_k0_t19 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h m t v cst init where
  inv k acc := iprop(⌜acc = sst4 (1280 * t.val) (gEk cst D6 m) init k⌝ ∗ own2 (e := .bf16) c arg6 D6 ∗ own2 c arg7 (ov (1280 * t.val) 32 (gEk cst D6 m) D7 k))
  step k acc := by rw [body_t19]; exact (vi_t12 c (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t v cst init D6 D7).step k acc

/-- The same loop in another branch of the body. -/
@[sl_loop] def vi_t20 (h : k0_cond7 i = 1#1) (m : Vec Ideal S8x128 .f32) (t : Fin k0_t16_loop.trips) (D8 D9 : ℕ → ℕ → EReal) :
    LoopInvTy_k0_t20 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h m t where
  inv k _ := iprop(own2 c arg8 D8 ∗ own2 c arg9 (ov (40 * t.val) 8 (gE D8 m) D9 k))
  step k acc := by rw [body_t20]; exact (vi_t13 c (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t D8 D9).step k acc

/-- The same loop in another branch of the body. -/
@[sl_loop] def vi_t22 (h : k0_cond8 i = 1#1) (m : Vec Ideal S8x128 .f32) (t : Fin k0_t21_loop.trips) (D9 D10 D12 : ℕ → ℕ → EReal) :
    LoopInvTy_k0_t22 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h m t where
  inv k _ := iprop(own2 c arg9 D9 ∗ own2 c arg10 (ov (40 * t.val) 8 (gS D9 m) D10 k) ∗ own2 c arg12 (ov 0 8 (gR (40 * t.val) D9 m) D12 k))
  step k acc := by rw [body_t22]; exact (vi_t10 c (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 m t D9 D10 D12).step k acc

/-- The same loop in another branch of the body. -/
@[sl_loop] def vi_t23 (h : k0_cond8 i = 1#1) (t : Fin k0_t21_loop.trips) (v : BitVec 32) (D7 D12 D3 : ℕ → ℕ → EReal) :
    LoopInvTy_k0_t23 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h t v where
  inv k _ := iprop(own2 c arg7 D7 ∗ own2 c arg12 D12 ∗ own2 c arg3 (ovc (1280 * t.val) 128 (gC (40 * t.val) D7 D12) D3 k))
  step k acc := by rw [body_t23]; exact (vi_t11 c (grid0.coords pt2) arg1 harg1 arg2 harg2 arg3 harg3 arg4 harg4 arg5 harg5 arg6 harg6 arg7 harg7 arg8 harg8 arg9 harg9 arg10 harg10 arg11 harg11 arg12 harg12 arg13 harg13 arg14 harg14 arg15 0 h2 t v D7 D12 D3).step k acc

end Same

end Cert.KernelIdeal.Val

end
-- ==== Proof.ValOut.lean ====
/- The loop over the chunks of a block, with what it computes. -/
module

public import proofs.«01_k».proof.Proof.ValIn

@[expose] public section

set_option warn.classDefReducibility false
set_option maxRecDepth 16384
set_option synthInstance.maxSize 4096

noncomputable section

namespace Cert.KernelIdeal.Val

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-- The maximum of block `i` of 32 rows, as the kernel nests it. -/
def BM (X : ℕ → ℕ → EReal) : ℕ → ℕ → EReal := fun i j => bm8 fun q p => max (X (32 * i + (2 * q + p)) j) (X (32 * i + 16 + (2 * q + p)) j)
/-- Codes, from the exponentials, the blocks' exponentials and the reciprocals' argument. -/
def GC (E D : ℕ → ℕ → EReal) (s : S8x128.Idx → EReal) : ℕ → ℕ → EReal := fun i j => cdx (E j i) (inr (D (j / 32) i) (vat s (j / 32) i))
/-- The running maximum over the chunks. -/
def mM (B : ℕ → ℕ → EReal) (init : S8x128.Idx → EReal) : ℕ → S8x128.Idx → EReal
  | 0 => init
  | k + 1 => mst (40 * k) B (mM B init k) 5
/-- The four running sums over the chunks. -/
def sS (E : ℕ → ℕ → EReal) (init : (S8x128.Idx → EReal) × (S8x128.Idx → EReal) × (S8x128.Idx → EReal) × (S8x128.Idx → EReal)) :
    ℕ → (S8x128.Idx → EReal) × (S8x128.Idx → EReal) × (S8x128.Idx → EReal) × (S8x128.Idx → EReal)
  | 0 => init
  | k + 1 => sst4 (1280 * k) E (sS E init k) 40
/-- The running maximum and the four running sums. -/
def mS (B E : ℕ → ℕ → EReal) (init : (S8x128.Idx → EReal) × (S8x128.Idx → EReal) × (S8x128.Idx → EReal) × (S8x128.Idx → EReal) × (S8x128.Idx → EReal)) :
    ℕ → (S8x128.Idx → EReal) × (S8x128.Idx → EReal) × (S8x128.Idx → EReal) × (S8x128.Idx → EReal) × (S8x128.Idx → EReal)
  | 0 => init
  | k + 1 => ⟨mM B init.1 (k + 1), sS E init.2 (k + 1)⟩
theorem mS_eq (B E) (init) (k : ℕ) : mS B E init k = ⟨mM B init.1 k, sS E init.2 k⟩ := by cases k <;> rfl

theorem bm8_congr {P Q : ℕ → ℕ → EReal} (h : ∀ q p, q < 8 → p < 2 → P q p = Q q p) : bm8 P = bm8 Q := by
  unfold bm8
  rw [h 0 0 (by omega) (by omega), h 1 0 (by omega) (by omega), h 2 0 (by omega) (by omega), h 3 0 (by omega) (by omega), h 4 0 (by omega) (by omega), h 5 0 (by omega) (by omega), h 6 0 (by omega) (by omega), h 7 0 (by omega) (by omega), h 0 1 (by omega) (by omega), h 1 1 (by omega) (by omega), h 2 1 (by omega) (by omega), h 3 1 (by omega) (by omega), h 4 1 (by omega) (by omega), h 5 1 (by omega) (by omega), h 6 1 (by omega) (by omega), h 7 1 (by omega) (by omega)]
/-- A running maximum looks only at its rows. -/
theorem mst_congr (r : ℕ) {B B' : ℕ → ℕ → EReal} (init) (n : ℕ) (h : ∀ i j, r ≤ i → i < r + 8 * n → B i j = B' i j) : mst r B init n = mst r B' init n := by
  induction n with
  | zero => rfl
  | succ n ih =>
    funext x
    have h0 : (x 0).val < 8 := (x 0).isLt
    exact congrArg₂ max (congrFun (ih fun i j a b => h i j a (by omega)) x) (h _ _ (by omega) (by omega))
/-- A running sum looks only at its rows. -/
theorem sst_congr (r : ℕ) {B B' : ℕ → ℕ → EReal} (init) (n : ℕ) (h : ∀ i j, r ≤ i → i < r + 32 * n → B i j = B' i j) : sst r B init n = sst r B' init n := by
  induction n with
  | zero => rfl
  | succ n ih =>
    funext x
    have h0 : (x 0).val < 8 := (x 0).isLt
    exact congrArg₂ (· + ·) (congrFun (ih fun i j a b => h i j a (by omega)) x) (h _ _ (by omega) (by omega))
theorem sst4_congr (r : ℕ) {B B' : ℕ → ℕ → EReal} (init) (n : ℕ) (h : ∀ i j, r ≤ i → i < r + 32 * n + 32 → B i j = B' i j) : sst4 r B init n = sst4 r B' init n := by
  rw [sst4_eq, sst4_eq, sst_congr r init.1 n fun i j a b => h i j (by omega) (by omega), sst_congr (r + 8) init.2.1 n fun i j a b => h i j (by omega) (by omega),
    sst_congr (r + 16) init.2.2.1 n fun i j a b => h i j (by omega) (by omega), sst_congr (r + 24) init.2.2.2 n fun i j a b => h i j (by omega) (by omega)]

/-- `vat` repeats every eight rows. -/
theorem vat_add (v : S8x128.Idx → EReal) (b i j : ℕ) (h : b % 8 = 0) : vat v (b + i) j = vat v i j := by
  unfold vat
  exact congrArg v (ix2_eta _ _ _ _ _ (show (b + i) % 8 = i % 8 by omega) rfl)

/-- A chunk's block maxima are the block maxima of its rows. -/
theorem gB_eq (k : ℕ) (X : ℕ → ℕ → EReal) (P : ℕ → ℕ → ℕ → EReal) (i j : ℕ) (h0 : 40 * k ≤ i) (h1 : i < 40 * (k + 1)) :
    gB (40 * k) (ov3 0 32 (gP (40 * k) X) P 10) i j = BM X i j := by
  unfold gB BM
  refine bm8_congr fun q p hq hp => ?_
  rw [ov3_eq, seg3_in _ _ _ _ (by omega) (by omega)]
  unfold gP
  congr 2 <;> omega
/-- A chunk's codes. -/
theorem gC_eq (k : ℕ) (E D R : ℕ → ℕ → EReal) (s) (i j : ℕ) (h0 : 1280 * k ≤ j) (h1 : j < 1280 * (k + 1)) :
    gC (40 * k) E (ov 0 8 (gR (40 * k) D s) R 5) i j = GC E D s i j := by
  unfold gC GC
  rw [ov_eq, seg_in _ _ _ (by omega) (by omega)]
  unfold gR
  rw [show 40 * k + (j / 32 - 40 * k) = j / 32 by omega, ← vat_add s (40 * k) (j / 32 - 40 * k) i (by omega), show 40 * k + (j / 32 - 40 * k) = j / 32 by omega]

/-- A chunk's block scales. -/
theorem chunk_S (k : ℕ) (D D0 D10 : ℕ → ℕ → EReal) (s) {n : ℕ} (hn : n = 5) (hD : ∀ i j, 40 * k ≤ i → D i j = D0 i j) :
    ov (40 * k) 8 (gS D s) (ov 0 40 (gS D0 s) D10 k) n = ov 0 40 (gS D0 s) D10 (k + 1) := by
  subst hn
  exact ov_chunk 8 5 k _ _ _ rfl fun i j h _ => congrArg (fun x => scl x (vat s i j)) (hD i j h)
/-- A chunk's codes. -/
theorem chunk_C (k : ℕ) (E E0 D D0 R D3 : ℕ → ℕ → EReal) (s) {n n' : ℕ} (hn : n = 10) (hn' : n' = 5) (hE : ∀ i j, 1280 * k ≤ i → E i j = E0 i j) (hD : ∀ i j, 40 * k ≤ i → D i j = D0 i j) :
    ovc (1280 * k) 128 (gC (40 * k) E (ov 0 8 (gR (40 * k) D s) R n')) (ovc 0 1280 (GC E0 D0 s) D3 k) n = ovc 0 1280 (GC E0 D0 s) D3 (k + 1) := by
  subst hn hn'
  refine ovc_chunk 128 10 k _ _ _ rfl fun i j h h' => ?_
  rw [gC_eq k E D R s i j h h']
  unfold GC
  rw [hE j i h, hD (j / 32) i (by omega)]
/-- A chunk's exponentials. -/
theorem chunk_E (k : ℕ) (D6 D0 D7 : ℕ → ℕ → EReal) (m) {n : ℕ} (hn : n = 40) (hD : ∀ i j, 1280 * k ≤ i → D6 i j = D0 i j) :
    ov (1280 * k) 32 (gEk (Named.named (F := Ideal) κ "log2e_over_t" (φ := .f32) 0x3FE6D4CA#32) D6 m) (ov 0 1280 (gE D0 m) D7 k) n = ov 0 1280 (gE D0 m) D7 (k + 1) := by
  subst hn
  rw [gEk_named]
  exact ov_chunk 32 40 k _ _ _ rfl fun i j h _ => congrArg (fun x => E2 x (vat m i j)) (hD i j h)
/-- A chunk's blocks' exponentials. -/
theorem chunk_D (k : ℕ) (D8 D0 D9 : ℕ → ℕ → EReal) (m) {n : ℕ} (hn : n = 5) (hD : ∀ i j, 40 * k ≤ i → D8 i j = D0 i j) :
    ov (40 * k) 8 (gE D8 m) (ov 0 40 (gE D0 m) D9 k) n = ov 0 40 (gE D0 m) D9 (k + 1) := by
  subst hn
  exact ov_chunk 8 5 k _ _ _ rfl fun i j h _ => congrArg (fun x => E2 x (vat m i j)) (hD i j h)
/-- A chunk's values. -/
theorem chunk_X (k : ℕ) (X D6 : ℕ → ℕ → EReal) {n : ℕ} (hn : n = 10) : ov (1280 * k) 128 X (ov 0 1280 X D6 k) n = ov 0 1280 X D6 (k + 1) := by
  subst hn
  exact ov_chunk 128 10 k _ _ _ rfl fun i j _ _ => rfl
/-- A chunk's block maxima. -/
theorem chunk_B (k : ℕ) (X D8 : ℕ → ℕ → EReal) (P) {n n' : ℕ} (hn : n = 5) (hn' : n' = 10) :
    ov (40 * k) 8 (gB (40 * k) (ov3 0 32 (gP (40 * k) X) P n')) (ov 0 40 (BM X) D8 k) n = ov 0 40 (BM X) D8 (k + 1) := by
  subst hn hn'
  exact ov_chunk 8 5 k _ _ _ rfl fun i j h h' => gB_eq k X P i j h h'
/-- A chunk's share of the running maximum. -/
theorem fold_B (k : ℕ) (X : ℕ → ℕ → EReal) (P) (init) {n n' : ℕ} (hn : n = 5) (hn' : n' = 10) :
    mst (40 * k) (gB (40 * k) (ov3 0 32 (gP (40 * k) X) P n')) (mM (BM X) init k) n = mM (BM X) init (k + 1) := by
  subst hn hn'
  exact mst_congr _ _ _ fun i j h h' => gB_eq k X P i j h (by omega)
/-- A chunk's share of the running sums. -/
theorem fold_E (k : ℕ) (D6 D0 : ℕ → ℕ → EReal) (m) (init) {n : ℕ} (hn : n = 40) (hD : ∀ i j, 1280 * k ≤ i → D6 i j = D0 i j) :
    sst4 (1280 * k) (gEk (Named.named (F := Ideal) κ "log2e_over_t" (φ := .f32) 0x3FE6D4CA#32) D6 m) (sS (gE D0 m) init k) n = sS (gE D0 m) init (k + 1) := by
  subst hn
  rw [gEk_named]
  exact sst4_congr _ _ _ fun i j h _ => congrArg (fun x => E2 x (vat m i j)) (hD i j h)

variable (c : Dev nD) (i : grid0.Coords) (arg1 : Memref sig .tc .hbm S9216x32000 .bf16) (harg1 : arg1.IsWhole) (arg2 : Memref sig .tc .vmem S1x1x128 .f32) (harg2 : arg2.IsWhole) (arg3 : Memref sig .tc .vmem S128x32000 .fp8e4m3) (harg3 : arg3.IsWhole) (arg4 : Memref sig .tc .vmem S128x1000 .f32) (harg4 : arg4.IsWhole) (arg5 : Memref sig .tc .vmem S2x128x32000 .bf16) (harg5 : arg5.IsWhole) (arg6 : Memref sig .tc .vmem S32000x128 .bf16) (harg6 : arg6.IsWhole) (arg7 : Memref sig .tc .vmem S32000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S320x2x128 .bf16) (harg11 : arg11.IsWhole) (arg12 : Memref sig .tc .vmem S40x128 .f32) (harg12 : arg12.IsWhole) (arg13 : Memref sig .tc .vmem S8x128 .f32) (harg13 : arg13.IsWhole) (arg14 : Memref sig .tc .vmem S8x128 .f32) (harg14 : arg14.IsWhole) (arg15 : DmaSems sig S2)

section Chunks
variable (t : Fin grid0.N)

/-! The loops' trip counts. -/
theorem trips_t2 : k0_t2_loop.trips = 10 := by decide
theorem trips_t3 : k0_t3_loop.trips = 5 := by decide
theorem trips_t5 : k0_t5_loop.trips = 40 := by decide
theorem trips_t6 : k0_t6_loop.trips = 5 := by decide
theorem trips_t7 : k0_t7_loop.trips = 10 := by decide
theorem trips_t8 : k0_t8_loop.trips = 5 := by decide
theorem trips_t10 : k0_t10_loop.trips = 5 := by decide
theorem trips_t11 : k0_t11_loop.trips = 10 := by decide
theorem trips_t12 : k0_t12_loop.trips = 40 := by decide
theorem trips_t13 : k0_t13_loop.trips = 5 := by decide
theorem trips_t14 : k0_t14_loop.trips = 10 := by decide
theorem trips_t15 : k0_t15_loop.trips = 5 := by decide
theorem trips_t17 : k0_t17_loop.trips = 5 := by decide
theorem trips_t18 : k0_t18_loop.trips = 10 := by decide
theorem trips_t19 : k0_t19_loop.trips = 40 := by decide
theorem trips_t20 : k0_t20_loop.trips = 5 := by decide
theorem trips_t22 : k0_t22_loop.trips = 5 := by decide
theorem trips_t23 : k0_t23_loop.trips = 10 := by decide

/-- The chunks of a block, in this branch of the body. -/
@[sl_loop] def vi_t21 (h : k0_cond8 i = 1#1) (s : Vec Ideal S8x128 .f32) (D3 D7 D9 D10 : ℕ → ℕ → EReal) :
    LoopInvTy_k0_t21 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h s where
  inv k _ := iprop(own2 (e := .fp8e4m3) c arg3 (ovc 0 1280 (GC D7 D9 s) D3 k) ∗ own2 c arg7 D7 ∗ own2 c arg9 D9 ∗ own2 c arg10 (ov 0 40 (gS D9 s) D10 k) ∗ ∃ D, own2 c arg12 D)
  step k acc := by
    unfold k0_t21_body
    iintro ⟨H3, H7, H9, H10, ⟨%D12, H12⟩⟩
    sl_exec
    sl_step
    isplitl [H3]
    · rw [← chunk_C k.val D7 D7 D9 D9 D12 D3 s trips_t23 trips_t22 (fun _ _ _ => rfl) (fun _ _ _ => rfl)]
      iexact H3
    isplitl [H7]
    · iexact H7
    isplitl [H9]
    · iexact H9
    isplitl [H10]
    · rw [← chunk_S k.val D9 D9 D10 s trips_t22 (fun _ _ _ => rfl)]
      iexact H10
    iexists _; iexact H12

/-- The chunks of a block, in this branch of the body. -/
@[sl_loop] def vi_t16 (h : k0_cond7 i = 1#1) (m s : Vec Ideal S8x128 .f32) (init : FVec Ideal S8x128 .f32 × FVec Ideal S8x128 .f32 × FVec Ideal S8x128 .f32 × FVec Ideal S8x128 .f32) (D3 D6 D7 D8 D9 D10 : ℕ → ℕ → EReal) :
    LoopInvTy_k0_t16 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 h m s init where
  inv k acc := iprop(⌜acc = sS (gE D6 m) init k⌝ ∗ own2 (e := .fp8e4m3) c arg3 (ovc 0 1280 (GC D7 D9 s) D3 k) ∗ own2 (e := .bf16) c arg6 D6 ∗ own2 c arg7 (ov 0 1280 (gE D6 m) D7 k) ∗ own2 c arg8 D8 ∗ own2 c arg9 (ov 0 40 (gE D8 m) D9 k) ∗ own2 c arg10 (ov 0 40 (gS D9 s) D10 k) ∗ ∃ D, own2 c arg12 D)
  step k acc := by
    unfold k0_t16_body
    iintro ⟨%hacc, H3, H6, H7, H8, H9, H10, ⟨%D12, H12⟩⟩
    subst hacc
    sl_exec
    sl_step
    isplitr
    · ipureintro
      exact fold_E k.val D6 D6 m init trips_t19 (fun _ _ _ => rfl)
    isplitl [H3]
    · rw [← chunk_C k.val (ov 0 1280 (gE D6 m) D7 k.val) D7 (ov 0 40 (gE D8 m) D9 k.val) D9 D12 D3 s trips_t18 trips_t17 (fun i j h => ov_rest k.val _ _ j h) (fun i j h => ov_rest k.val _ _ j h)]
      iexact H3
    isplitl [H6]
    · iexact H6
    isplitl [H7]
    · rw [← chunk_E k.val D6 D6 D7 m trips_t19 (fun _ _ _ => rfl)]
      iexact H7
    isplitl [H8]
    · iexact H8
    isplitl [H9]
    · rw [← chunk_D k.val D8 D8 D9 m trips_t20 (fun _ _ _ => rfl)]
      iexact H9
    isplitl [H10]
    · rw [← chunk_S k.val (ov 0 40 (gE D8 m) D9 k.val) D9 D10 s trips_t17 (fun i j h => ov_rest k.val _ _ j h)]
      iexact H10
    iexists _; iexact H12

/-- The chunks of a block, in this branch of the body. -/
@[sl_loop] def vi_t1 (v0 : BitVec 32) (h : k0_cond4 (grid0.coords t) = 1#1) (init : FVec Ideal S8x128 .f32) (X : HbBuf0 (F := Ideal) c (rslot (Ring.sl 2 t.val))) (D6 D8 : ℕ → ℕ → EReal) :
    LoopInvTy_k0_t1 (F := Ideal) Unit ℕ (Pipeline.UD sig nD τ) ℕ Variants.none c none Set.univ (grid0.coords t) arg1 harg1 arg2 harg2 arg3 harg3 arg4 harg4 scM0_0 (Memref.isWhole_whole _) arg6 harg6 arg7 harg7 arg8 harg8 arg9 harg9 arg10 harg10 arg11 harg11 arg12 harg12 arg13 harg13 arg14 harg14 arg15 v0 h init where
  inv k acc := iprop(⌜acc = mM (BM (xin c t X)) init k⌝ ∗ slotP (F := Ideal) c (Ring.sl 2 t.val) X ∗ own2 (e := .bf16) c arg6 (ov 0 1280 (xin c t X) D6 k) ∗ own2 c arg8 (ov 0 40 (BM (xin c t X)) D8 k) ∗ ∃ P, own3 (e := .bf16) c arg11 P)
  step k acc := by
    unfold k0_t1_body
    iintro ⟨%hacc, H5, H6, H8, ⟨%P, H11⟩⟩
    subst hacc
    sl_exec
    sl_step
    isplitr
    · ipureintro
      exact fold_B k.val (xin c t X) P init trips_t3 trips_t2
    isplitl [H5]
    · iexact H5
    isplitl [H6]
    · rw [← chunk_X k.val (xin c t X) D6 trips_t2]
      iexact H6
    isplitl [H8]
    · rw [← chunk_B k.val (xin c t X) D8 P trips_t3 trips_t2]
      iexact H8
    iexists _; iexact H11

/-- The chunks of a block, in this branch of the body. -/
@[sl_loop] def vi_t4 (v0 : BitVec 32) (h : k0_cond5 (grid0.coords t) = 1#1) (m : Vec Ideal S8x128 .f32) (init : FVec Ideal S8x128 .f32 × FVec Ideal S8x128 .f32 × FVec Ideal S8x128 .f32 × FVec Ideal S8x128 .f32 × FVec Ideal S8x128 .f32) (X : HbBuf0 (F := Ideal) c (rslot (Ring.sl 2 t.val))) (D6 D7 D8 D9 : ℕ → ℕ → EReal) :
    LoopInvTy_k0_t4 (F := Ideal) Unit ℕ (Pipeline.UD sig nD τ) ℕ Variants.none c none Set.univ (grid0.coords t) arg1 harg1 arg2 harg2 arg3 harg3 arg4 harg4 scM0_0 (Memref.isWhole_whole _) arg6 harg6 arg7 harg7 arg8 harg8 arg9 harg9 arg10 harg10 arg11 harg11 arg12 harg12 arg13 harg13 arg14 harg14 arg15 v0 h m init where
  inv k acc := iprop(⌜acc = mS (BM (xin c t X)) (gE D6 m) init k⌝ ∗ slotP (F := Ideal) c (Ring.sl 2 t.val) X ∗ own2 (e := .bf16) c arg6 (ov 0 1280 (xin c t X) D6 k) ∗ own2 c arg7 (ov 0 1280 (gE D6 m) D7 k) ∗ own2 c arg8 (ov 0 40 (BM (xin c t X)) D8 k) ∗ own2 c arg9 (ov 0 40 (gE D8 m) D9 k) ∗ ∃ P, own3 (e := .bf16) c arg11 P)
  step k acc := by
    unfold k0_t4_body
    iintro ⟨%hacc, H5, H6, H7, H8, H9, ⟨%P, H11⟩⟩
    subst hacc
    sl_exec
    sl_step
    isplitr
    · ipureintro
      have e : (Prod.mk (mst (40 * k.val) (gB (40 * k.val) (ov3 0 32 (gP (40 * k.val) (xin c t X)) P k0_t7_loop.trips)) (mS (BM (xin c t X)) (gE D6 m) init k.val).1 k0_t8_loop.trips)
          (sst4 (1280 * k.val) (gEk (Named.named (F := Ideal) κ "log2e_over_t" (φ := .f32) 0x3FE6D4CA#32) (ov 0 1280 (xin c t X) D6 k.val) m) (mS (BM (xin c t X)) (gE D6 m) init k.val).2 k0_t5_loop.trips)) = mS (BM (xin c t X)) (gE D6 m) init (k.val + 1) := by
        rw [mS_eq]
        exact Prod.ext (fold_B k.val (xin c t X) P init.1 trips_t8 trips_t7) (fold_E k.val (ov 0 1280 (xin c t X) D6 k.val) D6 m init.2 trips_t5 (fun i j h => ov_rest k.val _ _ j h))
      exact e
    isplitl [H5]
    · iexact H5
    isplitl [H6]
    · rw [← chunk_X k.val (xin c t X) D6 trips_t7]
      iexact H6
    isplitl [H7]
    · rw [← chunk_E k.val (ov 0 1280 (xin c t X) D6 k.val) D6 D7 m trips_t5 (fun i j h => ov_rest k.val _ _ j h)]
      iexact H7
    isplitl [H8]
    · rw [← chunk_B k.val (xin c t X) D8 P trips_t8 trips_t7]
      iexact H8
    isplitl [H9]
    · rw [← chunk_D k.val (ov 0 40 (BM (xin c t X)) D8 k.val) D8 D9 m trips_t6 (fun i j h => ov_rest k.val _ _ j h)]
      iexact H9
    iexists _; iexact H11

/-- The chunks of a block, in this branch of the body. -/
@[sl_loop] def vi_t9 (v0 : BitVec 32) (h : k0_cond6 (grid0.coords t) = 1#1) (m s : Vec Ideal S8x128 .f32) (init : FVec Ideal S8x128 .f32 × FVec Ideal S8x128 .f32 × FVec Ideal S8x128 .f32 × FVec Ideal S8x128 .f32 × FVec Ideal S8x128 .f32) (X : HbBuf0 (F := Ideal) c (rslot (Ring.sl 2 t.val))) (D3 D6 D7 D8 D9 D10 : ℕ → ℕ → EReal) :
    LoopInvTy_k0_t9 (F := Ideal) Unit ℕ (Pipeline.UD sig nD τ) ℕ Variants.none c none Set.univ (grid0.coords t) arg1 harg1 arg2 harg2 arg3 harg3 arg4 harg4 scM0_0 (Memref.isWhole_whole _) arg6 harg6 arg7 harg7 arg8 harg8 arg9 harg9 arg10 harg10 arg11 harg11 arg12 harg12 arg13 harg13 arg14 harg14 arg15 v0 h m s init where
  inv k acc := iprop(⌜acc = mS (BM (xin c t X)) (gE D6 m) init k⌝ ∗ slotP (F := Ideal) c (Ring.sl 2 t.val) X ∗ own2 (e := .fp8e4m3) c arg3 (ovc 0 1280 (GC D7 D9 s) D3 k) ∗ own2 (e := .bf16) c arg6 (ov 0 1280 (xin c t X) D6 k) ∗ own2 c arg7 (ov 0 1280 (gE D6 m) D7 k) ∗ own2 c arg8 (ov 0 40 (BM (xin c t X)) D8 k) ∗ own2 c arg9 (ov 0 40 (gE D8 m) D9 k) ∗ own2 c arg10 (ov 0 40 (gS D9 s) D10 k) ∗ (∃ P, own3 (e := .bf16) c arg11 P) ∗ ∃ D, own2 c arg12 D)
  step k acc := by
    unfold k0_t9_body
    iintro ⟨%hacc, H5, H3, H6, H7, H8, H9, H10, ⟨%P, H11⟩, ⟨%D12, H12⟩⟩
    subst hacc
    sl_exec
    sl_step
    isplitr
    · ipureintro
      have e : (Prod.mk (mst (40 * k.val) (gB (40 * k.val) (ov3 0 32 (gP (40 * k.val) (xin c t X)) P k0_t14_loop.trips)) (mS (BM (xin c t X)) (gE D6 m) init k.val).1 k0_t15_loop.trips)
          (sst4 (1280 * k.val) (gEk (Named.named (F := Ideal) κ "log2e_over_t" (φ := .f32) 0x3FE6D4CA#32) (ov 0 1280 (xin c t X) D6 k.val) m) (mS (BM (xin c t X)) (gE D6 m) init k.val).2 k0_t12_loop.trips)) = mS (BM (xin c t X)) (gE D6 m) init (k.val + 1) := by
        rw [mS_eq]
        exact Prod.ext (fold_B k.val (xin c t X) P init.1 trips_t15 trips_t14) (fold_E k.val (ov 0 1280 (xin c t X) D6 k.val) D6 m init.2 trips_t12 (fun i j h => ov_rest k.val _ _ j h))
      exact e
    isplitl [H5]
    · iexact H5
    isplitl [H3]
    · rw [← chunk_C k.val (ov 0 1280 (gE D6 m) D7 k.val) D7 (ov 0 40 (gE D8 m) D9 k.val) D9 D12 D3 s trips_t11 trips_t10 (fun i j h => ov_rest k.val _ _ j h) (fun i j h => ov_rest k.val _ _ j h)]
      iexact H3
    isplitl [H6]
    · rw [← chunk_X k.val (xin c t X) D6 trips_t14]
      iexact H6
    isplitl [H7]
    · rw [← chunk_E k.val (ov 0 1280 (xin c t X) D6 k.val) D6 D7 m trips_t12 (fun i j h => ov_rest k.val _ _ j h)]
      iexact H7
    isplitl [H8]
    · rw [← chunk_B k.val (xin c t X) D8 P trips_t15 trips_t14]
      iexact H8
    isplitl [H9]
    · rw [← chunk_D k.val (ov 0 40 (BM (xin c t X)) D8 k.val) D8 D9 m trips_t13 (fun i j h => ov_rest k.val _ _ j h)]
      iexact H9
    isplitl [H10]
    · rw [← chunk_S k.val (ov 0 40 (gE D8 m) D9 k.val) D9 D10 s trips_t10 (fun i j h => ov_rest k.val _ _ j h)]
      iexact H10
    isplitl [H11]
    · iexists _; iexact H11
    iexists _; iexact H12

end Chunks

end Cert.KernelIdeal.Val

end
-- ==== Proof.ValRuns.lean ====
/- The body at each kind of grid point, with what the buffers hold after it. -/
module

public import proofs.«01_k».proof.Proof.ValOut

@[expose] public section

set_option maxRecDepth 16384
set_option synthInstance.maxSize 4096

noncomputable section

namespace Cert.KernelIdeal.Val

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-- A buffer is held at some contents. -/
def some' {F : FTy → Type} (c : Dev nD) {sp : Space} {s : Shape} {e : EltTy} (M : Memref sig .tc sp s e) : sProp (MT nD τ sig Unit (Elt F) ℕ (Pipeline.UD sig nD τ) ℕ) :=
  iprop(∃ f, (M.view.loc (c : Thread nD τ) ↦[M.view.set]{fullShare} f))
/-- A buffer is held and reads `v`. -/
def ownv (c : Dev nD) {sp : Space} {s : Shape} {e : EltTy} (M : Memref sig .tc sp s e) (v : s.Idx → Elt Ideal e) : sProp 𝕄 :=
  iprop(∃ f, ⌜M.view.read (Elt Ideal) f = v⌝ ∗ (M.view.loc (c : Thread nD τ) ↦[M.view.set]{fullShare} f))

/-- A buffer held by coordinates, opened. -/
theorem own2_open (c : Dev nD) {sp : Space} {N W : ℕ} {e : EltTy} (M : Memref sig .tc sp ⟨2, ![N, W]⟩ e) (D : ℕ → ℕ → Elt Ideal e) :
    own2 c M D ⊣⊢ ownv c M (fun y => D (y 0).val (y 1).val) := by
  unfold own2 ownv
  exact ⟨.rfl, .rfl⟩

/-- Contents that agree inside the buffer. -/
theorem own2_congr (c : Dev nD) {sp : Space} {N W : ℕ} {e : EltTy} (M : Memref sig .tc sp ⟨2, ![N, W]⟩ e) {D D' : ℕ → ℕ → Elt Ideal e}
    (h : ∀ i j, i < N → j < W → D i j = D' i j) : own2 c M D = own2 c M D' := by
  have e : (fun y : (⟨2, ![N, W]⟩ : Shape).Idx => D (y 0).val (y 1).val) = fun y => D' (y 0).val (y 1).val := funext fun y => h _ _ (y 0).isLt (y 1).isLt
  unfold own2
  rw [e]

/-- All rows written. -/
theorem own2_rows (c : Dev nD) {sp : Space} {N W : ℕ} {e : EltTy} (M : Memref sig .tc sp ⟨2, ![N, W]⟩ e) (h : ℕ) (G D : ℕ → ℕ → Elt Ideal e) (k : ℕ)
    (hk : N ≤ h * k) : own2 c M (ov 0 h G D k) = own2 c M G :=
  own2_congr c M fun i j hi _ => by rw [ov_eq, seg_in _ _ _ (by omega) (by omega)]
/-- All columns written. -/
theorem own2_cols (c : Dev nD) {sp : Space} {N W : ℕ} {e : EltTy} (M : Memref sig .tc sp ⟨2, ![N, W]⟩ e) (h : ℕ) (G D : ℕ → ℕ → Elt Ideal e) (k : ℕ)
    (hk : W ≤ h * k) : own2 c M (ovc 0 h G D k) = own2 c M G :=
  own2_congr c M fun i j _ hj => by rw [ovc_eq]; exact if_pos (by omega)

/-- All rows written, as an entailment. -/
theorem own2_rowsE (c : Dev nD) {sp : Space} {N W : ℕ} {e : EltTy} (M : Memref sig .tc sp ⟨2, ![N, W]⟩ e) (h : ℕ) (G D : ℕ → ℕ → Elt Ideal e) (k : ℕ)
    (hk : N ≤ h * k) : own2 c M (ov 0 h G D k) ⊢ own2 c M G := by
  rw [own2_rows c M h G D k hk]
/-- All columns written, as an entailment. -/
theorem own2_colsE (c : Dev nD) {sp : Space} {N W : ℕ} {e : EltTy} (M : Memref sig .tc sp ⟨2, ![N, W]⟩ e) (h : ℕ) (G D : ℕ → ℕ → Elt Ideal e) (k : ℕ)
    (hk : W ≤ h * k) : own2 c M (ovc 0 h G D k) ⊢ own2 c M G := by
  rw [own2_cols c M h G D k hk]

/-- Block `b` of the operand, transposed. -/
def xb (c : Dev nD) (W : HbBuf0 (F := Ideal) c hbM0_0) (b : Fin 72) : ℕ → ℕ → EReal := fun i j =>
  if h : j < 128 ∧ i < 32000 then hbM0_0.view.read (Elt Ideal) W (ix2 (128 * b.val + j) i (by have := b.isLt; omega) h.2) else 0

/-- The transposed block of a slot is the block that landed there. -/
theorem xin_landed (c : Dev nD) (t : Fin grid0.N) (W : HbBuf0 (F := Ideal) c hbM0_0) (b : Fin 72) (f) :
    xin c t (landed c W (Ring.sl 2 t.val) b f) = xb c W b := by
  funext i j
  unfold xin xb
  by_cases h : j < 128 ∧ i < 32000
  · rw [dif_pos h, dif_pos h]
    have e := congrFun (View.read_writes_whole (Val := Elt Ideal) (rslot (Ring.sl 2 t.val)).view f (ReadAs.same.apply ((srcB b).view.read (Elt Ideal) W)))
      (ix2 (N := 128) (W := 32000) j i h.1 h.2)
    have hc : S1x128x32000.ShapeCasts S128x32000 := by decide
    have e1 : (rslot (Ring.sl 2 t.val)).view.read (Elt Ideal) (landed c W (Ring.sl 2 t.val) b f) (ix2 (N := 128) (W := 32000) j i h.1 h.2)
        = scM0_0.view.read (Elt Ideal) (landed c W (Ring.sl 2 t.val) b f) (ix3 (Ring.sl 2 t.val).val j i (Ring.sl 2 t.val).isLt h.1 h.2) := by
      unfold rslot
      refine (congrFun (Memref.read_squeeze_slice scM0_0 _ (fun _ => rfl) squeezes_S1x128x32000_S128x32000 hc _) _).trans ?_
      rw [Pointwise.shapeCast_apply]
      have q := Shape.reshapeEquiv_eq_of_vals hc (ix2 (N := 128) (W := 32000) j i h.1 h.2) (ix3 (N := 1) (W := 128) (Z := 32000) 0 j i Nat.one_pos h.1 h.2)
        (0 * 4096000 + j * 32000 + i) (j * 32000 + i)
        (rowMajor_val3 (d := ![1, 128, 32000]) (ix3 (N := 1) (W := 128) (Z := 32000) 0 j i Nat.one_pos h.1 h.2) 4096000 32000 (by decide) (by decide))
        (rowMajor_val2 (d := ![128, 32000]) (ix2 (N := 128) (W := 32000) j i h.1 h.2) 32000 (by decide)) (by omega)
      refine (congrArg _ q).trans ?_
      refine congrArg (scM0_0.view.read (Elt Ideal) _) (ix3_eta _ _ _ _ _ _ _ ?_ ?_ ?_)
      · show (Ring.sl 2 t.val).val + 1 * 0 = _
        omega
      · show 0 + 1 * j = _
        omega
      · show 0 + 1 * i = _
        omega
    refine e1.symm.trans (e.trans ?_)
    refine congrArg (hbM0_0.view.read (Elt Ideal) W) (ix2_eta _ _ _ _ _ ?_ ?_)
    · show 128 * b.val + 1 * j = _
      omega
    · show 0 + 1 * i = _
      omega
  · rw [dif_neg h, dif_neg h]

/-- The maximum of a block: of the chunks, and then over the sublanes. -/
def mxv (X : ℕ → ℕ → EReal) : S8x128.Idx → EReal := k0_pay8 (F := Ideal) (mM (BM X) (k0_pay1 (F := Ideal)) 25)
/-- The sum of a block's exponentials. -/
def smv (E : ℕ → ℕ → EReal) : S8x128.Idx → EReal :=
  k0_pay24 (F := Ideal) (sS E (k0_pay10 (F := Ideal), k0_pay10 (F := Ideal), k0_pay10 (F := Ideal), k0_pay10 (F := Ideal)) 25).1
    (sS E (k0_pay10 (F := Ideal), k0_pay10 (F := Ideal), k0_pay10 (F := Ideal), k0_pay10 (F := Ideal)) 25).2.1
    (sS E (k0_pay10 (F := Ideal), k0_pay10 (F := Ideal), k0_pay10 (F := Ideal), k0_pay10 (F := Ideal)) 25).2.2.1
    (sS E (k0_pay10 (F := Ideal), k0_pay10 (F := Ideal), k0_pay10 (F := Ideal), k0_pay10 (F := Ideal)) 25).2.2.2

/-- The sum after `n` chunks. -/
def smv' (E : ℕ → ℕ → EReal) (n : ℕ) : S8x128.Idx → EReal :=
  k0_pay24 (F := Ideal) (sS E (k0_pay10 (F := Ideal), k0_pay10 (F := Ideal), k0_pay10 (F := Ideal), k0_pay10 (F := Ideal)) n).1
    (sS E (k0_pay10 (F := Ideal), k0_pay10 (F := Ideal), k0_pay10 (F := Ideal), k0_pay10 (F := Ideal)) n).2.1
    (sS E (k0_pay10 (F := Ideal), k0_pay10 (F := Ideal), k0_pay10 (F := Ideal), k0_pay10 (F := Ideal)) n).2.2.1
    (sS E (k0_pay10 (F := Ideal), k0_pay10 (F := Ideal), k0_pay10 (F := Ideal), k0_pay10 (F := Ideal)) n).2.2.2

/-- One whole write of a buffer. -/
theorem write1 {sp : Space} {S : Shape} {e : EltTy} (M : Memref sig .tc sp S e) (f) {off : Fin S.rank → ℕ} (inb) (ho : off = fun _ => 0) (w : S.Idx → Elt Ideal e) :
    M.view.read (Elt Ideal) (M.view.writes (Elt Ideal) f [⟨Rect.unit (s := S) off S.size inb, w⟩]) = w := by
  subst ho
  exact View.read_writes_whole M.view f w

theorem z2 : (![0, 0] : Fin 2 → ℕ) = fun _ => 0 := by funext a; fin_cases a <;> rfl
theorem z3 : (![0, 0, 0] : Fin 3 → ℕ) = fun _ => 0 := by funext a; fin_cases a <;> rfl

/-- A load of a whole buffer. -/
theorem load1 {sp : Space} {S : Shape} {e : EltTy} (M : Memref sig .tc sp S e) {f} {v : S.Idx → Elt Ideal e} (hf : M.view.read (Elt Ideal) f = v)
    {off : Fin S.rank → ℕ} (inb) (ho : off = fun _ => 0) :
    M.view.readAt (Elt Ideal) (Rect.unit (s := S) off S.size inb).toLoadRect f = v := by
  subst ho hf
  funext y
  refine congrArg (M.view.read (Elt Ideal) f) (funext fun a => Fin.ext ?_)
  show 0 + 1 * (y a).val = (y a).val
  omega

/-- A transposed tile of the scales. -/
theorem tr128 (v : Vec Ideal S128x128 .f32) (D : ℕ → ℕ → EReal) (n : ℕ) (h : ∀ x : S128x128.Idx, v x = D (n + (x 0).val) (x 1).val) (x : S128x128.Idx) :
    k0_pay25 (F := Ideal) v x = (fun i j => D j i) (x 0).val (n + (x 1).val) := by
  unfold k0_pay25
  exact h _
theorem tr104 (v : Vec Ideal S104x128 .f32) (D : ℕ → ℕ → EReal) (n : ℕ) (h : ∀ x : S104x128.Idx, v x = D (n + (x 0).val) (x 1).val) (x : S128x104.Idx) :
    k0_pay30 (F := Ideal) v x = (fun i j => D j i) (x 0).val (n + (x 1).val) := by
  unfold k0_pay30
  exact h _

/-- All rows written, opened. -/
theorem own2_rowsv (c : Dev nD) {sp : Space} {N W : ℕ} {e : EltTy} (M : Memref sig .tc sp ⟨2, ![N, W]⟩ e) (h : ℕ) (G D : ℕ → ℕ → Elt Ideal e) (k : ℕ)
    (hk : N ≤ h * k) : own2 c M (ov 0 h G D k) ⊢ ownv c M (fun y => G (y 0).val (y 1).val) := by
  rw [own2_rows c M h G D k hk]
  exact (own2_open c M G).1
/-- A buffer whose contents are known by coordinates. -/
theorem own2_close (c : Dev nD) {sp : Space} {N W : ℕ} {e : EltTy} (M : Memref sig .tc sp ⟨2, ![N, W]⟩ e) (f) (D : ℕ → ℕ → Elt Ideal e)
    (h : M.view.read (Elt Ideal) f = fun y => D (y 0).val (y 1).val) : (M.view.loc (c : Thread nD τ) ↦[M.view.set]{fullShare} f) ⊢ own2 c M D := by
  unfold own2
  iintro H
  iexists f
  isplitr
  · ipureintro; exact h
  iexact H

/-- The scales, transposed into the output window in eight pieces. -/
theorem out4 {sp sp' : Space} (M : Memref sig .tc sp S128x1000 .f32) (f4) (M' : Memref sig .tc sp' S1000x128 .f32) (f) (D : ℕ → ℕ → EReal)
    (hf : M'.view.read (Elt Ideal) f = fun y => D (y 0).val (y 1).val) :
    M.view.read (Elt Ideal) (M.view.writes (Elt Ideal) f4
      [⟨Rect.unit (s := S128x1000) ![0, 896] S128x104.size inb_S128x1000_S128x104_0_896, k0_pay30 (F := Ideal) (M'.view.readAt (Elt Ideal) (Rect.unit (s := S1000x128) ![896, 0] S104x128.size inb_S1000x128_S104x128_896_0).toLoadRect f)⟩,
       ⟨Rect.unit (s := S128x1000) ![0, 768] S128x128.size inb_S128x1000_S128x128_0_768, k0_pay25 (F := Ideal) (M'.view.readAt (Elt Ideal) (Rect.unit (s := S1000x128) ![768, 0] S128x128.size inb_S1000x128_S128x128_768_0).toLoadRect f)⟩,
       ⟨Rect.unit (s := S128x1000) ![0, 640] S128x128.size inb_S128x1000_S128x128_0_640, k0_pay25 (F := Ideal) (M'.view.readAt (Elt Ideal) (Rect.unit (s := S1000x128) ![640, 0] S128x128.size inb_S1000x128_S128x128_640_0).toLoadRect f)⟩,
       ⟨Rect.unit (s := S128x1000) ![0, 512] S128x128.size inb_S128x1000_S128x128_0_512, k0_pay25 (F := Ideal) (M'.view.readAt (Elt Ideal) (Rect.unit (s := S1000x128) ![512, 0] S128x128.size inb_S1000x128_S128x128_512_0).toLoadRect f)⟩,
       ⟨Rect.unit (s := S128x1000) ![0, 384] S128x128.size inb_S128x1000_S128x128_0_384, k0_pay25 (F := Ideal) (M'.view.readAt (Elt Ideal) (Rect.unit (s := S1000x128) ![384, 0] S128x128.size inb_S1000x128_S128x128_384_0).toLoadRect f)⟩,
       ⟨Rect.unit (s := S128x1000) ![0, 256] S128x128.size inb_S128x1000_S128x128_0_256, k0_pay25 (F := Ideal) (M'.view.readAt (Elt Ideal) (Rect.unit (s := S1000x128) ![256, 0] S128x128.size inb_S1000x128_S128x128_256_0).toLoadRect f)⟩,
       ⟨Rect.unit (s := S128x1000) ![0, 128] S128x128.size inb_S128x1000_S128x128_0_128, k0_pay25 (F := Ideal) (M'.view.readAt (Elt Ideal) (Rect.unit (s := S1000x128) ![128, 0] S128x128.size inb_S1000x128_S128x128_128_0).toLoadRect f)⟩,
       ⟨Rect.unit (s := S128x1000) ![0, 0] S128x128.size inb_S128x1000_S128x128_0_0, k0_pay25 (F := Ideal) (M'.view.readAt (Elt Ideal) (Rect.unit (s := S1000x128) ![0, 0] S128x128.size inb_S1000x128_S128x128_0_0).toLoadRect f)⟩])
      = fun y => D (y 1).val (y 0).val := by
  obtain ⟨D0, h0⟩ : ∃ D0 : ℕ → ℕ → EReal, M.view.read (Elt Ideal) f4 = fun y => segc 0 0 (fun i j => D j i) D0 (y 0).val (y 1).val := by
    refine ⟨fun i j => if h : i < 128 ∧ j < 1000 then M.view.read (Elt Ideal) f4 (ix2 i j h.1 h.2) else 0, ?_⟩
    rw [segc_self]
    funext y
    rw [dif_pos ⟨(y 0).isLt, (y 1).isLt⟩]
    exact congrArg _ (ix2_eta y _ _ _ _ rfl rfl)
  have L : ∀ n (inb) (x : S128x128.Idx), M'.view.readAt (Elt Ideal) (Rect.unit (s := S1000x128) ![n, 0] S128x128.size inb).toLoadRect f x = D (n + (x 0).val) (x 1).val := fun n inb x => by
    have := readAt2 M'.view hf n 0 rfl inb x
    rwa [Nat.zero_add] at this
  have L' : ∀ n (inb) (x : S104x128.Idx), M'.view.readAt (Elt Ideal) (Rect.unit (s := S1000x128) ![n, 0] S104x128.size inb).toLoadRect f x = D (n + (x 0).val) (x 1).val := fun n inb x => by
    have := readAt2 M'.view hf n 0 rfl inb x
    rwa [Nat.zero_add] at this
  have h1 := cols_cons M.view f4 (h := 128) 0 0 (by omega) inb_S128x1000_S128x128_0_0 _ [] (fun i j => D j i) D0 rfl h0 (tr128 _ D 0 (L 0 inb_S1000x128_S128x128_0_0))
  have h2 := cols_cons M.view f4 (h := 128) 0 128 (by omega) inb_S128x1000_S128x128_0_128 _ _ (fun i j => D j i) D0 rfl h1 (tr128 _ D 128 (L 128 inb_S1000x128_S128x128_128_0))
  have h3 := cols_cons M.view f4 (h := 128) 0 256 (by omega) inb_S128x1000_S128x128_0_256 _ _ (fun i j => D j i) D0 rfl h2 (tr128 _ D 256 (L 256 inb_S1000x128_S128x128_256_0))
  have h4 := cols_cons M.view f4 (h := 128) 0 384 (by omega) inb_S128x1000_S128x128_0_384 _ _ (fun i j => D j i) D0 rfl h3 (tr128 _ D 384 (L 384 inb_S1000x128_S128x128_384_0))
  have h5 := cols_cons M.view f4 (h := 128) 0 512 (by omega) inb_S128x1000_S128x128_0_512 _ _ (fun i j => D j i) D0 rfl h4 (tr128 _ D 512 (L 512 inb_S1000x128_S128x128_512_0))
  have h6 := cols_cons M.view f4 (h := 128) 0 640 (by omega) inb_S128x1000_S128x128_0_640 _ _ (fun i j => D j i) D0 rfl h5 (tr128 _ D 640 (L 640 inb_S1000x128_S128x128_640_0))
  have h7 := cols_cons M.view f4 (h := 128) 0 768 (by omega) inb_S128x1000_S128x128_0_768 _ _ (fun i j => D j i) D0 rfl h6 (tr128 _ D 768 (L 768 inb_S1000x128_S128x128_768_0))
  have h8 := cols_cons M.view f4 (h := 104) 0 896 (by omega) inb_S128x1000_S128x104_0_896 _ _ (fun i j => D j i) D0 rfl h7 (tr104 _ D 896 (L' 896 inb_S1000x128_S104x128_896_0))
  refine h8.trans (funext fun y => ?_)
  have h : (y 1).val < 1000 := (y 1).isLt
  exact if_pos ⟨Nat.zero_le _, h⟩

theorem trips_t1 : k0_t1_loop.trips = 25 := by decide
theorem trips_t4 : k0_t4_loop.trips = 25 := by decide
theorem trips_t9 : k0_t9_loop.trips = 25 := by decide
theorem trips_t16 : k0_t16_loop.trips = 25 := by decide
theorem trips_t21 : k0_t21_loop.trips = 25 := by decide

set_option maxHeartbeats 4000000 in
/-- At point 0: block 0 lands, and stage 1 runs on it. -/
theorem run_A (c : Dev nD) (t : Fin cfg0.N) (arg2 : Memref sig .tc .vmem S1x1x128 .f32) (harg2 : arg2.IsWhole) (arg3 : Memref sig .tc .vmem S128x32000 .fp8e4m3) (harg3 : arg3.IsWhole) (arg4 : Memref sig .tc .vmem S128x1000 .f32) (harg4 : arg4.IsWhole) (arg6 : Memref sig .tc .vmem S32000x128 .bf16) (harg6 : arg6.IsWhole) (arg7 : Memref sig .tc .vmem S32000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S320x2x128 .bf16) (harg11 : arg11.IsWhole) (arg12 : Memref sig .tc .vmem S40x128 .f32) (harg12 : arg12.IsWhole) (arg13 : Memref sig .tc .vmem S8x128 .f32) (harg13 : arg13.IsWhole) (arg14 : Memref sig .tc .vmem S8x128 .f32) (harg14 : arg14.IsWhole)
    (hc1 : k0_cond1 (grid0.coords t) = 1#1) (hc2 : k0_cond2 (grid0.coords t) = 1#1) (hc3 : k0_cond3 (grid0.coords t) = 1#1) (hc4 : k0_cond4 (grid0.coords t) = 1#1) (hc5 : ¬k0_cond5 (grid0.coords t) = 1#1) (hc6 : ¬k0_cond6 (grid0.coords t) = 1#1) (hc7 : ¬k0_cond7 (grid0.coords t) = 1#1) (hc8 : ¬k0_cond8 (grid0.coords t) = 1#1)
    (fh0 : HbBuf0 (F := Ideal) c hbM0_0) (W : Waits sig Unit) (D3 D6 D7 D8 D9 D10 D12 : ℕ → ℕ → EReal) (P : ℕ → ℕ → ℕ → EReal) (m s : S8x128.Idx → EReal) (K : PUnit → sProp 𝕄) :
    iprop(some' (F := Ideal) c arg2 ∗ own2 (e := .fp8e4m3) c arg3 D3 ∗ some' (F := Ideal) c arg4 ∗ own2 (e := .bf16) c arg6 D6 ∗ own2 (e := .f32) c arg7 D7 ∗ own2 (e := .f32) c arg8 D8 ∗ own2 (e := .f32) c arg9 D9 ∗ own2 (e := .f32) c arg10 D10 ∗ own3 (e := .bf16) c arg11 P ∗ own2 (e := .f32) c arg12 D12 ∗ ownv (e := .f32) c arg13 m ∗ ownv (e := .f32) c arg14 s ∗ Ring.free (cellP c) (slotW c fh0) (Ring.sl 2 t.val) ∗ Ring.free (cellP c) (slotW c fh0) (Ring.sl 2 (t.val + 1)) ∗ owes (c : Thread nD τ) 0 W
        ∗ (iprop(some' (F := Ideal) c arg2 ∗ own2 (e := .fp8e4m3) c arg3 D3 ∗ some' (F := Ideal) c arg4 ∗ own2 (e := .bf16) c arg6 (xb c fh0 (Ring.bk 72 t.val)) ∗ own2 (e := .f32) c arg7 D7 ∗ own2 (e := .f32) c arg8 (BM (xb c fh0 (Ring.bk 72 t.val))) ∗ own2 (e := .f32) c arg9 D9 ∗ (∃ D, own2 (e := .f32) c arg10 D) ∗ (∃ P, own3 (e := .bf16) c arg11 P) ∗ (∃ D, own2 (e := .f32) c arg12 D) ∗ ownv (e := .f32) c arg13 (mxv (xb c fh0 (Ring.bk 72 t.val))) ∗ ownv (e := .f32) c arg14 s ∗ Ring.inflight (flightW c fh0) (Ring.sl 2 (t.val + 1)) (Ring.bk 72 (t.val + 1)) ∗ Ring.kept (cellP c) (slotW c fh0) (landed c fh0) (Ring.sl 2 t.val) (Ring.bk 72 t.val) ∗ (∃ W', owes (c : Thread nD τ) 0 W')) -∗ K ⟨⟩))
      ⊢ wp frame (wpE (defs₀ (F := Ideal)) Variants.none c none) Set.univ (cc0_softmax_fp8 (grid0.coords t) (Memref.whole main_v0) (Memref.isWhole_whole _) arg2 harg2 arg3 harg3 arg4 harg4 scM0_0 (Memref.isWhole_whole _) arg6 harg6 arg7 harg7 arg8 harg8 arg9 harg9 arg10 harg10 arg11 harg11 arg12 harg12 arg13 harg13 arg14 harg14 cc0_scratch10) K := by
    haveI : Fact (k0_cond1 (grid0.coords t) = 1#1) := ⟨hc1⟩
    haveI : Fact (k0_cond2 (grid0.coords t) = 1#1) := ⟨hc2⟩
    haveI : Fact (k0_cond3 (grid0.coords t) = 1#1) := ⟨hc3⟩
    haveI : Fact (k0_cond4 (grid0.coords t) = 1#1) := ⟨hc4⟩
    haveI : Fact (¬k0_cond5 (grid0.coords t) = 1#1) := ⟨hc5⟩
    haveI : Fact (¬k0_cond6 (grid0.coords t) = 1#1) := ⟨hc6⟩
    haveI : Fact (¬k0_cond7 (grid0.coords t) = 1#1) := ⟨hc7⟩
    haveI : Fact (¬k0_cond8 (grid0.coords t) = 1#1) := ⟨hc8⟩
    simp only [cc0_softmax_fp8_eq_skeleton]; unfold cc0_softmax_fp8_skel
    unfold some' ownv Ring.free Ring.inflight Ring.kept
    iintro ⟨⟨%f2, H2⟩, H3, ⟨%f4, H4⟩, H6, H7, H8, H9, H10, H11, H12, ⟨%f13, %e13, H13⟩, ⟨%f14, %e14, H14⟩, ⟨Hc0, ⟨%fs0, Hs0, Hw0⟩⟩, ⟨Hc1, ⟨%fs1, Hs1, Hw1⟩⟩, HW, Hk⟩
    ihave Hsp := (src_split c fh0 (Ring.sl 2 t.val) (Ring.bk 72 t.val)).1 $$ Hw0
    icases Hsp with ⟨Hh0, Hr0⟩
    ihave Hsp := (src_split c fh0 (Ring.sl 2 (t.val + 1)) (Ring.bk 72 (t.val + 1))).1 $$ Hw1
    icases Hsp with ⟨Hh1, Hr1⟩
    sl_exec (disch := first | sl_exact hc1 | sl_exact hc2 | sl_exact hc3 | sl_exact hc4 | sl_exact hc5 | sl_exact hc6 | sl_exact hc7 | sl_exact hc8)
    sl_step
    rw [← xin_landed c t fh0 (Ring.bk 72 t.val) (rslot (Ring.sl 2 t.val)).view.junk]
    iapply Hk
    isplitl [H2]; · iexists _; iexact H2
    isplitl [H3]; · iexact H3
    isplitl [H4]; · iexists _; iexact H4
    isplitl [H6]
    · iapply (own2_rowsE c arg6 1280 (xin c t (landed c fh0 (Ring.sl 2 t.val) (Ring.bk 72 t.val) (rslot (Ring.sl 2 t.val)).view.junk)) D6 k0_t1_loop.trips (le_of_eq (by rw [trips_t1])))
      iexact H6
    isplitl [H7]; · iexact H7
    isplitl [H8]
    · iapply (own2_rowsE c arg8 40 (BM (xin c t (landed c fh0 (Ring.sl 2 t.val) (Ring.bk 72 t.val) (rslot (Ring.sl 2 t.val)).view.junk))) D8 k0_t1_loop.trips (le_of_eq (by rw [trips_t1])))
      iexact H8
    isplitl [H9]; · iexact H9
    isplitl [H10]; · iexists _; iexact H10
    isplitl [H11]; · iexists _; iexact H11
    isplitl [H12]; · iexists _; iexact H12
    isplitl [H13]
    · iexists _; isplitr
      swap; · iexact H13
      ipureintro; exact (write1 arg13 _ inb_S8x128_S8x128_0_0 z2 _).trans (congrArg (fun n => k0_pay8 (F := Ideal) (mM (BM (xin c t (landed c fh0 (Ring.sl 2 t.val) (Ring.bk 72 t.val) (rslot (Ring.sl 2 t.val)).view.junk))) (k0_pay1 (F := Ideal)) n)) trips_t1)
    isplitl [H14]
    · iexists _; isplitr
      swap; · iexact H14
      ipureintro; exact e14
    isplitl [Hc1 Hr1]
    · iexists _; isplitl [Hc1]; · iexact Hc1
      iexact Hr1
    isplitl [Hc0 Hs0 Hh0 Hr0]
    · isplitl [Hc0]; · iexact Hc0
      iexists _; isplitl [Hs0]; · iexact Hs0
      iapply (src_split c fh0 (Ring.sl 2 t.val) (Ring.bk 72 t.val)).2; isplitl [Hh0]; · iexact Hh0
      iexact Hr0
    iexists _; iexact HW

set_option maxHeartbeats 4000000 in
/-- At point 1: block 1 lands, and stages 2 and 1 run. -/
theorem run_B (c : Dev nD) (t : Fin cfg0.N) (arg2 : Memref sig .tc .vmem S1x1x128 .f32) (harg2 : arg2.IsWhole) (arg3 : Memref sig .tc .vmem S128x32000 .fp8e4m3) (harg3 : arg3.IsWhole) (arg4 : Memref sig .tc .vmem S128x1000 .f32) (harg4 : arg4.IsWhole) (arg6 : Memref sig .tc .vmem S32000x128 .bf16) (harg6 : arg6.IsWhole) (arg7 : Memref sig .tc .vmem S32000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S320x2x128 .bf16) (harg11 : arg11.IsWhole) (arg12 : Memref sig .tc .vmem S40x128 .f32) (harg12 : arg12.IsWhole) (arg13 : Memref sig .tc .vmem S8x128 .f32) (harg13 : arg13.IsWhole) (arg14 : Memref sig .tc .vmem S8x128 .f32) (harg14 : arg14.IsWhole)
    (hc1 : ¬k0_cond1 (grid0.coords t) = 1#1) (hc2 : k0_cond2 (grid0.coords t) = 1#1) (hc3 : k0_cond3 (grid0.coords t) = 1#1) (hc4 : ¬k0_cond4 (grid0.coords t) = 1#1) (hc5 : k0_cond5 (grid0.coords t) = 1#1) (hc6 : ¬k0_cond6 (grid0.coords t) = 1#1) (hc7 : ¬k0_cond7 (grid0.coords t) = 1#1) (hc8 : ¬k0_cond8 (grid0.coords t) = 1#1)
    (fh0 : HbBuf0 (F := Ideal) c hbM0_0) (W : Waits sig Unit) (D3 D6 D7 D8 D9 D10 D12 : ℕ → ℕ → EReal) (P : ℕ → ℕ → ℕ → EReal) (m s : S8x128.Idx → EReal) (K : PUnit → sProp 𝕄) :
    iprop(some' (F := Ideal) c arg2 ∗ own2 (e := .fp8e4m3) c arg3 D3 ∗ some' (F := Ideal) c arg4 ∗ own2 (e := .bf16) c arg6 D6 ∗ own2 (e := .f32) c arg7 D7 ∗ own2 (e := .f32) c arg8 D8 ∗ own2 (e := .f32) c arg9 D9 ∗ own2 (e := .f32) c arg10 D10 ∗ own3 (e := .bf16) c arg11 P ∗ own2 (e := .f32) c arg12 D12 ∗ ownv (e := .f32) c arg13 m ∗ ownv (e := .f32) c arg14 s ∗ Ring.inflight (flightW c fh0) (Ring.sl 2 t.val) (Ring.bk 72 t.val) ∗ Ring.kept (cellP c) (slotW c fh0) (landed c fh0) (Ring.sl 2 (t.val + 1)) (Ring.bk 72 (t.val - 1)) ∗ owes (c : Thread nD τ) 0 W
        ∗ (iprop(some' (F := Ideal) c arg2 ∗ own2 (e := .fp8e4m3) c arg3 D3 ∗ some' (F := Ideal) c arg4 ∗ own2 (e := .bf16) c arg6 (xb c fh0 (Ring.bk 72 t.val)) ∗ own2 (e := .f32) c arg7 (gE D6 m) ∗ own2 (e := .f32) c arg8 (BM (xb c fh0 (Ring.bk 72 t.val))) ∗ own2 (e := .f32) c arg9 (gE D8 m) ∗ (∃ D, own2 (e := .f32) c arg10 D) ∗ (∃ P, own3 (e := .bf16) c arg11 P) ∗ (∃ D, own2 (e := .f32) c arg12 D) ∗ ownv (e := .f32) c arg13 (mxv (xb c fh0 (Ring.bk 72 t.val))) ∗ ownv (e := .f32) c arg14 (smv (gE D6 m)) ∗ Ring.inflight (flightW c fh0) (Ring.sl 2 (t.val + 1)) (Ring.bk 72 (t.val + 1)) ∗ Ring.kept (cellP c) (slotW c fh0) (landed c fh0) (Ring.sl 2 t.val) (Ring.bk 72 t.val) ∗ (∃ W', owes (c : Thread nD τ) 0 W')) -∗ K ⟨⟩))
      ⊢ wp frame (wpE (defs₀ (F := Ideal)) Variants.none c none) Set.univ (cc0_softmax_fp8 (grid0.coords t) (Memref.whole main_v0) (Memref.isWhole_whole _) arg2 harg2 arg3 harg3 arg4 harg4 scM0_0 (Memref.isWhole_whole _) arg6 harg6 arg7 harg7 arg8 harg8 arg9 harg9 arg10 harg10 arg11 harg11 arg12 harg12 arg13 harg13 arg14 harg14 cc0_scratch10) K := by
    haveI : Fact (¬k0_cond1 (grid0.coords t) = 1#1) := ⟨hc1⟩
    haveI : Fact (k0_cond2 (grid0.coords t) = 1#1) := ⟨hc2⟩
    haveI : Fact (k0_cond3 (grid0.coords t) = 1#1) := ⟨hc3⟩
    haveI : Fact (¬k0_cond4 (grid0.coords t) = 1#1) := ⟨hc4⟩
    haveI : Fact (k0_cond5 (grid0.coords t) = 1#1) := ⟨hc5⟩
    haveI : Fact (¬k0_cond6 (grid0.coords t) = 1#1) := ⟨hc6⟩
    haveI : Fact (¬k0_cond7 (grid0.coords t) = 1#1) := ⟨hc7⟩
    haveI : Fact (¬k0_cond8 (grid0.coords t) = 1#1) := ⟨hc8⟩
    simp only [cc0_softmax_fp8_eq_skeleton]; unfold cc0_softmax_fp8_skel
    unfold some' ownv Ring.inflight Ring.kept
    iintro ⟨⟨%f2, H2⟩, H3, ⟨%f4, H4⟩, H6, H7, H8, H9, H10, H11, H12, ⟨%f13, %e13, H13⟩, ⟨%f14, %e14, H14⟩, ⟨%ff, Hf, Hrf⟩, ⟨Hc1, ⟨%fs1, Hs1, Hw1⟩⟩, HW, Hk⟩
    ihave Hsp := (src_split c fh0 (Ring.sl 2 (t.val + 1)) (Ring.bk 72 (t.val + 1))).1 $$ Hw1
    icases Hsp with ⟨Hh1, Hr1⟩
    sl_exec (disch := first | sl_exact hc1 | sl_exact hc2 | sl_exact hc3 | sl_exact hc4 | sl_exact hc5 | sl_exact hc6 | sl_exact hc7 | sl_exact hc8)
    sl_step
    have hl13 := load1 arg13 e13 inb_S8x128_S8x128_0_0 z2
    subst hl13
    rw [← xin_landed c t fh0 (Ring.bk 72 t.val) (rslot (Ring.sl 2 t.val)).view.junk]
    iapply Hk
    isplitl [H2]; · iexists _; iexact H2
    isplitl [H3]; · iexact H3
    isplitl [H4]; · iexists _; iexact H4
    isplitl [H6]
    · iapply (own2_rowsE c arg6 1280 (xin c t (landed c fh0 (Ring.sl 2 t.val) (Ring.bk 72 t.val) (rslot (Ring.sl 2 t.val)).view.junk)) D6 k0_t4_loop.trips (le_of_eq (by rw [trips_t4])))
      iexact H6
    isplitl [H7]
    · iapply (own2_rowsE c arg7 1280 _ D7 k0_t4_loop.trips (le_of_eq (by rw [trips_t4])))
      iexact H7
    isplitl [H8]
    · iapply (own2_rowsE c arg8 40 (BM (xin c t (landed c fh0 (Ring.sl 2 t.val) (Ring.bk 72 t.val) (rslot (Ring.sl 2 t.val)).view.junk))) D8 k0_t4_loop.trips (le_of_eq (by rw [trips_t4])))
      iexact H8
    isplitl [H9]
    · iapply (own2_rowsE c arg9 40 _ D9 k0_t4_loop.trips (le_of_eq (by rw [trips_t4])))
      iexact H9
    isplitl [H10]; · iexists _; iexact H10
    isplitl [H11]; · iexists _; iexact H11
    isplitl [H12]; · iexists _; iexact H12
    isplitl [H13]
    · iexists _; isplitr
      swap; · iexact H13
      ipureintro; exact (write1 arg13 _ inb_S8x128_S8x128_0_0 z2 _).trans ((congrArg (fun a => k0_pay8 (F := Ideal) (a : (S8x128.Idx → EReal) × (S8x128.Idx → EReal) × (S8x128.Idx → EReal) × (S8x128.Idx → EReal) × (S8x128.Idx → EReal)).1) (mS_eq (BM (xin c t (landed c fh0 (Ring.sl 2 t.val) (Ring.bk 72 t.val) (rslot (Ring.sl 2 t.val)).view.junk))) (gE D6 (arg13.view.readAt (Elt Ideal) (Rect.unit (s := S8x128) ![0, 0] S8x128.size inb_S8x128_S8x128_0_0).toLoadRect f13)) (k0_pay1 (F := Ideal), k0_pay10 (F := Ideal), k0_pay10 (F := Ideal), k0_pay10 (F := Ideal), k0_pay10 (F := Ideal)) k0_t4_loop.trips)).trans (by rw [trips_t4]; rfl))
    isplitl [H14]
    · iexists _; isplitr
      swap; · iexact H14
      ipureintro; exact (write1 arg14 _ inb_S8x128_S8x128_0_0 z2 _).trans ((congrArg (fun a => k0_pay24 (F := Ideal) (a : (S8x128.Idx → EReal) × (S8x128.Idx → EReal) × (S8x128.Idx → EReal) × (S8x128.Idx → EReal) × (S8x128.Idx → EReal)).2.1 a.2.2.1 a.2.2.2.1 a.2.2.2.2) (mS_eq (BM (xin c t (landed c fh0 (Ring.sl 2 t.val) (Ring.bk 72 t.val) (rslot (Ring.sl 2 t.val)).view.junk))) (gE D6 (arg13.view.readAt (Elt Ideal) (Rect.unit (s := S8x128) ![0, 0] S8x128.size inb_S8x128_S8x128_0_0).toLoadRect f13)) (k0_pay1 (F := Ideal), k0_pay10 (F := Ideal), k0_pay10 (F := Ideal), k0_pay10 (F := Ideal), k0_pay10 (F := Ideal)) k0_t4_loop.trips)).trans (by rw [trips_t4]; rfl))
    isplitl [Hc1 Hr1]
    · iexists _; isplitl [Hc1]; · iexact Hc1
      iexact Hr1
    isplitl [Hf Hf_dst Hf_src Hrf]
    · isplitl [Hf]; · iexact Hf
      iexists _; isplitl [Hf_dst]; · iexact Hf_dst
      iapply (src_split c fh0 (Ring.sl 2 t.val) (Ring.bk 72 t.val)).2; isplitl [Hf_src]; · iexact Hf_src
      iexact Hrf
    iexists _; iexact HW

set_option maxHeartbeats 4000000 in
/-- At a point from 2 on with a block left to start: all three stages run. -/
theorem run_C (c : Dev nD) (t : Fin cfg0.N) (arg2 : Memref sig .tc .vmem S1x1x128 .f32) (harg2 : arg2.IsWhole) (arg3 : Memref sig .tc .vmem S128x32000 .fp8e4m3) (harg3 : arg3.IsWhole) (arg4 : Memref sig .tc .vmem S128x1000 .f32) (harg4 : arg4.IsWhole) (arg6 : Memref sig .tc .vmem S32000x128 .bf16) (harg6 : arg6.IsWhole) (arg7 : Memref sig .tc .vmem S32000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S320x2x128 .bf16) (harg11 : arg11.IsWhole) (arg12 : Memref sig .tc .vmem S40x128 .f32) (harg12 : arg12.IsWhole) (arg13 : Memref sig .tc .vmem S8x128 .f32) (harg13 : arg13.IsWhole) (arg14 : Memref sig .tc .vmem S8x128 .f32) (harg14 : arg14.IsWhole)
    (hc1 : ¬k0_cond1 (grid0.coords t) = 1#1) (hc2 : k0_cond2 (grid0.coords t) = 1#1) (hc3 : k0_cond3 (grid0.coords t) = 1#1) (hc4 : ¬k0_cond4 (grid0.coords t) = 1#1) (hc5 : ¬k0_cond5 (grid0.coords t) = 1#1) (hc6 : k0_cond6 (grid0.coords t) = 1#1) (hc7 : ¬k0_cond7 (grid0.coords t) = 1#1) (hc8 : ¬k0_cond8 (grid0.coords t) = 1#1)
    (fh0 : HbBuf0 (F := Ideal) c hbM0_0) (W : Waits sig Unit) (D3 D6 D7 D8 D9 D10 D12 : ℕ → ℕ → EReal) (P : ℕ → ℕ → ℕ → EReal) (m s : S8x128.Idx → EReal) (K : PUnit → sProp 𝕄) :
    iprop(some' (F := Ideal) c arg2 ∗ own2 (e := .fp8e4m3) c arg3 D3 ∗ some' (F := Ideal) c arg4 ∗ own2 (e := .bf16) c arg6 D6 ∗ own2 (e := .f32) c arg7 D7 ∗ own2 (e := .f32) c arg8 D8 ∗ own2 (e := .f32) c arg9 D9 ∗ own2 (e := .f32) c arg10 D10 ∗ own3 (e := .bf16) c arg11 P ∗ own2 (e := .f32) c arg12 D12 ∗ ownv (e := .f32) c arg13 m ∗ ownv (e := .f32) c arg14 s ∗ Ring.inflight (flightW c fh0) (Ring.sl 2 t.val) (Ring.bk 72 t.val) ∗ Ring.kept (cellP c) (slotW c fh0) (landed c fh0) (Ring.sl 2 (t.val + 1)) (Ring.bk 72 (t.val - 1)) ∗ owes (c : Thread nD τ) 0 W
        ∗ (iprop(ownv (e := .f32) c arg2 (k0_pay83 (F := Ideal) s) ∗ own2 (e := .fp8e4m3) c arg3 (GC D7 D9 s) ∗ own2 (e := .f32) c arg4 (fun i j => gS D9 s j i) ∗ own2 (e := .bf16) c arg6 (xb c fh0 (Ring.bk 72 t.val)) ∗ own2 (e := .f32) c arg7 (gE D6 m) ∗ own2 (e := .f32) c arg8 (BM (xb c fh0 (Ring.bk 72 t.val))) ∗ own2 (e := .f32) c arg9 (gE D8 m) ∗ (∃ D, own2 (e := .f32) c arg10 D) ∗ (∃ P, own3 (e := .bf16) c arg11 P) ∗ (∃ D, own2 (e := .f32) c arg12 D) ∗ ownv (e := .f32) c arg13 (mxv (xb c fh0 (Ring.bk 72 t.val))) ∗ ownv (e := .f32) c arg14 (smv (gE D6 m)) ∗ Ring.inflight (flightW c fh0) (Ring.sl 2 (t.val + 1)) (Ring.bk 72 (t.val + 1)) ∗ Ring.kept (cellP c) (slotW c fh0) (landed c fh0) (Ring.sl 2 t.val) (Ring.bk 72 t.val) ∗ (∃ W', owes (c : Thread nD τ) 0 W')) -∗ K ⟨⟩))
      ⊢ wp frame (wpE (defs₀ (F := Ideal)) Variants.none c none) Set.univ (cc0_softmax_fp8 (grid0.coords t) (Memref.whole main_v0) (Memref.isWhole_whole _) arg2 harg2 arg3 harg3 arg4 harg4 scM0_0 (Memref.isWhole_whole _) arg6 harg6 arg7 harg7 arg8 harg8 arg9 harg9 arg10 harg10 arg11 harg11 arg12 harg12 arg13 harg13 arg14 harg14 cc0_scratch10) K := by
    haveI : Fact (¬k0_cond1 (grid0.coords t) = 1#1) := ⟨hc1⟩
    haveI : Fact (k0_cond2 (grid0.coords t) = 1#1) := ⟨hc2⟩
    haveI : Fact (k0_cond3 (grid0.coords t) = 1#1) := ⟨hc3⟩
    haveI : Fact (¬k0_cond4 (grid0.coords t) = 1#1) := ⟨hc4⟩
    haveI : Fact (¬k0_cond5 (grid0.coords t) = 1#1) := ⟨hc5⟩
    haveI : Fact (k0_cond6 (grid0.coords t) = 1#1) := ⟨hc6⟩
    haveI : Fact (¬k0_cond7 (grid0.coords t) = 1#1) := ⟨hc7⟩
    haveI : Fact (¬k0_cond8 (grid0.coords t) = 1#1) := ⟨hc8⟩
    simp only [cc0_softmax_fp8_eq_skeleton]; unfold cc0_softmax_fp8_skel
    unfold some' ownv Ring.inflight Ring.kept
    iintro ⟨⟨%f2, H2⟩, H3, ⟨%f4, H4⟩, H6, H7, H8, H9, H10, H11, H12, ⟨%f13, %e13, H13⟩, ⟨%f14, %e14, H14⟩, ⟨%ff, Hf, Hrf⟩, ⟨Hc1, ⟨%fs1, Hs1, Hw1⟩⟩, HW, Hk⟩
    ihave Hsp := (src_split c fh0 (Ring.sl 2 (t.val + 1)) (Ring.bk 72 (t.val + 1))).1 $$ Hw1
    icases Hsp with ⟨Hh1, Hr1⟩
    sl_exec (disch := first | sl_exact hc1 | sl_exact hc2 | sl_exact hc3 | sl_exact hc4 | sl_exact hc5 | sl_exact hc6 | sl_exact hc7 | sl_exact hc8)
    ihave H10 := (own2_rowsv c arg10 40 _ _ k0_t9_loop.trips (le_of_eq (by rw [trips_t9]))) $$ H10
    unfold ownv
    icases H10 with ⟨%f10, %e10, H10⟩
    sl_exec (disch := first | sl_exact hc1 | sl_exact hc2 | sl_exact hc3 | sl_exact hc4 | sl_exact hc5 | sl_exact hc6 | sl_exact hc7 | sl_exact hc8)
    sl_step
    have hl13 := load1 arg13 e13 inb_S8x128_S8x128_0_0 z2
    subst hl13
    have hl14 := load1 arg14 e14 inb_S8x128_S8x128_0_0 z2
    subst hl14
    rw [← xin_landed c t fh0 (Ring.bk 72 t.val) (rslot (Ring.sl 2 t.val)).view.junk]
    iapply Hk
    isplitl [H2]
    · iexists _; isplitr
      swap; · iexact H2
      ipureintro; exact write1 arg2 _ inb_S1x1x128_S1x1x128_0_0_0 z3 _
    isplitl [H3]
    · iapply (own2_colsE c arg3 1280 _ D3 k0_t9_loop.trips (le_of_eq (by rw [trips_t9])))
      iexact H3
    isplitl [H4]
    · iapply (own2_close c arg4 _ (fun i j => gS D9 (arg14.view.readAt (Elt Ideal) (Rect.unit (s := S8x128) ![0, 0] S8x128.size inb_S8x128_S8x128_0_0).toLoadRect f14) j i) (out4 arg4 f4 arg10 f10 (gS D9 (arg14.view.readAt (Elt Ideal) (Rect.unit (s := S8x128) ![0, 0] S8x128.size inb_S8x128_S8x128_0_0).toLoadRect f14)) e10)); iexact H4
    isplitl [H6]
    · iapply (own2_rowsE c arg6 1280 (xin c t (landed c fh0 (Ring.sl 2 t.val) (Ring.bk 72 t.val) (rslot (Ring.sl 2 t.val)).view.junk)) D6 k0_t9_loop.trips (le_of_eq (by rw [trips_t9])))
      iexact H6
    isplitl [H7]
    · iapply (own2_rowsE c arg7 1280 _ D7 k0_t9_loop.trips (le_of_eq (by rw [trips_t9])))
      iexact H7
    isplitl [H8]
    · iapply (own2_rowsE c arg8 40 (BM (xin c t (landed c fh0 (Ring.sl 2 t.val) (Ring.bk 72 t.val) (rslot (Ring.sl 2 t.val)).view.junk))) D8 k0_t9_loop.trips (le_of_eq (by rw [trips_t9])))
      iexact H8
    isplitl [H9]
    · iapply (own2_rowsE c arg9 40 _ D9 k0_t9_loop.trips (le_of_eq (by rw [trips_t9])))
      iexact H9
    isplitl [H10]
    · iexists (gS D9 (arg14.view.readAt (Elt Ideal) (Rect.unit (s := S8x128) ![0, 0] S8x128.size inb_S8x128_S8x128_0_0).toLoadRect f14)); iapply (own2_close c arg10 f10 _ e10); iexact H10
    isplitl [H11]; · iexists _; iexact H11
    isplitl [H12]; · iexists _; iexact H12
    isplitl [H13]
    · iexists _; isplitr
      swap; · iexact H13
      ipureintro; exact (write1 arg13 _ inb_S8x128_S8x128_0_0 z2 _).trans ((congrArg (fun a => k0_pay8 (F := Ideal) (a : (S8x128.Idx → EReal) × (S8x128.Idx → EReal) × (S8x128.Idx → EReal) × (S8x128.Idx → EReal) × (S8x128.Idx → EReal)).1) (mS_eq (BM (xin c t (landed c fh0 (Ring.sl 2 t.val) (Ring.bk 72 t.val) (rslot (Ring.sl 2 t.val)).view.junk))) (gE D6 (arg13.view.readAt (Elt Ideal) (Rect.unit (s := S8x128) ![0, 0] S8x128.size inb_S8x128_S8x128_0_0).toLoadRect f13)) (k0_pay1 (F := Ideal), k0_pay10 (F := Ideal), k0_pay10 (F := Ideal), k0_pay10 (F := Ideal), k0_pay10 (F := Ideal)) k0_t9_loop.trips)).trans (by rw [trips_t9]; rfl))
    isplitl [H14]
    · iexists _; isplitr
      swap; · iexact H14
      ipureintro; exact (write1 arg14 _ inb_S8x128_S8x128_0_0 z2 _).trans ((congrArg (fun a => k0_pay24 (F := Ideal) (a : (S8x128.Idx → EReal) × (S8x128.Idx → EReal) × (S8x128.Idx → EReal) × (S8x128.Idx → EReal) × (S8x128.Idx → EReal)).2.1 a.2.2.1 a.2.2.2.1 a.2.2.2.2) (mS_eq (BM (xin c t (landed c fh0 (Ring.sl 2 t.val) (Ring.bk 72 t.val) (rslot (Ring.sl 2 t.val)).view.junk))) (gE D6 (arg13.view.readAt (Elt Ideal) (Rect.unit (s := S8x128) ![0, 0] S8x128.size inb_S8x128_S8x128_0_0).toLoadRect f13)) (k0_pay1 (F := Ideal), k0_pay10 (F := Ideal), k0_pay10 (F := Ideal), k0_pay10 (F := Ideal), k0_pay10 (F := Ideal)) k0_t9_loop.trips)).trans (by rw [trips_t9]; rfl))
    isplitl [Hc1 Hr1]
    · iexists _; isplitl [Hc1]; · iexact Hc1
      iexact Hr1
    isplitl [Hf Hf_dst Hf_src Hrf]
    · isplitl [Hf]; · iexact Hf
      iexists _; isplitl [Hf_dst]; · iexact Hf_dst
      iapply (src_split c fh0 (Ring.sl 2 t.val) (Ring.bk 72 t.val)).2; isplitl [Hf_src]; · iexact Hf_src
      iexact Hrf
    iexists _; iexact HW

set_option maxHeartbeats 4000000 in
/-- At point 71: the last block lands; all three stages run. -/
theorem run_D (c : Dev nD) (t : Fin cfg0.N) (arg2 : Memref sig .tc .vmem S1x1x128 .f32) (harg2 : arg2.IsWhole) (arg3 : Memref sig .tc .vmem S128x32000 .fp8e4m3) (harg3 : arg3.IsWhole) (arg4 : Memref sig .tc .vmem S128x1000 .f32) (harg4 : arg4.IsWhole) (arg6 : Memref sig .tc .vmem S32000x128 .bf16) (harg6 : arg6.IsWhole) (arg7 : Memref sig .tc .vmem S32000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S320x2x128 .bf16) (harg11 : arg11.IsWhole) (arg12 : Memref sig .tc .vmem S40x128 .f32) (harg12 : arg12.IsWhole) (arg13 : Memref sig .tc .vmem S8x128 .f32) (harg13 : arg13.IsWhole) (arg14 : Memref sig .tc .vmem S8x128 .f32) (harg14 : arg14.IsWhole)
    (hc1 : ¬k0_cond1 (grid0.coords t) = 1#1) (hc2 : k0_cond2 (grid0.coords t) = 1#1) (hc3 : ¬k0_cond3 (grid0.coords t) = 1#1) (hc4 : ¬k0_cond4 (grid0.coords t) = 1#1) (hc5 : ¬k0_cond5 (grid0.coords t) = 1#1) (hc6 : k0_cond6 (grid0.coords t) = 1#1) (hc7 : ¬k0_cond7 (grid0.coords t) = 1#1) (hc8 : ¬k0_cond8 (grid0.coords t) = 1#1)
    (fh0 : HbBuf0 (F := Ideal) c hbM0_0) (W : Waits sig Unit) (D3 D6 D7 D8 D9 D10 D12 : ℕ → ℕ → EReal) (P : ℕ → ℕ → ℕ → EReal) (m s : S8x128.Idx → EReal) (K : PUnit → sProp 𝕄) :
    iprop(some' (F := Ideal) c arg2 ∗ own2 (e := .fp8e4m3) c arg3 D3 ∗ some' (F := Ideal) c arg4 ∗ own2 (e := .bf16) c arg6 D6 ∗ own2 (e := .f32) c arg7 D7 ∗ own2 (e := .f32) c arg8 D8 ∗ own2 (e := .f32) c arg9 D9 ∗ own2 (e := .f32) c arg10 D10 ∗ own3 (e := .bf16) c arg11 P ∗ own2 (e := .f32) c arg12 D12 ∗ ownv (e := .f32) c arg13 m ∗ ownv (e := .f32) c arg14 s ∗ Ring.inflight (flightW c fh0) (Ring.sl 2 t.val) (Ring.bk 72 t.val) ∗ owes (c : Thread nD τ) 0 W
        ∗ (iprop(ownv (e := .f32) c arg2 (k0_pay83 (F := Ideal) s) ∗ own2 (e := .fp8e4m3) c arg3 (GC D7 D9 s) ∗ own2 (e := .f32) c arg4 (fun i j => gS D9 s j i) ∗ own2 (e := .bf16) c arg6 (xb c fh0 (Ring.bk 72 t.val)) ∗ own2 (e := .f32) c arg7 (gE D6 m) ∗ own2 (e := .f32) c arg8 (BM (xb c fh0 (Ring.bk 72 t.val))) ∗ own2 (e := .f32) c arg9 (gE D8 m) ∗ (∃ D, own2 (e := .f32) c arg10 D) ∗ (∃ P, own3 (e := .bf16) c arg11 P) ∗ (∃ D, own2 (e := .f32) c arg12 D) ∗ ownv (e := .f32) c arg13 (mxv (xb c fh0 (Ring.bk 72 t.val))) ∗ ownv (e := .f32) c arg14 (smv (gE D6 m)) ∗ Ring.kept (cellP c) (slotW c fh0) (landed c fh0) (Ring.sl 2 t.val) (Ring.bk 72 t.val) ∗ (∃ W', owes (c : Thread nD τ) 0 W')) -∗ K ⟨⟩))
      ⊢ wp frame (wpE (defs₀ (F := Ideal)) Variants.none c none) Set.univ (cc0_softmax_fp8 (grid0.coords t) (Memref.whole main_v0) (Memref.isWhole_whole _) arg2 harg2 arg3 harg3 arg4 harg4 scM0_0 (Memref.isWhole_whole _) arg6 harg6 arg7 harg7 arg8 harg8 arg9 harg9 arg10 harg10 arg11 harg11 arg12 harg12 arg13 harg13 arg14 harg14 cc0_scratch10) K := by
    haveI : Fact (¬k0_cond1 (grid0.coords t) = 1#1) := ⟨hc1⟩
    haveI : Fact (k0_cond2 (grid0.coords t) = 1#1) := ⟨hc2⟩
    haveI : Fact (¬k0_cond3 (grid0.coords t) = 1#1) := ⟨hc3⟩
    haveI : Fact (¬k0_cond4 (grid0.coords t) = 1#1) := ⟨hc4⟩
    haveI : Fact (¬k0_cond5 (grid0.coords t) = 1#1) := ⟨hc5⟩
    haveI : Fact (k0_cond6 (grid0.coords t) = 1#1) := ⟨hc6⟩
    haveI : Fact (¬k0_cond7 (grid0.coords t) = 1#1) := ⟨hc7⟩
    haveI : Fact (¬k0_cond8 (grid0.coords t) = 1#1) := ⟨hc8⟩
    simp only [cc0_softmax_fp8_eq_skeleton]; unfold cc0_softmax_fp8_skel
    unfold some' ownv Ring.inflight Ring.kept
    iintro ⟨⟨%f2, H2⟩, H3, ⟨%f4, H4⟩, H6, H7, H8, H9, H10, H11, H12, ⟨%f13, %e13, H13⟩, ⟨%f14, %e14, H14⟩, ⟨%ff, Hf, Hrf⟩, HW, Hk⟩
    sl_exec (disch := first | sl_exact hc1 | sl_exact hc2 | sl_exact hc3 | sl_exact hc4 | sl_exact hc5 | sl_exact hc6 | sl_exact hc7 | sl_exact hc8)
    ihave H10 := (own2_rowsv c arg10 40 _ _ k0_t9_loop.trips (le_of_eq (by rw [trips_t9]))) $$ H10
    unfold ownv
    icases H10 with ⟨%f10, %e10, H10⟩
    sl_exec (disch := first | sl_exact hc1 | sl_exact hc2 | sl_exact hc3 | sl_exact hc4 | sl_exact hc5 | sl_exact hc6 | sl_exact hc7 | sl_exact hc8)
    sl_step
    have hl13 := load1 arg13 e13 inb_S8x128_S8x128_0_0 z2
    subst hl13
    have hl14 := load1 arg14 e14 inb_S8x128_S8x128_0_0 z2
    subst hl14
    rw [← xin_landed c t fh0 (Ring.bk 72 t.val) (rslot (Ring.sl 2 t.val)).view.junk]
    iapply Hk
    isplitl [H2]
    · iexists _; isplitr
      swap; · iexact H2
      ipureintro; exact write1 arg2 _ inb_S1x1x128_S1x1x128_0_0_0 z3 _
    isplitl [H3]
    · iapply (own2_colsE c arg3 1280 _ D3 k0_t9_loop.trips (le_of_eq (by rw [trips_t9])))
      iexact H3
    isplitl [H4]
    · iapply (own2_close c arg4 _ (fun i j => gS D9 (arg14.view.readAt (Elt Ideal) (Rect.unit (s := S8x128) ![0, 0] S8x128.size inb_S8x128_S8x128_0_0).toLoadRect f14) j i) (out4 arg4 f4 arg10 f10 (gS D9 (arg14.view.readAt (Elt Ideal) (Rect.unit (s := S8x128) ![0, 0] S8x128.size inb_S8x128_S8x128_0_0).toLoadRect f14)) e10)); iexact H4
    isplitl [H6]
    · iapply (own2_rowsE c arg6 1280 (xin c t (landed c fh0 (Ring.sl 2 t.val) (Ring.bk 72 t.val) (rslot (Ring.sl 2 t.val)).view.junk)) D6 k0_t9_loop.trips (le_of_eq (by rw [trips_t9])))
      iexact H6
    isplitl [H7]
    · iapply (own2_rowsE c arg7 1280 _ D7 k0_t9_loop.trips (le_of_eq (by rw [trips_t9])))
      iexact H7
    isplitl [H8]
    · iapply (own2_rowsE c arg8 40 (BM (xin c t (landed c fh0 (Ring.sl 2 t.val) (Ring.bk 72 t.val) (rslot (Ring.sl 2 t.val)).view.junk))) D8 k0_t9_loop.trips (le_of_eq (by rw [trips_t9])))
      iexact H8
    isplitl [H9]
    · iapply (own2_rowsE c arg9 40 _ D9 k0_t9_loop.trips (le_of_eq (by rw [trips_t9])))
      iexact H9
    isplitl [H10]
    · iexists (gS D9 (arg14.view.readAt (Elt Ideal) (Rect.unit (s := S8x128) ![0, 0] S8x128.size inb_S8x128_S8x128_0_0).toLoadRect f14)); iapply (own2_close c arg10 f10 _ e10); iexact H10
    isplitl [H11]; · iexists _; iexact H11
    isplitl [H12]; · iexists _; iexact H12
    isplitl [H13]
    · iexists _; isplitr
      swap; · iexact H13
      ipureintro; exact (write1 arg13 _ inb_S8x128_S8x128_0_0 z2 _).trans ((congrArg (fun a => k0_pay8 (F := Ideal) (a : (S8x128.Idx → EReal) × (S8x128.Idx → EReal) × (S8x128.Idx → EReal) × (S8x128.Idx → EReal) × (S8x128.Idx → EReal)).1) (mS_eq (BM (xin c t (landed c fh0 (Ring.sl 2 t.val) (Ring.bk 72 t.val) (rslot (Ring.sl 2 t.val)).view.junk))) (gE D6 (arg13.view.readAt (Elt Ideal) (Rect.unit (s := S8x128) ![0, 0] S8x128.size inb_S8x128_S8x128_0_0).toLoadRect f13)) (k0_pay1 (F := Ideal), k0_pay10 (F := Ideal), k0_pay10 (F := Ideal), k0_pay10 (F := Ideal), k0_pay10 (F := Ideal)) k0_t9_loop.trips)).trans (by rw [trips_t9]; rfl))
    isplitl [H14]
    · iexists _; isplitr
      swap; · iexact H14
      ipureintro; exact (write1 arg14 _ inb_S8x128_S8x128_0_0 z2 _).trans ((congrArg (fun a => k0_pay24 (F := Ideal) (a : (S8x128.Idx → EReal) × (S8x128.Idx → EReal) × (S8x128.Idx → EReal) × (S8x128.Idx → EReal) × (S8x128.Idx → EReal)).2.1 a.2.2.1 a.2.2.2.1 a.2.2.2.2) (mS_eq (BM (xin c t (landed c fh0 (Ring.sl 2 t.val) (Ring.bk 72 t.val) (rslot (Ring.sl 2 t.val)).view.junk))) (gE D6 (arg13.view.readAt (Elt Ideal) (Rect.unit (s := S8x128) ![0, 0] S8x128.size inb_S8x128_S8x128_0_0).toLoadRect f13)) (k0_pay1 (F := Ideal), k0_pay10 (F := Ideal), k0_pay10 (F := Ideal), k0_pay10 (F := Ideal), k0_pay10 (F := Ideal)) k0_t9_loop.trips)).trans (by rw [trips_t9]; rfl))
    isplitl [Hf Hf_dst Hf_src Hrf]
    · isplitl [Hf]; · iexact Hf
      iexists _; isplitl [Hf_dst]; · iexact Hf_dst
      iapply (src_split c fh0 (Ring.sl 2 t.val) (Ring.bk 72 t.val)).2; isplitl [Hf_src]; · iexact Hf_src
      iexact Hrf
    iexists _; iexact HW

set_option maxHeartbeats 4000000 in
/-- At point 72: stages 3 and 2 run. -/
theorem run_E (c : Dev nD) (t : Fin cfg0.N) (arg2 : Memref sig .tc .vmem S1x1x128 .f32) (harg2 : arg2.IsWhole) (arg3 : Memref sig .tc .vmem S128x32000 .fp8e4m3) (harg3 : arg3.IsWhole) (arg4 : Memref sig .tc .vmem S128x1000 .f32) (harg4 : arg4.IsWhole) (arg6 : Memref sig .tc .vmem S32000x128 .bf16) (harg6 : arg6.IsWhole) (arg7 : Memref sig .tc .vmem S32000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S320x2x128 .bf16) (harg11 : arg11.IsWhole) (arg12 : Memref sig .tc .vmem S40x128 .f32) (harg12 : arg12.IsWhole) (arg13 : Memref sig .tc .vmem S8x128 .f32) (harg13 : arg13.IsWhole) (arg14 : Memref sig .tc .vmem S8x128 .f32) (harg14 : arg14.IsWhole)
    (hc1 : ¬k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) (hc6 : ¬k0_cond6 (grid0.coords t) = 1#1) (hc7 : k0_cond7 (grid0.coords t) = 1#1) (hc8 : ¬k0_cond8 (grid0.coords t) = 1#1)
    (fh0 : HbBuf0 (F := Ideal) c hbM0_0) (W : Waits sig Unit) (D3 D6 D7 D8 D9 D10 D12 : ℕ → ℕ → EReal) (P : ℕ → ℕ → ℕ → EReal) (m s : S8x128.Idx → EReal) (K : PUnit → sProp 𝕄) :
    iprop(some' (F := Ideal) c arg2 ∗ own2 (e := .fp8e4m3) c arg3 D3 ∗ some' (F := Ideal) c arg4 ∗ own2 (e := .bf16) c arg6 D6 ∗ own2 (e := .f32) c arg7 D7 ∗ own2 (e := .f32) c arg8 D8 ∗ own2 (e := .f32) c arg9 D9 ∗ own2 (e := .f32) c arg10 D10 ∗ own3 (e := .bf16) c arg11 P ∗ own2 (e := .f32) c arg12 D12 ∗ ownv (e := .f32) c arg13 m ∗ ownv (e := .f32) c arg14 s ∗ owes (c : Thread nD τ) 0 W
        ∗ (iprop(ownv (e := .f32) c arg2 (k0_pay83 (F := Ideal) s) ∗ own2 (e := .fp8e4m3) c arg3 (GC D7 D9 s) ∗ own2 (e := .f32) c arg4 (fun i j => gS D9 s j i) ∗ own2 (e := .bf16) c arg6 D6 ∗ own2 (e := .f32) c arg7 (gE D6 m) ∗ own2 (e := .f32) c arg8 D8 ∗ own2 (e := .f32) c arg9 (gE D8 m) ∗ (∃ D, own2 (e := .f32) c arg10 D) ∗ (∃ P, own3 (e := .bf16) c arg11 P) ∗ (∃ D, own2 (e := .f32) c arg12 D) ∗ ownv (e := .f32) c arg13 m ∗ ownv (e := .f32) c arg14 (smv (gE D6 m)) ∗ (∃ W', owes (c : Thread nD τ) 0 W')) -∗ K ⟨⟩))
      ⊢ wp frame (wpE (defs₀ (F := Ideal)) Variants.none c none) Set.univ (cc0_softmax_fp8 (grid0.coords t) (Memref.whole main_v0) (Memref.isWhole_whole _) arg2 harg2 arg3 harg3 arg4 harg4 scM0_0 (Memref.isWhole_whole _) arg6 harg6 arg7 harg7 arg8 harg8 arg9 harg9 arg10 harg10 arg11 harg11 arg12 harg12 arg13 harg13 arg14 harg14 cc0_scratch10) K := by
    haveI : Fact (¬k0_cond1 (grid0.coords t) = 1#1) := ⟨hc1⟩
    haveI : Fact (¬k0_cond2 (grid0.coords t) = 1#1) := ⟨hc2⟩
    haveI : Fact (¬k0_cond3 (grid0.coords t) = 1#1) := ⟨hc3⟩
    haveI : Fact (¬k0_cond4 (grid0.coords t) = 1#1) := ⟨hc4⟩
    haveI : Fact (¬k0_cond5 (grid0.coords t) = 1#1) := ⟨hc5⟩
    haveI : Fact (¬k0_cond6 (grid0.coords t) = 1#1) := ⟨hc6⟩
    haveI : Fact (k0_cond7 (grid0.coords t) = 1#1) := ⟨hc7⟩
    haveI : Fact (¬k0_cond8 (grid0.coords t) = 1#1) := ⟨hc8⟩
    simp only [cc0_softmax_fp8_eq_skeleton]; unfold cc0_softmax_fp8_skel
    unfold some' ownv
    iintro ⟨⟨%f2, H2⟩, H3, ⟨%f4, H4⟩, H6, H7, H8, H9, H10, H11, H12, ⟨%f13, %e13, H13⟩, ⟨%f14, %e14, H14⟩, HW, Hk⟩
    sl_exec (disch := first | sl_exact hc1 | sl_exact hc2 | sl_exact hc3 | sl_exact hc4 | sl_exact hc5 | sl_exact hc6 | sl_exact hc7 | sl_exact hc8)
    ihave H10 := (own2_rowsv c arg10 40 _ _ k0_t16_loop.trips (le_of_eq (by rw [trips_t16]))) $$ H10
    unfold ownv
    icases H10 with ⟨%f10, %e10, H10⟩
    sl_exec (disch := first | sl_exact hc1 | sl_exact hc2 | sl_exact hc3 | sl_exact hc4 | sl_exact hc5 | sl_exact hc6 | sl_exact hc7 | sl_exact hc8)
    sl_step
    have hl13 := load1 arg13 e13 inb_S8x128_S8x128_0_0 z2
    subst hl13
    have hl14 := load1 arg14 e14 inb_S8x128_S8x128_0_0 z2
    subst hl14
    iapply Hk
    isplitl [H2]
    · iexists _; isplitr
      swap; · iexact H2
      ipureintro; exact write1 arg2 _ inb_S1x1x128_S1x1x128_0_0_0 z3 _
    isplitl [H3]
    · iapply (own2_colsE c arg3 1280 _ D3 k0_t16_loop.trips (le_of_eq (by rw [trips_t16])))
      iexact H3
    isplitl [H4]
    · iapply (own2_close c arg4 _ (fun i j => gS D9 (arg14.view.readAt (Elt Ideal) (Rect.unit (s := S8x128) ![0, 0] S8x128.size inb_S8x128_S8x128_0_0).toLoadRect f14) j i) (out4 arg4 f4 arg10 f10 (gS D9 (arg14.view.readAt (Elt Ideal) (Rect.unit (s := S8x128) ![0, 0] S8x128.size inb_S8x128_S8x128_0_0).toLoadRect f14)) e10)); iexact H4
    isplitl [H6]; · iexact H6
    isplitl [H7]
    · iapply (own2_rowsE c arg7 1280 _ D7 k0_t16_loop.trips (le_of_eq (by rw [trips_t16])))
      iexact H7
    isplitl [H8]; · iexact H8
    isplitl [H9]
    · iapply (own2_rowsE c arg9 40 _ D9 k0_t16_loop.trips (le_of_eq (by rw [trips_t16])))
      iexact H9
    isplitl [H10]
    · iexists (gS D9 (arg14.view.readAt (Elt Ideal) (Rect.unit (s := S8x128) ![0, 0] S8x128.size inb_S8x128_S8x128_0_0).toLoadRect f14)); iapply (own2_close c arg10 f10 _ e10); iexact H10
    isplitl [H11]; · iexists _; iexact H11
    isplitl [H12]; · iexists _; iexact H12
    isplitl [H13]
    · iexists _; isplitr
      swap; · iexact H13
      ipureintro; exact e13
    isplitl [H14]
    · iexists _; isplitr
      swap; · iexact H14
      ipureintro; exact (write1 arg14 _ inb_S8x128_S8x128_0_0 z2 _).trans (congrArg (fun n => smv' (gE D6 _) n) trips_t16)
    iexists _; iexact HW

set_option maxHeartbeats 4000000 in
/-- At point 73: stage 3 runs. -/
theorem run_G (c : Dev nD) (t : Fin cfg0.N) (arg2 : Memref sig .tc .vmem S1x1x128 .f32) (harg2 : arg2.IsWhole) (arg3 : Memref sig .tc .vmem S128x32000 .fp8e4m3) (harg3 : arg3.IsWhole) (arg4 : Memref sig .tc .vmem S128x1000 .f32) (harg4 : arg4.IsWhole) (arg6 : Memref sig .tc .vmem S32000x128 .bf16) (harg6 : arg6.IsWhole) (arg7 : Memref sig .tc .vmem S32000x128 .f32) (harg7 : arg7.IsWhole) (arg8 : Memref sig .tc .vmem S1000x128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S320x2x128 .bf16) (harg11 : arg11.IsWhole) (arg12 : Memref sig .tc .vmem S40x128 .f32) (harg12 : arg12.IsWhole) (arg13 : Memref sig .tc .vmem S8x128 .f32) (harg13 : arg13.IsWhole) (arg14 : Memref sig .tc .vmem S8x128 .f32) (harg14 : arg14.IsWhole)
    (hc1 : ¬k0_cond1 (grid0.coords t) = 1#1) (hc2 : ¬k0_cond2 (grid0.coords t) = 1#1) (hc3 : ¬k0_cond3 (grid0.coords t) = 1#1) (hc4 : ¬k0_cond4 (grid0.coords t) = 1#1) (hc5 : ¬k0_cond5 (grid0.coords t) = 1#1) (hc6 : ¬k0_cond6 (grid0.coords t) = 1#1) (hc7 : ¬k0_cond7 (grid0.coords t) = 1#1) (hc8 : k0_cond8 (grid0.coords t) = 1#1)
    (fh0 : HbBuf0 (F := Ideal) c hbM0_0) (W : Waits sig Unit) (D3 D6 D7 D8 D9 D10 D12 : ℕ → ℕ → EReal) (P : ℕ → ℕ → ℕ → EReal) (m s : S8x128.Idx → EReal) (K : PUnit → sProp 𝕄) :
    iprop(some' (F := Ideal) c arg2 ∗ own2 (e := .fp8e4m3) c arg3 D3 ∗ some' (F := Ideal) c arg4 ∗ own2 (e := .bf16) c arg6 D6 ∗ own2 (e := .f32) c arg7 D7 ∗ own2 (e := .f32) c arg8 D8 ∗ own2 (e := .f32) c arg9 D9 ∗ own2 (e := .f32) c arg10 D10 ∗ own3 (e := .bf16) c arg11 P ∗ own2 (e := .f32) c arg12 D12 ∗ ownv (e := .f32) c arg13 m ∗ ownv (e := .f32) c arg14 s ∗ owes (c : Thread nD τ) 0 W
        ∗ (iprop(ownv (e := .f32) c arg2 (k0_pay83 (F := Ideal) s) ∗ own2 (e := .fp8e4m3) c arg3 (GC D7 D9 s) ∗ own2 (e := .f32) c arg4 (fun i j => gS D9 s j i) ∗ own2 (e := .bf16) c arg6 D6 ∗ own2 (e := .f32) c arg7 D7 ∗ own2 (e := .f32) c arg8 D8 ∗ own2 (e := .f32) c arg9 D9 ∗ (∃ D, own2 (e := .f32) c arg10 D) ∗ (∃ P, own3 (e := .bf16) c arg11 P) ∗ (∃ D, own2 (e := .f32) c arg12 D) ∗ ownv (e := .f32) c arg13 m ∗ ownv (e := .f32) c arg14 s ∗ (∃ W', owes (c : Thread nD τ) 0 W')) -∗ K ⟨⟩))
      ⊢ wp frame (wpE (defs₀ (F := Ideal)) Variants.none c none) Set.univ (cc0_softmax_fp8 (grid0.coords t) (Memref.whole main_v0) (Memref.isWhole_whole _) arg2 harg2 arg3 harg3 arg4 harg4 scM0_0 (Memref.isWhole_whole _) arg6 harg6 arg7 harg7 arg8 harg8 arg9 harg9 arg10 harg10 arg11 harg11 arg12 harg12 arg13 harg13 arg14 harg14 cc0_scratch10) K := by
    haveI : Fact (¬k0_cond1 (grid0.coords t) = 1#1) := ⟨hc1⟩
    haveI : Fact (¬k0_cond2 (grid0.coords t) = 1#1) := ⟨hc2⟩
    haveI : Fact (¬k0_cond3 (grid0.coords t) = 1#1) := ⟨hc3⟩
    haveI : Fact (¬k0_cond4 (grid0.coords t) = 1#1) := ⟨hc4⟩
    haveI : Fact (¬k0_cond5 (grid0.coords t) = 1#1) := ⟨hc5⟩
    haveI : Fact (¬k0_cond6 (grid0.coords t) = 1#1) := ⟨hc6⟩
    haveI : Fact (¬k0_cond7 (grid0.coords t) = 1#1) := ⟨hc7⟩
    haveI : Fact (k0_cond8 (grid0.coords t) = 1#1) := ⟨hc8⟩
    simp only [cc0_softmax_fp8_eq_skeleton]; unfold cc0_softmax_fp8_skel
    unfold some' ownv
    iintro ⟨⟨%f2, H2⟩, H3, ⟨%f4, H4⟩, H6, H7, H8, H9, H10, H11, H12, ⟨%f13, %e13, H13⟩, ⟨%f14, %e14, H14⟩, HW, Hk⟩
    sl_exec (disch := first | sl_exact hc1 | sl_exact hc2 | sl_exact hc3 | sl_exact hc4 | sl_exact hc5 | sl_exact hc6 | sl_exact hc7 | sl_exact hc8)
    ihave H10 := (own2_rowsv c arg10 40 _ _ k0_t21_loop.trips (le_of_eq (by rw [trips_t21]))) $$ H10
    unfold ownv
    icases H10 with ⟨%f10, %e10, H10⟩
    sl_exec (disch := first | sl_exact hc1 | sl_exact hc2 | sl_exact hc3 | sl_exact hc4 | sl_exact hc5 | sl_exact hc6 | sl_exact hc7 | sl_exact hc8)
    sl_step
    have hl14 := load1 arg14 e14 inb_S8x128_S8x128_0_0 z2
    subst hl14
    iapply Hk
    isplitl [H2]
    · iexists _; isplitr
      swap; · iexact H2
      ipureintro; exact write1 arg2 _ inb_S1x1x128_S1x1x128_0_0_0 z3 _
    isplitl [H3]
    · iapply (own2_colsE c arg3 1280 _ D3 k0_t21_loop.trips (le_of_eq (by rw [trips_t21])))
      iexact H3
    isplitl [H4]
    · iapply (own2_close c arg4 _ (fun i j => gS D9 (arg14.view.readAt (Elt Ideal) (Rect.unit (s := S8x128) ![0, 0] S8x128.size inb_S8x128_S8x128_0_0).toLoadRect f14) j i) (out4 arg4 f4 arg10 f10 (gS D9 (arg14.view.readAt (Elt Ideal) (Rect.unit (s := S8x128) ![0, 0] S8x128.size inb_S8x128_S8x128_0_0).toLoadRect f14)) e10)); iexact H4
    isplitl [H6]; · iexact H6
    isplitl [H7]; · iexact H7
    isplitl [H8]; · iexact H8
    isplitl [H9]; · iexact H9
    isplitl [H10]
    · iexists (gS D9 (arg14.view.readAt (Elt Ideal) (Rect.unit (s := S8x128) ![0, 0] S8x128.size inb_S8x128_S8x128_0_0).toLoadRect f14)); iapply (own2_close c arg10 f10 _ e10); iexact H10
    isplitl [H11]; · iexists _; iexact H11
    isplitl [H12]; · iexists _; iexact H12
    isplitl [H13]
    · iexists _; isplitr
      swap; · iexact H13
      ipureintro; exact e13
    isplitl [H14]
    · iexists _; isplitr
      swap; · iexact H14
      ipureintro; exact e14
    iexists _; iexact HW

end Cert.KernelIdeal.Val

end
-- ==== Proof.ValFrame.lean ====
/- The run with its values: what the three result arrays hold when the kernel ends, in the terms of its stages; and the frame. -/
module

public import proofs.«01_k».proof.Proof.ValRuns
public import Idealize.ShloMosaic.Lib.Claim

@[expose] public section

set_option maxRecDepth 16384
set_option synthInstance.maxSize 4096

noncomputable section

namespace Cert.KernelIdeal.Val

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Ideal) ℕ (Pipeline.UD sig nD τ) ℕ

variable (m : (ℓ : Loc nD τ sig) → Buf (Elt Ideal) ℓ) (ρ : Dev nD → PrngReg)

/-! ## Buffers held at anything, and by coordinates -/

/-- Any contents of a two-axis buffer, by coordinates. -/
theorem own2_of_owns (c : Dev nD) {sp : Space} {N W : ℕ} {e : EltTy} (M : Memref sig .tc sp ⟨2, ![N, W]⟩ e) (z : Elt Ideal e) (d) :
    (owns (c : Thread nD τ) M fullShare d : sProp 𝕄) ⊢ iprop(∃ D, own2 c M D) := by
  unfold owns own2
  iintro ⟨%f, %h, H⟩
  iexists (fun i j => if h : i < N ∧ j < W then d (ix2 i j h.1 h.2) else z), f
  isplitr
  · ipureintro
    rw [h]
    funext y
    have h0 : (y 0).val < N := (y 0).isLt
    have h1 : (y 1).val < W := (y 1).isLt
    refine (congrArg d (ix2_eta y _ _ h0 h1 rfl rfl)).trans ?_
    dsimp only
    rw [dif_pos (show (y 0).val < N ∧ (y 1).val < W from ⟨h0, h1⟩)]
  iexact H
/-- Any contents of a three-axis buffer, by coordinates. -/
theorem own3_of_owns (c : Dev nD) {sp : Space} {N W Z : ℕ} {e : EltTy} (M : Memref sig .tc sp ⟨3, ![N, W, Z]⟩ e) (z : Elt Ideal e) (d) :
    (owns (c : Thread nD τ) M fullShare d : sProp 𝕄) ⊢ iprop(∃ D, own3 c M D) := by
  unfold owns own3
  iintro ⟨%f, %h, H⟩
  iexists (fun i j k => if h : i < N ∧ j < W ∧ k < Z then d (ix3 i j k h.1 h.2.1 h.2.2) else z), f
  isplitr
  · ipureintro
    rw [h]
    funext y
    have h0 : (y 0).val < N := (y 0).isLt
    have h1 : (y 1).val < W := (y 1).isLt
    have h2 : (y 2).val < Z := (y 2).isLt
    refine (congrArg d (ix3_eta y _ _ _ h0 h1 h2 rfl rfl rfl)).trans ?_
    dsimp only
    rw [dif_pos (show (y 0).val < N ∧ (y 1).val < W ∧ (y 2).val < Z from ⟨h0, h1, h2⟩)]
  iexact H
theorem ownv_of_owns (c : Dev nD) {sp : Space} {S : Shape} {e : EltTy} (M : Memref sig .tc sp S e) (d) :
    (owns (c : Thread nD τ) M fullShare d : sProp 𝕄) ⊢ ownv c M d := by
  unfold owns ownv
  exact .rfl
theorem some_of_owns (c : Dev nD) {sp : Space} {S : Shape} {e : EltTy} (M : Memref sig .tc sp S e) (d) :
    (owns (c : Thread nD τ) M fullShare d : sProp 𝕄) ⊢ some' (F := Ideal) c M := by
  unfold owns some'
  iintro ⟨%f, -, H⟩
  iexists f; iexact H
theorem owns_of_own2 (c : Dev nD) {sp : Space} {N W : ℕ} {e : EltTy} (M : Memref sig .tc sp ⟨2, ![N, W]⟩ e) (D : ℕ → ℕ → Elt Ideal e) :
    own2 c M D ⊢ (owns (c : Thread nD τ) M fullShare (fun y => D (y 0).val (y 1).val) : sProp 𝕄) := by
  unfold owns own2
  exact .rfl
theorem owns_of_own3 (c : Dev nD) {sp : Space} {N W Z : ℕ} {e : EltTy} (M : Memref sig .tc sp ⟨3, ![N, W, Z]⟩ e) (D : ℕ → ℕ → ℕ → Elt Ideal e) :
    own3 c M D ⊢ (owns (c : Thread nD τ) M fullShare (fun y => D (y 0).val (y 1).val (y 2).val) : sProp 𝕄) := by
  unfold owns own3
  exact .rfl

/-- An output buffer at contents of which nothing is asked, -/
theorem post_some (c : Dev nD) {sp : Space} {S : Shape} {e : EltTy} (M : Memref sig .tc sp S e) (R : (S.Idx → Elt Ideal e) → Prop) (h : ∀ X, R X) :
    some' (F := Ideal) c M ⊢ (iprop(∃ X, ⌜R X⌝ ∗ owns (c : Thread nD τ) M fullShare X) : sProp 𝕄) := by
  unfold owns some'
  iintro ⟨%f, H⟩
  iexists M.view.read (Elt Ideal) f
  isplitr
  · ipureintro; exact h _
  iexists f; isplitr
  · ipureintro; rfl
  iexact H
/-- at named contents, -/
theorem post_v (c : Dev nD) {sp : Space} {S : Shape} {e : EltTy} (M : Memref sig .tc sp S e) (R : (S.Idx → Elt Ideal e) → Prop) (v) (h : R v) :
    ownv c M v ⊢ (iprop(∃ X, ⌜R X⌝ ∗ owns (c : Thread nD τ) M fullShare X) : sProp 𝕄) := by
  unfold owns ownv
  iintro H
  iexists v
  isplitr
  · ipureintro; exact h
  iexact H
/-- and at contents named by coordinates. -/
theorem post_2 (c : Dev nD) {sp : Space} {N W : ℕ} {e : EltTy} (M : Memref sig .tc sp ⟨2, ![N, W]⟩ e) (R : ((⟨2, ![N, W]⟩ : Shape).Idx → Elt Ideal e) → Prop) (D : ℕ → ℕ → Elt Ideal e) (h : R fun y => D (y 0).val (y 1).val) :
    own2 c M D ⊢ (iprop(∃ X, ⌜R X⌝ ∗ owns (c : Thread nD τ) M fullShare X) : sProp 𝕄) := by
  iintro H
  iexists (fun y => D (y 0).val (y 1).val)
  isplitr
  · ipureintro; exact h
  iapply (owns_of_own2 c M D); iexact H

/-! ## What the stages leave of a block -/

/-- The exponentials of block `b`, -/
def Ev (c : Dev nD) (W : HbBuf0 (F := Ideal) c hbM0_0) (b : Fin 72) : ℕ → ℕ → EReal := gE (xb c W b) (mxv (xb c W b))
/-- those of its groups' maxima, -/
def Bv (c : Dev nD) (W : HbBuf0 (F := Ideal) c hbM0_0) (b : Fin 72) : ℕ → ℕ → EReal := gE (BM (xb c W b)) (mxv (xb c W b))
/-- their sum, -/
def Sv (c : Dev nD) (W : HbBuf0 (F := Ideal) c hbM0_0) (b : Fin 72) : S8x128.Idx → EReal := smv (Ev c W b)
/-- its logarithm, -/
def lseV (c : Dev nD) (W : HbBuf0 (F := Ideal) c hbM0_0) (b : Fin 72) : S1x1x128.Idx → EReal := k0_pay83 (F := Ideal) (Sv c W b)
/-- the codes, -/
def codV (c : Dev nD) (W : HbBuf0 (F := Ideal) c hbM0_0) (b : Fin 72) : ℕ → ℕ → EReal := GC (Ev c W b) (Bv c W b) (Sv c W b)
/-- and the scales. -/
def sclV (c : Dev nD) (W : HbBuf0 (F := Ideal) c hbM0_0) (b : Fin 72) : ℕ → ℕ → EReal := fun i j => gS (Bv c W b) (Sv c W b) j i

/-- What the carried buffers hold before point `k`: the block of the point before, its groups' maxima and its maximum; the
    exponentials of the block before that, and their sum. -/
def Inv (c : Dev nD) (W : HbBuf0 (F := Ideal) c hbM0_0) (k : ℕ) (D6 D7 D8 D9 : ℕ → ℕ → EReal) (x s : S8x128.Idx → EReal) : Prop :=
  (1 ≤ k → k ≤ 72 → D6 = xb c W (Ring.bk 72 (k - 1)) ∧ D8 = BM (xb c W (Ring.bk 72 (k - 1))) ∧ x = mxv (xb c W (Ring.bk 72 (k - 1))))
  ∧ (2 ≤ k → k ≤ 73 → D7 = Ev c W (Ring.bk 72 (k - 2)) ∧ D9 = Bv c W (Ring.bk 72 (k - 2)) ∧ s = Sv c W (Ring.bk 72 (k - 2)))

/-- What a point leaves in the three output windows, from point 2 on: the results of the block two points before. -/
def Out0 (c : Dev nD) (W : HbBuf0 (F := Ideal) c hbM0_0) (t : ℕ) (X : S1x1x128.Idx → EReal) : Prop := 2 ≤ t → X = lseV c W (Ring.bk 72 (t - 2))
def Out1 (c : Dev nD) (W : HbBuf0 (F := Ideal) c hbM0_0) (t : ℕ) (X : S128x32000.Idx → EReal) : Prop := 2 ≤ t → X = fun y => codV c W (Ring.bk 72 (t - 2)) (y 0).val (y 1).val
def Out2 (c : Dev nD) (W : HbBuf0 (F := Ideal) c hbM0_0) (t : ℕ) (X : S128x1000.Idx → EReal) : Prop := 2 ≤ t → X = fun y => sclV c W (Ring.bk 72 (t - 2)) (y 0).val (y 1).val

/-! ## The pipeline's proof data -/

/-- The scratch before point `k`. -/
def scr (c : Dev nD) (W : HbBuf0 (F := Ideal) c hbM0_0) (k : ℕ) : sProp 𝕄 :=
  iprop(∃ D6 D7 D8 D9 D10 D12 : ℕ → ℕ → EReal, ∃ P : ℕ → ℕ → ℕ → EReal, ∃ x s : S8x128.Idx → EReal, ⌜Inv c W k D6 D7 D8 D9 x s⌝
    ∗ own2 (e := .bf16) c scM0_1 D6 ∗ own2 (e := .f32) c scM0_2 D7 ∗ own2 (e := .f32) c scM0_3 D8 ∗ own2 (e := .f32) c scM0_4 D9 ∗ own2 (e := .f32) c scM0_5 D10
    ∗ own3 (e := .bf16) c scM0_6 P ∗ own2 (e := .f32) c scM0_7 D12 ∗ ownv (e := .f32) c scM0_8 x ∗ ownv (e := .f32) c scM0_9 s)

/-- Before point `k`: the scratch, the generator register at some state, and the ring (done after point 71). -/
def PhiV (c : Dev nD) (k : ℕ) : sProp 𝕄 := iprop(scr c (V m c main_v0) k ∗ (∃ r, prngReg c r) ∗ ringAt c (V m c main_v0) (min k 72))

/-- The proof data: the arrays as the region finds them; what each point leaves in the outputs; the invariant `PhiV`; nothing owed. -/
def rdat (c : Dev nD) : RDat τ (Elt Ideal) Unit ℕ (Pipeline.UD sig nD τ) ℕ cfg0 c where
  A w := V m c (Pipeline.arrRef spec0 w)
  after w t := match w with
    | ⟨0, _⟩ => fun _ X => Out0 c (V m c main_v0) t.val X
    | ⟨1, _⟩ => fun _ X => Out1 c (V m c main_v0) t.val X
    | ⟨2, _⟩ => fun _ X => Out2 c (V m c main_v0) t.val X
  Φ t := PhiV m c t.val
  q _ := fullShare
  owed _ := 0

theorem A_eq (c : Dev nD) (w : Fin cfg0.W) : (rdat m c).A w = V m c (Pipeline.arrRef spec0 w) := by
  dsimp only [rdat]
theorem Phi_castSucc (c : Dev nD) (t : Fin cfg0.N) : (rdat m c).Φ t.castSucc = PhiV m c t.val := by
  dsimp only [rdat]; simp only [Fin.coe_castSucc]
theorem Phi_succ (c : Dev nD) (t : Fin cfg0.N) : (rdat m c).Φ t.succ = PhiV m c (t.val + 1) := by
  dsimp only [rdat]; simp only [Fin.val_succ]

/-! ## The body obligation -/

/-- What the body is called with at point `t`, -/
def bodyPre (c : Dev nD) (t : Fin cfg0.N) (Y0 : S1x1x128.Idx → EReal) (Y1 : S128x32000.Idx → EReal) (Y2 : S128x1000.Idx → EReal) : sProp 𝕄 :=
  iprop((rdat m c).Φ t.castSucc ∗ (rdat m c).owesAt () t.castSucc ∗ owns (c : Thread nD τ) (st0_0 t) fullShare Y0 ∗ owns (c : Thread nD τ) (st0_1 t) fullShare Y1 ∗ owns (c : Thread nD τ) (st0_2 t) fullShare Y2)
/-- and what it returns. -/
def bodyPost (c : Dev nD) (t : Fin cfg0.N) : sProp 𝕄 :=
  iprop((rdat m c).Φ t.succ ∗ (rdat m c).owesAt () t.succ ∗ (∃ X, ⌜Out0 c (V m c main_v0) t.val X⌝ ∗ owns (c : Thread nD τ) (st0_0 t) fullShare X) ∗ (∃ X, ⌜Out1 c (V m c main_v0) t.val X⌝ ∗ owns (c : Thread nD τ) (st0_1 t) fullShare X) ∗ (∃ X, ⌜Out2 c (V m c main_v0) t.val X⌝ ∗ owns (c : Thread nD τ) (st0_2 t) fullShare X))

set_option maxHeartbeats 4800000 in
/-- The body at any point, by the kind of the point. -/
theorem sound_body (c : Dev nD) (t : Fin cfg0.N) (Y0 : S1x1x128.Idx → EReal) (Y1 : S128x32000.Idx → EReal) (Y2 : S128x1000.Idx → EReal) :
    bodyPre m c t Y0 Y1 Y2 ⊢ wp frame (wpE (defs₀ (F := Ideal)) Variants.none c none) Set.univ (bodyAt0 t) (fun _ => bodyPost m c t) := by
  unfold bodyPre bodyPost bodyAt0
  rw [Phi_castSucc m c t, Phi_succ m c t]
  unfold RDat.owesAt Pipeline.owesWithin
  rw [show (rdat m c).owed t.castSucc = 0 from rfl, show (rdat m c).owed t.succ = 0 from rfl]
  unfold PhiV ringAt
  have hN : t.val < 74 := lt_of_lt_of_eq t.isLt (show cfg0.N = 74 from N_0)
  rcases (show (t.val = 0) ∨ (t.val = 1) ∨ (2 ≤ t.val ∧ t.val < 71) ∨ (t.val = 71) ∨ (t.val = 72) ∨ (t.val = 73) by omega) with h | h | h | h | h | h
  · have hm : min t.val 72 = 0 := by omega
    have hm1 : min (t.val + 1) 72 = t.val + 1 := by omega
    rw [hm, hm1, if_pos rfl, if_neg (show ¬t.val + 1 = 0 by omega)]
    rw [Ring.At₀_eq2' _ _ _ t.val h (by decide : 2 ≤ 72), Ring.AtK2_one' _ _ _ _ _ t.val h (by decide : 1 < 72)]
    unfold scr
    iintro ⟨⟨⟨%D6, %D7, %D8, %D9, %D10, %D12, %P, %x, %s, %hI, HS1, HS2, HS3, HS4, HS5, HS6, HS7, HS8, HS9⟩, Hg, ⟨-, Hr0, Hr1⟩⟩, ⟨%W, -, HW⟩, H0, H1, H2⟩
    ihave HX := (own2_of_owns (N := 128) (W := 32000) (e := .fp8e4m3) c (st0_1 t) (0 : EReal) Y1) $$ H1
    icases HX with ⟨%D3, H1⟩
    iapply (run_A c t _ _ _ _ _ _ _ _ _ _ _ _ _ _ _ _ _ _ _ _ _ _ _ _ ((hc1 t).mpr (by omega)) ((hc2 t).mpr (by omega)) ((hc3 t).mpr (by omega)) ((hc4 t).mpr (by omega)) (fun h => by have := (hc5 t).mp h; omega) (fun h => by have := (hc6 t).mp h; omega) (fun h => by have := (hc7 t).mp h; omega) (fun h => by have := (hc8 t).mp h; omega) (V m c main_v0) W D3 D6 D7 D8 D9 D10 D12 P x s _)
    isplitl [H0]; · iapply (some_of_owns c (st0_0 t) Y0); iexact H0
    isplitl [H1]; · iexact H1
    isplitl [H2]; · iapply (some_of_owns c (st0_2 t) Y2); iexact H2
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [Hr0]; · iexact Hr0
    isplitl [Hr1]; · iexact Hr1
    isplitl [HW]; · iexact HW
    iintro ⟨H0, H1, H2, HS1, HS2, HS3, HS4, ⟨%D10', HS5⟩, ⟨%P', HS6⟩, ⟨%D12', HS7⟩, HS8, HS9, Hq0, Hq1, ⟨%W', HW'⟩⟩
    isplitl [HS1 HS2 HS3 HS4 HS5 HS6 HS7 HS8 HS9 Hg Hq0 Hq1]
    · isplitl [HS1 HS2 HS3 HS4 HS5 HS6 HS7 HS8 HS9]
      · iexists (xb c (V m c main_v0) (Ring.bk 72 t.val)), D7, (BM (xb c (V m c main_v0) (Ring.bk 72 t.val))), D9, D10', D12', P', (mxv (xb c (V m c main_v0) (Ring.bk 72 t.val))), s
        isplitr
        · ipureintro
          refine ⟨fun h1 h2 => ?_, fun h1 h2 => ?_⟩
          · rw [Nat.add_sub_cancel]; exact ⟨rfl, rfl, rfl⟩
          · omega
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      isplitl [Hg]; · iexact Hg
      iapply Ring.with_homes₀
      isplitl [Hq0]; · iexact Hq0
      iexact Hq1
    isplitl [HW']
    · iexists W'; isplitr; · ipureintro; exact fun _ _ => Or.inl trivial
      iexact HW'
    isplitl [H0]; · iapply (post_some c (st0_0 t) (Out0 c (V m c main_v0) t.val) (fun X h2 => by omega)); iexact H0
    isplitl [H1]; · iapply (post_2 (N := 128) (W := 32000) (e := .fp8e4m3) c (st0_1 t) (Out1 c (V m c main_v0) t.val) _ (fun h2 => by omega)); iexact H1
    iapply (post_some c (st0_2 t) (Out2 c (V m c main_v0) t.val) (fun X h2 => by omega)); iexact H2
  · have hm : min t.val 72 = t.val := by omega
    have hm1 : min (t.val + 1) 72 = t.val + 1 := by omega
    rw [hm, hm1, if_neg (show ¬t.val = 0 by omega), if_neg (show ¬t.val + 1 = 0 by omega)]
    rw [Ring.AtK2_here _ _ _ _ _ t.val (by omega) (by omega), Ring.AtK2_next _ _ _ _ _ t.val (by omega) (by omega)]
    unfold scr
    iintro ⟨⟨⟨%D6, %D7, %D8, %D9, %D10, %D12, %P, %x, %s, %hI, HS1, HS2, HS3, HS4, HS5, HS6, HS7, HS8, HS9⟩, Hg, ⟨-, Hr0, Hr1⟩⟩, ⟨%W, -, HW⟩, H0, H1, H2⟩
    ihave HX := (own2_of_owns (N := 128) (W := 32000) (e := .fp8e4m3) c (st0_1 t) (0 : EReal) Y1) $$ H1
    icases HX with ⟨%D3, H1⟩
    obtain ⟨h6, h8, hx⟩ := hI.1 (by omega) (by omega)
    iapply (run_B c t _ _ _ _ _ _ _ _ _ _ _ _ _ _ _ _ _ _ _ _ _ _ _ _ (fun h => by have := (hc1 t).mp h; omega) ((hc2 t).mpr (by omega)) ((hc3 t).mpr (by omega)) (fun h => by have := (hc4 t).mp h; omega) ((hc5 t).mpr (by omega)) (fun h => by have := (hc6 t).mp h; omega) (fun h => by have := (hc7 t).mp h; omega) (fun h => by have := (hc8 t).mp h; omega) (V m c main_v0) W D3 D6 D7 D8 D9 D10 D12 P x s _)
    isplitl [H0]; · iapply (some_of_owns c (st0_0 t) Y0); iexact H0
    isplitl [H1]; · iexact H1
    isplitl [H2]; · iapply (some_of_owns c (st0_2 t) Y2); iexact H2
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [Hr0]; · iexact Hr0
    isplitl [Hr1]; · iexact Hr1
    isplitl [HW]; · iexact HW
    iintro ⟨H0, H1, H2, HS1, HS2, HS3, HS4, ⟨%D10', HS5⟩, ⟨%P', HS6⟩, ⟨%D12', HS7⟩, HS8, HS9, Hq0, Hq1, ⟨%W', HW'⟩⟩
    isplitl [HS1 HS2 HS3 HS4 HS5 HS6 HS7 HS8 HS9 Hg Hq0 Hq1]
    · isplitl [HS1 HS2 HS3 HS4 HS5 HS6 HS7 HS8 HS9]
      · iexists (xb c (V m c main_v0) (Ring.bk 72 t.val)), (gE D6 x), (BM (xb c (V m c main_v0) (Ring.bk 72 t.val))), (gE D8 x), D10', D12', P', (mxv (xb c (V m c main_v0) (Ring.bk 72 t.val))), (smv (gE D6 x))
        isplitr
        · ipureintro
          refine ⟨fun h1 h2 => ?_, fun h1 h2 => ?_⟩
          · rw [Nat.add_sub_cancel]; exact ⟨rfl, rfl, rfl⟩
          · rw [show t.val + 1 - 2 = t.val - 1 by omega, h6, h8, hx]; exact ⟨rfl, rfl, rfl⟩
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      isplitl [Hg]; · iexact Hg
      iapply (Ring.with_homes (Idealize.SL.BI.Entails.refl _))
      isplitl [Hq0]; · iexact Hq0
      iexact Hq1
    isplitl [HW']
    · iexists W'; isplitr; · ipureintro; exact fun _ _ => Or.inl trivial
      iexact HW'
    isplitl [H0]; · iapply (post_some c (st0_0 t) (Out0 c (V m c main_v0) t.val) (fun X h2 => by omega)); iexact H0
    isplitl [H1]; · iapply (post_2 (N := 128) (W := 32000) (e := .fp8e4m3) c (st0_1 t) (Out1 c (V m c main_v0) t.val) _ (fun h2 => by omega)); iexact H1
    iapply (post_some c (st0_2 t) (Out2 c (V m c main_v0) t.val) (fun X h2 => by omega)); iexact H2
  · have hm : min t.val 72 = t.val := by omega
    have hm1 : min (t.val + 1) 72 = t.val + 1 := by omega
    rw [hm, hm1, if_neg (show ¬t.val = 0 by omega), if_neg (show ¬t.val + 1 = 0 by omega)]
    rw [Ring.AtK2_here _ _ _ _ _ t.val (by omega) (by omega), Ring.AtK2_next _ _ _ _ _ t.val (by omega) (by omega)]
    unfold scr
    iintro ⟨⟨⟨%D6, %D7, %D8, %D9, %D10, %D12, %P, %x, %s, %hI, HS1, HS2, HS3, HS4, HS5, HS6, HS7, HS8, HS9⟩, Hg, ⟨-, Hr0, Hr1⟩⟩, ⟨%W, -, HW⟩, H0, H1, H2⟩
    ihave HX := (own2_of_owns (N := 128) (W := 32000) (e := .fp8e4m3) c (st0_1 t) (0 : EReal) Y1) $$ H1
    icases HX with ⟨%D3, H1⟩
    obtain ⟨h6, h8, hx⟩ := hI.1 (by omega) (by omega)
    obtain ⟨h7, h9, hs⟩ := hI.2 (by omega) (by omega)
    iapply (run_C c t _ _ _ _ _ _ _ _ _ _ _ _ _ _ _ _ _ _ _ _ _ _ _ _ (fun h => by have := (hc1 t).mp h; omega) ((hc2 t).mpr (by omega)) ((hc3 t).mpr (by omega)) (fun h => by have := (hc4 t).mp h; omega) (fun h => by have := (hc5 t).mp h; omega) ((hc6 t).mpr (by omega)) (fun h => by have := (hc7 t).mp h; omega) (fun h => by have := (hc8 t).mp h; omega) (V m c main_v0) W D3 D6 D7 D8 D9 D10 D12 P x s _)
    isplitl [H0]; · iapply (some_of_owns c (st0_0 t) Y0); iexact H0
    isplitl [H1]; · iexact H1
    isplitl [H2]; · iapply (some_of_owns c (st0_2 t) Y2); iexact H2
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [Hr0]; · iexact Hr0
    isplitl [Hr1]; · iexact Hr1
    isplitl [HW]; · iexact HW
    iintro ⟨H0, H1, H2, HS1, HS2, HS3, HS4, ⟨%D10', HS5⟩, ⟨%P', HS6⟩, ⟨%D12', HS7⟩, HS8, HS9, Hq0, Hq1, ⟨%W', HW'⟩⟩
    isplitl [HS1 HS2 HS3 HS4 HS5 HS6 HS7 HS8 HS9 Hg Hq0 Hq1]
    · isplitl [HS1 HS2 HS3 HS4 HS5 HS6 HS7 HS8 HS9]
      · iexists (xb c (V m c main_v0) (Ring.bk 72 t.val)), (gE D6 x), (BM (xb c (V m c main_v0) (Ring.bk 72 t.val))), (gE D8 x), D10', D12', P', (mxv (xb c (V m c main_v0) (Ring.bk 72 t.val))), (smv (gE D6 x))
        isplitr
        · ipureintro
          refine ⟨fun h1 h2 => ?_, fun h1 h2 => ?_⟩
          · rw [Nat.add_sub_cancel]; exact ⟨rfl, rfl, rfl⟩
          · rw [show t.val + 1 - 2 = t.val - 1 by omega, h6, h8, hx]; exact ⟨rfl, rfl, rfl⟩
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      isplitl [Hg]; · iexact Hg
      iapply (Ring.with_homes (Idealize.SL.BI.Entails.refl _))
      isplitl [Hq0]; · iexact Hq0
      iexact Hq1
    isplitl [HW']
    · iexists W'; isplitr; · ipureintro; exact fun _ _ => Or.inl trivial
      iexact HW'
    isplitl [H0]; · iapply (post_v c (st0_0 t) (Out0 c (V m c main_v0) t.val) (k0_pay83 (F := Ideal) s) (fun h2 => by rw [hs]; rfl)); iexact H0
    isplitl [H1]; · iapply (post_2 (N := 128) (W := 32000) (e := .fp8e4m3) c (st0_1 t) (Out1 c (V m c main_v0) t.val) (GC D7 D9 s) (fun h2 => by rw [h7, h9, hs]; rfl)); iexact H1
    iapply (post_2 (N := 128) (W := 1000) (e := .f32) c (st0_2 t) (Out2 c (V m c main_v0) t.val) (fun i j => gS D9 s j i) (fun h2 => by rw [h9, hs]; rfl)); iexact H2
  · have hm : min t.val 72 = t.val := by omega
    have hm1 : min (t.val + 1) 72 = t.val + 1 := by omega
    rw [hm, hm1, if_neg (show ¬t.val = 0 by omega), if_neg (show ¬t.val + 1 = 0 by omega)]
    rw [Ring.AtK2_here_last _ _ _ _ _ t.val (by omega) (by omega), Ring.AtK2_next_last _ _ _ _ _ t.val (by omega) (by omega)]
    unfold scr
    iintro ⟨⟨⟨%D6, %D7, %D8, %D9, %D10, %D12, %P, %x, %s, %hI, HS1, HS2, HS3, HS4, HS5, HS6, HS7, HS8, HS9⟩, Hg, ⟨-, Hr0, Hkp⟩⟩, ⟨%W, -, HW⟩, H0, H1, H2⟩
    ihave HX := (own2_of_owns (N := 128) (W := 32000) (e := .fp8e4m3) c (st0_1 t) (0 : EReal) Y1) $$ H1
    icases HX with ⟨%D3, H1⟩
    obtain ⟨h6, h8, hx⟩ := hI.1 (by omega) (by omega)
    obtain ⟨h7, h9, hs⟩ := hI.2 (by omega) (by omega)
    iapply (run_D c t _ _ _ _ _ _ _ _ _ _ _ _ _ _ _ _ _ _ _ _ _ _ _ _ (fun h => by have := (hc1 t).mp h; omega) ((hc2 t).mpr (by omega)) (fun h => by have := (hc3 t).mp h; omega) (fun h => by have := (hc4 t).mp h; omega) (fun h => by have := (hc5 t).mp h; omega) ((hc6 t).mpr (by omega)) (fun h => by have := (hc7 t).mp h; omega) (fun h => by have := (hc8 t).mp h; omega) (V m c main_v0) W D3 D6 D7 D8 D9 D10 D12 P x s _)
    isplitl [H0]; · iapply (some_of_owns c (st0_0 t) Y0); iexact H0
    isplitl [H1]; · iexact H1
    isplitl [H2]; · iapply (some_of_owns c (st0_2 t) Y2); iexact H2
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [Hr0]; · iexact Hr0
    isplitl [HW]; · iexact HW
    iintro ⟨H0, H1, H2, HS1, HS2, HS3, HS4, ⟨%D10', HS5⟩, ⟨%P', HS6⟩, ⟨%D12', HS7⟩, HS8, HS9, Hq0, ⟨%W', HW'⟩⟩
    isplitl [HS1 HS2 HS3 HS4 HS5 HS6 HS7 HS8 HS9 Hg Hkp Hq0]
    · isplitl [HS1 HS2 HS3 HS4 HS5 HS6 HS7 HS8 HS9]
      · iexists (xb c (V m c main_v0) (Ring.bk 72 t.val)), (gE D6 x), (BM (xb c (V m c main_v0) (Ring.bk 72 t.val))), (gE D8 x), D10', D12', P', (mxv (xb c (V m c main_v0) (Ring.bk 72 t.val))), (smv (gE D6 x))
        isplitr
        · ipureintro
          refine ⟨fun h1 h2 => ?_, fun h1 h2 => ?_⟩
          · rw [Nat.add_sub_cancel]; exact ⟨rfl, rfl, rfl⟩
          · rw [show t.val + 1 - 2 = t.val - 1 by omega, h6, h8, hx]; exact ⟨rfl, rfl, rfl⟩
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      isplitl [Hg]; · iexact Hg
      iapply (Ring.with_homes (Idealize.SL.BI.Entails.refl _))
      isplitl [Hkp]; · iexact Hkp
      iexact Hq0
    isplitl [HW']
    · iexists W'; isplitr; · ipureintro; exact fun _ _ => Or.inl trivial
      iexact HW'
    isplitl [H0]; · iapply (post_v c (st0_0 t) (Out0 c (V m c main_v0) t.val) (k0_pay83 (F := Ideal) s) (fun h2 => by rw [hs]; rfl)); iexact H0
    isplitl [H1]; · iapply (post_2 (N := 128) (W := 32000) (e := .fp8e4m3) c (st0_1 t) (Out1 c (V m c main_v0) t.val) (GC D7 D9 s) (fun h2 => by rw [h7, h9, hs]; rfl)); iexact H1
    iapply (post_2 (N := 128) (W := 1000) (e := .f32) c (st0_2 t) (Out2 c (V m c main_v0) t.val) (fun i j => gS D9 s j i) (fun h2 => by rw [h9, hs]; rfl)); iexact H2
  · have hm : min t.val 72 = 72 := by omega
    have hm1 : min (t.val + 1) 72 = 72 := by omega
    rw [hm, hm1]
    unfold scr
    iintro ⟨⟨⟨%D6, %D7, %D8, %D9, %D10, %D12, %P, %x, %s, %hI, HS1, HS2, HS3, HS4, HS5, HS6, HS7, HS8, HS9⟩, Hg, Hr⟩, ⟨%W, -, HW⟩, H0, H1, H2⟩
    ihave HX := (own2_of_owns (N := 128) (W := 32000) (e := .fp8e4m3) c (st0_1 t) (0 : EReal) Y1) $$ H1
    icases HX with ⟨%D3, H1⟩
    obtain ⟨h6, h8, hx⟩ := hI.1 (by omega) (by omega)
    obtain ⟨h7, h9, hs⟩ := hI.2 (by omega) (by omega)
    iapply (run_E c t _ _ _ _ _ _ _ _ _ _ _ _ _ _ _ _ _ _ _ _ _ _ _ _ (fun h => by have := (hc1 t).mp h; omega) (fun h => by have := (hc2 t).mp h; omega) (fun h => by have := (hc3 t).mp h; omega) (fun h => by have := (hc4 t).mp h; omega) (fun h => by have := (hc5 t).mp h; omega) (fun h => by have := (hc6 t).mp h; omega) ((hc7 t).mpr (by omega)) (fun h => by have := (hc8 t).mp h; omega) (V m c main_v0) W D3 D6 D7 D8 D9 D10 D12 P x s _)
    isplitl [H0]; · iapply (some_of_owns c (st0_0 t) Y0); iexact H0
    isplitl [H1]; · iexact H1
    isplitl [H2]; · iapply (some_of_owns c (st0_2 t) Y2); iexact H2
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HW]; · iexact HW
    iintro ⟨H0, H1, H2, HS1, HS2, HS3, HS4, ⟨%D10', HS5⟩, ⟨%P', HS6⟩, ⟨%D12', HS7⟩, HS8, HS9, ⟨%W', HW'⟩⟩
    isplitl [HS1 HS2 HS3 HS4 HS5 HS6 HS7 HS8 HS9 Hg Hr]
    · isplitl [HS1 HS2 HS3 HS4 HS5 HS6 HS7 HS8 HS9]
      · iexists D6, (gE D6 x), D8, (gE D8 x), D10', D12', P', x, (smv (gE D6 x))
        isplitr
        · ipureintro
          refine ⟨fun h1 h2 => ?_, fun h1 h2 => ?_⟩
          · omega
          · rw [show t.val + 1 - 2 = t.val - 1 by omega, h6, h8, hx]; exact ⟨rfl, rfl, rfl⟩
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      isplitl [Hg]; · iexact Hg
      iexact Hr
    isplitl [HW']
    · iexists W'; isplitr; · ipureintro; exact fun _ _ => Or.inl trivial
      iexact HW'
    isplitl [H0]; · iapply (post_v c (st0_0 t) (Out0 c (V m c main_v0) t.val) (k0_pay83 (F := Ideal) s) (fun h2 => by rw [hs]; rfl)); iexact H0
    isplitl [H1]; · iapply (post_2 (N := 128) (W := 32000) (e := .fp8e4m3) c (st0_1 t) (Out1 c (V m c main_v0) t.val) (GC D7 D9 s) (fun h2 => by rw [h7, h9, hs]; rfl)); iexact H1
    iapply (post_2 (N := 128) (W := 1000) (e := .f32) c (st0_2 t) (Out2 c (V m c main_v0) t.val) (fun i j => gS D9 s j i) (fun h2 => by rw [h9, hs]; rfl)); iexact H2
  · have hm : min t.val 72 = 72 := by omega
    have hm1 : min (t.val + 1) 72 = 72 := by omega
    rw [hm, hm1]
    unfold scr
    iintro ⟨⟨⟨%D6, %D7, %D8, %D9, %D10, %D12, %P, %x, %s, %hI, HS1, HS2, HS3, HS4, HS5, HS6, HS7, HS8, HS9⟩, Hg, Hr⟩, ⟨%W, -, HW⟩, H0, H1, H2⟩
    ihave HX := (own2_of_owns (N := 128) (W := 32000) (e := .fp8e4m3) c (st0_1 t) (0 : EReal) Y1) $$ H1
    icases HX with ⟨%D3, H1⟩
    obtain ⟨h7, h9, hs⟩ := hI.2 (by omega) (by omega)
    iapply (run_G c t _ _ _ _ _ _ _ _ _ _ _ _ _ _ _ _ _ _ _ _ _ _ _ _ (fun h => by have := (hc1 t).mp h; omega) (fun h => by have := (hc2 t).mp h; omega) (fun h => by have := (hc3 t).mp h; omega) (fun h => by have := (hc4 t).mp h; omega) (fun h => by have := (hc5 t).mp h; omega) (fun h => by have := (hc6 t).mp h; omega) (fun h => by have := (hc7 t).mp h; omega) ((hc8 t).mpr (by omega)) (V m c main_v0) W D3 D6 D7 D8 D9 D10 D12 P x s _)
    isplitl [H0]; · iapply (some_of_owns c (st0_0 t) Y0); iexact H0
    isplitl [H1]; · iexact H1
    isplitl [H2]; · iapply (some_of_owns c (st0_2 t) Y2); iexact H2
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HW]; · iexact HW
    iintro ⟨H0, H1, H2, HS1, HS2, HS3, HS4, ⟨%D10', HS5⟩, ⟨%P', HS6⟩, ⟨%D12', HS7⟩, HS8, HS9, ⟨%W', HW'⟩⟩
    isplitl [HS1 HS2 HS3 HS4 HS5 HS6 HS7 HS8 HS9 Hg Hr]
    · isplitl [HS1 HS2 HS3 HS4 HS5 HS6 HS7 HS8 HS9]
      · iexists D6, D7, D8, D9, D10', D12', P', x, s
        isplitr
        · ipureintro
          refine ⟨fun h1 h2 => ?_, fun h1 h2 => ?_⟩
          · omega
          · omega
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      isplitl [Hg]; · iexact Hg
      iexact Hr
    isplitl [HW']
    · iexists W'; isplitr; · ipureintro; exact fun _ _ => Or.inl trivial
      iexact HW'
    isplitl [H0]; · iapply (post_v c (st0_0 t) (Out0 c (V m c main_v0) t.val) (k0_pay83 (F := Ideal) s) (fun h2 => by rw [hs]; rfl)); iexact H0
    isplitl [H1]; · iapply (post_2 (N := 128) (W := 32000) (e := .fp8e4m3) c (st0_1 t) (Out1 c (V m c main_v0) t.val) (GC D7 D9 s) (fun h2 => by rw [h7, h9, hs]; rfl)); iexact H1
    iapply (post_2 (N := 128) (W := 1000) (e := .f32) c (st0_2 t) (Out2 c (V m c main_v0) t.val) (fun i j => gS D9 s j i) (fun h2 => by rw [h9, hs]; rfl)); iexact H2

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) : (rdat m c).BodyObligation (defs₀ (F := Ideal)) Variants.none () Set.univ := fun t Y _ => by
  rw [bigSep_W0, bigSep_W0, defs₀_row]
  exact triple_restated (sound_body m c t (Y 0) (Y 1) (Y 2)) rfl .rfl fun _ => .rfl

/-- What the launch hands the region is the invariant before the first point, and the invariant after the last hands it back. -/
theorem hin (c : Dev nD) : Pipeline.ΦD osem0 spec0 H0 (V m) c ⊢ (rdat m c).Φ 0 := by
  rw [PhiD0_eq, show (rdat m c).Φ 0 = PhiV m c 0 from rfl]
  unfold PhiV scr
  rw [show min 0 72 = 0 from rfl]
  iintro ⟨⟨HR, ⟨%d1, HS1⟩, ⟨%d2, HS2⟩, ⟨%d3, HS3⟩, ⟨%d4, HS4⟩, ⟨%d5, HS5⟩, ⟨%d6, HS6⟩, ⟨%d7, HS7⟩, ⟨%d8, HS8⟩, ⟨%d9, HS9⟩⟩, Hg, ⟨Hq0, Hq1⟩, Hh0⟩
  ihave HX := (own2_of_owns c scM0_1 (0 : EReal) d1) $$ HS1
  icases HX with ⟨%D6, HS1⟩
  ihave HX := (own2_of_owns c scM0_2 (0 : EReal) d2) $$ HS2
  icases HX with ⟨%D7, HS2⟩
  ihave HX := (own2_of_owns c scM0_3 (0 : EReal) d3) $$ HS3
  icases HX with ⟨%D8, HS3⟩
  ihave HX := (own2_of_owns c scM0_4 (0 : EReal) d4) $$ HS4
  icases HX with ⟨%D9, HS4⟩
  ihave HX := (own2_of_owns c scM0_5 (0 : EReal) d5) $$ HS5
  icases HX with ⟨%D10, HS5⟩
  ihave HX := (own2_of_owns c scM0_7 (0 : EReal) d7) $$ HS7
  icases HX with ⟨%D12, HS7⟩
  ihave HX := (own3_of_owns c scM0_6 (0 : EReal) d6) $$ HS6
  icases HX with ⟨%P, HS6⟩
  isplitl [HS1 HS2 HS3 HS4 HS5 HS6 HS7 HS8 HS9]
  · iexists D6, D7, D8, D9, D10, D12, P, d8, d9
    isplitr
    · ipureintro; exact ⟨fun h1 _ => by omega, fun h1 _ => by omega⟩
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iapply (ownv_of_owns c scM0_8 d8); iexact HS8
    iapply (ownv_of_owns c scM0_9 d9); iexact HS9
  isplitl [Hg]; · iexact Hg
  iapply (ring_in (F := Ideal) m c)
  isplitl [HR]; · iexact HR
  isplitl [Hq0 Hq1]
  · isplitl [Hq0]; · iexact Hq0
    iexact Hq1
  iexact Hh0
theorem hout (c : Dev nD) : (rdat m c).Φ (Fin.last cfg0.N) ⊢ Pipeline.ΦD osem0 spec0 H0 (V m) c := by
  rw [PhiD0_eq, show (rdat m c).Φ (Fin.last cfg0.N) = PhiV m c grid0.N from rfl]
  unfold PhiV scr
  rw [show min grid0.N 72 = 72 by rw [N_0]; rfl]
  iintro ⟨⟨%D6, %D7, %D8, %D9, %D10, %D12, %P, %x, %s, -, HS1, HS2, HS3, HS4, HS5, HS6, HS7, HS8, HS9⟩, Hg, HR⟩
  ihave HX := (ring_out (F := Ideal) m c) $$ HR
  icases HX with ⟨HR, ⟨Hq0, Hq1⟩, Hh0⟩
  isplitl [HR HS1 HS2 HS3 HS4 HS5 HS6 HS7 HS8 HS9]
  · isplitl [HR]; · iexact HR
    isplitl [HS1]; · iexists _; iapply (owns_of_own2 c scM0_1 D6); iexact HS1
    isplitl [HS2]; · iexists _; iapply (owns_of_own2 c scM0_2 D7); iexact HS2
    isplitl [HS3]; · iexists _; iapply (owns_of_own2 c scM0_3 D8); iexact HS3
    isplitl [HS4]; · iexists _; iapply (owns_of_own2 c scM0_4 D9); iexact HS4
    isplitl [HS5]; · iexists _; iapply (owns_of_own2 c scM0_5 D10); iexact HS5
    isplitl [HS6]; · iexists _; iapply (owns_of_own3 c scM0_6 P); iexact HS6
    isplitl [HS7]; · iexists _; iapply (owns_of_own2 c scM0_7 D12); iexact HS7
    isplitl [HS8]; · iexists _; unfold ownv owns; iexact HS8
    iexists _; unfold ownv owns; iexact HS9
  isplitl [Hg]
  · iexact Hg
  isplitl [Hq0 Hq1]
  · isplitl [Hq0]; · iexact Hq0
    iexact Hq1
  iexact Hh0

/-! ## The run -/

set_option backward.isDefEq.respectTransparency.types false in
/-- The launch: every array at contents the relation allows, everything else unchanged and every semaphore at zero. -/
theorem run_main_quiescent : θ_run defs (onTc (τ := τ) (main (F := Ideal))) (s₀ m ρ) (fun r => (RDat.FramePost (cfgs 0) (fun c => rdat m c) (V m)) r ∧ r.2.sem = fun _ => 0) :=
  Pipeline.RDat.θ_run_frame_dma (Q' := _) cfgs (0 : Fin 1) launch0 osem0 defs₀ Variants.none (fun c => rdat m c) ownSemFacts0 H0 H0_sub m ρ main
    (hbody := fun c => body_obligation m c) (hshare := fun c => (rdat m c).share_full fun _ => rfl)
    (howed := fun _ _ => rfl) (V := V m) (hmain := hmain m Variants.none) (hA := A_eq m) (hin := hin m) (hout := hout m)

/-- The frame: every execution terminates, the argument ends unchanged, every semaphore ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and ((θ_run defs _ _).mono (fun _ h c => ((h.1 c).2 main_arg0 (Pipeline.mem_restRefs_of main_arg0 (by decide) (by decide))).trans (V_main_arg0 m c)) (run_main_quiescent m ρ))
    ((θ_run defs _ _).mono (fun _ h => h.2) (run_main_quiescent m ρ))

end Cert.KernelIdeal.Val

end
-- ==== Proof.ValArr.lean ====
/- The result arrays at the end of the run: the blocks that the points leave, put together. -/
module

public import proofs.«01_k».proof.Proof.ValFrame
public import Idealize.ShloMosaic.Lib.Pipeline.ArrRel

@[expose] public section

set_option maxRecDepth 16384
set_option synthInstance.maxSize 4096

noncomputable section

namespace Cert.KernelIdeal.Val

open Cert.KernelIdeal Cert.KernelIdeal.Gen Cert.KernelIdeal.Run
open Idealize.ShloMosaic Idealize.ShloMosaic.TcCoe Idealize.ShloMosaic.Tactic
open Idealize.SL Idealize.SL.RA Idealize.SL.BI
open Idealize.SL.Sem
open Idealize.ShloMosaic.Rounds
open Idealize.ShloMosaic.Pipeline (Dat RDat Cfg Window cellOf)

variable (m : (ℓ : Loc nD τ sig) → Buf (Elt Ideal) ℓ) (ρ : Dev nD → PrngReg)

/-- If whatever a flushing point may leave is its block of one array `G`, and the flushed blocks cover the array, then the
    array ends holding `G`. -/
theorem arr_of_cover (c : Dev nD) (w : Fin cfg0.W) (G F : Buf (Elt Ideal) ((cfg0.win w).arr.view.loc (c.tc : Thread nD τ)))
    (hG : ∀ t X, (cfg0.win w).flush t = true → (rdat m c).Leaves w t X → (cfg0.win w).cut (cfg0.grid.coords t) X = ((cfg0.win w).blk t).view.read (Elt Ideal) G)
    (hcover : ∀ i : ((cfg0.win w).arr.view.loc (c.tc : Thread nD τ)).2.ty.Idx, ∃ t : Fin cfg0.N, (cfg0.win w).flush t = true ∧ i ∈ ((cfg0.win w).blk t).view.set)
    (hF : (rdat m c).ArrAt w cfg0.N F) : F = G := by
  haveI : ∀ e, Nonempty (Elt Ideal e) := fun e => by cases e <;> infer_instance
  obtain ⟨X, hX, h⟩ := hF.exists_exact
  let af : (w' : Fin cfg0.W) → Fin cfg0.N → (cfg0.win w').block.Idx → Elt Ideal (cfg0.win w').elt :=
    fun w' u => if e : w' = w then e ▸ X u else fun _ => Classical.arbitrary _
  have hx : ∀ u, af w u = X u := fun u => dif_pos rfl
  rw [h af fun u _ _ => hx u]
  refine Dat.arrAt_eq_of_cover _ w G (fun t hf => ?_) hcover
  refine Eq.trans ?_ (hG t (X t) hf (hX t t.isLt hf))
  show (cfg0.win w).cut (cfg0.grid.coords t) (af w t) = _
  exact congrArg _ (hx t)

/-- The point that finishes block `b`. -/
def pt (b : Fin 72) : Fin cfg0.N := ⟨b.val + 2, lt_of_lt_of_eq (show b.val + 2 < 74 by have := b.isLt; omega) N_0.symm⟩
/-- A point that flushes an output is point 2 or later; -/
theorem flush_le0 : ∀ t : Fin cfg0.N, (cfg0.win 0).flush t = true → 2 ≤ t.val := by decide +kernel
theorem flush_at0 : ∀ b : Fin 72, (cfg0.win 0).flush (pt b) = true := by decide +kernel
/-- from there on the block of point `t` is block `t - 2`. -/
theorem idx0 : ∀ t : Fin cfg0.N, 2 ≤ t.val → win0_0.index t 0 = t.val - 2 ∧ win0_0.index t 1 = 0 ∧ win0_0.index t 2 = 0 := by decide +kernel
theorem xs0 : ∀ t : Fin cfg0.N, win0_0.xsize (grid0.coords t) 0 = 1 ∧ win0_0.xsize (grid0.coords t) 1 = 1 ∧ win0_0.xsize (grid0.coords t) 2 = 128 := by decide +kernel

/-- Every block's logarithms, as one array. -/
def lseA (c : Dev nD) : S72x1x128.Idx → EReal := fun i => lseV c (V m c main_v0) (i 0) (ix3 0 0 (i 2).val (by decide) (by decide) (i 2).isLt)

theorem leaves_lse (c : Dev nD) (t : Fin cfg0.N) (X) (hf : (cfg0.win 0).flush t = true) (h : (rdat m c).Leaves 0 t X) :
    (cfg0.win 0).cut (cfg0.grid.coords t) X = ((cfg0.win 0).blk t).view.read (Elt Ideal) (lseA m c) := by
  obtain ⟨Y, _, hX⟩ := h
  have h2 := flush_le0 t hf
  have hX : X = lseV c (V m c main_v0) (Ring.bk 72 (t.val - 2)) := hX h2
  subst hX
  funext y
  rw [View.read_apply]
  show lseV c (V m c main_v0) (Ring.bk 72 (t.val - 2)) _ = lseV c (V m c main_v0) _ _
  have hN : cfg0.N = 74 := N_0
  have ht := t.isLt
  have hi := idx0 t h2
  have y0 : (y 0).val < win0_0.xsize (grid0.coords t) 0 := (y 0).isLt
  have y1 : (y 1).val < win0_0.xsize (grid0.coords t) 1 := (y 1).isLt
  have y2 : (y 2).val < win0_0.xsize (grid0.coords t) 2 := (y 2).isLt
  rw [(xs0 t).1] at y0; rw [(xs0 t).2.1] at y1; rw [(xs0 t).2.2] at y2
  congr 1
  · apply Fin.ext
    show (t.val - 2) % 72 = win0_0.index t 0 * 1 + 1 * (y 0).val
    rw [hi.1]; omega
  · refine (ix3_eta _ _ _ _ _ _ _ ?_ ?_ ?_)
    · show (y 0).val = 0; omega
    · show (y 1).val = 0; omega
    · show (y 2).val = win0_0.index t 2 * 128 + 1 * (y 2).val; rw [hi.2.2]; omega

theorem cover_lse (i : S72x1x128.Idx) : ∃ t : Fin cfg0.N, (cfg0.win 0).flush t = true ∧ i ∈ ((cfg0.win 0).blk t).view.set := by
  have hN : cfg0.N = 74 := N_0
  have h0 : (i 0).val < 72 := (i 0).isLt
  have h1 : (i 1).val < 1 := (i 1).isLt
  have h2 : (i 2).val < 128 := (i 2).isLt
  refine ⟨pt (i 0), flush_at0 (i 0), ?_⟩
  show i ∈ ((View.whole main_v1_0).slice (win0_0.rect (pt (i 0)))).set
  rw [View.set_slice_whole, Rect.mem_set_unit]
  have hi := idx0 (pt (i 0)) (Nat.le_add_left _ _)
  have hx := xs0 (pt (i 0))
  have hp : (pt (i 0)).val = (i 0).val + 2 := rfl
  intro a
  match a with
  | ⟨0, _⟩ => show win0_0.index _ 0 * 1 ≤ (i 0).val ∧ (i 0).val < win0_0.index _ 0 * 1 + win0_0.xsize (grid0.coords _) 0
              rw [hi.1, hx.1, hp]; omega
  | ⟨1, _⟩ => show win0_0.index _ 1 * 1 ≤ (i 1).val ∧ (i 1).val < win0_0.index _ 1 * 1 + win0_0.xsize (grid0.coords _) 1
              rw [hi.2.1, hx.2.1]; omega
  | ⟨2, _⟩ => show win0_0.index _ 2 * 128 ≤ (i 2).val ∧ (i 2).val < win0_0.index _ 2 * 128 + win0_0.xsize (grid0.coords _) 2
              rw [hi.2.2, hx.2.2]; omega

/-! The scales: window 2, a block of 128 rows. -/

theorem flush_le2 : ∀ t : Fin cfg0.N, (cfg0.win 2).flush t = true → 2 ≤ t.val := by decide +kernel
theorem flush_at2 : ∀ b : Fin 72, (cfg0.win 2).flush (pt b) = true := by decide +kernel
theorem idx2 : ∀ t : Fin cfg0.N, 2 ≤ t.val → win0_2.index t 0 = t.val - 2 ∧ win0_2.index t 1 = 0 := by decide +kernel
theorem xs2 : ∀ t : Fin cfg0.N, win0_2.xsize (grid0.coords t) 0 = 128 ∧ win0_2.xsize (grid0.coords t) 1 = 1000 := by decide +kernel

/-- The block of 128 rows that a row lies in. -/
def rb (i : Fin 9216) : Fin 72 := ⟨i.val / 128, by have := i.isLt; omega⟩

/-- Every block's scales, as one array. -/
def sclA (c : Dev nD) : S9216x1000.Idx → EReal := fun i => sclV c (V m c main_v0) (rb (i 0)) ((i 0).val % 128) (i 1).val

/-- A point's block of an array given block by block is that block. -/
theorem cut_scl (f : Fin 72 → ℕ → ℕ → EReal) (t : Fin cfg0.N) (h2 : 2 ≤ t.val) :
    (cfg0.win 2).cut (cfg0.grid.coords t) (fun y : S128x1000.Idx => f (Ring.bk 72 (t.val - 2)) (y 0).val (y 1).val)
      = ((cfg0.win 2).blk t).view.read (Elt Ideal) (fun i : S9216x1000.Idx => f (rb (i 0)) ((i 0).val % 128) (i 1).val) := by
  funext y
  rw [View.read_apply]
  show f (Ring.bk 72 (t.val - 2)) (y 0).val (y 1).val = f _ _ _
  have hN : cfg0.N = 74 := N_0
  have ht := t.isLt
  have hi := idx2 t h2
  have y0 : (y 0).val < win0_2.xsize (grid0.coords t) 0 := (y 0).isLt
  rw [(xs2 t).1] at y0
  have e0 : (win0_2.index t 0 * 128 + 1 * (y 0).val) = (t.val - 2) * 128 + (y 0).val := by rw [hi.1, one_mul]
  have e1 : (win0_2.index t 1 * 1000 + 1 * (y 1).val) = (y 1).val := by rw [hi.2, zero_mul, zero_add, one_mul]
  refine congr (congr (congrArg f (Fin.ext ?_)) ?_) e1.symm
  · show (t.val - 2) % 72 = (win0_2.index t 0 * 128 + 1 * (y 0).val) / 128
    rw [e0]; omega
  · refine Eq.trans ?_ (congrArg (· % 128) e0.symm)
    show (y 0).val = ((t.val - 2) * 128 + (y 0).val) % 128
    omega

theorem leaves_scl (c : Dev nD) (t : Fin cfg0.N) (X) (hf : (cfg0.win 2).flush t = true) (h : (rdat m c).Leaves 2 t X) :
    (cfg0.win 2).cut (cfg0.grid.coords t) X = ((cfg0.win 2).blk t).view.read (Elt Ideal) (sclA m c) := by
  obtain ⟨Y, _, hX⟩ := h
  have h2 := flush_le2 t hf
  have hX : X = fun y => sclV c (V m c main_v0) (Ring.bk 72 (t.val - 2)) (y 0).val (y 1).val := hX h2
  exact (congrArg _ hX).trans (cut_scl (sclV c (V m c main_v0)) t h2)

theorem cover_scl (i : S9216x1000.Idx) : ∃ t : Fin cfg0.N, (cfg0.win 2).flush t = true ∧ i ∈ ((cfg0.win 2).blk t).view.set := by
  have h0 : (i 0).val < 9216 := (i 0).isLt
  have h1 : (i 1).val < 1000 := (i 1).isLt
  refine ⟨pt (rb (i 0)), flush_at2 _, ?_⟩
  show i ∈ ((View.whole main_v1_2).slice (win0_2.rect (pt (rb (i 0))))).set
  rw [View.set_slice_whole, Rect.mem_set_unit]
  have hi := idx2 (pt (rb (i 0))) (Nat.le_add_left _ _)
  have hx := xs2 (pt (rb (i 0)))
  have hp : (pt (rb (i 0))).val = (i 0).val / 128 + 2 := rfl
  intro a
  match a with
  | ⟨0, _⟩ => show win0_2.index _ 0 * 128 ≤ (i 0).val ∧ (i 0).val < win0_2.index _ 0 * 128 + win0_2.xsize (grid0.coords _) 0
              rw [hi.1, hx.1, hp]; omega
  | ⟨1, _⟩ => show win0_2.index _ 1 * 1000 ≤ (i 1).val ∧ (i 1).val < win0_2.index _ 1 * 1000 + win0_2.xsize (grid0.coords _) 1
              rw [hi.2, hx.2]; omega

/-! The codes: window 1, a block of 128 rows. -/

theorem flush_le1 : ∀ t : Fin cfg0.N, (cfg0.win 1).flush t = true → 2 ≤ t.val := by decide +kernel
theorem flush_at1 : ∀ b : Fin 72, (cfg0.win 1).flush (pt b) = true := by decide +kernel
theorem idx1 : ∀ t : Fin cfg0.N, 2 ≤ t.val → win0_1.index t 0 = t.val - 2 ∧ win0_1.index t 1 = 0 := by decide +kernel
theorem xs1 : ∀ t : Fin cfg0.N, win0_1.xsize (grid0.coords t) 0 = 128 ∧ win0_1.xsize (grid0.coords t) 1 = 32000 := by decide +kernel

/-- Every block's codes, as one array. -/
def codA (c : Dev nD) : S9216x32000.Idx → EReal := fun i => codV c (V m c main_v0) (rb (i 0)) ((i 0).val % 128) (i 1).val

/-- A point's block of an array given block by block is that block. -/
theorem cut_cod (f : Fin 72 → ℕ → ℕ → EReal) (t : Fin cfg0.N) (h2 : 2 ≤ t.val) :
    (cfg0.win 1).cut (cfg0.grid.coords t) (fun y : S128x32000.Idx => f (Ring.bk 72 (t.val - 2)) (y 0).val (y 1).val)
      = ((cfg0.win 1).blk t).view.read (Elt Ideal) (fun i : S9216x32000.Idx => f (rb (i 0)) ((i 0).val % 128) (i 1).val) := by
  funext y
  rw [View.read_apply]
  show f (Ring.bk 72 (t.val - 2)) (y 0).val (y 1).val = f _ _ _
  have hN : cfg0.N = 74 := N_0
  have ht := t.isLt
  have hi := idx1 t h2
  have y0 : (y 0).val < win0_1.xsize (grid0.coords t) 0 := (y 0).isLt
  rw [(xs1 t).1] at y0
  have e0 : (win0_1.index t 0 * 128 + 1 * (y 0).val) = (t.val - 2) * 128 + (y 0).val := by rw [hi.1, one_mul]
  have e1 : (win0_1.index t 1 * 32000 + 1 * (y 1).val) = (y 1).val := by rw [hi.2, zero_mul, zero_add, one_mul]
  refine congr (congr (congrArg f (Fin.ext ?_)) ?_) e1.symm
  · show (t.val - 2) % 72 = (win0_1.index t 0 * 128 + 1 * (y 0).val) / 128
    rw [e0]; omega
  · refine Eq.trans ?_ (congrArg (· % 128) e0.symm)
    show (y 0).val = ((t.val - 2) * 128 + (y 0).val) % 128
    omega

theorem leaves_cod (c : Dev nD) (t : Fin cfg0.N) (X) (hf : (cfg0.win 1).flush t = true) (h : (rdat m c).Leaves 1 t X) :
    (cfg0.win 1).cut (cfg0.grid.coords t) X = ((cfg0.win 1).blk t).view.read (Elt Ideal) (codA m c) := by
  obtain ⟨Y, _, hX⟩ := h
  have h2 := flush_le1 t hf
  have hX : X = fun y => codV c (V m c main_v0) (Ring.bk 72 (t.val - 2)) (y 0).val (y 1).val := hX h2
  exact (congrArg _ hX).trans (cut_cod (codV c (V m c main_v0)) t h2)

theorem cover_cod (i : S9216x32000.Idx) : ∃ t : Fin cfg0.N, (cfg0.win 1).flush t = true ∧ i ∈ ((cfg0.win 1).blk t).view.set := by
  have h0 : (i 0).val < 9216 := (i 0).isLt
  have h1 : (i 1).val < 32000 := (i 1).isLt
  refine ⟨pt (rb (i 0)), flush_at1 _, ?_⟩
  show i ∈ ((View.whole main_v1_1).slice (win0_1.rect (pt (rb (i 0))))).set
  rw [View.set_slice_whole, Rect.mem_set_unit]
  have hi := idx1 (pt (rb (i 0))) (Nat.le_add_left _ _)
  have hx := xs1 (pt (rb (i 0)))
  have hp : (pt (rb (i 0))).val = (i 0).val / 128 + 2 := rfl
  intro a
  match a with
  | ⟨0, _⟩ => show win0_1.index _ 0 * 128 ≤ (i 0).val ∧ (i 0).val < win0_1.index _ 0 * 128 + win0_1.xsize (grid0.coords _) 0
              rw [hi.1, hx.1, hp]; omega
  | ⟨1, _⟩ => show win0_1.index _ 1 * 32000 ≤ (i 1).val ∧ (i 1).val < win0_1.index _ 1 * 32000 + win0_1.xsize (grid0.coords _) 1
              rw [hi.2, hx.2]; omega

/-- The run, read: the three result arrays hold every block's logarithms, codes and scales; the argument is unchanged. -/
theorem run_arr : θ_run defs (onTc (τ := τ) (main (F := Ideal))) ⟨m, fun _ => 0, ρ⟩ (fun r => ∀ c : Dev nD,
      r.2.mem ((c.tc : Thread nD τ).loc main_v1_0) = lseA m c
      ∧ r.2.mem ((c.tc : Thread nD τ).loc main_v1_1) = codA m c
      ∧ r.2.mem ((c.tc : Thread nD τ).loc main_v1_2) = sclA m c
      ∧ r.2.mem ((c.tc : Thread nD τ).loc main_arg0) = m ((c.tc : Thread nD τ).loc main_arg0)) :=
  (θ_run defs _ _).mono (fun _ h c => ⟨arr_of_cover m c 0 (lseA m c) _ (leaves_lse m c) cover_lse ((h.1 c).1 0),
    arr_of_cover m c 1 (codA m c) _ (leaves_cod m c) cover_cod ((h.1 c).1 1),
    arr_of_cover m c 2 (sclA m c) _ (leaves_scl m c) cover_scl ((h.1 c).1 2),
    ((h.1 c).2 main_arg0 (Pipeline.mem_restRefs_of main_arg0 (by decide) (by decide))).trans (V_main_arg0 m c)⟩) (run_main_quiescent m ρ)

end Cert.KernelIdeal.Val

end
-- ==== Proof.ValSum.lean ====
/- A row's maximum and sum as the kernel takes them, in chunks, steps and sublanes, are the row's maximum and sum. -/
module

public import proofs.«01_k».proof.Proof.ValRuns
public import Idealize.ShloMosaic.PureOps.Ideal.Laws

@[expose] public section

set_option maxRecDepth 16384
set_option synthInstance.maxSize 4096

noncomputable section

namespace Cert.KernelIdeal.Val

open Cert.KernelIdeal Cert.KernelIdeal.Gen Cert.KernelIdeal.Run
open Idealize.ShloMosaic Idealize.ShloMosaic.TcCoe Idealize.ShloMosaic.Tactic

/-! ## Constants -/

theorem ofBits_bot : Ideal.ofBits .f32 0xFF800000#32 = ⊥ := by simp [Ideal.ofBits, Ideal.ieee]
theorem ofBits_zero : Ideal.ofBits .f32 0x00000000#32 = 0 := by simp [Ideal.ofBits, Ideal.ieee]

/-! ## Down the sublanes -/

/-- A column of a vector. -/
theorem lift_col (j : S128.Idx) (k : Fin 8) : reduces_S8x128_S128.lift j k = (ix2 k.val (j 0).val k.isLt (j 0).isLt : S8x128.Idx) := by
  funext a; apply Fin.ext
  fin_cases a <;> rfl

/-- A place's lane. -/
def lane (x : S8x128.Idx) : S128.Idx := fun a => ⟨(x 1).val, by fin_cases a; exact (x 1).isLt⟩

/-- One row made of a vector of 128 entries and repeated down the sublanes, read at a place: the entry of the lane. -/
theorem spread_apply (z : FVec Ideal S128 .f32) (x : S8x128.Idx) :
    shapeCast S8x128 (broadcastTo S8x128 (shapeCast S1x128 (shapeCast S1x128 z shapeCasts_S128_S1x128) shapeCasts_S1x128_S1x128) broadcasts_S1x128_S8x128) shapeCasts_S8x128_S8x128 x
      = z (lane x) := by
  rw [shapeCast_id, shapeCast_id]
  have h : broadcastTo S8x128 (shapeCast S1x128 z shapeCasts_S128_S1x128) broadcasts_S1x128_S8x128 x
      = shapeCast S1x128 z shapeCasts_S128_S1x128 (ix2 0 (x 1).val Nat.one_pos (x 1).isLt) :=
    congrArg (shapeCast S1x128 z shapeCasts_S128_S1x128) (ix2_eta _ _ _ _ _ rfl rfl)
  rw [h]
  refine (shapeCast_addUnit_apply ![128] z shapeCasts_S128_S1x128 _).trans (congrArg z ?_)
  funext a; apply Fin.ext
  fin_cases a; rfl

/-- The maximum down the sublanes is at most `z` when every entry of the lane is. -/
theorem pay8_le (v : FVec Ideal S8x128 .f32) (x : S8x128.Idx) (z : EReal) :
    k0_pay8 (F := Ideal) v x ≤ z ↔ ∀ q (hq : q < 8), v (ix2 q (x 1).val hq (x 1).isLt) ≤ z := by
  have h : k0_pay8 (F := Ideal) v x = multiReduction (F := Ideal) .maximumf [0] S128 v 0xFF800000#32 reduces_S8x128_S128 (.inl rfl) rfl (lane x) :=
    spread_apply _ x
  rw [h.trans (Ideal.multiReduction_maximumf_single (φ := .f32) v 0xFF800000#32 reduces_S8x128_S128 (.inl rfl) rfl (lane x)), Finset.fold_max_le]
  constructor
  · intro h' q hq
    exact le_of_eq_of_le (congrArg v (lift_col (lane x) ⟨q, hq⟩)).symm (h'.2 (⟨q, hq⟩ : Fin 8) (Finset.mem_univ _))
  · intro h'
    refine ⟨?_, fun k _ => ?_⟩
    · show Ideal.ofBits .f32 0xFF800000#32 ≤ z; rw [ofBits_bot]; exact bot_le
    · exact le_of_eq_of_le (congrArg v (lift_col (lane x) k)) (h' _ k.isLt)

/-- The sum down the sublanes of the four vectors added up. -/
theorem pay24_apply (a b c d : FVec Ideal S8x128 .f32) (x : S8x128.Idx) :
    k0_pay24 (F := Ideal) a b c d x = ∑ q : Fin 8, ((a (ix2 q.val (x 1).val q.isLt (x 1).isLt) + b (ix2 q.val (x 1).val q.isLt (x 1).isLt))
      + (c (ix2 q.val (x 1).val q.isLt (x 1).isLt) + d (ix2 q.val (x 1).val q.isLt (x 1).isLt))) := by
  have h : k0_pay24 (F := Ideal) a b c d x
      = multiReduction (F := Ideal) .add [0] S128 (addf (addf a b) (addf c d)) 0x00000000#32 reduces_S8x128_S128 (.inl rfl) rfl (lane x) :=
    spread_apply _ x
  rw [h.trans (Ideal.multiReduction_add_single (φ := .f32) (addf (addf a b) (addf c d)) 0x00000000#32 reduces_S8x128_S128 (.inl rfl) rfl (lane x))]
  refine Finset.sum_congr rfl fun q _ => ?_
  exact congrArg (addf (F := Ideal) (φ := .f32) (addf a b) (addf c d)) (lift_col (lane x) q)

/-! ## The maximum -/

theorem bm8_le (P : ℕ → ℕ → EReal) (z : EReal) : bm8 P ≤ z ↔ ∀ q p, q < 8 → p < 2 → P q p ≤ z := by
  unfold bm8
  simp only [max_le_iff]
  constructor
  · intro h q p hq hp
    interval_cases q <;> interval_cases p <;> simp only [h]
  · intro h
    refine ⟨⟨⟨⟨⟨⟨⟨⟨?_, ?_⟩, ?_⟩, ?_⟩, ?_⟩, ?_⟩, ?_⟩, ?_⟩, ⟨⟨⟨⟨⟨⟨⟨?_, ?_⟩, ?_⟩, ?_⟩, ?_⟩, ?_⟩, ?_⟩, ?_⟩⟩ <;> exact h _ _ (by decide) (by decide)

/-- A group's maximum is at most `z` when each of the group's 32 entries is. -/
theorem BM_le (X : ℕ → ℕ → EReal) (i j : ℕ) (z : EReal) : BM X i j ≤ z ↔ ∀ v, v < 32 → X (32 * i + v) j ≤ z := by
  unfold BM
  rw [bm8_le]
  constructor
  · intro h v hv
    have h1 := h ((v % 16) / 2) (v % 2) (by omega) (by omega)
    rw [max_le_iff] at h1
    by_cases hv' : v < 16
    · have e : 32 * i + v = 32 * i + (2 * ((v % 16) / 2) + v % 2) := by omega
      rw [e]; exact h1.1
    · have e : 32 * i + v = 32 * i + 16 + (2 * ((v % 16) / 2) + v % 2) := by omega
      rw [e]; exact h1.2
  · intro h q p hq hp
    rw [max_le_iff]
    refine ⟨h (2 * q + p) (by omega), ?_⟩
    rw [Nat.add_assoc (32 * i)]
    exact h (16 + (2 * q + p)) (by omega)

theorem mst_le (r : ℕ) (B : ℕ → ℕ → EReal) (init : S8x128.Idx → EReal) (x : S8x128.Idx) (z : EReal) : ∀ n,
    mst r B init n x ≤ z ↔ init x ≤ z ∧ ∀ k, k < n → B (r + 8 * k + (x 0).val) (x 1).val ≤ z
  | 0 => by simp [mst]
  | n + 1 => by
    show max (mst r B init n x) (B (r + 8 * n + (x 0).val) (x 1).val) ≤ z ↔ _
    rw [max_le_iff, mst_le r B init x z n, and_assoc]
    refine and_congr_right fun _ => ⟨fun h k hk => ?_, fun h => ⟨fun k hk => h k (by omega), h n (by omega)⟩⟩
    rcases Nat.lt_succ_iff_lt_or_eq.mp hk with h' | rfl
    · exact h.1 k h'
    · exact h.2

theorem mM_le (B : ℕ → ℕ → EReal) (init : S8x128.Idx → EReal) (x : S8x128.Idx) (z : EReal) : ∀ n,
    mM B init n x ≤ z ↔ init x ≤ z ∧ ∀ c, c < n → ∀ k, k < 5 → B (40 * c + 8 * k + (x 0).val) (x 1).val ≤ z
  | 0 => by simp [mM]
  | n + 1 => by
    show mst (40 * n) B (mM B init n) 5 x ≤ z ↔ _
    rw [mst_le, mM_le B init x z n, and_assoc]
    refine and_congr_right fun _ => ⟨fun h k hk => ?_, fun h => ⟨fun k hk => h k (by omega), h n (by omega)⟩⟩
    rcases Nat.lt_succ_iff_lt_or_eq.mp hk with h' | rfl
    · exact h.1 k h'
    · exact h.2

/-- The maximum that the kernel keeps for a lane is at most `z` when every entry of the lane is: it is the row's maximum. -/
theorem mxv_le (X : ℕ → ℕ → EReal) (x : S8x128.Idx) (z : EReal) : mxv X x ≤ z ↔ ∀ i, i < 32000 → X i (x 1).val ≤ z := by
  unfold mxv
  rw [pay8_le]
  constructor
  · intro h i hi
    have h1 : BM X (40 * (i / 32 / 40) + 8 * (i / 32 % 40 / 8) + i / 32 % 8) (x 1).val ≤ z :=
      ((mM_le _ _ _ _ 25).mp (h (i / 32 % 8) (Nat.mod_lt _ (by decide)))).2 (i / 32 / 40) (by omega) (i / 32 % 40 / 8) (by omega)
    have e : 40 * (i / 32 / 40) + 8 * (i / 32 % 40 / 8) + i / 32 % 8 = i / 32 := by omega
    rw [e, BM_le] at h1
    have e2 : i = 32 * (i / 32) + i % 32 := by omega
    rw [e2]
    exact h1 (i % 32) (Nat.mod_lt _ (by decide))
  · intro h q hq
    rw [mM_le]
    refine ⟨?_, fun c hc k hk => ?_⟩
    · show Ideal.ofBits .f32 0xFF800000#32 ≤ z; rw [ofBits_bot]; exact bot_le
    · rw [BM_le]
      intro v hv
      show X (32 * (40 * c + 8 * k + q) + v) (x 1).val ≤ z
      exact h _ (by omega)

/-! ## The sum -/

theorem sum_range_mul (f : ℕ → EReal) (b : ℕ) : ∀ a, ∑ i ∈ Finset.range (b * a), f i = ∑ k ∈ Finset.range a, ∑ l ∈ Finset.range b, f (b * k + l)
  | 0 => by simp
  | a + 1 => by rw [Nat.mul_succ, Finset.sum_range_add, Finset.sum_range_succ, sum_range_mul f b a]

theorem sst_apply (r : ℕ) (E : ℕ → ℕ → EReal) (init : S8x128.Idx → EReal) (x : S8x128.Idx) : ∀ n,
    sst r E init n x = init x + ∑ k ∈ Finset.range n, E (r + 32 * k + (x 0).val) (x 1).val
  | 0 => by simp [sst]
  | n + 1 => by
    show sst r E init n x + E (r + 32 * n + (x 0).val) (x 1).val = _
    rw [sst_apply r E init x n, Finset.sum_range_succ, add_assoc]

/-- The four running sums after `n` chunks. -/
theorem sS_apply (E : ℕ → ℕ → EReal) (z : S8x128.Idx → EReal) (hz : ∀ x, z x = 0) : ∀ n, ∀ x : S8x128.Idx,
    (sS E (z, z, z, z) n).1 x = ∑ k ∈ Finset.range n, ∑ l ∈ Finset.range 40, E (1280 * k + 32 * l + (x 0).val) (x 1).val
    ∧ (sS E (z, z, z, z) n).2.1 x = ∑ k ∈ Finset.range n, ∑ l ∈ Finset.range 40, E (1280 * k + 8 + 32 * l + (x 0).val) (x 1).val
    ∧ (sS E (z, z, z, z) n).2.2.1 x = ∑ k ∈ Finset.range n, ∑ l ∈ Finset.range 40, E (1280 * k + 16 + 32 * l + (x 0).val) (x 1).val
    ∧ (sS E (z, z, z, z) n).2.2.2 x = ∑ k ∈ Finset.range n, ∑ l ∈ Finset.range 40, E (1280 * k + 24 + 32 * l + (x 0).val) (x 1).val
  | 0, x => by simp [sS, hz]
  | n + 1, x => by
    obtain ⟨h0, h1, h2, h3⟩ := sS_apply E z hz n x
    refine ⟨?_, ?_, ?_, ?_⟩
    · show sst (1280 * n) E (sS E (z, z, z, z) n).1 40 x = _
      rw [sst_apply, h0, Finset.sum_range_succ _ n]
    · show sst (1280 * n + 8) E (sS E (z, z, z, z) n).2.1 40 x = _
      rw [sst_apply, h1, Finset.sum_range_succ _ n]
    · show sst (1280 * n + 16) E (sS E (z, z, z, z) n).2.2.1 40 x = _
      rw [sst_apply, h2, Finset.sum_range_succ _ n]
    · show sst (1280 * n + 24) E (sS E (z, z, z, z) n).2.2.2 40 x = _
      rw [sst_apply, h3, Finset.sum_range_succ _ n]

/-- The row's 32000 entries added up as the kernel does: chunk by chunk and step by step in four sums of eight sublanes. -/
theorem sum_split (f : ℕ → EReal) :
    (∑ q : Fin 8, (((∑ k ∈ Finset.range 25, ∑ l ∈ Finset.range 40, f (1280 * k + 32 * l + q.val))
        + ∑ k ∈ Finset.range 25, ∑ l ∈ Finset.range 40, f (1280 * k + 8 + 32 * l + q.val))
      + ((∑ k ∈ Finset.range 25, ∑ l ∈ Finset.range 40, f (1280 * k + 16 + 32 * l + q.val))
        + ∑ k ∈ Finset.range 25, ∑ l ∈ Finset.range 40, f (1280 * k + 24 + 32 * l + q.val))))
      = ∑ i ∈ Finset.range 32000, f i := by
  rw [show (32000 : ℕ) = 1280 * 25 from rfl, sum_range_mul f 1280 25]
  simp only [← Finset.sum_add_distrib]
  rw [Finset.sum_comm]
  refine Finset.sum_congr rfl fun k _ => ?_
  rw [Finset.sum_comm, show (1280 : ℕ) = 32 * 40 from rfl, sum_range_mul (fun l => f (32 * 40 * k + l)) 32 40]
  refine Finset.sum_congr rfl fun l _ => ?_
  rw [show (32 : ℕ) = 8 * 4 from rfl, sum_range_mul (fun v => f (8 * 4 * 40 * k + (8 * 4 * l + v))) 8 4, Finset.sum_comm, Finset.sum_range (n := 8)]
  refine Finset.sum_congr rfl fun q _ => ?_
  rw [Finset.sum_range_succ, Finset.sum_range_succ, Finset.sum_range_succ, Finset.sum_range_one]
  have e0 : 8 * 4 * 40 * k + (8 * 4 * l + (8 * 0 + q.val)) = 8 * 4 * 40 * k + 8 * 4 * l + q.val := by omega
  have e1 : 8 * 4 * 40 * k + (8 * 4 * l + (8 * 1 + q.val)) = 8 * 4 * 40 * k + 8 + 8 * 4 * l + q.val := by omega
  have e2 : 8 * 4 * 40 * k + (8 * 4 * l + (8 * 2 + q.val)) = 8 * 4 * 40 * k + 16 + 8 * 4 * l + q.val := by omega
  have e3 : 8 * 4 * 40 * k + (8 * 4 * l + (8 * 3 + q.val)) = 8 * 4 * 40 * k + 24 + 8 * 4 * l + q.val := by omega
  rw [e0, e1, e2, e3]
  exact (add_assoc _ _ _).symm

/-- The sum that the kernel keeps for a lane is the row's sum. -/
theorem smv_apply (E : ℕ → ℕ → EReal) (x : S8x128.Idx) : smv E x = ∑ i ∈ Finset.range 32000, E i (x 1).val := by
  unfold smv
  rw [pay24_apply, ← sum_split]
  refine Finset.sum_congr rfl fun q _ => ?_
  obtain ⟨h0, h1, h2, h3⟩ := sS_apply E (k0_pay10 (F := Ideal)) (fun _ => ofBits_zero) 25 (ix2 q.val (x 1).val q.isLt (x 1).isLt)
  rw [h0, h1, h2, h3]
  rfl

end Cert.KernelIdeal.Val

end
-- ==== Proof.RefRun.lean ====
/- The reference's run: what its result arrays hold, as expressions in the argument; and its frame. -/
module

public import proofs.«01_k».proof.Proof.Gen.ReferenceIdeal
public import Idealize.ShloMosaic.Lib.StableHlo.Run
public import Idealize.ShloMosaic.Lib.Quiescent

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.StableHlo
open Idealize.SL.Sem

variable {F : FTy → Type} [FloatOps F]

/-- The program's operations, in order. -/
abbrev ops : List (HloOp τ sig (Elt F)) :=
  [ reshape main_arg0 main_v0 (rfl : (.bf16 : EltTy) = .bf16) shapeCasts_S6x1536x32000_S9216x32000,
    unary main_v0 main_v1 ((extf .f32 · bitsLt_bf16_f32) : (⟨S9216x32000, .bf16⟩ : BufTy).Contents (Elt F) → (⟨S9216x32000, .f32⟩ : BufTy).Contents (Elt F)),
    nullary main_cst (constant S_ .f32 0x3F4CCCCD#32),
    unary main_cst main_v2 (broadcastInDim S9216x32000 ![] bcast_S_S9216x32000 : (⟨S_, .f32⟩ : BufTy).Contents (Elt F) → (⟨S9216x32000, .f32⟩ : BufTy).Contents (Elt F)),
    binary main_v1 main_v2 main_v3 (Host.divf : (⟨S9216x32000, .f32⟩ : BufTy).Contents (Elt F) → (⟨S9216x32000, .f32⟩ : BufTy).Contents (Elt F) → (⟨S9216x32000, .f32⟩ : BufTy).Contents (Elt F)),
    nullary main_cst_0 (constant S_ .f32 0xFF800000#32),
    binary main_v3 main_cst_0 main_v4 ((fun x v => Host.reduce FloatOps.maximumf x v reducesTo_S9216x32000_S9216_d1 h_S_) : (⟨S9216x32000, .f32⟩ : BufTy).Contents (Elt F) → (⟨S_, .f32⟩ : BufTy).Contents (Elt F) → (⟨S9216, .f32⟩ : BufTy).Contents (Elt F)),
    unary main_v4 main_v5 (broadcastInDim S9216x1 ![0] bcast_S9216_S9216x1_0 : (⟨S9216, .f32⟩ : BufTy).Contents (Elt F) → (⟨S9216x1, .f32⟩ : BufTy).Contents (Elt F)),
    unary main_v5 main_v6 (broadcastInDim S9216x32000 ![0, 1] bcast_S9216x1_S9216x32000_0_1 : (⟨S9216x1, .f32⟩ : BufTy).Contents (Elt F) → (⟨S9216x32000, .f32⟩ : BufTy).Contents (Elt F)),
    binary main_v3 main_v6 main_v7 (subf : (⟨S9216x32000, .f32⟩ : BufTy).Contents (Elt F) → (⟨S9216x32000, .f32⟩ : BufTy).Contents (Elt F) → (⟨S9216x32000, .f32⟩ : BufTy).Contents (Elt F)),
    unary main_v7 main_v8 (Host.exp : (⟨S9216x32000, .f32⟩ : BufTy).Contents (Elt F) → (⟨S9216x32000, .f32⟩ : BufTy).Contents (Elt F)),
    nullary main_cst_1 (constant S_ .f32 0x00000000#32),
    binary main_v8 main_cst_1 main_v9 ((fun x v => Host.reduceAdd x v reducesTo_S9216x32000_S9216_d1 h_S_) : (⟨S9216x32000, .f32⟩ : BufTy).Contents (Elt F) → (⟨S_, .f32⟩ : BufTy).Contents (Elt F) → (⟨S9216, .f32⟩ : BufTy).Contents (Elt F)),
    unary main_v9 main_v10 (broadcastInDim S9216x1 ![0] bcast_S9216_S9216x1_0 : (⟨S9216, .f32⟩ : BufTy).Contents (Elt F) → (⟨S9216x1, .f32⟩ : BufTy).Contents (Elt F)),
    unary main_v10 main_v11 (Host.log : (⟨S9216x1, .f32⟩ : BufTy).Contents (Elt F) → (⟨S9216x1, .f32⟩ : BufTy).Contents (Elt F)),
    unary main_v10 main_v12 (broadcastInDim S9216x32000 ![0, 1] bcast_S9216x1_S9216x32000_0_1 : (⟨S9216x1, .f32⟩ : BufTy).Contents (Elt F) → (⟨S9216x32000, .f32⟩ : BufTy).Contents (Elt F)),
    binary main_v8 main_v12 main_v13 (Host.divf : (⟨S9216x32000, .f32⟩ : BufTy).Contents (Elt F) → (⟨S9216x32000, .f32⟩ : BufTy).Contents (Elt F) → (⟨S9216x32000, .f32⟩ : BufTy).Contents (Elt F)),
    reshape main_v13 main_v14 (rfl : (.f32 : EltTy) = .f32) shapeCasts_S9216x32000_S9216x1000x32,
    nullary main_cst_2 (constant S_ .f32 0xFF800000#32),
    binary main_v14 main_cst_2 main_v15 ((fun x v => Host.reduce FloatOps.maximumf x v reducesTo_S9216x1000x32_S9216x1000_d2 h_S_) : (⟨S9216x1000x32, .f32⟩ : BufTy).Contents (Elt F) → (⟨S_, .f32⟩ : BufTy).Contents (Elt F) → (⟨S9216x1000, .f32⟩ : BufTy).Contents (Elt F)),
    nullary main_cst_3 (constant S_ .f32 0x1F800000#32),
    unary main_cst_3 main_v16 (broadcastInDim S9216x1000 ![] bcast_S_S9216x1000 : (⟨S_, .f32⟩ : BufTy).Contents (Elt F) → (⟨S9216x1000, .f32⟩ : BufTy).Contents (Elt F)),
    binary main_v15 main_v16 main_v17 (maximumf : (⟨S9216x1000, .f32⟩ : BufTy).Contents (Elt F) → (⟨S9216x1000, .f32⟩ : BufTy).Contents (Elt F) → (⟨S9216x1000, .f32⟩ : BufTy).Contents (Elt F)),
    nullary main_cst_4 (constant S_ .f32 0x40000000#32),
    unary main_cst_4 main_v18 (Host.log : (⟨S_, .f32⟩ : BufTy).Contents (Elt F) → (⟨S_, .f32⟩ : BufTy).Contents (Elt F)),
    nullary main_cst_5 (constant S_ .f32 0x3B124925#32),
    unary main_cst_5 main_v19 (broadcastInDim S9216x1000 ![] bcast_S_S9216x1000 : (⟨S_, .f32⟩ : BufTy).Contents (Elt F) → (⟨S9216x1000, .f32⟩ : BufTy).Contents (Elt F)),
    binary main_v17 main_v19 main_v20 (mulf : (⟨S9216x1000, .f32⟩ : BufTy).Contents (Elt F) → (⟨S9216x1000, .f32⟩ : BufTy).Contents (Elt F) → (⟨S9216x1000, .f32⟩ : BufTy).Contents (Elt F)),
    unary main_v20 main_v21 (Host.log : (⟨S9216x1000, .f32⟩ : BufTy).Contents (Elt F) → (⟨S9216x1000, .f32⟩ : BufTy).Contents (Elt F)),
    unary main_v18 main_v22 (broadcastInDim S9216x1000 ![] bcast_S_S9216x1000 : (⟨S_, .f32⟩ : BufTy).Contents (Elt F) → (⟨S9216x1000, .f32⟩ : BufTy).Contents (Elt F)),
    binary main_v21 main_v22 main_v23 (Host.divf : (⟨S9216x1000, .f32⟩ : BufTy).Contents (Elt F) → (⟨S9216x1000, .f32⟩ : BufTy).Contents (Elt F) → (⟨S9216x1000, .f32⟩ : BufTy).Contents (Elt F)),
    unary main_v23 main_v24 (Host.floor : (⟨S9216x1000, .f32⟩ : BufTy).Contents (Elt F) → (⟨S9216x1000, .f32⟩ : BufTy).Contents (Elt F)),
    nullary main_cst_6 (constant S_ .f32 0x3F800000#32),
    unary main_cst_6 main_v25 (broadcastInDim S9216x1000 ![] bcast_S_S9216x1000 : (⟨S_, .f32⟩ : BufTy).Contents (Elt F) → (⟨S9216x1000, .f32⟩ : BufTy).Contents (Elt F)),
    binary main_v24 main_v25 main_v26 (addf : (⟨S9216x1000, .f32⟩ : BufTy).Contents (Elt F) → (⟨S9216x1000, .f32⟩ : BufTy).Contents (Elt F) → (⟨S9216x1000, .f32⟩ : BufTy).Contents (Elt F)),
    unary main_v18 main_v27 (broadcastInDim S9216x1000 ![] bcast_S_S9216x1000 : (⟨S_, .f32⟩ : BufTy).Contents (Elt F) → (⟨S9216x1000, .f32⟩ : BufTy).Contents (Elt F)),
    binary main_v26 main_v27 main_v28 (mulf : (⟨S9216x1000, .f32⟩ : BufTy).Contents (Elt F) → (⟨S9216x1000, .f32⟩ : BufTy).Contents (Elt F) → (⟨S9216x1000, .f32⟩ : BufTy).Contents (Elt F)),
    unary main_v28 main_v29 (Host.exp : (⟨S9216x1000, .f32⟩ : BufTy).Contents (Elt F) → (⟨S9216x1000, .f32⟩ : BufTy).Contents (Elt F)),
    unary main_v26 main_v30 (Host.negf : (⟨S9216x1000, .f32⟩ : BufTy).Contents (Elt F) → (⟨S9216x1000, .f32⟩ : BufTy).Contents (Elt F)),
    unary main_v18 main_v31 (broadcastInDim S9216x1000 ![] bcast_S_S9216x1000 : (⟨S_, .f32⟩ : BufTy).Contents (Elt F) → (⟨S9216x1000, .f32⟩ : BufTy).Contents (Elt F)),
    binary main_v30 main_v31 main_v32 (mulf : (⟨S9216x1000, .f32⟩ : BufTy).Contents (Elt F) → (⟨S9216x1000, .f32⟩ : BufTy).Contents (Elt F) → (⟨S9216x1000, .f32⟩ : BufTy).Contents (Elt F)),
    unary main_v32 main_v33 (Host.exp : (⟨S9216x1000, .f32⟩ : BufTy).Contents (Elt F) → (⟨S9216x1000, .f32⟩ : BufTy).Contents (Elt F)),
    unary main_v33 main_v34 (broadcastInDim S9216x1000x1 ![0, 1] bcast_S9216x1000_S9216x1000x1_0_1 : (⟨S9216x1000, .f32⟩ : BufTy).Contents (Elt F) → (⟨S9216x1000x1, .f32⟩ : BufTy).Contents (Elt F)),
    unary main_v34 main_v35 (broadcastInDim S9216x1000x32 ![0, 1, 2] bcast_S9216x1000x1_S9216x1000x32_0_1_2 : (⟨S9216x1000x1, .f32⟩ : BufTy).Contents (Elt F) → (⟨S9216x1000x32, .f32⟩ : BufTy).Contents (Elt F)),
    binary main_v14 main_v35 main_v36 (mulf : (⟨S9216x1000x32, .f32⟩ : BufTy).Contents (Elt F) → (⟨S9216x1000x32, .f32⟩ : BufTy).Contents (Elt F) → (⟨S9216x1000x32, .f32⟩ : BufTy).Contents (Elt F)),
    nullary main_cst_7 (constant S_ .f32 0x00000000#32),
    unary main_cst_7 main_v37 (broadcastInDim S9216x1000x32 ![] bcast_S_S9216x1000x32 : (⟨S_, .f32⟩ : BufTy).Contents (Elt F) → (⟨S9216x1000x32, .f32⟩ : BufTy).Contents (Elt F)),
    binary main_v36 main_v37 main_v38 (maximumf : (⟨S9216x1000x32, .f32⟩ : BufTy).Contents (Elt F) → (⟨S9216x1000x32, .f32⟩ : BufTy).Contents (Elt F) → (⟨S9216x1000x32, .f32⟩ : BufTy).Contents (Elt F)),
    nullary main_cst_8 (constant S_ .f32 0x43E00000#32),
    unary main_cst_8 main_v39 (broadcastInDim S9216x1000x32 ![] bcast_S_S9216x1000x32 : (⟨S_, .f32⟩ : BufTy).Contents (Elt F) → (⟨S9216x1000x32, .f32⟩ : BufTy).Contents (Elt F)),
    binary main_v38 main_v39 main_v40 (minimumf : (⟨S9216x1000x32, .f32⟩ : BufTy).Contents (Elt F) → (⟨S9216x1000x32, .f32⟩ : BufTy).Contents (Elt F) → (⟨S9216x1000x32, .f32⟩ : BufTy).Contents (Elt F)),
    unary main_v40 main_v41 (Host.convertf .fp8e4m3 : (⟨S9216x1000x32, .f32⟩ : BufTy).Contents (Elt F) → (⟨S9216x1000x32, .fp8e4m3⟩ : BufTy).Contents (Elt F)),
    reshape main_v41 main_v42 (rfl : (.fp8e4m3 : EltTy) = .fp8e4m3) shapeCasts_S9216x1000x32_S9216x32000,
    reshape main_v11 main_v43 (rfl : (.f32 : EltTy) = .f32) shapeCasts_S9216x1_S72x1x128 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., unary_bufs_sub .., nullary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., reshape_bufs_sub .., nullary_bufs_sub .., binary_bufs_sub .., nullary_bufs_sub .., unary_bufs_sub .., binary_bufs_sub .., nullary_bufs_sub .., unary_bufs_sub .., nullary_bufs_sub .., unary_bufs_sub .., binary_bufs_sub .., unary_bufs_sub .., unary_bufs_sub .., binary_bufs_sub .., unary_bufs_sub .., nullary_bufs_sub .., unary_bufs_sub .., binary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., unary_bufs_sub .., reshape_bufs_sub .., reshape_bufs_sub ..⟩

/-- The scaled logits of a matrix of rows, -/
abbrev zR (w : S9216x32000.Idx → F .bf16) : S9216x32000.Idx → F .f32 :=
  Host.divf (extf .f32 w bitsLt_bf16_f32) (broadcastInDim S9216x32000 ![] bcast_S_S9216x32000 (constant S_ .f32 0x3F4CCCCD#32))
/-- each row's maximum, -/
abbrev mR (w : S9216x32000.Idx → F .bf16) : S9216.Idx → F .f32 :=
  Host.reduce FloatOps.maximumf (zR w) (constant S_ .f32 0xFF800000#32) reducesTo_S9216x32000_S9216_d1 h_S_
/-- the exponentials, -/
abbrev eR (w : S9216x32000.Idx → F .bf16) : S9216x32000.Idx → F .f32 :=
  Host.exp (subf (zR w) (broadcastInDim S9216x32000 ![0, 1] bcast_S9216x1_S9216x32000_0_1 (broadcastInDim S9216x1 ![0] bcast_S9216_S9216x1_0 (mR w))))
/-- each row's sum, -/
abbrev sR (w : S9216x32000.Idx → F .bf16) : S9216.Idx → F .f32 :=
  Host.reduceAdd (eR w) (constant S_ .f32 0x00000000#32) reducesTo_S9216x32000_S9216_d1 h_S_
/-- and its logarithm. -/
abbrev lseR (w : S9216x32000.Idx → F .bf16) : S72x1x128.Idx → F .f32 :=
  shapeCast S72x1x128 (Host.log (broadcastInDim S9216x1 ![0] bcast_S9216_S9216x1_0 (sR w))) shapeCasts_S9216x1_S72x1x128

/-- From exponentials `e` and sums `s` the probabilities, in blocks of 32 columns; -/
abbrev pF (e : S9216x32000.Idx → F .f32) (s : S9216.Idx → F .f32) : S9216x1000x32.Idx → F .f32 :=
  shapeCast S9216x1000x32 (Host.divf e (broadcastInDim S9216x32000 ![0, 1] bcast_S9216x1_S9216x32000_0_1 (broadcastInDim S9216x1 ![0] bcast_S9216_S9216x1_0 s))) shapeCasts_S9216x32000_S9216x1000x32
/-- from these each block's largest, floored; -/
abbrev aF (p : S9216x1000x32.Idx → F .f32) : S9216x1000.Idx → F .f32 :=
  maximumf (Host.reduce FloatOps.maximumf p (constant S_ .f32 0xFF800000#32) reducesTo_S9216x1000x32_S9216x1000_d2 h_S_) (broadcastInDim S9216x1000 ![] bcast_S_S9216x1000 (constant S_ .f32 0x1F800000#32))
/-- the logarithm of two, everywhere; -/
abbrev l2R : S9216x1000.Idx → F .f32 := broadcastInDim S9216x1000 ![] bcast_S_S9216x1000 (Host.log (constant (F := F) S_ .f32 0x40000000#32))
/-- from such largest probabilities `a` each block's exponent, -/
abbrev xF (a : S9216x1000.Idx → F .f32) : S9216x1000.Idx → F .f32 :=
  addf (Host.floor (Host.divf (Host.log (mulf a (broadcastInDim S9216x1000 ![] bcast_S_S9216x1000 (constant S_ .f32 0x3B124925#32)))) l2R)) (broadcastInDim S9216x1000 ![] bcast_S_S9216x1000 (constant S_ .f32 0x3F800000#32))
/-- its scale, that power of two, -/
abbrev sclF (a : S9216x1000.Idx → F .f32) : S9216x1000.Idx → F .f32 := Host.exp (mulf (xF a) l2R)
/-- and the scale's reciprocal, the power of two of the opposite exponent; -/
abbrev invF (a : S9216x1000.Idx → F .f32) : S9216x1000.Idx → F .f32 := Host.exp (mulf (Host.negf (xF a)) l2R)
/-- and from the probabilities `p` and these the codes: the products, clamped, in the eight-bit format. -/
abbrev codF (p : S9216x1000x32.Idx → F .f32) (a : S9216x1000.Idx → F .f32) : S9216x1000x32.Idx → F .fp8e4m3 :=
  Host.convertf .fp8e4m3 (minimumf (maximumf (mulf p (broadcastInDim S9216x1000x32 ![0, 1, 2] bcast_S9216x1000x1_S9216x1000x32_0_1_2 (broadcastInDim S9216x1000x1 ![0, 1] bcast_S9216x1000_S9216x1000x1_0_1 (invF a))))
    (broadcastInDim S9216x1000x32 ![] bcast_S_S9216x1000x32 (constant S_ .f32 0x00000000#32))) (broadcastInDim S9216x1000x32 ![] bcast_S_S9216x1000x32 (constant S_ .f32 0x43E00000#32)))
/-- The probabilities of a matrix of rows, -/
abbrev pR (w : S9216x32000.Idx → F .bf16) : S9216x1000x32.Idx → F .f32 := pF (eR w) (sR w)
/-- the blocks' largest, -/
abbrev aR (w : S9216x32000.Idx → F .bf16) : S9216x1000.Idx → F .f32 := aF (pR w)
/-- the scales, -/
abbrev sclR (w : S9216x32000.Idx → F .bf16) : S9216x1000.Idx → F .f32 := sclF (aR w)
/-- and the codes. -/
abbrev codR (w : S9216x32000.Idx → F .bf16) : S9216x32000.Idx → F .fp8e4m3 := shapeCast S9216x32000 (codF (pR w) (aR w)) shapeCasts_S9216x1000x32_S9216x32000

/-- Every execution terminates with the rows' logarithms, the codes and the blocks' scales of the argument in the results, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v43) = lseR (F := F) (shapeCast S9216x32000 (m ((c : Thread nD τ).loc main_arg0)) shapeCasts_S6x1536x32000_S9216x32000)
      ∧ r.2.mem ((c : Thread nD τ).loc main_v42) = codR (F := F) (shapeCast S9216x32000 (m ((c : Thread nD τ).loc main_arg0)) shapeCasts_S6x1536x32000_S9216x32000)
      ∧ r.2.mem ((c : Thread nD τ).loc main_v29) = sclR (F := F) (shapeCast S9216x32000 (m ((c : Thread nD τ).loc main_arg0)) shapeCasts_S6x1536x32000_S9216x32000)
      ∧ r.2.mem ((c : Thread nD τ).loc main_arg0) = m ((c : Thread nD τ).loc main_arg0) :=
  (θ_run defs _ _).mono (fun _ h c => ⟨(h c main_v43).trans (by after_results; rfl), (h c main_v42).trans (by after_results; rfl), (h c main_v29).trans (by after_results; rfl), (h c main_arg0).trans (by after_results)⟩)
    (run_seq scopedRefs_eq scopedSems_eq defs main (fun _ => ops) main_eq (fun _ => ops_sub) m ρ)

/-- The frame: every execution terminates, the argument ends unchanged; the program has no semaphores. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)) ∧ r.2.sem = fun _ => 0 :=
  (θ_run defs _ _).mono (fun r h => ⟨fun c => (h c).2.2.2, sem_eq_zero_of_no_sems rfl r.2⟩) (run m ρ)

end Cert.ReferenceIdeal.Val

end
-- ==== Proof.ValEq.lean ====
/- The two programs' logarithms are equal: the kernel's base-two exponential of the scaled difference is the reference's
   exponential of the difference of the scaled logits, and both add a row of them up. -/
module

public import proofs.«01_k».proof.Proof.ValArr
public import proofs.«01_k».proof.Proof.ValSum
public import proofs.«01_k».proof.Proof.RefRun

@[expose] public section

set_option maxRecDepth 16384
set_option synthInstance.maxSize 4096

noncomputable section

namespace Cert.KernelIdeal.Val

open Cert.KernelIdeal Cert.KernelIdeal.Gen Cert.KernelIdeal.Run
open Idealize.ShloMosaic Idealize.ShloMosaic.TcCoe Idealize.ShloMosaic.Tactic
open Idealize.SL.Sem

/-! ## One entry -/

/-- The temperature: the f32 nearest to 0.8. -/
def tR : ℝ := 13421773 / 16777216
theorem tR_pos : 0 < tR := by unfold tR; norm_num
theorem ofBits_t : Ideal.ofBits .f32 0x3F4CCCCD#32 = (tR : EReal) := by
  unfold tR
  simp [Ideal.ofBits, Ideal.ieee]
  refine (EReal.coe_mul _ _).symm.trans ?_
  congr 1
  norm_num

/-- A logit over the temperature. -/
def zt (x : EReal) : EReal := Ideal.div x (tR : EReal)

theorem zt_eq (x : EReal) : zt x = x * ((tR⁻¹ : ℝ) : EReal) := by
  unfold zt Ideal.div
  rw [if_neg (by exact_mod_cast tR_pos.ne'), EReal.coe_inv]

theorem kc_eq : kc = (((Real.log 2)⁻¹ * tR⁻¹ : ℝ) : EReal) := rfl

theorem kc_pos : (0 : ℝ) < (Real.log 2)⁻¹ * tR⁻¹ := mul_pos (inv_pos.mpr (Real.log_pos one_lt_two)) (inv_pos.mpr tR_pos)
theorem ti_pos : (0 : ℝ) < tR⁻¹ := inv_pos.mpr tR_pos

/-- The base-two exponential of a difference times `log2 e / T` is the exponential of the difference of the scaled values. -/
theorem E2_eq (x M : EReal) : E2 x M = Ideal.exp (zt x - zt M) := by
  unfold E2
  rw [zt_eq, zt_eq, kc_eq]
  have hk := kc_pos
  have ht := ti_pos
  induction x using EReal.rec with
  | bot =>
    rw [EReal.bot_sub, EReal.bot_mul_coe_of_pos hk, EReal.bot_mul_coe_of_pos ht, EReal.bot_sub]; rfl
  | top =>
    induction M using EReal.rec with
    | bot => rw [EReal.top_sub_bot, EReal.top_mul_coe_of_pos hk, EReal.top_mul_coe_of_pos ht, EReal.bot_mul_coe_of_pos ht, EReal.top_sub_bot]; rfl
    | top => rw [EReal.sub_top, EReal.bot_mul_coe_of_pos hk, EReal.top_mul_coe_of_pos ht, EReal.sub_top]; rfl
    | coe s => rw [EReal.top_sub_coe, EReal.top_mul_coe_of_pos hk, EReal.top_mul_coe_of_pos ht, ← EReal.coe_mul, EReal.top_sub_coe]; rfl
  | coe r =>
    induction M using EReal.rec with
    | bot => rw [EReal.coe_sub_bot, EReal.top_mul_coe_of_pos hk, EReal.bot_mul_coe_of_pos ht, ← EReal.coe_mul, EReal.coe_sub_bot]; rfl
    | top => rw [EReal.sub_top, EReal.bot_mul_coe_of_pos hk, EReal.top_mul_coe_of_pos ht, EReal.sub_top]; rfl
    | coe s =>
      rw [← EReal.coe_sub, ← EReal.coe_mul, ← EReal.coe_mul, ← EReal.coe_mul, ← EReal.coe_sub]
      show ((Real.rpow 2 ((r - s) * ((Real.log 2)⁻¹ * tR⁻¹)) : ℝ) : EReal) = ((Real.exp (r * tR⁻¹ - s * tR⁻¹) : ℝ) : EReal)
      congr 1
      show (2 : ℝ) ^ ((r - s) * ((Real.log 2)⁻¹ * tR⁻¹)) = _
      rw [Real.rpow_def_of_pos two_pos]
      congr 1
      have h2 : Real.log 2 ≠ 0 := (Real.log_pos one_lt_two).ne'
      field_simp

/-- Scaling keeps the order. -/
theorem zt_le (x z : EReal) : zt x ≤ z ↔ x ≤ (tR : EReal) * z := by
  have h : zt x = x / (tR : EReal) := by rw [zt_eq, EReal.coe_inv]; rfl
  rw [h]
  exact EReal.div_le_iff_le_mul (by exact_mod_cast tR_pos) (EReal.coe_ne_top _)

/-! ## The kernel's row -/

/-- A lane's logarithm out of the vector of sums. -/
theorem lse_apply (v : FVec Ideal S8x128 .f32) (y : S1x1x128.Idx) :
    k0_pay83 (F := Ideal) v y = Ideal.log (v (ix2 0 (y 2).val (by decide) (y 2).isLt)) := by
  have h : k0_pay83 (F := Ideal) v y = shapeCast S1x1x128 (extractStridedSlice S1x128 ![0, 0] (log (F := Ideal) (φ := .f32) v) slices_S8x128_o0_0_S1x128) shapeCasts_S1x128_S1x1x128 y := rfl
  rw [h]
  refine (shapeCast_addUnit_apply ![1, 128] _ shapeCasts_S1x128_S1x1x128 y).trans ?_
  have h1 : (y 1).val < 1 := (y 1).isLt
  refine congrArg (log (F := Ideal) (φ := .f32) v) (ix2_eta _ _ _ _ _ ?_ ?_)
  · show 0 + (y 1).val = 0; omega
  · show 0 + (y 2).val = (y 2).val; omega

variable (m : (ℓ : Loc nD τ sig) → Buf (Elt Ideal) ℓ)

/-- The matrix of rows that the kernel reads: the argument reshaped. -/
theorem V_v0 (c : Dev nD) : (V m c main_v0 : S9216x32000.Idx → EReal)
    = shapeCast S9216x32000 (m ((c.tc : Thread nD τ).loc main_arg0) : S6x1536x32000.Idx → EReal) shapeCasts_S6x1536x32000_S9216x32000 := by
  unfold V
  after_results; rfl

theorem xb_apply (c : Dev nD) (b : Fin 72) (i j : ℕ) (hj : j < 128) (hi : i < 32000) :
    xb c (V m c main_v0) b i j = (V m c main_v0 : S9216x32000.Idx → EReal) (ix2 (128 * b.val + j) i (by have := b.isLt; omega) hi) := by
  unfold xb
  rw [dif_pos ⟨hj, hi⟩]
  rfl

/-! ## The reference's row -/

/-- A row of a matrix, put back from its number and a column. -/
theorem lift_row {N M : ℕ} (h : (⟨2, ![N, M]⟩ : Shape).Reduces [1] ⟨1, ![N]⟩) (r : (⟨1, ![N]⟩ : Shape).Idx) (k : Fin M) :
    h.lift r k = ix2 (r 0).val k.val (r 0).isLt k.isLt := by
  funext a; apply Fin.ext
  fin_cases a <;> rfl

/-- A row's maximum, from −∞, is at most `z` when each of its entries is. -/
theorem max_row {N M : ℕ} (v : (⟨2, ![N, M]⟩ : Shape).Idx → EReal) (init : (⟨0, ![]⟩ : Shape).Idx → EReal) (hi : ∀ i, init i = ⊥)
    (h' : (⟨2, ![N, M]⟩ : Shape).ReducesTo [1] ⟨1, ![N]⟩) (h : (⟨2, ![N, M]⟩ : Shape).Reduces [1] ⟨1, ![N]⟩) (hu) (r : (⟨1, ![N]⟩ : Shape).Idx) (z : EReal) :
    Host.reduce (FloatOps.maximumf (F := Ideal) (φ := .f32)) v init h' hu r ≤ z ↔ ∀ i (hi : i < M), v (ix2 (r 0).val i (r 0).isLt hi) ≤ z := by
  rw [Host.reduce_eq_fold_single (FloatOps.maximumf (F := Ideal) (φ := .f32)) v init h' h hu r]
  refine (Finset.fold_max_le (β := EReal) z).trans ?_
  constructor
  · intro hh i hi
    exact le_of_eq_of_le (congrArg v (lift_row h r ⟨i, hi⟩)).symm (hh.2 (⟨i, hi⟩ : Fin M) (Finset.mem_univ _))
  · intro hh
    refine ⟨?_, fun k _ => ?_⟩
    · rw [hi]; exact bot_le
    · exact le_of_eq_of_le (congrArg v (lift_row h r k)) (hh _ k.isLt)

/-- A row's sum, from zero. -/
theorem sum_row {N M : ℕ} (v : (⟨2, ![N, M]⟩ : Shape).Idx → EReal)
    (h' : (⟨2, ![N, M]⟩ : Shape).ReducesTo [1] ⟨1, ![N]⟩) (h : (⟨2, ![N, M]⟩ : Shape).Reduces [1] ⟨1, ![N]⟩) (r : (⟨1, ![N]⟩ : Shape).Idx) :
    Ideal.hostReduceAdd h' v 0 r = ∑ k : Fin M, v (ix2 (r 0).val k.val (r 0).isLt k.isLt) := by
  rw [Ideal.hostReduceAdd_single h' h, zero_add]
  exact Finset.sum_congr rfl fun k _ => congrArg v (lift_row h r k)

theorem red_row : Cert.ReferenceIdeal.S9216x32000.Reduces [1] Cert.ReferenceIdeal.S9216 := by decide

/-- The row of a place. -/
def rowIx (y : S9216x32000.Idx) : Cert.ReferenceIdeal.S9216.Idx := fun a => ⟨(y 0).val, by fin_cases a; exact (y 0).isLt⟩

theorem zR_apply (w : S9216x32000.Idx → EReal) (y : S9216x32000.Idx) : Cert.ReferenceIdeal.Val.zR (F := Ideal) w y = zt (w y) := by
  have h : Cert.ReferenceIdeal.Val.zR (F := Ideal) w y = Ideal.div (w y) (Ideal.ofBits .f32 0x3F4CCCCD#32) := rfl
  rw [h, ofBits_t]; rfl

theorem mR_le (w : S9216x32000.Idx → EReal) (r : Cert.ReferenceIdeal.S9216.Idx) (z : EReal) :
    Cert.ReferenceIdeal.Val.mR (F := Ideal) w r ≤ z ↔ ∀ i (hi : i < 32000), zt (w (ix2 (r 0).val i (r 0).isLt hi)) ≤ z := by
  have h := max_row (N := 9216) (M := 32000) (Cert.ReferenceIdeal.Val.zR (F := Ideal) w) (constant (F := Ideal) Cert.ReferenceIdeal.S_ .f32 0xFF800000#32)
    (fun _ => ofBits_bot) Cert.ReferenceIdeal.Gen.reducesTo_S9216x32000_S9216_d1 red_row Cert.ReferenceIdeal.Gen.h_S_ r z
  simp only [zR_apply] at h
  exact h

theorem eR_apply (w : S9216x32000.Idx → EReal) (y : S9216x32000.Idx) : Cert.ReferenceIdeal.Val.eR (F := Ideal) w y
      = Ideal.exp (zt (w y) - Cert.ReferenceIdeal.Val.mR (F := Ideal) w (rowIx y)) := by
  have h0 : Cert.ReferenceIdeal.Val.eR (F := Ideal) w y = Ideal.exp (Cert.ReferenceIdeal.Val.zR (F := Ideal) w y
      - broadcastInDim Cert.ReferenceIdeal.S9216x32000 ![0, 1] Cert.ReferenceIdeal.Gen.bcast_S9216x1_S9216x32000_0_1
        (broadcastInDim Cert.ReferenceIdeal.S9216x1 ![0] Cert.ReferenceIdeal.Gen.bcast_S9216_S9216x1_0 (Cert.ReferenceIdeal.Val.mR (F := Ideal) w)) y) := rfl
  rw [h0, zR_apply]
  generalize Cert.ReferenceIdeal.Val.mR (F := Ideal) w = f
  congr 2
  unfold broadcastInDim
  congr 1
  funext a; apply Fin.ext
  fin_cases a; rfl

theorem sR_apply (w : S9216x32000.Idx → EReal) (r : Cert.ReferenceIdeal.S9216.Idx) :
    Cert.ReferenceIdeal.Val.sR (F := Ideal) w r
      = ∑ k : Fin 32000, Ideal.exp (zt (w (ix2 (r 0).val k.val (r 0).isLt k.isLt)) - Cert.ReferenceIdeal.Val.mR (F := Ideal) w r) := by
  have h : Cert.ReferenceIdeal.Val.sR (F := Ideal) w r
      = Ideal.hostReduceAdd Cert.ReferenceIdeal.Gen.reducesTo_S9216x32000_S9216_d1 (Cert.ReferenceIdeal.Val.eR (F := Ideal) w) (Ideal.ofBits .f32 0x00000000#32) r := rfl
  rw [h, ofBits_zero]
  refine (sum_row (N := 9216) (M := 32000) _ _ red_row r).trans (Finset.sum_congr rfl fun k _ => ?_)
  refine (eR_apply w _).trans ?_
  have e : rowIx (ix2 (r 0).val k.val (r 0).isLt k.isLt) = r := by
    funext a; apply Fin.ext
    fin_cases a; rfl
  rw [e]

/-- The row that a place of the result is of. -/
def outRow (y : S72x1x128.Idx) : Cert.ReferenceIdeal.S9216.Idx := fun a => ⟨128 * (y 0).val + (y 2).val, by
  have h0 : (y 0).val < 72 := (y 0).isLt
  have h2 : (y 2).val < 128 := (y 2).isLt
  fin_cases a; show _ < 9216; omega⟩

/-- The column of rows, reshaped to the result's blocks. -/
theorem col_apply (f : Cert.ReferenceIdeal.S9216x1.Idx → EReal) (h) (y : S72x1x128.Idx) (z : Cert.ReferenceIdeal.S9216x1.Idx)
    (hz : (z 0).val = 128 * (y 0).val + (y 2).val) : shapeCast S72x1x128 f h y = f z := by
  unfold shapeCast
  congr 1
  apply Shape.reshapeEquiv_eq_of_rowMajor
  show (Shape.rowMajorPi Cert.ReferenceIdeal.S9216x1.size z).val = (Shape.rowMajorPi S72x1x128.size y).val
  rw [Shape.rowMajorPi_succ_val, Shape.rowMajorPi_succ_val, Shape.rowMajorPi_succ_val, Shape.rowMajorPi_succ_val, Shape.rowMajorPi_succ_val]
  have h1 : (y 1).val < 1 := (y 1).isLt
  have hz1 : (z 1).val < 1 := (z 1).isLt
  have h1' : (y 1).val = 0 := by omega
  have hz1' : (z 1).val = 0 := by omega
  simp [hz, hz1', h1', Fin.prod_univ_succ, Shape.rowMajorPi_zero]
  omega

theorem lseR_apply (w : S9216x32000.Idx → EReal) (y : S72x1x128.Idx) :
    Cert.ReferenceIdeal.Val.lseR (F := Ideal) w y = Ideal.log (Cert.ReferenceIdeal.Val.sR (F := Ideal) w (outRow y)) := by
  unfold Cert.ReferenceIdeal.Val.lseR
  generalize Cert.ReferenceIdeal.Val.sR (F := Ideal) w = f
  refine (col_apply _ _ y (ix2 (N := 9216) (W := 1) (outRow y 0).val 0 (outRow y 0).isLt (by decide)) rfl).trans ?_
  show Ideal.log _ = Ideal.log _
  congr 1
  unfold broadcastInDim
  congr 1
  funext a; apply Fin.ext
  fin_cases a; rfl

/-! ## The equation -/

theorem ix2_congr {N M i i' j : ℕ} (h : i = i') (hi : i < N) (hi' : i' < N) (hj : j < M) : ix2 i j hi hj = ix2 i' j hi' hj := by subst h; rfl

/-- A row's maximum in the kernel is the reference's, over the temperature. -/
theorem zt_mx (c : Dev nD) (b : Fin 72) (j : ℕ) (hj : j < 128) (k : ℕ) (r : Cert.ReferenceIdeal.S9216.Idx) (hr : (r 0).val = 128 * b.val + j) :
    zt (vat (mxv (xb c (V m c main_v0) b)) k j) = Cert.ReferenceIdeal.Val.mR (F := Ideal) (V m c main_v0 : S9216x32000.Idx → EReal) r := by
  have hM : vat (mxv (xb c (V m c main_v0) b)) k j = mxv (xb c (V m c main_v0) b) (ix2 (k % 8) (j % 128) (Nat.mod_lt _ (by decide)) (Nat.mod_lt _ (by decide))) := rfl
  refine eq_of_forall_ge_iff fun z => ?_
  rw [hM]
  refine (zt_le _ _).trans ((mxv_le _ _ _).trans (Iff.trans ?_ (mR_le _ _ _).symm))
  refine forall_congr' fun i => forall_congr' fun hi => ?_
  rw [ix2_1, Nat.mod_eq_of_lt hj, xb_apply m c b i j hj hi]
  refine (zt_le _ _).symm.trans ?_
  exact iff_of_eq (congrArg (fun y => zt ((V m c main_v0 : S9216x32000.Idx → EReal) y) ≤ z) (ix2_congr hr.symm _ (r 0).isLt hi))

/-- A row's sum in the kernel is the reference's. -/
theorem Sv_eq (c : Dev nD) (b : Fin 72) (x : S8x128.Idx) (r : Cert.ReferenceIdeal.S9216.Idx) (hr : (r 0).val = 128 * b.val + (x 1).val) :
    Sv c (V m c main_v0) b x = Cert.ReferenceIdeal.Val.sR (F := Ideal) (V m c main_v0 : S9216x32000.Idx → EReal) r := by
  have hj : (x 1).val < 128 := (x 1).isLt
  refine (smv_apply _ _).trans ((Finset.sum_range _).trans (Eq.trans ?_ (sR_apply _ _).symm))
  refine Finset.sum_congr rfl fun k _ => ?_
  refine (E2_eq (xb c (V m c main_v0) b k.val (x 1).val) (vat (mxv (xb c (V m c main_v0) b)) k.val (x 1).val)).trans ?_
  rw [zt_mx m c b (x 1).val hj k.val r hr, xb_apply m c b k.val (x 1).val hj k.isLt]
  exact congrArg (fun y => Ideal.exp (zt ((V m c main_v0 : S9216x32000.Idx → EReal) y) - Cert.ReferenceIdeal.Val.mR (F := Ideal) (V m c main_v0 : S9216x32000.Idx → EReal) r))
    (ix2_congr hr.symm _ (r 0).isLt k.isLt)

/-- The kernel's array of logarithms is the reference's. -/
theorem lse_eq (c : Dev nD) : lseA m c = Cert.ReferenceIdeal.Val.lseR (F := Ideal) (V m c main_v0 : S9216x32000.Idx → EReal) := by
  funext y
  refine Eq.trans (lse_apply _ _) (Eq.trans (congrArg Ideal.log ?_) (lseR_apply _ y).symm)
  exact Sv_eq m c (y 0) _ (outRow y) rfl

end Cert.KernelIdeal.Val

end
-- ==== Proof.ValScl.lean ====
/- The quantiser, on extended reals: a block's scale and its codes' factor as the kernel makes them out of an exponent field are the
   powers of two that the reference takes. -/
module

public import proofs.«01_k».proof.Proof.ValSum

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.ShloMosaic.Tactic

/-! ## Words that are powers of two -/

/-- A positive word with nothing after its exponent field is a power of two. -/
theorem ofBits_pow (b : BitVec 32) (e : ℕ) (hs : (b.extractLsb' 31 1 == 1#1) = false) (hx : (b.extractLsb' 23 8).toNat = e)
    (hf : (b.extractLsb' 0 23).toNat = 0) (h0 : e ≠ 0) (h1 : e < 255) : Ideal.ofBits .f32 b = (((2 : ℝ) ^ ((e : ℤ) - 127) : ℝ) : EReal) := by
  have h2 : (2 : ℝ) ^ ((e : ℤ) - 127) = 2 ^ 23 * 2 ^ ((e : ℤ) - 127 - 23) := by
    rw [← zpow_natCast, ← zpow_add₀ (by norm_num)]; congr 1; push_cast; ring
  show Ideal.ieee 8 23 b = _
  unfold Ideal.ieee
  simp only [show (8 + 23 : ℕ) = 31 from rfl, hs, hx, hf]
  rw [if_neg (by omega), if_neg h0, h2]
  norm_num

/-- The word of the field with exponent `k`. -/
def fw (k : ℤ) : BitVec 32 := IntOp.shli .vector (IntOp.addi (BitVec.ofInt 32 k) 127#32) 23#32

theorem fw_up : ∀ n : Fin 81, ((IntOp.addi (fw ((n.val : ℤ) - 80)) 8388608#32).extractLsb' 31 1 == 1#1) = false
    ∧ ((IntOp.addi (fw ((n.val : ℤ) - 80)) 8388608#32).extractLsb' 23 8).toNat = n.val + 48
    ∧ ((IntOp.addi (fw ((n.val : ℤ) - 80)) 8388608#32).extractLsb' 0 23).toNat = 0 := by decide +kernel
theorem fw_dn : ∀ n : Fin 81, ((IntOp.subi 2122317824#32 (fw ((n.val : ℤ) - 80))).extractLsb' 31 1 == 1#1) = false
    ∧ ((IntOp.subi 2122317824#32 (fw ((n.val : ℤ) - 80))).extractLsb' 23 8).toNat = 206 - n.val
    ∧ ((IntOp.subi 2122317824#32 (fw ((n.val : ℤ) - 80))).extractLsb' 0 23).toNat = 0 := by decide +kernel

/-- One more in the field is `2 ^ (k + 1)`; -/
theorem up_eq (k : ℤ) (h1 : -80 ≤ k) (h2 : k ≤ 0) : Ideal.ofBits .f32 (IntOp.addi (fw k) 8388608#32) = (((2 : ℝ) ^ (k + 1) : ℝ) : EReal) := by
  have h := fw_up ⟨(k + 80).toNat, by omega⟩
  have e : (((k + 80).toNat : ℕ) : ℤ) - 80 = k := by omega
  simp only [e] at h
  rw [ofBits_pow _ _ h.1 h.2.1 h.2.2 (by omega) (by omega)]
  congr 2
  omega
/-- and the field taken from that of `2 ^ 126` doubled is its reciprocal. -/
theorem dn_eq (k : ℤ) (h1 : -80 ≤ k) (h2 : k ≤ 0) : Ideal.ofBits .f32 (IntOp.subi 2122317824#32 (fw k)) = (((2 : ℝ) ^ (-(k + 1)) : ℝ) : EReal) := by
  have h := fw_dn ⟨(k + 80).toNat, by omega⟩
  have e : (((k + 80).toNat : ℕ) : ℤ) - 80 = k := by omega
  simp only [e] at h
  rw [ofBits_pow _ _ h.1 h.2.1 h.2.2 (by omega) (by omega)]
  congr 2
  omega

theorem ofBits_t64 : Ideal.ofBits .f32 0x1F800000#32 = (((2 : ℝ) ^ (-64 : ℤ) : ℝ) : EReal) :=
  ofBits_pow _ 63 (by decide) (by decide) (by decide) (by decide) (by decide)
theorem ofBits_two : Ideal.ofBits .f32 0x40000000#32 = ((2 : ℝ) : EReal) :=
  (ofBits_pow _ 128 (by decide) (by decide) (by decide) (by decide) (by decide)).trans (by norm_num)
theorem ofBits_one : Ideal.ofBits .f32 0x3F800000#32 = 1 :=
  (ofBits_pow _ 127 (by decide) (by decide) (by decide) (by decide) (by decide)).trans (by norm_num)
/-- The f32 nearest to 1/448. -/
def cR : ℝ := 9586981 / 4294967296
theorem ofBits_c : Ideal.ofBits .f32 0x3B124925#32 = (cR : EReal) := by
  unfold cR
  simp [Ideal.ofBits, Ideal.ieee]
  refine (EReal.coe_mul _ _).symm.trans ?_
  congr 1
  norm_num

/-! ## The exponent -/

/-- The base-two logarithm of a block's largest probability over the largest code. -/
def LA (A : ℝ) : ℝ := Real.log (A * cR) / Real.log 2

theorem log2_pos : 0 < Real.log 2 := Real.log_pos one_lt_two

theorem LA_eq (A : ℝ) (hA : 0 < A) : Ideal.div (Ideal.log ((A : EReal) * Ideal.ofBits .f32 0x3B124925#32)) (Ideal.log (Ideal.ofBits .f32 0x40000000#32)) = (LA A : EReal) := by
  have hc : 0 < A * cR := mul_pos hA (by unfold cR; norm_num)
  rw [ofBits_c, ofBits_two, ← EReal.coe_mul, Ideal.log_coe, Ideal.log_coe, if_neg (not_le.mpr hc), if_neg (by norm_num)]
  unfold Ideal.div LA
  rw [if_neg (by exact_mod_cast log2_pos.ne'), ← EReal.coe_inv, ← EReal.coe_mul, div_eq_mul_inv]

theorem LA_floor (A : ℝ) (h0 : (2 : ℝ) ^ (-64 : ℤ) ≤ A) (h1 : A ≤ 1) : -80 ≤ ⌊LA A⌋ ∧ ⌊LA A⌋ ≤ 0 := by
  have hp : (0 : ℝ) < (2 : ℝ) ^ (-64 : ℤ) := by positivity
  have hA : 0 < A := hp.trans_le h0
  have hc0 : (0 : ℝ) < cR := by unfold cR; norm_num
  have hc1 : cR ≤ 1 := by unfold cR; norm_num
  have hc2 : (2 : ℝ) ^ (-16 : ℤ) ≤ cR := by unfold cR; norm_num
  have hlow : (2 : ℝ) ^ (-80 : ℤ) ≤ A * cR := by
    have : (2 : ℝ) ^ (-80 : ℤ) = (2 : ℝ) ^ (-64 : ℤ) * (2 : ℝ) ^ (-16 : ℤ) := by rw [← zpow_add₀ (by norm_num)]; norm_num
    rw [this]
    exact mul_le_mul h0 hc2 (by positivity) hA.le
  have hup : A * cR ≤ 1 := mul_le_one₀ h1 hc0.le hc1
  constructor
  · rw [Int.le_floor]
    unfold LA
    rw [le_div_iff₀ log2_pos]
    have h := Real.log_le_log (by positivity) hlow
    rw [Real.log_zpow] at h
    exact h
  · have h : LA A ≤ 0 := div_nonpos_of_nonpos_of_nonneg (Real.log_nonpos (by positivity) hup) log2_pos.le
    have := Int.floor_le_floor h
    rwa [Int.floor_zero] at this

/-- The kernel's exponent field. -/
def fldA (A : EReal) : BitVec 32 :=
  IntOp.shli .vector (IntOp.addi (FloatOps.fptosi (F := Ideal) (φ := .f32) 32 (FloatOps.floor (F := Ideal) (φ := .f32)
    (Ideal.div (Ideal.log (A * Ideal.ofBits .f32 0x3B124925#32)) (Ideal.log (Ideal.ofBits .f32 0x40000000#32))))) 127#32) 23#32

theorem fldA_eq (A : ℝ) (h0 : (2 : ℝ) ^ (-64 : ℤ) ≤ A) (h1 : A ≤ 1) : fldA (A : EReal) = fw ⌊LA A⌋ := by
  have hp : (0 : ℝ) < (2 : ℝ) ^ (-64 : ℤ) := by positivity
  obtain ⟨k0, k1⟩ := LA_floor A h0 h1
  unfold fldA fw
  rw [LA_eq A (hp.trans_le h0)]
  congr 2
  show Ideal.fptosi 32 (Ideal.liftRound Int.floor (LA A : EReal)) = _
  have h : Ideal.liftRound Int.floor (LA A : EReal) = (((⌊LA A⌋ : ℤ) : ℝ) : EReal) := rfl
  rw [h]
  show BitVec.ofInt 32 (max (-(2 ^ (32 - 1) : ℕ)) (min (((2 ^ (32 - 1) : ℕ) : ℤ) - 1) (if (0 : ℝ) ≤ ((⌊LA A⌋ : ℤ) : ℝ) then ⌊((⌊LA A⌋ : ℤ) : ℝ)⌋ else ⌈((⌊LA A⌋ : ℤ) : ℝ)⌉))) = _
  rw [Int.floor_intCast, Int.ceil_intCast, ite_self]
  congr 1
  norm_num
  omega

/-- The reference's exponent. -/
def exR (A : EReal) : EReal := Ideal.liftRound Int.floor (Ideal.div (Ideal.log (A * Ideal.ofBits .f32 0x3B124925#32)) (Ideal.log (Ideal.ofBits .f32 0x40000000#32)))
    + Ideal.ofBits .f32 0x3F800000#32

theorem exR_eq (A : ℝ) (h0 : (2 : ℝ) ^ (-64 : ℤ) ≤ A) : exR (A : EReal) = (((⌊LA A⌋ + 1 : ℤ) : ℝ) : EReal) := by
  have hp : (0 : ℝ) < (2 : ℝ) ^ (-64 : ℤ) := by positivity
  unfold exR
  rw [LA_eq A (hp.trans_le h0), ofBits_one]
  show (((⌊LA A⌋ : ℤ) : ℝ) : EReal) + ((1 : ℝ) : EReal) = _
  rw [← EReal.coe_add]; push_cast; rfl

theorem exp_log2 (k : ℤ) : Ideal.exp (((k : ℝ) : EReal) * Ideal.log (Ideal.ofBits .f32 0x40000000#32)) = (((2 : ℝ) ^ k : ℝ) : EReal) := by
  rw [ofBits_two, Ideal.log_coe, if_neg (by norm_num), ← EReal.coe_mul, Ideal.exp_coe, ← Real.rpow_intCast, Real.rpow_def_of_pos (by norm_num), mul_comm]

/-- The kernel's scale is the reference's power of two, -/
theorem scl_of (A : ℝ) (h0 : (2 : ℝ) ^ (-64 : ℤ) ≤ A) (h1 : A ≤ 1) :
    Ideal.ofBits .f32 (IntOp.addi (fldA (A : EReal)) 8388608#32) = Ideal.exp (exR (A : EReal) * Ideal.log (Ideal.ofBits .f32 0x40000000#32)) := by
  obtain ⟨k0, k1⟩ := LA_floor A h0 h1
  rw [fldA_eq A h0 h1, up_eq _ k0 k1, exR_eq A h0, exp_log2]
/-- and its reciprocal the reference's reciprocal. -/
theorem inv_of (A : ℝ) (h0 : (2 : ℝ) ^ (-64 : ℤ) ≤ A) (h1 : A ≤ 1) :
    Ideal.ofBits .f32 (IntOp.subi 2122317824#32 (fldA (A : EReal))) = Ideal.exp (-exR (A : EReal) * Ideal.log (Ideal.ofBits .f32 0x40000000#32)) := by
  obtain ⟨k0, k1⟩ := LA_floor A h0 h1
  have h := exp_log2 (-(⌊LA A⌋ + 1))
  rw [fldA_eq A h0 h1, dn_eq _ k0 k1, exR_eq A h0, ← h]
  push_cast; rfl

/-- It is a positive real number. -/
theorem inv_pos_real (A : ℝ) (h0 : (2 : ℝ) ^ (-64 : ℤ) ≤ A) (h1 : A ≤ 1) :
    ∃ q : ℝ, 0 < q ∧ Ideal.ofBits .f32 (IntOp.subi 2122317824#32 (fldA (A : EReal))) = (q : EReal) := by
  obtain ⟨k0, k1⟩ := LA_floor A h0 h1
  exact ⟨_, zpow_pos two_pos _, by rw [fldA_eq A h0 h1, dn_eq _ k0 k1]⟩

/-! ## The exponentials -/

theorem exp2_mono {x y : EReal} (h : x ≤ y) : Ideal.exp2 x ≤ Ideal.exp2 y := by
  induction x using EReal.rec with
  | bot =>
    induction y using EReal.rec with
    | bot => exact le_rfl
    | top => exact le_top
    | coe r => rw [Ideal.exp2_bot, Ideal.exp2_coe]; exact_mod_cast (Real.rpow_pos_of_pos two_pos r).le
  | top => rw [top_le_iff.mp h]
  | coe q =>
    induction y using EReal.rec with
    | bot => exact absurd h (by simp)
    | top => exact le_top
    | coe r => rw [Ideal.exp2_coe, Ideal.exp2_coe]; exact_mod_cast Real.rpow_le_rpow_of_exponent_le one_le_two (by exact_mod_cast h)

theorem kc_pos' : (0 : EReal) ≤ kc := by
  unfold kc
  exact_mod_cast (mul_pos (inv_pos.mpr log2_pos) (by norm_num : (0 : ℝ) < (13421773 / 16777216)⁻¹)).le

/-- The exponential grows with the entry. -/
theorem E2_mono {x y : EReal} (M : EReal) (h : x ≤ y) : E2 x M ≤ E2 y M :=
  exp2_mono (mul_le_mul_of_nonneg_right (EReal.sub_le_sub h le_rfl) kc_pos')
theorem E2_nonneg (x M : EReal) : 0 ≤ E2 x M := by
  have h : Ideal.exp2 ⊥ ≤ E2 x M := exp2_mono bot_le
  exact h
/-- Up to the maximum it is at most one. -/
theorem E2_le_one {x M : EReal} (h : x ≤ M) : E2 x M ≤ 1 := by
  have h1 : (x - M) * kc ≤ 0 := by
    have := mul_le_mul_of_nonneg_right (EReal.sub_nonpos.mpr h) kc_pos'
    rwa [zero_mul] at this
  have h2 := exp2_mono h1
  refine h2.trans (le_of_eq ?_)
  show Ideal.exp2 ((0 : ℝ) : EReal) = 1
  rw [Ideal.exp2_coe]
  show ((Real.rpow 2 0 : ℝ) : EReal) = 1
  have : Real.rpow 2 0 = 1 := Real.rpow_zero 2
  rw [this]; rfl

/-- A group's maximum is one of its entries. -/
theorem BM_attained (X : ℕ → ℕ → EReal) (i j : ℕ) : ∃ v, v < 32 ∧ BM X i j = X (32 * i + v) j := by
  have hne : (Finset.range 32).Nonempty := ⟨0, by simp⟩
  obtain ⟨v, hv, he⟩ := Finset.exists_mem_eq_sup' hne (fun v => X (32 * i + v) j)
  have hv' : v < 32 := Finset.mem_range.mp hv
  refine ⟨v, hv', le_antisymm ?_ ((BM_le X i j _).mp le_rfl v hv')⟩
  rw [← he, BM_le]
  exact fun u hu => Finset.le_sup' (fun v => X (32 * i + v) j) (Finset.mem_range.mpr hu)

/-! ## A block's largest probability -/

/-- The block's largest probability, floored: the kernel's, from the largest exponential and the reciprocal of the sum, is the
    reference's, the largest of the quotients; and it lies between the floor and one. `e` are the row's exponentials. -/
theorem amax_eq (e : ℕ → EReal) (n a : ℕ) (ha : a + 32 ≤ n) (he0 : ∀ i, i < n → 0 ≤ e i) (he1 : ∀ i, i < n → e i ≤ 1) (d M : EReal)
    (hd : ∃ v, v < 32 ∧ d = e (a + v)) (hmax : ∀ v, v < 32 → e (a + v) ≤ d)
    (hM : ∀ z, M ≤ z ↔ ∀ v, v < 32 → Ideal.div (e (a + v)) (∑ i ∈ Finset.range n, e i) ≤ z) :
    ∃ A : ℝ, (2 : ℝ) ^ (-64 : ℤ) ≤ A ∧ A ≤ 1
      ∧ max (d * rsx (∑ i ∈ Finset.range n, e i)) (Ideal.ofBits .f32 0x1F800000#32) = (A : EReal)
      ∧ max M (Ideal.ofBits .f32 0x1F800000#32) = (A : EReal) := by
  obtain ⟨v0, hv0, hd⟩ := hd
  have hm : a + v0 < n := by omega
  have ht : (0 : EReal) ≤ Ideal.ofBits .f32 0x1F800000#32 := by rw [ofBits_t64]; exact_mod_cast (by positivity : (0 : ℝ) ≤ (2 : ℝ) ^ (-64 : ℤ))
  have hsum : ∀ i, i < n → e i ≤ ∑ i ∈ Finset.range n, e i := fun i hi =>
    Finset.single_le_sum (fun i hi => he0 i (Finset.mem_range.mp hi)) (Finset.mem_range.mpr hi)
  have hs0 : 0 ≤ ∑ i ∈ Finset.range n, e i := Finset.sum_nonneg fun i hi => he0 i (Finset.mem_range.mp hi)
  have hs1 : ∑ i ∈ Finset.range n, e i ≤ ((n : ℝ) : EReal) := by
    refine (Finset.sum_le_card_nsmul (Finset.range n) e 1 fun i hi => he1 i (Finset.mem_range.mp hi)).trans ?_
    rw [Finset.card_range, nsmul_one]; rfl
  generalize ∑ i ∈ Finset.range n, e i = s at *
  by_cases hs : s = 0
  · subst hs
    have e0 : ∀ i, i < n → e i = 0 := fun i hi => le_antisymm (hsum i hi) (he0 i hi)
    have hMb : M = ⊥ := le_bot_iff.mp ((hM ⊥).mpr fun v hv => by
      rw [e0 _ (by omega)]; unfold Ideal.div; rw [if_pos rfl, if_neg (lt_irrefl _)])
    refine ⟨(2 : ℝ) ^ (-64 : ℤ), le_rfl, zpow_le_one_of_nonpos₀ one_le_two (by norm_num), ?_, ?_⟩
    · rw [hd, e0 _ hm, zero_mul, max_eq_right ht, ofBits_t64]
    · rw [hMb, max_eq_right bot_le, ofBits_t64]
  · lift s to ℝ using ⟨(lt_of_le_of_lt hs1 (EReal.coe_lt_top _)).ne, (lt_of_lt_of_le EReal.bot_lt_zero hs0).ne'⟩ with s
    have hsp : 0 < s := lt_of_le_of_ne (by exact_mod_cast hs0) (fun h => hs (by rw [← h]; rfl))
    have hdiv : ∀ x : EReal, Ideal.div x (s : EReal) = x * ((s⁻¹ : ℝ) : EReal) := fun x => by
      unfold Ideal.div; rw [if_neg hs, EReal.coe_inv]
    have hi0 : (0 : EReal) ≤ ((s⁻¹ : ℝ) : EReal) := by exact_mod_cast (inv_pos.mpr hsp).le
    have hr : d * rsx (s : EReal) = Ideal.div d s := by
      unfold rsx; rw [hdiv, hdiv, ofBits_one, one_mul]
    have hMd : M = Ideal.div d s := by
      refine le_antisymm ((hM _).mpr fun v hv => ?_) ?_
      · rw [hdiv, hdiv]; exact mul_le_mul_of_nonneg_right (hmax v hv) hi0
      · rw [hd]; exact (hM M).mp le_rfl v0 hv0
    have hd0 : 0 ≤ d := hd ▸ he0 _ hm
    have hd1 : d ≤ (s : EReal) := hd ▸ hsum _ hm
    rw [hr, hMd, hdiv]
    lift d to ℝ using ⟨(lt_of_le_of_lt hd1 (EReal.coe_lt_top _)).ne, (lt_of_lt_of_le EReal.bot_lt_zero hd0).ne'⟩ with d
    have hds : d ≤ s := by exact_mod_cast hd1
    have hA : max ((d : EReal) * ((s⁻¹ : ℝ) : EReal)) (Ideal.ofBits .f32 0x1F800000#32) = ((max (d * s⁻¹) ((2 : ℝ) ^ (-64 : ℤ)) : ℝ) : EReal) := by
      rw [ofBits_t64, ← EReal.coe_mul]; exact (EReal.coe_strictMono.monotone.map_max).symm
    refine ⟨_, le_max_right _ _, max_le ?_ (zpow_le_one_of_nonpos₀ one_le_two (by norm_num)), hA, hA⟩
    rw [← div_eq_mul_inv]
    exact (div_le_one hsp).mpr hds

/-- A code: the kernel's exponential times the reciprocal of the scale over the sum is, clamped, the reference's quotient by the
    sum times that reciprocal. With sum zero both are zero. -/
theorem cod_eq (e : ℕ → EReal) (n i : ℕ) (hi : i < n) (he0 : ∀ i, i < n → 0 ≤ e i) (he1 : ∀ i, i < n → e i ≤ 1) (q : ℝ) (hq : 0 < q) (h z : EReal) (hz : z = 0) :
    min h (max z (e i * ((q : EReal) * rsx (∑ i ∈ Finset.range n, e i)))) = min (max (Ideal.div (e i) (∑ i ∈ Finset.range n, e i) * (q : EReal)) z) h := by
  have hsum : ∀ i, i < n → e i ≤ ∑ i ∈ Finset.range n, e i := fun i hi =>
    Finset.single_le_sum (fun i hi => he0 i (Finset.mem_range.mp hi)) (Finset.mem_range.mpr hi)
  have hs0 : 0 ≤ ∑ i ∈ Finset.range n, e i := Finset.sum_nonneg fun i hi => he0 i (Finset.mem_range.mp hi)
  have hs1 : ∑ i ∈ Finset.range n, e i ≤ ((n : ℝ) : EReal) := by
    refine (Finset.sum_le_card_nsmul (Finset.range n) e 1 fun i hi => he1 i (Finset.mem_range.mp hi)).trans ?_
    rw [Finset.card_range, nsmul_one]; rfl
  generalize ∑ i ∈ Finset.range n, e i = s at *
  rw [min_comm h, max_comm z]
  by_cases hs : s = 0
  · subst hs
    have e0 : e i = 0 := le_antisymm (hsum i hi) (he0 i hi)
    have hd : Ideal.div (0 : EReal) 0 = ⊥ := by unfold Ideal.div; rw [if_pos rfl, if_neg (lt_irrefl _)]
    rw [e0, hd, zero_mul, EReal.bot_mul_coe_of_pos hq, hz, max_self, max_eq_right bot_le]
  · have hr : rsx s = s⁻¹ := by unfold rsx Ideal.div; rw [if_neg hs, ofBits_one, one_mul]
    have hd : Ideal.div (e i) s = e i * s⁻¹ := by unfold Ideal.div; rw [if_neg hs]
    rw [hr, hd, mul_comm (q : EReal), ← mul_assoc]

end Cert.KernelIdeal.Val

end
-- ==== Proof.ValCodes.lean ====
/- The two programs' codes and scales are equal: both take a block's largest probability, the power of two just above its
   quotient by 448, and the probabilities over that power. -/
module

public import proofs.«01_k».proof.Proof.ValEq
public import proofs.«01_k».proof.Proof.ValScl

@[expose] public section

set_option maxRecDepth 16384
set_option synthInstance.maxSize 4096

noncomputable section

namespace Cert.KernelIdeal.Val

open Cert.KernelIdeal Cert.KernelIdeal.Gen Cert.KernelIdeal.Run
open Idealize.ShloMosaic Idealize.ShloMosaic.TcCoe Idealize.ShloMosaic.Tactic
open Idealize.SL.Sem

/-! ## The reference's blocks -/

/-- A matrix in blocks of 32 columns, at a place; -/
theorem split_apply (f : Cert.ReferenceIdeal.S9216x32000.Idx → EReal) (h) (y : Cert.ReferenceIdeal.S9216x1000x32.Idx) (z : Cert.ReferenceIdeal.S9216x32000.Idx)
    (h0 : (z 0).val = (y 0).val) (h1 : (z 1).val = 32 * (y 1).val + (y 2).val) : shapeCast Cert.ReferenceIdeal.S9216x1000x32 f h y = f z := by
  unfold shapeCast
  congr 1
  apply Shape.reshapeEquiv_eq_of_rowMajor
  show (Shape.rowMajorPi Cert.ReferenceIdeal.S9216x32000.size z).val = (Shape.rowMajorPi Cert.ReferenceIdeal.S9216x1000x32.size y).val
  rw [Shape.rowMajorPi_succ_val, Shape.rowMajorPi_succ_val, Shape.rowMajorPi_succ_val, Shape.rowMajorPi_succ_val, Shape.rowMajorPi_succ_val]
  simp [h0, h1, Fin.prod_univ_succ, Shape.rowMajorPi_zero]
  omega

/-- and back. -/
theorem join_apply (f : Cert.ReferenceIdeal.S9216x1000x32.Idx → EReal) (h) (z : Cert.ReferenceIdeal.S9216x32000.Idx) (y : Cert.ReferenceIdeal.S9216x1000x32.Idx)
    (h0 : (z 0).val = (y 0).val) (h1 : (z 1).val = 32 * (y 1).val + (y 2).val) : shapeCast Cert.ReferenceIdeal.S9216x32000 f h z = f y := by
  unfold shapeCast
  congr 1
  apply Shape.reshapeEquiv_eq_of_rowMajor
  show (Shape.rowMajorPi Cert.ReferenceIdeal.S9216x1000x32.size y).val = (Shape.rowMajorPi Cert.ReferenceIdeal.S9216x32000.size z).val
  rw [Shape.rowMajorPi_succ_val, Shape.rowMajorPi_succ_val, Shape.rowMajorPi_succ_val, Shape.rowMajorPi_succ_val, Shape.rowMajorPi_succ_val]
  simp [h0, h1, Fin.prod_univ_succ, Shape.rowMajorPi_zero]
  omega

/-- A place of a three-axis array, put back from its first two coordinates and the last. -/
theorem lift_blk {N M K : ℕ} (h : (⟨3, ![N, M, K]⟩ : Shape).Reduces [2] ⟨2, ![N, M]⟩) (r : (⟨2, ![N, M]⟩ : Shape).Idx) (k : Fin K) :
    h.lift r k = ix3 (r 0).val (r 1).val k.val (r 0).isLt (r 1).isLt k.isLt := by
  funext a; apply Fin.ext
  fin_cases a <;> rfl

/-- A block's maximum, from −∞, is at most `z` when each of its entries is. -/
theorem max_blk {N M K : ℕ} (v : (⟨3, ![N, M, K]⟩ : Shape).Idx → EReal) (init : (⟨0, ![]⟩ : Shape).Idx → EReal) (hi : ∀ i, init i = ⊥)
    (h' : (⟨3, ![N, M, K]⟩ : Shape).ReducesTo [2] ⟨2, ![N, M]⟩) (h : (⟨3, ![N, M, K]⟩ : Shape).Reduces [2] ⟨2, ![N, M]⟩) (hu) (r : (⟨2, ![N, M]⟩ : Shape).Idx) (z : EReal) :
    Host.reduce (FloatOps.maximumf (F := Ideal) (φ := .f32)) v init h' hu r ≤ z ↔ ∀ i (hi : i < K), v (ix3 (r 0).val (r 1).val i (r 0).isLt (r 1).isLt hi) ≤ z := by
  rw [Host.reduce_eq_fold_single (FloatOps.maximumf (F := Ideal) (φ := .f32)) v init h' h hu r]
  refine (Finset.fold_max_le (β := EReal) z).trans ?_
  constructor
  · intro hh i hi
    exact le_of_eq_of_le (congrArg v (lift_blk h r ⟨i, hi⟩)).symm (hh.2 (⟨i, hi⟩ : Fin K) (Finset.mem_univ _))
  · intro hh
    refine ⟨?_, fun k _ => ?_⟩
    · rw [hi]; exact bot_le
    · exact le_of_eq_of_le (congrArg v (lift_blk h r k)) (hh _ k.isLt)

theorem red_blk : Cert.ReferenceIdeal.S9216x1000x32.Reduces [2] Cert.ReferenceIdeal.S9216x1000 := by decide

/-- A block's row. -/
def rIx (y : Cert.ReferenceIdeal.S9216x1000.Idx) : Cert.ReferenceIdeal.S9216.Idx := fun a => ⟨(y 0).val, by fin_cases a; exact (y 0).isLt⟩

/-- A quotient by the row's sum, at an index. -/
theorem quot_apply (e : Cert.ReferenceIdeal.S9216x32000.Idx → EReal) (s : Cert.ReferenceIdeal.S9216.Idx → EReal) (z : Cert.ReferenceIdeal.S9216x32000.Idx) (r : Cert.ReferenceIdeal.S9216.Idx)
    (hr : (r 0).val = (z 0).val) :
    Host.divf (F := Ideal) (φ := .f32) e (broadcastInDim Cert.ReferenceIdeal.S9216x32000 ![0, 1] Cert.ReferenceIdeal.Gen.bcast_S9216x1_S9216x32000_0_1
      (broadcastInDim Cert.ReferenceIdeal.S9216x1 ![0] Cert.ReferenceIdeal.Gen.bcast_S9216_S9216x1_0 s)) z = Ideal.div (e z) (s r) := by
  show Ideal.div (e z) _ = Ideal.div (e z) _
  congr 1
  unfold broadcastInDim
  congr 1
  funext a; apply Fin.ext
  fin_cases a; exact hr.symm

/-- A probability of the reference. -/
theorem pF_apply (e : Cert.ReferenceIdeal.S9216x32000.Idx → EReal) (s : Cert.ReferenceIdeal.S9216.Idx → EReal) (y : Cert.ReferenceIdeal.S9216x1000x32.Idx) (z : Cert.ReferenceIdeal.S9216x32000.Idx) (r : Cert.ReferenceIdeal.S9216.Idx)
    (h0 : (z 0).val = (y 0).val) (h1 : (z 1).val = 32 * (y 1).val + (y 2).val) (hr : (r 0).val = (y 0).val) :
    Cert.ReferenceIdeal.Val.pF (F := Ideal) e s y = Ideal.div (e z) (s r) :=
  (split_apply _ _ y z h0 h1).trans (quot_apply e s z r (hr.trans h0.symm))

theorem max_at {t : Shape} (a b : t.Idx → EReal) (x : t.Idx) : maximumf (F := Ideal) (φ := .f32) a b x = max (a x) (b x) := rfl

/-- A block's largest probability, floored, is the larger of some `M`, the least bound of the block's probabilities, and the floor. -/
theorem aF_apply (p : Cert.ReferenceIdeal.S9216x1000x32.Idx → EReal) (y : Cert.ReferenceIdeal.S9216x1000.Idx) :
    ∃ M : EReal, (∀ z, M ≤ z ↔ ∀ i (hi : i < 32), p (ix3 (y 0).val (y 1).val i (y 0).isLt (y 1).isLt hi) ≤ z)
      ∧ Cert.ReferenceIdeal.Val.aF (F := Ideal) p y
        = max M (Ideal.ofBits .f32 0x1F800000#32) :=
  ⟨_, fun z => max_blk (N := 9216) (M := 1000) (K := 32) p _ (fun _ => ofBits_bot) Cert.ReferenceIdeal.Gen.reducesTo_S9216x1000x32_S9216x1000_d2 red_blk Cert.ReferenceIdeal.Gen.h_S_ y z, max_at _ _ y⟩

/-- The reference's scale, at an index; -/
theorem sclF_apply (a : Cert.ReferenceIdeal.S9216x1000.Idx → EReal) (y : Cert.ReferenceIdeal.S9216x1000.Idx) :
    Cert.ReferenceIdeal.Val.sclF (F := Ideal) a y = Ideal.exp (exR (a y) * Ideal.log (Ideal.ofBits .f32 0x40000000#32)) := rfl
/-- its reciprocal; -/
theorem invF_apply (a : Cert.ReferenceIdeal.S9216x1000.Idx → EReal) (y : Cert.ReferenceIdeal.S9216x1000.Idx) :
    Cert.ReferenceIdeal.Val.invF (F := Ideal) a y = Ideal.exp (-exR (a y) * Ideal.log (Ideal.ofBits .f32 0x40000000#32)) := rfl
/-- and a code. -/
theorem codF_apply (p : Cert.ReferenceIdeal.S9216x1000x32.Idx → EReal) (a : Cert.ReferenceIdeal.S9216x1000.Idx → EReal) (y : Cert.ReferenceIdeal.S9216x1000x32.Idx)
    (u : Cert.ReferenceIdeal.S9216x1000.Idx) (h0 : (u 0).val = (y 0).val) (h1 : (u 1).val = (y 1).val) :
    Cert.ReferenceIdeal.Val.codF (F := Ideal) p a y
      = min (max (p y * Cert.ReferenceIdeal.Val.invF (F := Ideal) a u) (Ideal.ofBits .f32 0x00000000#32)) (Ideal.ofBits .f32 0x43E00000#32) := by
  unfold Cert.ReferenceIdeal.Val.codF
  generalize Cert.ReferenceIdeal.Val.invF (F := Ideal) a = v
  show min (max (p y * _) _) _ = min (max (p y * _) _) _
  congr 3
  unfold broadcastInDim
  congr 1
  funext b; apply Fin.ext
  fin_cases b
  · exact h0.symm
  · exact h1.symm

/-! ## The kernel's blocks -/

/-- A column's maximum, at any sublane, is the least bound of the column; -/
theorem vat_mx_le (X : ℕ → ℕ → EReal) (k j : ℕ) (hj : j < 128) (z : EReal) : vat (mxv X) k j ≤ z ↔ ∀ n, n < 32000 → X n j ≤ z := by
  have hM : vat (mxv X) k j = mxv X (ix2 (k % 8) (j % 128) (Nat.mod_lt _ (by decide)) (Nat.mod_lt _ (by decide))) := rfl
  rw [hM]
  refine Iff.trans (mxv_le _ _ _) ?_
  rw [ix2_1, Nat.mod_eq_of_lt hj]
/-- so it is the same at every sublane, and no entry is above it. -/
theorem vat_mx (X : ℕ → ℕ → EReal) (i i' j : ℕ) (hj : j < 128) : vat (mxv X) i j = vat (mxv X) i' j :=
  eq_of_forall_ge_iff fun z => Iff.trans (vat_mx_le X i j hj z) (Iff.symm (vat_mx_le X i' j hj z))
theorem le_mx (X : ℕ → ℕ → EReal) (i k j : ℕ) (hj : j < 128) (hi : i < 32000) : X i j ≤ vat (mxv X) k j :=
  (vat_mx_le X k j hj _).mp le_rfl i hi

variable (m : (ℓ : Loc nD τ sig) → Buf (Elt Ideal) ℓ)

theorem Ev_nonneg (c : Dev nD) (W) (b : Fin 72) (i j : ℕ) : 0 ≤ Ev c W b i j := E2_nonneg _ _
theorem Ev_le_one (c : Dev nD) (W) (b : Fin 72) (j : ℕ) (hj : j < 128) (i : ℕ) (hi : i < 32000) : Ev c W b i j ≤ 1 := E2_le_one (le_mx _ i i j hj hi)
/-- A block's largest exponential is one of the block's, and the largest. -/
theorem Bv_attained (c : Dev nD) (W) (b : Fin 72) (k j : ℕ) (hj : j < 128) : ∃ v, v < 32 ∧ Bv c W b k j = Ev c W b (32 * k + v) j := by
  obtain ⟨v, hv, h⟩ := BM_attained (xb c W b) k j
  exact ⟨v, hv, (congrArg (fun x => E2 x (vat (mxv (xb c W b)) k j)) h).trans (congrArg (E2 _) (vat_mx (xb c W b) k (32 * k + v) j hj))⟩
theorem Ev_le_Bv (c : Dev nD) (W) (b : Fin 72) (k j v : ℕ) (hj : j < 128) (hv : v < 32) : Ev c W b (32 * k + v) j ≤ Bv c W b k j :=
  le_of_eq_of_le (congrArg (E2 _) (vat_mx (xb c W b) (32 * k + v) k j hj)) (E2_mono _ ((BM_le (xb c W b) k j _).mp le_rfl v hv))
/-- The sum that a block is divided by. -/
theorem vat_Sv (c : Dev nD) (W) (b : Fin 72) (k j : ℕ) (hj : j < 128) : vat (Sv c W b) k j = ∑ i ∈ Finset.range 32000, Ev c W b i j := by
  refine (smv_apply _ _).trans ?_
  rw [ix2_1, Nat.mod_eq_of_lt hj]

/-! ## The equations -/

/-- An exponential of the kernel is the reference's. -/
theorem Ev_eq (c : Dev nD) (b : Fin 72) (i j : ℕ) (hj : j < 128) (z : S9216x32000.Idx) (h0 : (z 0).val = 128 * b.val + j) (h1 : (z 1).val = i) :
    Ev c (V m c main_v0) b i j = Cert.ReferenceIdeal.Val.eR (F := Ideal) (V m c main_v0 : S9216x32000.Idx → EReal) z := by
  have hi : i < 32000 := h1 ▸ (z 1).isLt
  refine (E2_eq (xb c (V m c main_v0) b i j) (vat (mxv (xb c (V m c main_v0) b)) i j)).trans (Eq.trans ?_ (eR_apply _ z).symm)
  rw [zt_mx m c b j hj i (rowIx z) h0, xb_apply m c b i j hj hi]
  exact congrArg (fun y => Ideal.exp (zt ((V m c main_v0 : S9216x32000.Idx → EReal) y) - Cert.ReferenceIdeal.Val.mR (F := Ideal) (V m c main_v0 : S9216x32000.Idx → EReal) (rowIx z)))
    (ix2_eta z _ _ _ _ h0 h1).symm

/-- A row's sum. -/
theorem sum_eq (c : Dev nD) (b : Fin 72) (j : ℕ) (hj : j < 128) (r : Cert.ReferenceIdeal.S9216.Idx) (hr : (r 0).val = 128 * b.val + j) :
    Cert.ReferenceIdeal.Val.sR (F := Ideal) (V m c main_v0 : S9216x32000.Idx → EReal) r = ∑ i ∈ Finset.range 32000, Ev c (V m c main_v0) b i j := by
  refine (Sv_eq m c b (ix2 0 j (by decide) hj) r hr).symm.trans ?_
  exact smv_apply _ _

/-- A probability of the reference, from the kernel's exponentials. -/
theorem pR_eq (c : Dev nD) (b : Fin 72) (j k v : ℕ) (hj : j < 128) (hk : k < 1000) (hv : v < 32) (y : Cert.ReferenceIdeal.S9216x1000x32.Idx)
    (h0 : (y 0).val = 128 * b.val + j) (h1 : (y 1).val = k) (h2 : (y 2).val = v) :
    Cert.ReferenceIdeal.Val.pR (F := Ideal) (V m c main_v0 : S9216x32000.Idx → EReal) y
      = Ideal.div (Ev c (V m c main_v0) b (32 * k + v) j) (∑ i ∈ Finset.range 32000, Ev c (V m c main_v0) b i j) := by
  have hz : 32 * k + v < 32000 := by omega
  refine (pF_apply _ _ y (ix2 (y 0).val (32 * k + v) (y 0).isLt hz) (fun a => ⟨(y 0).val, by fin_cases a; exact (y 0).isLt⟩) rfl (by rw [h1, h2]; rfl) rfl).trans ?_
  rw [sum_eq m c b j hj _ h0]
  exact congrArg (fun x => Ideal.div x _) (Ev_eq m c b (32 * k + v) j hj _ h0 rfl).symm

/-- A block's largest probability, floored, the same in both programs, is a real number from the floor to one. -/
theorem blk_eq (c : Dev nD) (b : Fin 72) (j k : ℕ) (hj : j < 128) (hk : k < 1000) (y : Cert.ReferenceIdeal.S9216x1000.Idx)
    (h0 : (y 0).val = 128 * b.val + j) (h1 : (y 1).val = k) : ∃ A : ℝ, (2 : ℝ) ^ (-64 : ℤ) ≤ A ∧ A ≤ 1
      ∧ max (Bv c (V m c main_v0) b k j * rsx (vat (Sv c (V m c main_v0) b) k j)) (Ideal.ofBits .f32 0x1F800000#32) = (A : EReal)
      ∧ Cert.ReferenceIdeal.Val.aR (F := Ideal) (V m c main_v0 : S9216x32000.Idx → EReal) y = (A : EReal) := by
  obtain ⟨M, hM, ha⟩ := aF_apply (Cert.ReferenceIdeal.Val.pR (F := Ideal) (V m c main_v0 : S9216x32000.Idx → EReal)) y
  rw [vat_Sv c _ b k j hj]
  obtain ⟨A, a0, a1, a2, a3⟩ := amax_eq (fun i => Ev c (V m c main_v0) b i j) 32000 (32 * k) (by omega) (fun i _ => Ev_nonneg c _ b i j)
    (fun i hi => Ev_le_one c _ b j hj i hi) (Bv c (V m c main_v0) b k j) M (Bv_attained c _ b k j hj) (fun v hv => Ev_le_Bv c _ b k j v hj hv) (fun z => by
      refine (hM z).trans (forall_congr' fun v => forall_congr' fun hv => ?_)
      rw [pR_eq m c b j k v hj hk hv _ h0 h1 rfl])
  exact ⟨A, a0, a1, a2, ha.trans a3⟩

/-- A place's row, in its block of 128 rows. -/
theorem row_split (r : ℕ) (h : r < 9216) : r = 128 * (rb ⟨r, h⟩).val + r % 128 := (Nat.div_add_mod r 128).symm

/-- The kernel's array of scales is the reference's. -/
theorem scl_eq (c : Dev nD) : sclA m c = Cert.ReferenceIdeal.Val.sclR (F := Ideal) (V m c main_v0 : S9216x32000.Idx → EReal) := by
  funext y
  obtain ⟨A, a0, a1, a2, a3⟩ := blk_eq m c (rb (y 0)) ((y 0).val % 128) (y 1).val (Nat.mod_lt _ (by decide)) (y 1).isLt y (row_split _ (y 0).isLt) rfl
  refine Eq.trans ?_ (sclF_apply _ y).symm
  rw [a3, ← scl_of A a0 a1, ← a2]
  rfl

/-- The kernel's array of codes is the reference's. -/
theorem cod_arr_eq (c : Dev nD) : codA m c = Cert.ReferenceIdeal.Val.codR (F := Ideal) (V m c main_v0 : S9216x32000.Idx → EReal) := by
  funext z
  have hz : (z 1).val < 32000 := (z 1).isLt
  have hk : (z 1).val / 32 < 1000 := by omega
  have hv : (z 1).val % 32 < 32 := Nat.mod_lt _ (by decide)
  have hj : (z 0).val % 128 < 128 := Nat.mod_lt _ (by decide)
  have h1 : (z 1).val = 32 * ((z 1).val / 32) + (z 1).val % 32 := (Nat.div_add_mod _ 32).symm
  obtain ⟨A, a0, a1, a2, a3⟩ := blk_eq m c (rb (z 0)) ((z 0).val % 128) ((z 1).val / 32) hj hk (ix2 (z 0).val ((z 1).val / 32) (z 0).isLt hk) (row_split _ (z 0).isLt) rfl
  refine Eq.trans ?_ ((join_apply _ _ z (ix3 (z 0).val ((z 1).val / 32) ((z 1).val % 32) (z 0).isLt hk hv) rfl h1).trans
    (codF_apply _ _ _ (ix2 (z 0).val ((z 1).val / 32) (z 0).isLt hk) rfl rfl)).symm
  rw [invF_apply, a3, pR_eq m c (rb (z 0)) ((z 0).val % 128) ((z 1).val / 32) ((z 1).val % 32) hj hk hv _ (row_split _ (z 0).isLt) rfl rfl, ← inv_of A a0 a1]
  obtain ⟨q, hq, hi⟩ := inv_pos_real A a0 a1
  have e := cod_eq (fun i => Ev c (V m c main_v0) (rb (z 0)) i ((z 0).val % 128)) 32000 (32 * ((z 1).val / 32) + (z 1).val % 32) (by omega)
    (fun i _ => Ev_nonneg c _ _ i _) (fun i hi => Ev_le_one c _ _ _ hj i hi) q hq (Ideal.ofBits .f32 0x43E00000#32) (Ideal.ofBits .f32 0x00000000#32) ofBits_zero
  rw [hi]
  refine Eq.trans ?_ e
  rw [← hi, ← a2, ← vat_Sv c _ _ ((z 1).val / 32) _ hj, Nat.div_add_mod]
  rfl

end Cert.KernelIdeal.Val

end
-- ==== Proof.lean ====
/- The claims: the kernel, its ideal program and the reference each terminate without fault, leave their argument as it
   was and every semaphore at zero; the ideal program is the kernel with its word packing read as pairs of bf16 rows and
   its constant `log2 e / T` named; and over the extended reals the ideal program's logarithms, codes and scales are the reference's. -/
module

public import proofs.«01_k».proof.Defs
public import proofs.«01_k».proof.Proof.KernelFrame
public import proofs.«01_k».proof.Proof.ValCodes
public import Idealize.ShloMosaic.Lib.Bf16PairInverse

@[expose] public section

noncomputable section

namespace Cert.Proof

open Idealize.ShloMosaic Idealize.SL.Sem Cert.Kernel

/-- The rewrites between the kernel and its ideal program: each is its rule's statement at the shapes of its site. -/
theorem preserves : preserves_Kernel_KernelIdeal :=
  ⟨IdealRules.bf16_pair.bufferStatement Cert.KernelIdeal.S320x2x128 Cert.KernelIdeal.S320x1x128,
    IdealRules.bf16_pair.statement Cert.KernelIdeal.S16x128 Cert.KernelIdeal.S8x128,
    IdealRules.bf16_pair.statement Cert.KernelIdeal.S8x2x128 Cert.KernelIdeal.S8x1x128,
    IdealRules.named_const.statement Cert.KernelIdeal.κ "log2e_over_t" .f32 0x3FE6D4CA#32
      (((Real.log 2)⁻¹ * (13421773 / 16777216)⁻¹ : ℝ) : EReal) rfl⟩

/-- From equal arguments the ideal program and the reference end with the same logarithms, codes and scales. -/
theorem algebraic : algebraic_KernelIdeal_ReferenceIdeal := fun m g m' g' _ h =>
  ⟨fun c => Cert.KernelIdeal.Val.lseA m c, fun c => Cert.KernelIdeal.Val.codA m c, fun c => Cert.KernelIdeal.Val.sclA m c, Cert.KernelIdeal.Val.run_arr m g,
    (θ_run _ _ _).mono (fun r hr c => ⟨(hr c).1.trans (by
      rw [h c]
      exact (congrArg (Cert.ReferenceIdeal.Val.lseR (F := Ideal)) (Cert.KernelIdeal.Val.V_v0 m c)).symm.trans (Cert.KernelIdeal.Val.lse_eq m c).symm),
      (hr c).2.1.trans (by
        rw [h c]
        exact (congrArg (Cert.ReferenceIdeal.Val.codR (F := Ideal)) (Cert.KernelIdeal.Val.V_v0 m c)).symm.trans (Cert.KernelIdeal.Val.cod_arr_eq m c).symm),
      (hr c).2.2.1.trans (by
        rw [h c]
        exact (congrArg (Cert.ReferenceIdeal.Val.sclR (F := Ideal)) (Cert.KernelIdeal.Val.V_v0 m c)).symm.trans (Cert.KernelIdeal.Val.scl_eq m c).symm), (hr c).2.2.2⟩)
      (Cert.ReferenceIdeal.Val.run (F := Ideal) m' g')⟩

/-- Everything claimed. -/
theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Val.frame m ρ,
  fun m ρ _ => Cert.ReferenceIdeal.Val.frame m ρ, preserves, algebraic⟩

end Cert.Proof

end
